-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v41) = v3 c
          ∧ r.2.mem ((c.tc : Thread Cert.Reference2Ideal.nD Cert.Reference2Ideal.τ).loc Cert.Reference2Ideal.main_v44) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v65) = v0 c
          ∧ r.2.mem ((c.tc : Thread Cert.Reference18Ideal.nD Cert.Reference18Ideal.τ).loc Cert.Reference18Ideal.main_v66) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite2 : Cert.Pre_finite2.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite.lean ====
abbrev S8192x256 : Shape := ⟨2, ![8192, 256]⟩
abbrev S8192x3200 : Shape := ⟨2, ![8192, 3200]⟩
abbrev S_ : Shape := ⟨0, ![]⟩
abbrev S8192x768 : Shape := ⟨2, ![8192, 768]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  slices_S8192x3200_S8192x768_0_2304 : S8192x3200.Slices ![0, 2304] S8192x768
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S8192x256 .f32) (main_arg1 : FVec F S8192x3200 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x768 .f32 := (extractStridedSlice S8192x768 ![0, 2304] · slices_S8192x3200_S8192x768_0_2304) main_arg1
  let main_v5 : FVec F S8192x768 .f32 := Host.absf main_v4
  let main_cst_0 : FVec F S_ .f32 := constant S_ .f32 0x7F800000#32
  let main_v6 : FVec F S8192x768 .f32 := broadcastInDim S8192x768 ![] bcast_S_S8192x768 main_cst_0
  let main_v7 : IVec S8192x768 1 := cmpf .olt main_v5 main_v6
  let main_c_1 : IVec S_ 1 := constantI S_ 1 1#1
  let main_v8 : IVec S_ 1 := (fun x v => Host.reduce IntOp.andi x v reducesTo_S8192x768_S_d0_1 h_S_) main_v7 main_c_1
  let main_v9 : IVec S_ 1 := andi main_v3 main_v8
  main_v9
-- ==== Pre_finite18.lean ====
abbrev S8192x1024 : Shape := ⟨2, ![8192, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .f32) (main_arg1 : FVec F S8192x1024 .bf16) (main_arg2 : FVec F S256x2048 .f32) : IVec S_ 1 :=
  let main_v0 : FVec F S8192x1024 .f32 := (extf .f32 · bitsLt_bf16_f32) main_arg1
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .f32 := (extractStridedSlice S256x1024 ![0, 0] · slices_S256x2048_S256x1024_0_0) main_arg2
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Pre_finite2.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S8192x256 : Shape := ⟨2, ![8192, 256]⟩
abbrev S8192x3200 : Shape := ⟨2, ![8192, 3200]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S2x2x8192 : Shape := ⟨3, ![2, 2, 8192]⟩
abbrev S2x8192x2 : Shape := ⟨3, ![2, 8192, 2]⟩
abbrev S2x8192x128 : Shape := ⟨3, ![2, 8192, 128]⟩
abbrev S512x128 : Shape := ⟨2, ![512, 128]⟩
abbrev S1x512x128 : Shape := ⟨3, ![1, 512, 128]⟩
abbrev S8192x128 : Shape := ⟨2, ![8192, 128]⟩
abbrev S1x128 : Shape := ⟨2, ![1, 128]⟩
abbrev S1024x128 : Shape := ⟨2, ![1024, 128]⟩
abbrev S512 : Shape := ⟨1, ![512]⟩
abbrev S512x1 : Shape := ⟨2, ![512, 1]⟩
abbrev S1024x1 : Shape := ⟨2, ![1024, 1]⟩
abbrev S256x256 : Shape := ⟨2, ![256, 256]⟩
abbrev S256x128 : Shape := ⟨2, ![256, 128]⟩
abbrev S1024x256 : Shape := ⟨2, ![1024, 256]⟩
abbrev S2048x256 : Shape := ⟨2, ![2048, 256]⟩
abbrev S512x256 : Shape := ⟨2, ![512, 256]⟩
abbrev S512x512 : Shape := ⟨2, ![512, 512]⟩
abbrev S1024 : Shape := ⟨1, ![1024]⟩

abbrev nBuf : Space → Nat
  | .hbm => 52
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x3200, .f32⟩
  | .hbm, ⟨2, _⟩ => ⟨S8192x3200, .bf16⟩
  | .hbm, ⟨3, _⟩ => ⟨S8192x256, .f32⟩
  | .hbm, ⟨4, _⟩ => ⟨S8192x256, .f32⟩
  | .hbm, ⟨5, _⟩ => ⟨S8192x4x64, .f32⟩
  | .hbm, ⟨6, _⟩ => ⟨S4x8192x64, .f32⟩
  | .hbm, ⟨7, _⟩ => ⟨S8192x4x64, .f32⟩
  | .hbm, ⟨8, _⟩ => ⟨S4x8192x64, .f32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192x8192, .f32⟩
  | .hbm, ⟨24, _⟩ => ⟨S4x8192x8192, .f32⟩
  | .hbm, ⟨25, _⟩ => ⟨S4x8192x8192, .f32⟩
  | .hbm, ⟨26, _⟩ => ⟨S4x8192x8192, .f32⟩
  | .hbm, ⟨27, _⟩ => ⟨S4x8192x8192, .i1⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S_, .f32⟩
  | .hbm, ⟨39, _⟩ => ⟨S4x8192x8192, .i1⟩
  | .hbm, ⟨40, _⟩ => ⟨S4x8192x8192, .f32⟩
  | .hbm, ⟨41, _⟩ => ⟨S4x8192x8192, .f32⟩
  | .hbm, ⟨42, _⟩ => ⟨S_, .f32⟩
  | .hbm, ⟨43, _⟩ => ⟨S4x8192, .f32⟩
  | .hbm, ⟨44, _⟩ => ⟨S2x2x8192, .f32⟩
  | .hbm, ⟨45, _⟩ => ⟨S2x8192x2, .f32⟩
  | .hbm, ⟨46, _⟩ => ⟨S_, .i32⟩
  | .hbm, ⟨47, _⟩ => ⟨S_, .f32⟩
  | .hbm, ⟨48, _⟩ => ⟨S2x8192x128, .f32⟩
  | .hbm, ⟨49, _⟩ => ⟨S8192x256, .f32⟩
  | .hbm, ⟨50, _⟩ => ⟨S8192x256, .f32⟩
  | .hbm, ⟨51, _⟩ => ⟨S8192x256, .f32⟩
  | .local _ .vmem, ⟨0, _⟩ => ⟨S512x128, .f32⟩
  | .local _ .vmem, ⟨1, _⟩ => ⟨S512x128, .f32⟩
  | .local _ .vmem, ⟨2, _⟩ => ⟨S1x512x128, .f32⟩
  | .local _ .vmem, ⟨3, _⟩ => ⟨S1x512x128, .f32⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S512x128, .f32⟩
  | .local _ .vmem, ⟨11, _⟩ => ⟨S512x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_call2_v0 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_19 : BitVec 32 := 0#32
  let arg1 : BitVec 32 := BitVec.ofNat 32 (i 1).val
  let c2_i32 : BitVec 32 := 2#32
  let v62 : BitVec 32 := Scalar.muli arg1 c2_i32
  let v64 : BitVec 32 := Scalar.subi v62 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_21 : BitVec 32 := 1#32
  ⟨c0_i32_19, v68, c1_i32_21⟩
def k0_mult1 (i : grid0.Coords) (k0_t1 : Fin (k0_t1_loop i).trips) : BitVec 32 :=
  let c0_i32_19 : BitVec 32 := 0#32
  let c1_i32_21 : BitVec 32 := 1#32
  let arg10 : BitVec 32 := Scf.iv c0_i32_19 c1_i32_21 k0_t1
  let c256_i32_92 : BitVec 32 := 256#32
  let v306 : BitVec 32 := Scalar.muli arg10 c256_i32_92
  v306
def k0_off1 (i : grid0.Coords) (k0_t1 : Fin (k0_t1_loop i).trips) : Fin 2 → Nat :=
  let c0_i32_19 : BitVec 32 := 0#32
  let c1_i32_21 : BitVec 32 := 1#32
  let arg10 : BitVec 32 := Scf.iv c0_i32_19 c1_i32_21 k0_t1
  let c256_i32_92 : BitVec 32 := 256#32
  let v306 : BitVec 32 := Scalar.muli arg10 c256_i32_92
  let v307 : BitVec 32 := v306
  let v308 : Index := Scalar.indexCast v307
  let c0_93 : Index := 0#32
  ![v308.toNat, 0]
@[reducible] def k0_t2_loop (i : grid0.Coords) : Scf.Loop 32 :=
  let c0_i32_19 : BitVec 32 := 0#32
  let arg1 : BitVec 32 := BitVec.ofNat 32 (i 1).val
  let c2_i32 : BitVec 32 := 2#32
  let v62 : BitVec 32 := Scalar.muli arg1 c2_i32
  let v64 : BitVec 32 := Scalar.subi v62 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let v65 : BitVec 32 := Scalar.addi c0_i32_19 v64
  let c1_i32_22 : BitVec 32 := 1#32
  ⟨v68, v65, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c2_i32 : BitVec 32 := 2#32
  let v62 : BitVec 32 := Scalar.muli arg1 c2_i32
  let v64 : BitVec 32 := Scalar.subi v62 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg10 : BitVec 32 := Scf.iv v68 c1_i32_22 k0_t2
  let c256_i32_92 : BitVec 32 := 256#32
  let v306 : BitVec 32 := Scalar.muli arg10 c256_i32_92
  v306
def k0_off2 (i : grid0.Coords) (k0_t2 : Fin (k0_t2_loop i).trips) : Fin 2 → Nat :=
  let c0_i32_19 : BitVec 32 := 0#32
  let arg1 : BitVec 32 := BitVec.ofNat 32 (i 1).val
  let c2_i32 : BitVec 32 := 2#32
  let v62 : BitVec 32 := Scalar.muli arg1 c2_i32
  let v64 : BitVec 32 := Scalar.subi v62 c0_i32_19
  let c1_i32_20 : BitVec 32 := 1#32
  let v66 : BitVec 32 := Scalar.divsi v64 c1_i32_20
  let v67 : BitVec 32 := Scalar.muli v66 c1_i32_20
  let v68 : BitVec 32 := Scalar.addi c0_i32_19 v67
  let c1_i32_22 : BitVec 32 := 1#32
  let arg10 : BitVec 32 := Scf.iv v68 c1_i32_22 k0_t2
  let c256_i32_92 : BitVec 32 := 256#32
  let v306 : BitVec 32 := Scalar.muli arg10 c256_i32_92
  let v307 : BitVec 32 := v306
  let v308 : Index := Scalar.indexCast v307
  let c0_93 : Index := 0#32
  ![v308.toNat, 0]
def k0_mult3 (i : grid0.Coords) : BitVec 32 :=
  let arg1 : BitVec 32 := BitVec.ofNat 32 (i 1).val
  let c2_i32_23 : BitVec 32 := 2#32
  let v71 : BitVec 32 := Scalar.muli arg1 c2_i32_23
  let c0_i32_24 : BitVec 32 := 0#32
  let v72 : BitVec 32 := Scalar.addi v71 c0_i32_24
  let c256_i32 : BitVec 32 := 256#32
  let v73 : BitVec 32 := Scalar.muli v72 c256_i32
  v73
def k0_off3 (i : grid0.Coords) (c0_i32_24 : BitVec 32) : Fin 2 → Nat :=
  let arg1 : BitVec 32 := BitVec.ofNat 32 (i 1).val
  let c2_i32_23 : BitVec 32 := 2#32
  let v71 : BitVec 32 := Scalar.muli arg1 c2_i32_23
  let v72 : BitVec 32 := Scalar.addi v71 c0_i32_24
  let c256_i32 : BitVec 32 := 256#32
  let v73 : BitVec 32 := Scalar.muli v72 c256_i32
  let v74 : BitVec 32 := v73
  let v75 : Index := Scalar.indexCast v74
  let c0_25 : Index := 0#32
  ![v75.toNat, 0]
def k0_mult4 (i : grid0.Coords) : BitVec 32 :=
  let arg1 : BitVec 32 := BitVec.ofNat 32 (i 1).val
  let c2_i32_56 : BitVec 32 := 2#32
  let v190 : BitVec 32 := Scalar.muli arg1 c2_i32_56
  let c1_i32_57 : BitVec 32 := 1#32
  let v191 : BitVec 32 := Scalar.addi v190 c1_i32_57
  let c256_i32_58 : BitVec 32 := 256#32
  let v192 : BitVec 32 := Scalar.muli v191 c256_i32_58
  v192
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x256 : Shape := ⟨2, ![8192, 256]⟩
abbrev S8192x3200 : Shape := ⟨2, ![8192, 3200]⟩
abbrev S8192x768 : Shape := ⟨2, ![8192, 768]⟩
abbrev S8192x4x64 : Shape := ⟨3, ![8192, 4, 64]⟩
abbrev S4x8192x64 : Shape := ⟨3, ![4, 8192, 64]⟩
abbrev S8192 : Shape := ⟨1, ![8192]⟩
abbrev S4x8192x8192 : Shape := ⟨3, ![4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩

abbrev nBuf : Space → Nat
  | .hbm => 178
  | .vmem => 0
  | .smem => 0
  | _ => 0

abbrev hbmTy0_0 (i : Nat) : BufTy := match i % 128 with
  | 0 => ⟨S8192x256, .f32⟩
  | 1 => ⟨S8192x3200, .f32⟩
  | 2 => ⟨S8192x768, .f32⟩
  | 3 => ⟨S8192x256, .f32⟩
  | 4 => ⟨S8192x256, .f32⟩
  | 5 => ⟨S8192x256, .f32⟩
  | 6 => ⟨S8192x4x64, .f32⟩
  | 7 => ⟨S4x8192x64, .f32⟩
  | 8 => ⟨S8192x4x64, .f32⟩
  | 9 => ⟨S4x8192x64, .f32⟩
  | 10 => ⟨S8192x4x64, .f32⟩
  | 11 => ⟨S4x8192x64, .f32⟩
  | 12 => ⟨S8192, .i32⟩
  | 13 => ⟨S4x8192x8192, .f32⟩
  | 14 => ⟨S_, .f32⟩
  | 15 => ⟨S4x8192x8192, .f32⟩
  | 16 => ⟨S4x8192x8192, .f32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S4x8192x8192, .f32⟩
  | 23 => ⟨S4x8192x8192, .f32⟩
  | 24 => ⟨S_, .f32⟩
  | 25 => ⟨S4x8192x8192, .f32⟩
  | 26 => ⟨S4x8192x8192, .f32⟩
  | 27 => ⟨S4x8192x8192, .f32⟩
  | 28 => ⟨S4x8192x8192, .f32⟩
  | 29 => ⟨S4x8192x8192, .i1⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S4x8192x8192, .f32⟩
  | 38 => ⟨S_, .f32⟩
  | 39 => ⟨S4x8192x8192, .f32⟩
  | 40 => ⟨S4x8192x8192, .i1⟩
  | 41 => ⟨S_, .f32⟩
  | 42 => ⟨S4x8192x8192, .f32⟩
  | 43 => ⟨S4x8192x8192, .f32⟩
  | 44 => ⟨S_, .f32⟩
  | 45 => ⟨S4x8192x8192, .f32⟩
  | 46 => ⟨S4x8192x8192, .i1⟩
  | 47 => ⟨S_, .f32⟩
  | 48 => ⟨S4x8192x8192, .f32⟩
  | 49 => ⟨S4x8192x8192, .f32⟩
  | 50 => ⟨S4x8192x8192, .f32⟩
  | 51 => ⟨S4x8192x8192, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S4x8192x8192, .f32⟩
  | 60 => ⟨S4x8192x8192, .i1⟩
  | 61 => ⟨S_, .f32⟩
  | 62 => ⟨S4x8192x8192, .f32⟩
  | 63 => ⟨S4x8192x8192, .f32⟩
  | 64 => ⟨S4x8192x8192, .f32⟩
  | 65 => ⟨S4x8192x8192, .f32⟩
  | 66 => ⟨S4x8192x8192, .f32⟩
  | 67 => ⟨S_, .f32⟩
  | 68 => ⟨S4x8192x8192, .f32⟩
  | 69 => ⟨S4x8192x8192, .f32⟩
  | 70 => ⟨S4x8192x8192, .f32⟩
  | 71 => ⟨S_, .f32⟩
  | 72 => ⟨S_, .f32⟩
  | 73 => ⟨S4x8192x8192, .i1⟩
  | 74 => ⟨S4x8192x8192, .f32⟩
  | 75 => ⟨S4x8192x8192, .f32⟩
  | 76 => ⟨S_, .f32⟩
  | 77 => ⟨S4x8192x8192, .f32⟩
  | 78 => ⟨S_, .f32⟩
  | 79 => ⟨S_, .f32⟩
  | 80 => ⟨S4x8192x8192, .f32⟩
  | 81 => ⟨S4x8192x8192, .f32⟩
  | 82 => ⟨S4x8192x8192, .f32⟩
  | 83 => ⟨S_, .f32⟩
  | 84 => ⟨S4x8192x8192, .f32⟩
  | 85 => ⟨S4x8192x8192, .f32⟩
  | 86 => ⟨S4x8192x8192, .f32⟩
  | 87 => ⟨S4x8192x8192, .f32⟩
  | 88 => ⟨S4x8192x8192, .i1⟩
  | 89 => ⟨S4x8192x8192, .f32⟩
  | 90 => ⟨S4x8192x8192, .f32⟩
  | 91 => ⟨S4x8192x8192, .f32⟩
  | 92 => ⟨S4x8192x8192, .f32⟩
  | 93 => ⟨S4x8192x8192, .f32⟩
  | 94 => ⟨S4x8192x8192, .f32⟩
  | 95 => ⟨S4x8192x8192, .f32⟩
  | 96 => ⟨S4x8192x8192, .f32⟩
  | 97 => ⟨S_, .f32⟩
  | 98 => ⟨S4x8192x8192, .f32⟩
  | 99 => ⟨S4x8192x8192, .i1⟩
  | 100 => ⟨S_, .f32⟩
  | 101 => ⟨S4x8192x8192, .f32⟩
  | 102 => ⟨S4x8192x8192, .f32⟩
  | 103 => ⟨S_, .f32⟩
  | 104 => ⟨S4x8192x8192, .f32⟩
  | 105 => ⟨S4x8192x8192, .i1⟩
  | 106 => ⟨S_, .f32⟩
  | 107 => ⟨S4x8192x8192, .f32⟩
  | 108 => ⟨S4x8192x8192, .f32⟩
  | 109 => ⟨S4x8192x8192, .f32⟩
  | 110 => ⟨S4x8192x8192, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S4x8192x8192, .f32⟩
  | 119 => ⟨S4x8192x8192, .i1⟩
  | 120 => ⟨S_, .f32⟩
  | 121 => ⟨S4x8192x8192, .f32⟩
  | 122 => ⟨S4x8192x8192, .f32⟩
  | 123 => ⟨S4x8192x8192, .f32⟩
  | 124 => ⟨S4x8192x8192, .f32⟩
  | 125 => ⟨S4x8192x8192, .f32⟩
  | 126 => ⟨S_, .f32⟩
  | 127 => ⟨S4x8192x8192, .f32⟩
  | _ => ⟨S8192x256, .f32⟩

abbrev hbmTy0_1 (i : Nat) : BufTy := match i % 128 with
  | 0 => ⟨S4x8192x8192, .f32⟩
  | 1 => ⟨S4x8192x8192, .f32⟩
  | 2 => ⟨S4x8192x8192, .f32⟩
  | 3 => ⟨S4x8192x8192, .f32⟩
  | 4 => ⟨S_, .f32⟩
  | 5 => ⟨S_, .f32⟩
  | 6 => ⟨S4x8192x8192, .i1⟩
  | 7 => ⟨S4x8192x8192, .f32⟩
  | 8 => ⟨S4x8192x8192, .f32⟩
  | 9 => ⟨S_, .f32⟩
  | 10 => ⟨S4x8192x8192, .f32⟩
  | 11 => ⟨S4x8192x64, .f32⟩
  | 12 => ⟨S8192x4x64, .f32⟩
  | 13 => ⟨S8192x256, .f32⟩
  | 14 => ⟨S8192x4x64, .f32⟩
  | 15 => ⟨S4x8192x64, .f32⟩
  | 16 => ⟨S4x64x8192, .f32⟩
  | 17 => ⟨S4x8192x64, .f32⟩
  | 18 => ⟨S4x8192x8192, .f32⟩
  | 19 => ⟨S_, .f32⟩
  | 20 => ⟨S4x8192x8192, .f32⟩
  | 21 => ⟨S4x8192x8192, .f32⟩
  | 22 => ⟨S4x8192x8192, .f32⟩
  | 23 => ⟨S4x8192x8192, .f32⟩
  | 24 => ⟨S4x8192x8192, .f32⟩
  | 25 => ⟨S4x8192x8192, .f32⟩
  | 26 => ⟨S4x8192x8192, .f32⟩
  | 27 => ⟨S_, .f32⟩
  | 28 => ⟨S_, .f32⟩
  | 29 => ⟨S4x8192x8192, .f32⟩
  | 30 => ⟨S4x8192x8192, .f32⟩
  | 31 => ⟨S_, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S4x8192x8192, .f32⟩
  | 38 => ⟨S4x8192x8192, .f32⟩
  | 39 => ⟨S_, .f32⟩
  | 40 => ⟨S4x8192x8192, .f32⟩
  | 41 => ⟨S4x8192x8192, .f32⟩
  | 42 => ⟨S4x8192x64, .f32⟩
  | 43 => ⟨S4x8192x64, .f32⟩
  | 44 => ⟨S8192x4x64, .f32⟩
  | 45 => ⟨S8192x256, .f32⟩
  | 46 => ⟨S8192x4x64, .f32⟩
  | 47 => ⟨S8192x256, .f32⟩
  | 48 => ⟨S8192x4x64, .f32⟩
  | 49 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_call6_v0 : Ref sig .tc := ⟨.hbm, 151, rfl⟩
abbrev main_call6_v1 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8192x1024, .f32⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_30 : BitVec 32 := 0#32
  let v48 : BitVec 1 := Scalar.cmpi .ne v47 c0_i32_30
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S_, .f32⟩
  | .hbm, ⟨81, _⟩ => ⟨S8192x2816, .f32⟩
  | .hbm, ⟨82, _⟩ => ⟨S8192x2816, .f32⟩
  | .hbm, ⟨83, _⟩ => ⟨S_, .f32⟩
  | .hbm, ⟨84, _⟩ => ⟨S8192x2816, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x2816, .bf16⟩
  | .hbm, ⟨89, _⟩ => ⟨S8192x2816, .bf16⟩
  | .hbm, ⟨90, _⟩ => ⟨S8192x2816, .bf16⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_v26_2 : Ref sig .tc := ⟨.hbm, 57, rfl⟩
abbrev main_call2_cst_1 : Ref sig .tc := ⟨.hbm, 58, rfl⟩
abbrev main_call2_v6 : Ref sig .tc := ⟨.hbm, 59, rfl⟩
abbrev main_call2_v7 : Ref sig .tc := ⟨.hbm, 60, rfl⟩
abbrev main_v26_1 : Ref sig .tc := ⟨.hbm, 61, rfl⟩
abbrev main_v26_0 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_cst_4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v36 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_5 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S1024x2816, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S2816x1024, .f32⟩
  | .hbm, ⟨7, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S1024x3200, .bf16⟩
  | .hbm, ⟨3, _⟩ => ⟨S8192x3200, .f32⟩
  | .hbm, ⟨4, _⟩ => ⟨S8192x3200, .bf16⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .bf16⟩
  | .local _ .vmem, ⟨7, _⟩ => ⟨S512x640, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3200, .f32⟩
  | .hbm, ⟨2, _⟩ => ⟨S8192x3200, .f32⟩
  | .hbm, ⟨3, _⟩ => ⟨S8192x3200, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel13.lean ====
abbrev S8192x768 : Shape := ⟨2, ![8192, 768]⟩
abbrev S8192x256 : Shape := ⟨2, ![8192, 256]⟩
abbrev S8192x512 : Shape := ⟨2, ![8192, 512]⟩
abbrev S8192x128 : Shape := ⟨2, ![8192, 128]⟩
abbrev S1024x3200 : Shape := ⟨2, ![1024, 3200]⟩
abbrev S8192x1024 : Shape := ⟨2, ![8192, 1024]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩
abbrev S512x1024 : Shape := ⟨2, ![512, 1024]⟩
abbrev S1024x768 : Shape := ⟨2, ![1024, 768]⟩
abbrev S1024x256 : Shape := ⟨2, ![1024, 256]⟩
abbrev S1024x512 : Shape := ⟨2, ![1024, 512]⟩
abbrev S1024x128 : Shape := ⟨2, ![1024, 128]⟩

abbrev nBuf : Space → Nat
  | .hbm => 14
  | .vmem => 25
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x512, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S1024x3200, .f32⟩
  | .hbm, ⟨11, _⟩ => ⟨S8192x1024, .f32⟩
  | .hbm, ⟨12, _⟩ => ⟨S1024x3200, .bf16⟩
  | .hbm, ⟨13, _⟩ => ⟨S8192x1024, .f32⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x512, .f32⟩
  | .local _ .vmem, ⟨11, _⟩ => ⟨S512x512, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S1024x3200, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3200 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference13Ideal.lean ====
abbrev S8192x768 : Shape := ⟨2, ![8192, 768]⟩
abbrev S8192x256 : Shape := ⟨2, ![8192, 256]⟩
abbrev S8192x512 : Shape := ⟨2, ![8192, 512]⟩
abbrev S8192x128 : Shape := ⟨2, ![8192, 128]⟩
abbrev S1024x3200 : Shape := ⟨2, ![1024, 3200]⟩
abbrev S8192x1024 : Shape := ⟨2, ![8192, 1024]⟩
abbrev S8192x3200 : Shape := ⟨2, ![8192, 3200]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x512, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S1024x3200, .f32⟩
  | .hbm, ⟨11, _⟩ => ⟨S8192x1024, .f32⟩
  | .hbm, ⟨12, _⟩ => ⟨S8192x3200, .f32⟩
  | .hbm, ⟨13, _⟩ => ⟨S_, .f32⟩
  | .hbm, ⟨14, _⟩ => ⟨S8192x1024, .f32⟩
  | .hbm, ⟨15, _⟩ => ⟨S8192x3200, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩

abbrev nD : Nat := 1
abbrev τ : Topo := Topo.v7x

variable {F : FTy → Type} [FloatOps F]
-- ==== Kernel14.lean ====
abbrev S8192x1024 : Shape := ⟨2, ![8192, 1024]⟩
abbrev S8192x768 : Shape := ⟨2, ![8192, 768]⟩
abbrev S8192x256 : Shape := ⟨2, ![8192, 256]⟩
abbrev S8192x512 : Shape := ⟨2, ![8192, 512]⟩
abbrev S8192x128 : Shape := ⟨2, ![8192, 128]⟩
abbrev S1024x3200 : Shape := ⟨2, ![1024, 3200]⟩
abbrev S512x1024 : Shape := ⟨2, ![512, 1024]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩
abbrev S1024x512 : Shape := ⟨2, ![1024, 512]⟩
abbrev S1024x768 : Shape := ⟨2, ![1024, 768]⟩
abbrev S1024x256 : Shape := ⟨2, ![1024, 256]⟩
abbrev S1024x128 : Shape := ⟨2, ![1024, 128]⟩

abbrev nBuf : Space → Nat
  | .hbm => 12
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x512, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x128, .f32⟩
  | .hbm, ⟨11, _⟩ => ⟨S1024x3200, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S1024x3200, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1024x3200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference14Ideal.lean ====
abbrev S8192x1024 : Shape := ⟨2, ![8192, 1024]⟩
abbrev S8192x768 : Shape := ⟨2, ![8192, 768]⟩
abbrev S8192x256 : Shape := ⟨2, ![8192, 256]⟩
abbrev S8192x512 : Shape := ⟨2, ![8192, 512]⟩
abbrev S8192x128 : Shape := ⟨2, ![8192, 128]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x512, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x128, .f32⟩
  | .hbm, ⟨11, _⟩ => ⟨S8192x3200, .f32⟩
  | .hbm, ⟨12, _⟩ => ⟨S_, .f32⟩
  | .hbm, ⟨13, _⟩ => ⟨S1024x3200, .f32⟩
  | .hbm, ⟨14, _⟩ => ⟨S8192x3200, .f32⟩
  | .hbm, ⟨15, _⟩ => ⟨S3200x1024, .f32⟩
  | .hbm, ⟨16, _⟩ => ⟨S1024x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Kernel15.lean ====
abbrev S256x1024 : Shape := ⟨2, ![256, 1024]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S1024x2048, .bf16⟩
  | .hbm, ⟨3, _⟩ => ⟨S256x2048, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S256x512, .f32⟩
  | .local _ .vmem, ⟨4, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S256x1024 : Shape := ⟨2, ![256, 1024]⟩
abbrev S256x2048 : Shape := ⟨2, ![256, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S1024x2048, .f32⟩
  | .local _ .vmem, ⟨0, _⟩ => ⟨S256x1024, .f32⟩
  | .local _ .vmem, ⟨1, _⟩ => ⟨S256x2048, .f32⟩
  | .local _ .vmem, ⟨2, _⟩ => ⟨S1024x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference16Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S256x2048 : Shape := ⟨2, ![256, 2048]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .f32⟩
  | .hbm, ⟨2, _⟩ => ⟨S8192x1024, .f32⟩
  | .hbm, ⟨3, _⟩ => ⟨S256x1024, .f32⟩
  | .hbm, ⟨4, _⟩ => ⟨S256x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x256x8192, .f32⟩
  | .hbm, ⟨27, _⟩ => ⟨S8192x4x256, .f32⟩
  | .hbm, ⟨28, _⟩ => ⟨S8192x1024, .f32⟩
  | .hbm, ⟨29, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel18.lean ====
abbrev S8192x1024 : Shape := ⟨2, ![8192, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S256x2048, .f32⟩
  | .hbm, ⟨3, _⟩ => ⟨S8192x1024, .f32⟩
  | .hbm, ⟨4, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S256x2048, .f32⟩
  | .local _ .vmem, ⟨5, _⟩ => ⟨S512x1024, .f32⟩
  | .local _ .vmem, ⟨6, _⟩ => ⟨S512x1024, .f32⟩
  | .local _ .vmem, ⟨7, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S256x2048, .f32⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x256x8192, .f32⟩
  | .hbm, ⟨52, _⟩ => ⟨S8192x4x256, .f32⟩
  | .hbm, ⟨53, _⟩ => ⟨S8192x1024, .f32⟩
  | .hbm, ⟨54, _⟩ => ⟨S8192x4x256, .f32⟩
  | .hbm, ⟨55, _⟩ => ⟨S4x256x8192, .f32⟩
  | .hbm, ⟨56, _⟩ => ⟨S4x8192x256, .f32⟩
  | .hbm, ⟨57, _⟩ => ⟨S4x256x256, .f32⟩
  | .hbm, ⟨58, _⟩ => ⟨S256x4x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x1, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192x256, .f32⟩
  | .hbm, ⟨75, _⟩ => ⟨S4x8192x256, .f32⟩
  | .hbm, ⟨76, _⟩ => ⟨S4x256x256, .f32⟩
  | .hbm, ⟨77, _⟩ => ⟨S256x4x256, .f32⟩
  | .hbm, ⟨78, _⟩ => ⟨S4x8192x256, .f32⟩
  | .hbm, ⟨79, _⟩ => ⟨S8192x4x256, .f32⟩
  | .hbm, ⟨80, _⟩ => ⟨S256x1024, .f32⟩
  | .hbm, ⟨81, _⟩ => ⟨S256x1024, .f32⟩
  | .hbm, ⟨82, _⟩ => ⟨S8192x1024, .f32⟩
  | .hbm, ⟨83, _⟩ => ⟨S256x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Sums.lean ====
module

public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.WordCmp
public import Idealize.ShloMosaic.Lib.IdealHost

/-!
# Sums in tiles

An array read at natural numbers, a sum cut into tiles, and what a buffer holds to which every grid point of a run
adds its tile's sum.
-/

@[expose] public section

noncomputable section

namespace Cert.Stick

open Idealize.ShloMosaic Finset

/-- A two-dimensional array read at natural numbers, zero outside. -/
def cell {M N : ℕ} (f : Fin M → Fin N → EReal) (i j : ℕ) : EReal := if h : i < M ∧ j < N then f ⟨i, h.1⟩ ⟨j, h.2⟩ else 0

/-- Inside the array its cell is its element. -/
theorem cell_mk {M N : ℕ} (f : Fin M → Fin N → EReal) (i : Fin M) (j : Fin N) : cell f i.val j.val = f i j := dif_pos ⟨i.isLt, j.isLt⟩

/-- Inside the array its cell is its element, at a row and a column given by number. -/
theorem cell_of {M N : ℕ} (f : Fin M → Fin N → EReal) {i j : ℕ} (hi : i < M) (hj : j < N) : cell f i j = f ⟨i, hi⟩ ⟨j, hj⟩ := dif_pos ⟨hi, hj⟩

/-- A sum over `J · K` numbers is the sum over `J` tiles of the sums over the tiles' `K` numbers. -/
theorem sum_tiles {A : Type} [AddCommMonoid A] (f : ℕ → A) (K : ℕ) : ∀ J : ℕ,
    ∑ j ∈ range J, ∑ p ∈ range K, f (K * j + p) = ∑ s ∈ range (K * J), f s
  | 0 => by simp
  | J + 1 => by rw [sum_range_succ, sum_tiles f K J, Nat.mul_succ, sum_range_add]

/-- A buffer whose element the run's first point sets to its term and to which every later point adds its term ends at the sum of the terms. -/
theorem accAt_sum {ι : Type} {N : ℕ} (a : (n : ℕ) → n < N → ι → EReal) (g : (n : ℕ) → n < N → (ι → EReal) → ι → EReal)
    (i : ι) (T : ℕ → EReal) (ha : ∀ n h, a n h i = T n) (hg : ∀ n h x, g n h x i = x i + T n) (b : ℕ) :
    ∀ (j : ℕ) (h : b + j < N), Pipeline.accAt a g b j h i = ∑ k ∈ range (j + 1), T (b + k)
  | 0, h => by rw [Pipeline.accAt_zero, ha]; simp
  | j + 1, h => by rw [Pipeline.accAt_succ, hg, accAt_sum a g i T ha hg b j _, sum_range_succ _ (j + 1)]

end Cert.Stick

end
-- ==== Proof.Weight7.lean ====
module

public import proofs.«01_k».proof.Proof.Sums
public import proofs.«01_k».proof.Proof.Gen.Kernel7Ideal.Value
public import proofs.«01_k».proof.Proof.Gen.Reference7Ideal.Read

/-!
# The gradient of the attention outputs' weights
-/

@[expose] public section

set_option maxRecDepth 16384

noncomputable section

namespace Cert.Weight7

open Idealize.ShloMosaic Idealize.ShloMosaic.TcCoe Cert.Kernel7Ideal Cert.Kernel7Ideal.Gen Cert.Stick Finset

variable (m : (ℓ : Loc nD τ sig) → Buf (Elt Ideal) ℓ) (c : Dev nD)

/-- The layer's input. -/
def inp : Fin 8192 → Fin 1024 → EReal := fun t k => m ((c : Thread nD τ).loc main_arg0) (ix2 t k)

/-- The cotangent of the layer's product. -/
def cot : Fin 8192 → Fin 1024 → EReal := fun t l => m ((c : Thread nD τ).loc main_arg1) (ix2 t l)

/-- The blocks of the grid's points. -/
theorem index_eq : ∀ t : Fin cfg0.N, win0_0.index t = ![t.val, 0] ∧ win0_1.index t = ![t.val, 0] :=
  (by decide +kernel : ∀ t : Fin grid0.N, _)

/-- Point `n` reads 1024 rows of the input. -/
theorem block0 (t : Fin cfg0.N) (p : Fin 1024) (k : Fin 1024) :
    iblk m c 0 t (ix2 p k) = cell (inp m c) (1024 * t.val + p.val) k.val := by
  have ht : t.val < 8 := t.isLt
  rw [cell_of _ (by omega) k.isLt]
  refine Eq.trans ?_ (congrFun (V_main_arg0 m c) _)
  blk_ext [iblk, index_eq t]

/-- Point `n` reads 1024 rows of the cotangent. -/
theorem block1 (t : Fin cfg0.N) (p : Fin 1024) (l : Fin 1024) :
    iblk m c 1 t (ix2 p l) = cell (cot m c) (1024 * t.val + p.val) l.val := by
  have ht : t.val < 8 := t.isLt
  rw [cell_of _ (by omega) l.isLt]
  refine Eq.trans ?_ (congrFun (V_main_arg1 m c) _)
  blk_ext [iblk, index_eq t]

/-- What a point adds. -/
theorem pay2 (x : Vec Ideal S1024x1024 .f32) (a : Vec Ideal S1024x1024 .bf16) (g : Vec Ideal S1024x1024 .f32) (k : Fin 1024) (l : Fin 1024) :
    k0_pay2 (F := Ideal) x a g (ix2 k l) = x (ix2 k l) + ∑ p : Fin 1024, a (ix2 p k) * g (ix2 p l) := by
  unfold k0_pay2
  pointwise

/-- What a run's first point leaves. -/
theorem pay1 (k : Fin 1024) (l : Fin 1024) : k0_pay1 (F := Ideal) (ix2 k l) = 0 := by
  unfold k0_pay1
  pointwise

/-- The sum over a point's rows. -/
def term (k : Fin 1024) (l : Fin 1024) (n : ℕ) : EReal :=
  ∑ p ∈ range 1024, cell (inp m c) (1024 * n + p) k.val * cell (cot m c) (1024 * n + p) l.val

/-- A point adds the sum over its rows. -/
theorem step (x : Vec Ideal S1024x1024 .f32) (n : ℕ) (h : n < cfg0.N) (k : Fin 1024) (l : Fin 1024) :
    k0_pay2 (F := Ideal) x (iblk m c 0 ⟨n, h⟩) (iblk m c 1 ⟨n, h⟩) (ix2 k l) = x (ix2 k l) + term m c k l n := by
  refine (pay2 _ _ _ _ _).trans (congrArg _ ?_)
  unfold term
  rw [sum_range]
  exact sum_congr rfl fun p _ => congrArg₂ _ (block0 m c ⟨n, h⟩ p k) (block1 m c ⟨n, h⟩ p l)

/-- The result array. -/
theorem array (k : Fin 1024) (l : Fin 1024) : Value.G2 m c (ix2 k l) = ∑ t : Fin 8192, inp m c t k * cot m c t l := by
  have hr : Value.run2Of (ix2 k l) = 0 := by
    show 1 * (k.val / 1024 - 0) + 1 * (l.val / 1024 - 0) = 0
    omega
  have hl : Value.loc2Of (ix2 k l) = ix2 k l := funext fun a => by
    match a with
    | ⟨0, _⟩ => exact Fin.ext (Nat.mod_eq_of_lt k.isLt)
    | ⟨1, _⟩ => exact Fin.ext (Nat.mod_eq_of_lt l.isLt)
  unfold Value.G2
  rw [hl, dif_pos (show 8 * Value.run2Of (ix2 k l) + 7 < cfg0.N by rw [hr]; decide)]
  refine (accAt_sum (N := cfg0.N) (Value.reset2 m c) (Value.step2 m c) (ix2 k l) (term m c k l)
    (fun n h => (step m c _ n h k l).trans (by rw [pay1, zero_add])) (fun n h x => step m c x n h k l) _ _ _).trans ?_
  rw [hr]
  simp only [Nat.mul_zero, Nat.zero_add]
  unfold term
  rw [sum_tiles (fun s => cell (inp m c) s k.val * cell (cot m c) s l.val) 1024 8, sum_range]
  exact sum_congr rfl fun t _ => congrArg₂ _ (cell_mk _ t k) (cell_mk _ t l)

/-- The reference's result. -/
theorem ref (x0 : FVec Ideal Cert.Reference7Ideal.S8192x1024 .bf16) (x1 : FVec Ideal Cert.Reference7Ideal.S8192x1024 .f32) (k : Fin 1024) (l : Fin 1024) :
    Cert.Reference7Ideal.Read.val_main_v4 (F := Ideal) x0 x1 (ix2 k l) = ∑ t : Fin 8192, x0 (ix2 t k) * x1 (ix2 t l) := by
  unfold Cert.Reference7Ideal.Read.val_main_v4 Cert.Reference7Ideal.Read.val_main_v3 Cert.Reference7Ideal.Read.val_main_v0
  pointwise
  exact sum_congr rfl fun t _ => mul_comm _ _

end Cert.Weight7

end
-- ==== Proof.Weight7Equal.lean ====
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Weight7
public import Idealize.ShloMosaic.Adequacy
public import Idealize.ShloMosaic.Init

/-!
# The weight's gradient is the reference's
-/

@[expose] public section

set_option maxRecDepth 16384

noncomputable section

namespace Cert.Weight7

open Idealize.ShloMosaic Idealize.ShloMosaic.TcCoe Idealize.SL.Sem Cert.Stick

/-- The kernel's gradient of the weight is the reference's. -/
theorem equal : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.G2 m c, Cert.Kernel7Ideal.Value.run m g,
    (θ_run _ _ _).mono (fun r h c => ⟨(h c).1.trans ?_, (h c).2⟩) (Cert.Reference7Ideal.Value.run (F := Ideal) m' g')⟩
  refine (Cert.Reference7Ideal.Read.val_main_v4_eq _ _).trans ?_
  rw [(hargs c).1, (hargs c).2]
  refine funext fun (i : Cert.Reference7Ideal.S1024x1024.Idx) => ?_
  rw [show i = ix2 (i 0 : Fin 1024) (i 1 : Fin 1024) from eq_ix2 i]
  exact (ref _ _ _ _).trans (array m c _ _).symm

end Cert.Weight7

end
-- ==== Proof.Weight11.lean ====
module

public import proofs.«01_k».proof.Proof.Sums
public import proofs.«01_k».proof.Proof.Gen.Kernel11Ideal.Value
public import proofs.«01_k».proof.Proof.Gen.Reference11Ideal.Read

/-!
# The gradient of the memory queries' weight
-/

@[expose] public section

set_option maxRecDepth 16384

noncomputable section

namespace Cert.Weight11

open Idealize.ShloMosaic Idealize.ShloMosaic.TcCoe Cert.Kernel11Ideal Cert.Kernel11Ideal.Gen Cert.Stick Finset

variable (m : (ℓ : Loc nD τ sig) → Buf (Elt Ideal) ℓ) (c : Dev nD)

/-- The layer's input. -/
def inp : Fin 8192 → Fin 1024 → EReal := fun t k => m ((c : Thread nD τ).loc main_arg0) (ix2 t k)

/-- The cotangent of the layer's product. -/
def cot : Fin 8192 → Fin 1024 → EReal := fun t l => m ((c : Thread nD τ).loc main_arg1) (ix2 t l)

/-- The blocks of the grid's points. -/
theorem index_eq : ∀ t : Fin cfg0.N, win0_0.index t = ![t.val, 0] ∧ win0_1.index t = ![t.val, 0] :=
  (by decide +kernel : ∀ t : Fin grid0.N, _)

/-- Point `n` reads 1024 rows of the input. -/
theorem block0 (t : Fin cfg0.N) (p : Fin 1024) (k : Fin 1024) :
    iblk m c 0 t (ix2 p k) = cell (inp m c) (1024 * t.val + p.val) k.val := by
  have ht : t.val < 8 := t.isLt
  rw [cell_of _ (by omega) k.isLt]
  refine Eq.trans ?_ (congrFun (V_main_arg0 m c) _)
  blk_ext [iblk, index_eq t]

/-- Point `n` reads 1024 rows of the cotangent. -/
theorem block1 (t : Fin cfg0.N) (p : Fin 1024) (l : Fin 1024) :
    iblk m c 1 t (ix2 p l) = cell (cot m c) (1024 * t.val + p.val) l.val := by
  have ht : t.val < 8 := t.isLt
  rw [cell_of _ (by omega) l.isLt]
  refine Eq.trans ?_ (congrFun (V_main_arg1 m c) _)
  blk_ext [iblk, index_eq t]

/-- What a point adds. -/
theorem pay2 (x : Vec Ideal S1024x1024 .f32) (a : Vec Ideal S1024x1024 .f32) (g : Vec Ideal S1024x1024 .f32) (k : Fin 1024) (l : Fin 1024) :
    k0_pay2 (F := Ideal) x a g (ix2 k l) = x (ix2 k l) + ∑ p : Fin 1024, a (ix2 p k) * g (ix2 p l) := by
  unfold k0_pay2
  pointwise

/-- What a run's first point leaves. -/
theorem pay1 (k : Fin 1024) (l : Fin 1024) : k0_pay1 (F := Ideal) (ix2 k l) = 0 := by
  unfold k0_pay1
  pointwise

/-- The sum over a point's rows. -/
def term (k : Fin 1024) (l : Fin 1024) (n : ℕ) : EReal :=
  ∑ p ∈ range 1024, cell (inp m c) (1024 * n + p) k.val * cell (cot m c) (1024 * n + p) l.val

/-- A point adds the sum over its rows. -/
theorem step (x : Vec Ideal S1024x1024 .f32) (n : ℕ) (h : n < cfg0.N) (k : Fin 1024) (l : Fin 1024) :
    k0_pay2 (F := Ideal) x (iblk m c 0 ⟨n, h⟩) (iblk m c 1 ⟨n, h⟩) (ix2 k l) = x (ix2 k l) + term m c k l n := by
  refine (pay2 _ _ _ _ _).trans (congrArg _ ?_)
  unfold term
  rw [sum_range]
  exact sum_congr rfl fun p _ => congrArg₂ _ (block0 m c ⟨n, h⟩ p k) (block1 m c ⟨n, h⟩ p l)

/-- The result array. -/
theorem array (k : Fin 1024) (l : Fin 1024) : Value.G2 m c (ix2 k l) = ∑ t : Fin 8192, inp m c t k * cot m c t l := by
  have hr : Value.run2Of (ix2 k l) = 0 := by
    show 1 * (k.val / 1024 - 0) + 1 * (l.val / 1024 - 0) = 0
    omega
  have hl : Value.loc2Of (ix2 k l) = ix2 k l := funext fun a => by
    match a with
    | ⟨0, _⟩ => exact Fin.ext (Nat.mod_eq_of_lt k.isLt)
    | ⟨1, _⟩ => exact Fin.ext (Nat.mod_eq_of_lt l.isLt)
  unfold Value.G2
  rw [hl, dif_pos (show 8 * Value.run2Of (ix2 k l) + 7 < cfg0.N by rw [hr]; decide)]
  refine (accAt_sum (N := cfg0.N) (Value.reset2 m c) (Value.step2 m c) (ix2 k l) (term m c k l)
    (fun n h => (step m c _ n h k l).trans (by rw [pay1, zero_add])) (fun n h x => step m c x n h k l) _ _ _).trans ?_
  rw [hr]
  simp only [Nat.mul_zero, Nat.zero_add]
  unfold term
  rw [sum_tiles (fun s => cell (inp m c) s k.val * cell (cot m c) s l.val) 1024 8, sum_range]
  exact sum_congr rfl fun t _ => congrArg₂ _ (cell_mk _ t k) (cell_mk _ t l)

/-- The reference's result. -/
theorem ref (x0 : FVec Ideal Cert.Reference11Ideal.S8192x1024 .f32) (x1 : FVec Ideal Cert.Reference11Ideal.S8192x1024 .f32) (k : Fin 1024) (l : Fin 1024) :
    Cert.Reference11Ideal.Read.val_main_v3 (F := Ideal) x0 x1 (ix2 k l) = ∑ t : Fin 8192, x0 (ix2 t k) * x1 (ix2 t l) := by
  unfold Cert.Reference11Ideal.Read.val_main_v3 Cert.Reference11Ideal.Read.val_main_v2
  pointwise
  exact sum_congr rfl fun t _ => mul_comm _ _

end Cert.Weight11

end
-- ==== Proof.Weight11Equal.lean ====
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Weight11
public import Idealize.ShloMosaic.Adequacy
public import Idealize.ShloMosaic.Init

/-!
# The weight's gradient is the reference's
-/

@[expose] public section

set_option maxRecDepth 16384

noncomputable section

namespace Cert.Weight11

open Idealize.ShloMosaic Idealize.ShloMosaic.TcCoe Idealize.SL.Sem Cert.Stick

/-- The kernel's gradient of the weight is the reference's. -/
theorem equal : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Value.G2 m c, Cert.Kernel11Ideal.Value.run m g,
    (θ_run _ _ _).mono (fun r h c => ⟨(h c).1.trans ?_, (h c).2⟩) (Cert.Reference11Ideal.Value.run (F := Ideal) m' g')⟩
  refine (Cert.Reference11Ideal.Read.val_main_v3_eq _ _).trans ?_
  rw [(hargs c).1, (hargs c).2]
  refine funext fun (i : Cert.Reference11Ideal.S1024x1024.Idx) => ?_
  rw [show i = ix2 (i 0 : Fin 1024) (i 1 : Fin 1024) from eq_ix2 i]
  exact (ref _ _ _ _).trans (array m c _ _).symm

end Cert.Weight11

end
-- ==== Proof.Product6.lean ====
module

public import proofs.«01_k».proof.Defs
public import proofs.«01_k».proof.Proof.Sums
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

/-!
# The gradient by the input of a product
-/

@[expose] public section

set_option maxRecDepth 16384

noncomputable section

namespace Cert.Product6

open Idealize.ShloMosaic Idealize.ShloMosaic.TcCoe Idealize.SL.Sem Cert.Kernel6Ideal Cert.Kernel6Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![t.val, 0] ∧ win0_1.index t = ![0, 0] ∧ win0_2.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- The product's left factor. -/
def inp : Fin 8192 → Fin 1024 → EReal := fun t k => m ((c : Thread nD τ).loc main_arg0) (ix2 t k)

/-- The weight. -/
def weight : Fin 1024 → Fin 1024 → EReal := fun k l => m ((c : Thread nD τ).loc main_arg1) (ix2 k l)

/-- The result at a row and a column. -/
def value (t : Fin 8192) (l : Fin 1024) : EReal := ∑ k : Fin 1024, inp m c t k * weight m c l k

/-- What the call finds of the weight. -/
theorem found1 (k : Fin 1024) (l : Fin 1024) : V m c main_v0 (ix2 k l) = weight m c k l := by
  simp only [V, hostOps0, List.flatten_cons, List.flatten_nil, List.append_nil, List.cons_append, List.nil_append]
  entry_read
  unfold weight
  pointwise

/-- A point's rows. -/
theorem block0 (t : Fin cfg0.N) (r : Fin 512) (k : Fin 1024) : iblk m c 0 t (ix2 r k) = inp m c (row t r) k := by
  have ht : t.val < 16 := t.isLt
  refine Eq.trans ?_ (congrFun (V_main_arg0 m c) _)
  unfold row
  blk_ext [iblk, index_eq t]

/-- A point's weight. -/
theorem block1 (t : Fin cfg0.N) (k : Fin 1024) (l : Fin 1024) : iblk m c 1 t (ix2 k l) = weight m c k l := by
  refine Eq.trans ?_ (found1 m c _ _)
  blk_ext [iblk, index_eq t]

/-- What a point computes for its result. -/
theorem pay1 (x : Vec Ideal S512x1024 .f32) (w : Vec Ideal S1024x1024 .bf16) (r : Fin 512) (l : Fin 1024) : k0_pay1 (F := Ideal) x w (ix2 r l) = ∑ k : Fin 1024, x (ix2 r k) * w (ix2 l k) := by
  unfold k0_pay1
  pointwise

/-- The result at an array's index. -/
def result2 : Buf (Elt Ideal) ((c : Thread nD τ).loc main_v1) := fun i => value m c (i 0) (i 1)

/-- A point's block of the result. -/
theorem point2 (t : Fin cfg0.N) (r : Fin 512) (l : Fin 1024) : out0_2 (iblk m c 0 t) (iblk m c 1 t) (ix2 r l) = value m c (row t r) l := by
  unfold out0_2
  rw [View.canon_unit_zero offset]
  simp only [View.ld_unit_zero (S := S512x1024) offset, View.ld_unit_zero (S := S1024x1024) offset]
  exact (pay1 _ _ r l).trans (sum_congr rfl fun k _ => congrArg₂ _ (block0 m c t r k) (block1 m c t l k))

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = row t (y 0) := Fin.ext (by show _ = 512 * t.val + (y 0).val; blk_simp [index_eq t]; try omega)
  have e1 : (win0_2.blk t).view.emb y 1 = y 1 := Fin.ext (by blk_simp [index_eq t]; try omega)
  blk_simp
  rw [after0_2]
  refine (congrArg _ (eq_ix2 y)).trans (h.trans ?_)
  unfold result2
  rw [e0, e1]

open Cert.Reference6Ideal.Read in
/-- The reference's result. -/
theorem ref2 (x0 : FVec Ideal Cert.Reference6Ideal.S8192x1024 .f32) (x1 : FVec Ideal Cert.Reference6Ideal.S1024x1024 .f32) (t : Fin 8192) (l : Fin 1024) :
    val_main_v2 (F := Ideal) x0 x1 (ix2 t l) = ∑ k : Fin 1024, x0 (ix2 t k) * x1 (ix2 l k) := by
  unfold val_main_v2
  pointwise

/-- The kernel's result is the reference's. -/
theorem equal : Cert.algebraic_Kernel6Ideal_Reference6Ideal (hKernel6Ideal := Cert.Kernel6Ideal.Gen.facts)
    (hReference6Ideal := Cert.Reference6Ideal.Gen.facts) := by
  intro m g m' g' _ hargs
  refine ⟨fun c => result2 m c,
    (θ_run _ _ _).mono (fun r h c => ⟨(h c).1.trans (array2 m c), (h c).2⟩) (Cert.Kernel6Ideal.Value.run_blocks m g),
    (θ_run _ _ _).mono (fun r h c => ⟨(h c).1.trans ?_, (h c).2⟩) (Cert.Reference6Ideal.Value.run (F := Ideal) m' g')⟩
  · refine (Cert.Reference6Ideal.Read.val_main_v2_eq _ _).trans ?_
    rw [(hargs c).1, (hargs c).2]
    refine funext fun (i : Cert.Reference6Ideal.S8192x1024.Idx) => ?_
    rw [show i = ix2 (i 0 : Fin 8192) (i 1 : Fin 1024) from eq_ix2 i]
    exact ref2 _ _ _ _

end Cert.Product6

end
-- ==== Proof.Product8.lean ====
module

public import proofs.«01_k».proof.Defs
public import proofs.«01_k».proof.Proof.Sums
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

/-!
# The mixers' projection
-/

@[expose] public section

set_option maxRecDepth 16384

noncomputable section

namespace Cert.Product8

open Idealize.ShloMosaic Idealize.ShloMosaic.TcCoe Idealize.SL.Sem Cert.Kernel8Ideal Cert.Kernel8Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![(t.val / 5), 0] ∧ win0_1.index t = ![0, t.val % 5] ∧ win0_2.index t = ![(t.val / 5), t.val % 5] ∧ win0_3.index t = ![(t.val / 5), t.val % 5] :=
  (by decide +kernel : ∀ t : Fin grid0.N, _)

/-- A block's row in the whole array. -/
def row (t : Fin cfg0.N) (r : Fin 512) : Fin 8192 := ⟨512 * (t.val / 5) + r.val, by have ht : t.val < 80 := t.isLt; omega⟩

/-- A block's column in the whole array. -/
def col (t : Fin cfg0.N) (l : Fin 640) : Fin 3200 := ⟨640 * (t.val % 5) + l.val, by omega⟩

/-- The product's left factor. -/
def inp : Fin 8192 → Fin 1024 → EReal := fun t k => m ((c : Thread nD τ).loc main_arg0) (ix2 t k)

/-- The weight. -/
def weight : Fin 1024 → Fin 3200 → EReal := fun k l => m ((c : Thread nD τ).loc main_arg1) (ix2 k l)

/-- The result at a row and a column. -/
def value (t : Fin 8192) (l : Fin 3200) : EReal := ∑ k : Fin 1024, inp m c t k * weight m c k l

/-- What the call finds of the weight. -/
theorem found1 (k : Fin 1024) (l : Fin 3200) : V m c main_v0 (ix2 k l) = weight m c k l := by
  simp only [V, hostOps0, List.flatten_cons, List.flatten_nil, List.append_nil, List.cons_append, List.nil_append]
  entry_read
  unfold weight
  pointwise

/-- A point's rows. -/
theorem block0 (t : Fin cfg0.N) (r : Fin 512) (k : Fin 1024) : iblk m c 0 t (ix2 r k) = inp m c (row t r) k := by
  have ht : t.val < 80 := t.isLt
  refine Eq.trans ?_ (congrFun (V_main_arg0 m c) _)
  unfold row
  blk_ext [iblk, index_eq t]

/-- A point's weight. -/
theorem block1 (t : Fin cfg0.N) (k : Fin 1024) (l : Fin 640) : iblk m c 1 t (ix2 k l) = weight m c k (col t l) := by
  refine Eq.trans ?_ (found1 m c _ _)
  unfold col
  blk_ext [iblk, index_eq t]

/-- What a point computes for its result. -/
theorem pay1 (x : Vec Ideal S512x1024 .f32) (w : Vec Ideal S1024x640 .bf16) (r : Fin 512) (l : Fin 640) : k0_pay1 (F := Ideal) x w (ix2 r l) = ∑ k : Fin 1024, x (ix2 r k) * w (ix2 k l) := by
  unfold k0_pay1
  pointwise

/-- The result at an array's index. -/
def result2 : Buf (Elt Ideal) ((c : Thread nD τ).loc main_v1_0) := fun i => value m c (i 0) (i 1)

/-- A point's block of the result. -/
theorem point2 (t : Fin cfg0.N) (r : Fin 512) (l : Fin 640) : out0_2 (iblk m c 0 t) (iblk m c 1 t) (ix2 r l) = value m c (row t r) (col t l) := by
  unfold out0_2
  rw [View.canon_unit_zero offset]
  simp only [View.ld_unit_zero (S := S512x1024) offset, View.ld_unit_zero (S := S1024x640) offset]
  exact (pay1 _ _ r l).trans (sum_congr rfl fun k _ => congrArg₂ _ (block0 m c t r k) (block1 m c t k l))

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = row t (y 0) := Fin.ext (by show _ = 512 * (t.val / 5) + (y 0).val; blk_simp [index_eq t]; try omega)
  have e1 : (win0_2.blk t).view.emb y 1 = col t (y 1) := Fin.ext (by show _ = 640 * (t.val % 5) + (y 1).val; blk_simp [index_eq t]; try omega)
  blk_simp
  rw [after0_2]
  refine (congrArg _ (eq_ix2 y)).trans (h.trans ?_)
  unfold result2
  rw [e0, e1]

/-- What a point computes for its result in the shorter format. -/
theorem pay2 (x : Vec Ideal S512x1024 .f32) (w : Vec Ideal S1024x640 .bf16) (r : Fin 512) (l : Fin 640) : k0_pay2 (F := Ideal) x w (ix2 r l) = ∑ k : Fin 1024, x (ix2 r k) * w (ix2 k l) := by
  unfold k0_pay2 k0_pay1
  pointwise

/-- The result at an array's index. -/
def result3 : Buf (Elt Ideal) ((c : Thread nD τ).loc main_v1_1) := fun i => value m c (i 0) (i 1)

/-- A point's block of the result. -/
theorem point3 (t : Fin cfg0.N) (r : Fin 512) (l : Fin 640) : out0_3 (iblk m c 0 t) (iblk m c 1 t) (ix2 r l) = value m c (row t r) (col t l) := by
  unfold out0_3
  rw [View.canon_unit_zero offset]
  simp only [View.ld_unit_zero (S := S512x1024) offset, View.ld_unit_zero (S := S1024x640) offset]
  exact (pay2 _ _ r l).trans (sum_congr rfl fun k _ => congrArg₂ _ (block0 m c t r k) (block1 m c t k l))

/-- The array of the result. -/
theorem array3 : (dats m 0 c).arrAt 3 cfg0.N = result3 m c := by
  refine (dats m 0 c).arrAt_eq_of_covers 3 _ (by decide +kernel) fun t hf y => ?_
  have h := point3 m c t (y 0) (y 1)
  have e0 : (win0_3.blk t).view.emb y 0 = row t (y 0) := Fin.ext (by show _ = 512 * (t.val / 5) + (y 0).val; blk_simp [index_eq t]; try omega)
  have e1 : (win0_3.blk t).view.emb y 1 = col t (y 1) := Fin.ext (by show _ = 640 * (t.val % 5) + (y 1).val; blk_simp [index_eq t]; try omega)
  blk_simp
  rw [after0_3]
  refine (congrArg _ (eq_ix2 y)).trans (h.trans ?_)
  unfold result3
  rw [e0, e1]

open Cert.Reference8Ideal.Read in
/-- The reference's result. -/
theorem ref2 (x0 : FVec Ideal Cert.Reference8Ideal.S8192x1024 .f32) (x1 : FVec Ideal Cert.Reference8Ideal.S1024x3200 .f32) (t : Fin 8192) (l : Fin 3200) :
    val_main_v0 (F := Ideal) x0 x1 (ix2 t l) = ∑ k : Fin 1024, x0 (ix2 t k) * x1 (ix2 k l) := by
  unfold val_main_v0
  pointwise

open Cert.Reference8Ideal.Read in
/-- The reference's result in the shorter format. -/
theorem ref3 (x0 : FVec Ideal Cert.Reference8Ideal.S8192x1024 .f32) (x1 : FVec Ideal Cert.Reference8Ideal.S1024x3200 .f32) (t : Fin 8192) (l : Fin 3200) :
    val_main_v1 (F := Ideal) x0 x1 (ix2 t l) = ∑ k : Fin 1024, x0 (ix2 t k) * x1 (ix2 k l) := by
  unfold val_main_v1 val_main_v0
  pointwise

/-- The kernel's result is the reference's. -/
theorem equal : Cert.algebraic_Kernel8Ideal_Reference8Ideal (hKernel8Ideal := Cert.Kernel8Ideal.Gen.facts)
    (hReference8Ideal := Cert.Reference8Ideal.Gen.facts) := by
  intro m g m' g' _ hargs
  refine ⟨fun c => result2 m c, fun c => result3 m c,
    (θ_run _ _ _).mono (fun r h c => ⟨(h c).1.trans (array2 m c), (h c).2.1.trans (array3 m c), (h c).2.2⟩) (Cert.Kernel8Ideal.Value.run_blocks m g),
    (θ_run _ _ _).mono (fun r h c => ⟨(h c).1.trans ?_, (h c).2.1.trans ?_, (h c).2.2⟩) (Cert.Reference8Ideal.Value.run (F := Ideal) m' g')⟩
  · refine (Cert.Reference8Ideal.Read.val_main_v0_eq _ _).trans ?_
    rw [(hargs c).1, (hargs c).2]
    refine funext fun (i : Cert.Reference8Ideal.S8192x3200.Idx) => ?_
    rw [show i = ix2 (i 0 : Fin 8192) (i 1 : Fin 3200) from eq_ix2 i]
    exact ref2 _ _ _ _
  · refine (Cert.Reference8Ideal.Read.val_main_v1_eq _ _).trans ?_
    rw [(hargs c).1, (hargs c).2]
    refine funext fun (i : Cert.Reference8Ideal.S8192x3200.Idx) => ?_
    rw [show i = ix2 (i 0 : Fin 8192) (i 1 : Fin 3200) from eq_ix2 i]
    exact ref3 _ _ _ _

end Cert.Product8

end
-- ==== Proof.Feed.lean ====
module

public import proofs.«01_k».proof.Proof.Sums

/-!
# The feed-forward layer over the extended reals

The hidden layer, the gated hidden layer, the layer's output and its layer norm, as functions of the row and the column.
-/

@[expose] public section

noncomputable section

namespace Cert.Feed

open Idealize.ShloMosaic Finset

variable (x : Fin 8192 → Fin 1024 → EReal) (wg wu : Fin 1024 → Fin 2816 → EReal) (wd : Fin 2816 → Fin 1024 → EReal)

/-- The hidden layer before the gate: the product of the input and a weight. -/
def hid (t : Fin 8192) (f : Fin 2816) : EReal := ∑ k, x t k * wg k f

/-- The gated hidden layer: a logistic gate on the first product, times the second product. -/
def gated (t : Fin 8192) (f : Fin 2816) : EReal := hid x wg t f * Ideal.logistic (hid x wg t f) * hid x wu t f

/-- The layer's branch: the gated hidden layer times the last weight. -/
def branch (t : Fin 8192) (d : Fin 1024) : EReal := ∑ f, gated x wg wu t f * wd f d

/-- The scale of the residual, as its float word. -/
def gain : EReal := Ideal.ofBits .f32 0x3FB504F3#32

/-- One half, as its float word. -/
def half : EReal := Ideal.ofBits .f32 0x3F000000#32

/-- The layer's output: the scaled input plus half of the branch. -/
def out (t : Fin 8192) (d : Fin 1024) : EReal := gain * x t d + half * branch x wg wu wd t d

/-- The mean of a row of 1024 numbers. -/
def mean (z : Fin 1024 → EReal) : EReal := Ideal.div (∑ d, z d) (Ideal.ofBits .f32 0x44800000#32)

/-- The layer norm of a row, with a gain and a bias. -/
def layerNorm (z g b : Fin 1024 → EReal) (d : Fin 1024) : EReal :=
  (z d - mean z) * Ideal.rsqrt (mean (fun e => (z e - mean z) * (z e - mean z)) + Ideal.ofBits .f32 0x3727C5AC#32) * g d + b d

/-- The column of the hidden layer that a tile's column is. -/
def col (n : ℕ) (p : Fin 1408) : Fin 2816 := ⟨1408 * (n % 2) + p.val, by omega⟩

/-- The row that a block's row is. -/
def row (n : ℕ) (h : n < 32) (r : Fin 512) : Fin 8192 := ⟨512 * (n / 2) + r.val, by omega⟩

/-- A sum over the hidden layer is the sum over an even tile plus the sum over an odd tile. -/
theorem two_tiles (F : Fin 2816 → EReal) {a b : ℕ} (ha : a % 2 = 0) (hb : b % 2 = 1) :
    ∑ p, F (col a p) + ∑ p, F (col b p) = ∑ f, F f := by
  refine Eq.trans ?_ (Fin.sum_univ_add (a := 1408) (b := 1408) F).symm
  refine congrArg₂ _ (sum_congr rfl fun p _ => congrArg F (Fin.ext ?_)) (sum_congr rfl fun p _ => congrArg F (Fin.ext ?_))
  · show 1408 * (a % 2) + p.val = p.val
    omega
  · show 1408 * (b % 2) + p.val = 1408 + p.val
    omega

/-- The two points of a row block have the same rows. -/
theorem row_pred (n : ℕ) (h : n < 32) (hn : n % 2 = 1) (r : Fin 512) : row (n - 1) (by omega) r = row n h r := by
  apply Fin.ext
  show 512 * ((n - 1) / 2) + r.val = 512 * (n / 2) + r.val
  omega

end Cert.Feed

end
-- ==== Proof.Product9.lean ====
module

public import proofs.«01_k».proof.Defs
public import proofs.«01_k».proof.Proof.Feed
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

/-!
# A mixer's output product, its residual and its layer norm
-/

@[expose] public section

set_option maxRecDepth 16384

noncomputable section

namespace Cert.Product9

open Idealize.ShloMosaic Idealize.ShloMosaic.TcCoe Idealize.SL.Sem Cert.Kernel9Ideal Cert.Kernel9Ideal.Gen Finset Cert.Feed

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- The product's left factor. -/
def inp : Fin 8192 → Fin 1024 → EReal := fun t k => m ((c : Thread nD τ).loc main_arg0) (ix2 t k)

/-- The weight. -/
def weight : Fin 1024 → Fin 1024 → EReal := fun k l => m ((c : Thread nD τ).loc main_arg1) (ix2 k l)

/-- The residual. -/
def res : Fin 8192 → Fin 1024 → EReal := fun t k => m ((c : Thread nD τ).loc main_arg2) (ix2 t k)

/-- The gain of the layer norm. -/
def gains : Fin 1024 → EReal := fun d => m ((c : Thread nD τ).loc main_arg3) (ix1 d)

/-- The bias of the layer norm. -/
def biases : Fin 1024 → EReal := fun d => m ((c : Thread nD τ).loc main_arg4) (ix1 d)

/-- The output: the scaled residual plus the product. -/
def value (t : Fin 8192) (l : Fin 1024) : EReal := gain * res m c t l + ∑ k : Fin 1024, inp m c t k * weight m c k l

/-- What the call finds of the weight. -/
theorem found1 (k l : Fin 1024) : V m c main_v0 (ix2 k l) = weight m c k l := by
  simp only [V, hostOps0, List.flatten_cons, List.flatten_nil, List.append_nil, List.cons_append, List.nil_append]
  entry_read
  unfold weight
  pointwise

/-- What the call finds of the gain. -/
theorem found3 (d : Fin 1024) : V m c main_v1 (ix2 0 d) = gains m c d := by
  simp only [V, hostOps0, List.flatten_cons, List.flatten_nil, List.append_nil, List.cons_append, List.nil_append]
  entry_read
  unfold gains
  pointwise

/-- What the call finds of the bias. -/
theorem found4 (d : Fin 1024) : V m c main_v2 (ix2 0 d) = biases m c d := by
  simp only [V, hostOps0, List.flatten_cons, List.flatten_nil, List.append_nil, List.cons_append, List.nil_append]
  entry_read
  unfold biases
  pointwise

/-- A point's rows of the left factor. -/
theorem block0 (t : Fin cfg0.N) (r : Fin 512) (k : Fin 1024) : iblk m c 0 t (ix2 r k) = inp m c (row t r) k := by
  have ht : t.val < 16 := t.isLt
  refine Eq.trans ?_ (congrFun (V_main_arg0 m c) _)
  unfold row
  blk_ext [iblk, index_eq t]

/-- A point's rows of the residual. -/
theorem block2 (t : Fin cfg0.N) (r : Fin 512) (k : Fin 1024) : iblk m c 2 t (ix2 r k) = res m c (row t r) k := by
  have ht : t.val < 16 := t.isLt
  refine Eq.trans ?_ (congrFun (V_main_arg2 m c) _)
  unfold row
  blk_ext [iblk, index_eq t]

/-- A point's weight. -/
theorem block1 (t : Fin cfg0.N) (k l : Fin 1024) : iblk m c 1 t (ix2 k l) = weight m c k l := by
  refine Eq.trans ?_ (found1 m c _ _)
  blk_ext [iblk, index_eq t]

/-- A point's gain. -/
theorem block3 (t : Fin cfg0.N) (d : Fin 1024) : iblk m c 3 t (ix2 0 d) = gains m c d := by
  refine Eq.trans ?_ (found3 m c _)
  blk_ext [iblk, index_eq t]

/-- A point's bias. -/
theorem block4 (t : Fin cfg0.N) (d : Fin 1024) : iblk m c 4 t (ix2 0 d) = biases m c d := by
  refine Eq.trans ?_ (found4 m c _)
  blk_ext [iblk, index_eq t]

/-- What a point computes for its output. -/
theorem pay1 (d : Vec Ideal S512x1024 .f32) (x : Vec Ideal S512x1024 .bf16) (w : Vec Ideal S1024x1024 .bf16) (r : Fin 512) (l : Fin 1024) :
    k0_pay1 (F := Ideal) d x w (ix2 r l) = gain * d (ix2 r l) + ∑ k : Fin 1024, x (ix2 r k) * w (ix2 k l) := by
  unfold k0_pay1 gain
  pointwise

/-- What a point computes for its layer norm. -/
theorem pay2 (d : Vec Ideal S512x1024 .f32) (x : Vec Ideal S512x1024 .bf16) (w : Vec Ideal S1024x1024 .bf16) (g b : Vec Ideal S1x1024 .f32) (r : Fin 512) (l : Fin 1024) :
    k0_pay2 (F := Ideal) d x w g b (ix2 r l)
      = layerNorm (fun e => k0_pay1 (F := Ideal) d x w (ix2 r e)) (fun e => g (ix2 0 e)) (fun e => b (ix2 0 e)) l := by
  unfold k0_pay2 layerNorm mean
  generalize k0_pay1 (F := Ideal) d x w = z
  pointwise

/-- A point's output at a row and a column. -/
theorem output (t : Fin cfg0.N) (r : Fin 512) (l : Fin 1024) : k0_pay1 (F := Ideal) (iblk m c 2 t) (iblk m c 0 t) (iblk m c 1 t) (ix2 r l) = value m c (row t r) l :=
  (pay1 _ _ _ r l).trans (congrArg₂ _ (congrArg _ (block2 m c t r l)) (sum_congr rfl fun k _ => congrArg₂ _ (block0 m c t r k) (block1 m c t k l)))

/-- A point's block of the output. -/
theorem point5 (t : Fin cfg0.N) (r : Fin 512) (l : Fin 1024) :
    out0_5 (iblk m c 0 t) (iblk m c 1 t) (iblk m c 2 t) (iblk m c 3 t) (iblk m c 4 t) (ix2 r l) = value m c (row t r) l := by
  unfold out0_5
  rw [View.canon_unit_zero offset]
  simp only [View.ld_unit_zero (S := S512x1024) offset, View.ld_unit_zero (S := S1024x1024) offset]
  exact output m c t r l

/-- A point's block of the layer norm. -/
theorem point6 (t : Fin cfg0.N) (r : Fin 512) (l : Fin 1024) :
    out0_6 (iblk m c 0 t) (iblk m c 1 t) (iblk m c 2 t) (iblk m c 3 t) (iblk m c 4 t) (ix2 r l)
      = layerNorm (value m c (row t r)) (gains m c) (biases m c) l := by
  unfold out0_6
  rw [View.canon_unit_zero offset]
  simp only [View.ld_unit_zero (S := S512x1024) offset, View.ld_unit_zero (S := S1024x1024) offset, View.ld_unit_zero (S := S1x1024) offset]
  refine (pay2 _ _ _ _ _ _ _).trans ?_
  rw [show (fun e => (show Vec Ideal S1x1024 .f32 from iblk m c 3 t) (ix2 0 e)) = gains m c from funext (block3 m c t),
    show (fun e => (show Vec Ideal S1x1024 .f32 from iblk m c 4 t) (ix2 0 e)) = biases m c from funext (block4 m c t)]
  exact congrArg (fun z => layerNorm z (gains m c) (biases m c) l) (funext fun e => output m c t r e)

/-- The output at an array's index. -/
def outs : Buf (Elt Ideal) ((c : Thread nD τ).loc main_v3_0) := fun i => value m c (i 0) (i 1)

/-- The layer norm at an array's index. -/
def norms : Buf (Elt Ideal) ((c : Thread nD τ).loc main_v3_1) := fun i => layerNorm (value m c (i 0)) (gains m c) (biases m c) (i 1)

/-- The array of the output. -/
theorem array5 : (dats m 0 c).arrAt 5 cfg0.N = outs m c := by
  refine (dats m 0 c).arrAt_eq_of_covers 5 _ (by decide +kernel) fun t hf y => ?_
  have h := point5 m c t (y 0) (y 1)
  have e0 : (win0_5.blk t).view.emb y 0 = row t (y 0) := Fin.ext (by show _ = 512 * t.val + (y 0).val; blk_simp [index_eq t]; try omega)
  have e1 : (win0_5.blk t).view.emb y 1 = y 1 := Fin.ext (by blk_simp [index_eq t]; try omega)
  blk_simp
  rw [after0_5]
  refine (congrArg _ (eq_ix2 y)).trans (h.trans ?_)
  unfold outs
  rw [e0, e1]

/-- The array of the layer norm. -/
theorem array6 : (dats m 0 c).arrAt 6 cfg0.N = norms m c := by
  refine (dats m 0 c).arrAt_eq_of_covers 6 _ (by decide +kernel) fun t hf y => ?_
  have h := point6 m c t (y 0) (y 1)
  have e0 : (win0_6.blk t).view.emb y 0 = row t (y 0) := Fin.ext (by show _ = 512 * t.val + (y 0).val; blk_simp [index_eq t]; try omega)
  have e1 : (win0_6.blk t).view.emb y 1 = y 1 := Fin.ext (by blk_simp [index_eq t]; try omega)
  blk_simp
  rw [after0_6]
  refine (congrArg _ (eq_ix2 y)).trans (h.trans ?_)
  unfold norms
  rw [e0, e1]

open Cert.Reference9Ideal.Read in
/-- The reference's output. -/
theorem ref4 (x0 : FVec Ideal Cert.Reference9Ideal.S8192x1024 .bf16) (x1 : FVec Ideal Cert.Reference9Ideal.S1024x1024 .f32) (x2 : FVec Ideal Cert.Reference9Ideal.S8192x1024 .f32) (t : Fin 8192) (l : Fin 1024) :
    val_main_v4 (F := Ideal) x0 x1 x2 (ix2 t l) = gain * x2 (ix2 t l) + ∑ k : Fin 1024, x0 (ix2 t k) * x1 (ix2 k l) := by
  unfold val_main_v4 val_main_v3 val_main_v2 val_main_v1 val_main_v0 val_main_cst gain
  pointwise

open Cert.Reference9Ideal.Read in
/-- The reference's layer norm. -/
theorem ref28 (x0 : FVec Ideal Cert.Reference9Ideal.S8192x1024 .bf16) (x1 : FVec Ideal Cert.Reference9Ideal.S1024x1024 .f32) (x2 : FVec Ideal Cert.Reference9Ideal.S8192x1024 .f32) (x3 x4 : FVec Ideal Cert.Reference9Ideal.S1024 .f32) (t : Fin 8192) (l : Fin 1024) :
    val_main_v28 (F := Ideal) x0 x1 x2 x3 x4 (ix2 t l)
      = layerNorm (fun e => val_main_v4 (F := Ideal) x0 x1 x2 (ix2 t e)) (fun e => x3 (ix1 e)) (fun e => x4 (ix1 e)) l := by
  unfold val_main_v28 val_main_v27 val_main_v26 val_main_v25 val_main_v24 val_main_v23 val_main_v22 val_main_v21 val_main_v20 val_main_v19 val_main_v18 val_main_cst_4 val_main_v15 val_main_v14 val_main_cst_3 val_main_v13 val_main_v12 val_main_v11 val_main_v10 val_main_v9 val_main_cst_2 val_main_v17 val_main_v16 val_main_v8 val_main_v7 val_main_cst_1 val_main_v6 val_main_v5 val_main_cst_0
  generalize val_main_v4 (F := Ideal) x0 x1 x2 = z
  unfold layerNorm mean
  pointwise

/-- The kernel's results are the reference's. -/
theorem equal : Cert.algebraic_Kernel9Ideal_Reference9Ideal (hKernel9Ideal := Cert.Kernel9Ideal.Gen.facts)
    (hReference9Ideal := Cert.Reference9Ideal.Gen.facts) := by
  intro m g m' g' _ hargs
  refine ⟨fun c => outs m c, fun c => norms m c,
    (θ_run _ _ _).mono (fun r h c => ⟨(h c).1.trans (array5 m c), (h c).2.1.trans (array6 m c), (h c).2.2⟩) (Cert.Kernel9Ideal.Value.run_blocks m g),
    (θ_run _ _ _).mono (fun r h c => ⟨(h c).1.trans ?_, (h c).2.1.trans ?_, (h c).2.2⟩) (Cert.Reference9Ideal.Value.run (F := Ideal) m' g')⟩
  · refine (Cert.Reference9Ideal.Read.val_main_v4_eq _ _ _).trans ?_
    rw [(hargs c).1, (hargs c).2.1, (hargs c).2.2.1]
    refine funext fun (i : Cert.Reference9Ideal.S8192x1024.Idx) => ?_
    rw [show i = ix2 (i 0 : Fin 8192) (i 1 : Fin 1024) from eq_ix2 i]
    exact ref4 _ _ _ _ _
  · refine (Cert.Reference9Ideal.Read.val_main_v28_eq _ _ _ _ _).trans ?_
    rw [(hargs c).1, (hargs c).2.1, (hargs c).2.2.1, (hargs c).2.2.2.1, (hargs c).2.2.2.2]
    refine funext fun (i : Cert.Reference9Ideal.S8192x1024.Idx) => ?_
    rw [show i = ix2 (i 0 : Fin 8192) (i 1 : Fin 1024) from eq_ix2 i]
    refine (ref28 _ _ _ _ _ _ _).trans ?_
    exact congrArg (fun z => layerNorm z (gains m c) (biases m c) (i 1)) (funext fun e => ref4 _ _ _ _ _)

end Cert.Product9

end
-- ==== Proof.Product10.lean ====
module

public import proofs.«01_k».proof.Defs
public import proofs.«01_k».proof.Proof.Sums
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Adequacy
public import Idealize.ShloMosaic.Init

/-!
# The memory attention's queries
-/

@[expose] public section

set_option maxRecDepth 16384

noncomputable section

namespace Cert.Product10

open Idealize.ShloMosaic Idealize.ShloMosaic.TcCoe Idealize.SL.Sem Cert.Kernel10Ideal Cert.Kernel10Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![t.val, 0] ∧ win0_1.index t = ![0, 0] ∧ win0_2.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- The product's left factor. -/
def inp : Fin 8192 → Fin 1024 → EReal := fun t k => m ((c : Thread nD τ).loc main_arg0) (ix2 t k)

/-- The weight. -/
def weight : Fin 1024 → Fin 1024 → EReal := fun k l => m ((c : Thread nD τ).loc main_arg1) (ix2 k l)

/-- The result at a row and a column. -/
def value (t : Fin 8192) (l : Fin 1024) : EReal := ∑ k : Fin 1024, inp m c t k * weight m c k l

/-- What the call finds of the weight. -/
theorem found1 (k : Fin 1024) (l : Fin 1024) : V m c main_v0 (ix2 k l) = weight m c k l := by
  simp only [V, hostOps0, List.flatten_cons, List.flatten_nil, List.append_nil, List.cons_append, List.nil_append]
  entry_read
  unfold weight
  pointwise

/-- A point's rows. -/
theorem block0 (t : Fin cfg0.N) (r : Fin 512) (k : Fin 1024) : iblk m c 0 t (ix2 r k) = inp m c (row t r) k := by
  have ht : t.val < 16 := t.isLt
  refine Eq.trans ?_ (congrFun (V_main_arg0 m c) _)
  unfold row
  blk_ext [iblk, index_eq t]

/-- A point's weight. -/
theorem block1 (t : Fin cfg0.N) (k : Fin 1024) (l : Fin 1024) : iblk m c 1 t (ix2 k l) = weight m c k l := by
  refine Eq.trans ?_ (found1 m c _ _)
  blk_ext [iblk, index_eq t]

/-- What a point computes for its result. -/
theorem pay1 (x : Vec Ideal S512x1024 .f32) (w : Vec Ideal S1024x1024 .bf16) (r : Fin 512) (l : Fin 1024) : k0_pay1 (F := Ideal) x w (ix2 r l) = ∑ k : Fin 1024, x (ix2 r k) * w (ix2 k l) := by
  unfold k0_pay1
  pointwise

/-- The result at an array's index. -/
def result2 : Buf (Elt Ideal) ((c : Thread nD τ).loc main_v1) := fun i => value m c (i 0) (i 1)

/-- A point's block of the result. -/
theorem point2 (t : Fin cfg0.N) (r : Fin 512) (l : Fin 1024) : out0_2 (iblk m c 0 t) (iblk m c 1 t) (ix2 r l) = value m c (row t r) l := by
  unfold out0_2
  rw [View.canon_unit_zero offset]
  simp only [View.ld_unit_zero (S := S512x1024) offset, View.ld_unit_zero (S := S1024x1024) offset]
  exact (pay1 _ _ r l).trans (sum_congr rfl fun k _ => congrArg₂ _ (block0 m c t r k) (block1 m c t k l))

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = row t (y 0) := Fin.ext (by show _ = 512 * t.val + (y 0).val; blk_simp [index_eq t]; try omega)
  have e1 : (win0_2.blk t).view.emb y 1 = y 1 := Fin.ext (by blk_simp [index_eq t]; try omega)
  blk_simp
  rw [after0_2]
  refine (congrArg _ (eq_ix2 y)).trans (h.trans ?_)
  unfold result2
  rw [e0, e1]

open Cert.Reference10Ideal.Read in
/-- The reference's result. -/
theorem ref2 (x0 : FVec Ideal Cert.Reference10Ideal.S8192x1024 .f32) (x1 : FVec Ideal Cert.Reference10Ideal.S1024x1024 .f32) (t : Fin 8192) (l : Fin 1024) :
    val_main_v1 (F := Ideal) x0 x1 (ix2 t l) = ∑ k : Fin 1024, x0 (ix2 t k) * x1 (ix2 k l) := by
  unfold val_main_v1 val_main_v0
  pointwise

/-- The kernel's result is the reference's. -/
theorem equal : Cert.algebraic_Kernel10Ideal_Reference10Ideal (hKernel10Ideal := Cert.Kernel10Ideal.Gen.facts)
    (hReference10Ideal := Cert.Reference10Ideal.Gen.facts) := by
  intro m g m' g' _ hargs
  refine ⟨fun c => result2 m c,
    (θ_run _ _ _).mono (fun r h c => ⟨(h c).1.trans (array2 m c), (h c).2⟩) (Cert.Kernel10Ideal.Value.run_blocks m g),
    (θ_run _ _ _).mono (fun r h c => ⟨(h c).1.trans ?_, (h c).2⟩) (Cert.Reference10Ideal.Value.run (F := Ideal) m' g')⟩
  · refine (Cert.Reference10Ideal.Read.val_main_v1_eq _ _).trans ?_
    rw [(hargs c).1, (hargs c).2]
    refine funext fun (i : Cert.Reference10Ideal.S8192x1024.Idx) => ?_
    rw [show i = ix2 (i 0 : Fin 8192) (i 1 : Fin 1024) from eq_ix2 i]
    exact ref2 _ _ _ _

end Cert.Product10

end
-- ==== Proof.Product12.lean ====
module

public import proofs.«01_k».proof.Defs
public import proofs.«01_k».proof.Proof.Feed
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init

/-!
# The gradient by the memory attention's input
-/

@[expose] public section

set_option maxRecDepth 16384

noncomputable section

namespace Cert.Product12

open Idealize.ShloMosaic Idealize.ShloMosaic.TcCoe Idealize.SL.Sem Cert.Kernel12Ideal Cert.Kernel12Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- The product's left factor. -/
def inp : Fin 8192 → Fin 1024 → EReal := fun t k => m ((c : Thread nD τ).loc main_arg0) (ix2 t k)

/-- The weight. -/
def weight : Fin 1024 → Fin 1024 → EReal := fun k l => m ((c : Thread nD τ).loc main_arg1) (ix2 k l)

/-- The residual's gradient. -/
def res : Fin 8192 → Fin 1024 → EReal := fun t k => m ((c : Thread nD τ).loc main_arg2) (ix2 t k)

/-- The result at a row and a column. -/
def value (t : Fin 8192) (l : Fin 1024) : EReal := (∑ k : Fin 1024, inp m c t k * weight m c l k) + Cert.Feed.gain * res m c t l

/-- What the call finds of the weight. -/
theorem found1 (k : Fin 1024) (l : Fin 1024) : V m c main_v0 (ix2 k l) = weight m c k l := by
  simp only [V, hostOps0, List.flatten_cons, List.flatten_nil, List.append_nil, List.cons_append, List.nil_append]
  entry_read
  unfold weight
  pointwise

/-- A point's rows. -/
theorem block0 (t : Fin cfg0.N) (r : Fin 512) (k : Fin 1024) : iblk m c 0 t (ix2 r k) = inp m c (row t r) k := by
  have ht : t.val < 16 := t.isLt
  refine Eq.trans ?_ (congrFun (V_main_arg0 m c) _)
  unfold row
  blk_ext [iblk, index_eq t]

/-- A point's weight. -/
theorem block1 (t : Fin cfg0.N) (k : Fin 1024) (l : Fin 1024) : iblk m c 1 t (ix2 k l) = weight m c k l := by
  refine Eq.trans ?_ (found1 m c _ _)
  blk_ext [iblk, index_eq t]

/-- A point's rows of the residual's gradient. -/
theorem block2 (t : Fin cfg0.N) (r : Fin 512) (k : Fin 1024) : iblk m c 2 t (ix2 r k) = res m c (row t r) k := by
  have ht : t.val < 16 := t.isLt
  refine Eq.trans ?_ (congrFun (V_main_arg2 m c) _)
  unfold row
  blk_ext [iblk, index_eq t]

/-- What a point computes for its result. -/
theorem pay1 (x : Vec Ideal S512x1024 .f32) (w : Vec Ideal S1024x1024 .bf16) (d : Vec Ideal S512x1024 .f32) (r : Fin 512) (l : Fin 1024) : k0_pay1 (F := Ideal) x w d (ix2 r l) = (∑ k : Fin 1024, x (ix2 r k) * w (ix2 l k)) + Cert.Feed.gain * d (ix2 r l) := by
  unfold k0_pay1 Cert.Feed.gain
  pointwise

/-- The result at an array's index. -/
def result3 : Buf (Elt Ideal) ((c : Thread nD τ).loc main_v1) := fun i => value m c (i 0) (i 1)

/-- A point's block of the result. -/
theorem point3 (t : Fin cfg0.N) (r : Fin 512) (l : Fin 1024) : out0_3 (iblk m c 0 t) (iblk m c 1 t) (iblk m c 2 t) (ix2 r l) = value m c (row t r) l := by
  unfold out0_3
  rw [View.canon_unit_zero offset]
  simp only [View.ld_unit_zero (S := S512x1024) offset, View.ld_unit_zero (S := S1024x1024) offset]
  exact (pay1 _ _ _ r l).trans (congrArg₂ _ (sum_congr rfl fun k _ => congrArg₂ _ (block0 m c t r k) (block1 m c t l k)) (congrArg _ (block2 m c t r l)))

/-- The array of the result. -/
theorem array3 : (dats m 0 c).arrAt 3 cfg0.N = result3 m c := by
  refine (dats m 0 c).arrAt_eq_of_covers 3 _ (by decide +kernel) fun t hf y => ?_
  have h := point3 m c t (y 0) (y 1)
  have e0 : (win0_3.blk t).view.emb y 0 = row t (y 0) := Fin.ext (by show _ = 512 * t.val + (y 0).val; blk_simp [index_eq t]; try omega)
  have e1 : (win0_3.blk t).view.emb y 1 = y 1 := Fin.ext (by blk_simp [index_eq t]; try omega)
  blk_simp
  rw [after0_3]
  refine (congrArg _ (eq_ix2 y)).trans (h.trans ?_)
  unfold result3
  rw [e0, e1]

open Cert.Reference12Ideal.Read in
/-- The reference's result. -/
theorem ref3 (x0 : FVec Ideal Cert.Reference12Ideal.S8192x1024 .f32) (x1 : FVec Ideal Cert.Reference12Ideal.S1024x1024 .f32) (x2 : FVec Ideal Cert.Reference12Ideal.S8192x1024 .f32) (t : Fin 8192) (l : Fin 1024) :
    val_main_v7 (F := Ideal) x0 x1 x2 (ix2 t l) = (∑ k : Fin 1024, x0 (ix2 t k) * x1 (ix2 l k)) + Cert.Feed.gain * x2 (ix2 t l) := by
  unfold val_main_v7 val_main_v6 val_main_v5 val_main_v4 val_main_cst_1 Cert.Feed.gain
  pointwise
  exact add_comm _ _

/-- The kernel's result is the reference's. -/
theorem equal : Cert.algebraic_Kernel12Ideal_Reference12Ideal (hKernel12Ideal := Cert.Kernel12Ideal.Gen.facts)
    (hReference12Ideal := Cert.Reference12Ideal.Gen.facts) := by
  intro m g m' g' _ hargs
  refine ⟨fun c => result3 m c,
    (θ_run _ _ _).mono (fun r h c => ⟨(h c).1.trans (array3 m c), (h c).2⟩) (Cert.Kernel12Ideal.Value.run_blocks m g),
    (θ_run _ _ _).mono (fun r h c => ⟨(h c).1.trans ?_, (h c).2⟩) (Cert.Reference12Ideal.Value.run (F := Ideal) m' g')⟩
  · refine (Cert.Reference12Ideal.Read.val_main_v7_eq _ _ _).trans ?_
    rw [(hargs c).1, (hargs c).2.1, (hargs c).2.2]
    refine funext fun (i : Cert.Reference12Ideal.S8192x1024.Idx) => ?_
    rw [show i = ix2 (i 0 : Fin 8192) (i 1 : Fin 1024) from eq_ix2 i]
    exact ref3 _ _ _ _ _

end Cert.Product12

end
-- ==== Proof.Pieces.lean ====
module

public import proofs.«01_k».proof.Proof.Sums

/-!
# A row of 3200 numbers in ten pieces
-/

@[expose] public section

noncomputable section

namespace Cert.Pieces

open Idealize.ShloMosaic Finset

/-- The row whose ten pieces are given. -/
def cat (x0 : Fin 768 → EReal) (x1 x2 x3 x4 : Fin 256 → EReal) (x5 : Fin 512 → EReal) (x6 x7 x8 : Fin 256 → EReal) (x9 : Fin 128 → EReal) (k : Fin 3200) : EReal :=
  if h : k.val < 768 then x0 ⟨k.val, h⟩
  else if h : k.val - 768 < 256 then x1 ⟨k.val - 768, h⟩
  else if h : k.val - 768 - 256 < 256 then x2 ⟨k.val - 768 - 256, h⟩
  else if h : k.val - 768 - 256 - 256 < 256 then x3 ⟨k.val - 768 - 256 - 256, h⟩
  else if h : k.val - 768 - 256 - 256 - 256 < 256 then x4 ⟨k.val - 768 - 256 - 256 - 256, h⟩
  else if h : k.val - 768 - 256 - 256 - 256 - 256 < 512 then x5 ⟨k.val - 768 - 256 - 256 - 256 - 256, h⟩
  else if h : k.val - 768 - 256 - 256 - 256 - 256 - 512 < 256 then x6 ⟨k.val - 768 - 256 - 256 - 256 - 256 - 512, h⟩
  else if h : k.val - 768 - 256 - 256 - 256 - 256 - 512 - 256 < 256 then x7 ⟨k.val - 768 - 256 - 256 - 256 - 256 - 512 - 256, h⟩
  else if h : k.val - 768 - 256 - 256 - 256 - 256 - 512 - 256 - 256 < 256 then x8 ⟨k.val - 768 - 256 - 256 - 256 - 256 - 512 - 256 - 256, h⟩
  else x9 ⟨k.val - 768 - 256 - 256 - 256 - 256 - 512 - 256 - 256 - 256, by omega⟩

variable (x0 : Fin 768 → EReal) (x1 x2 x3 x4 : Fin 256 → EReal) (x5 : Fin 512 → EReal) (x6 x7 x8 : Fin 256 → EReal) (x9 : Fin 128 → EReal)

/-- The row at piece 1's numbers. -/
theorem cat_0 (k : Fin 768) : cat x0 x1 x2 x3 x4 x5 x6 x7 x8 x9 ⟨k.val, by omega⟩ = x0 k := by
  have hk := k.isLt
  exact (dif_pos (by show (k.val) < 768; omega)).trans (congrArg x0 (Fin.ext (by show (k.val) = k.val; omega)))

/-- The row at piece 2's numbers. -/
theorem cat_1 (k : Fin 256) : cat x0 x1 x2 x3 x4 x5 x6 x7 x8 x9 ⟨768 + k.val, by omega⟩ = x1 k := by
  have hk := k.isLt
  exact (dif_neg (by show ¬ (768 + k.val) < 768; omega)).trans ((dif_pos (by show (768 + k.val) - 768 < 256; omega)).trans (congrArg x1 (Fin.ext (by show (768 + k.val) - 768 = k.val; omega))))

/-- The row at piece 3's numbers. -/
theorem cat_2 (k : Fin 256) : cat x0 x1 x2 x3 x4 x5 x6 x7 x8 x9 ⟨1024 + k.val, by omega⟩ = x2 k := by
  have hk := k.isLt
  exact (dif_neg (by show ¬ (1024 + k.val) < 768; omega)).trans ((dif_neg (by show ¬ (1024 + k.val) - 768 < 256; omega)).trans ((dif_pos (by show (1024 + k.val) - 768 - 256 < 256; omega)).trans (congrArg x2 (Fin.ext (by show (1024 + k.val) - 768 - 256 = k.val; omega)))))

/-- The row at piece 4's numbers. -/
theorem cat_3 (k : Fin 256) : cat x0 x1 x2 x3 x4 x5 x6 x7 x8 x9 ⟨1280 + k.val, by omega⟩ = x3 k := by
  have hk := k.isLt
  exact (dif_neg (by show ¬ (1280 + k.val) < 768; omega)).trans ((dif_neg (by show ¬ (1280 + k.val) - 768 < 256; omega)).trans ((dif_neg (by show ¬ (1280 + k.val) - 768 - 256 < 256; omega)).trans ((dif_pos (by show (1280 + k.val) - 768 - 256 - 256 < 256; omega)).trans (congrArg x3 (Fin.ext (by show (1280 + k.val) - 768 - 256 - 256 = k.val; omega))))))

/-- The row at piece 5's numbers. -/
theorem cat_4 (k : Fin 256) : cat x0 x1 x2 x3 x4 x5 x6 x7 x8 x9 ⟨1536 + k.val, by omega⟩ = x4 k := by
  have hk := k.isLt
  exact (dif_neg (by show ¬ (1536 + k.val) < 768; omega)).trans ((dif_neg (by show ¬ (1536 + k.val) - 768 < 256; omega)).trans ((dif_neg (by show ¬ (1536 + k.val) - 768 - 256 < 256; omega)).trans ((dif_neg (by show ¬ (1536 + k.val) - 768 - 256 - 256 < 256; omega)).trans ((dif_pos (by show (1536 + k.val) - 768 - 256 - 256 - 256 < 256; omega)).trans (congrArg x4 (Fin.ext (by show (1536 + k.val) - 768 - 256 - 256 - 256 = k.val; omega)))))))

/-- The row at piece 6's numbers. -/
theorem cat_5 (k : Fin 512) : cat x0 x1 x2 x3 x4 x5 x6 x7 x8 x9 ⟨1792 + k.val, by omega⟩ = x5 k := by
  have hk := k.isLt
  exact (dif_neg (by show ¬ (1792 + k.val) < 768; omega)).trans ((dif_neg (by show ¬ (1792 + k.val) - 768 < 256; omega)).trans ((dif_neg (by show ¬ (1792 + k.val) - 768 - 256 < 256; omega)).trans ((dif_neg (by show ¬ (1792 + k.val) - 768 - 256 - 256 < 256; omega)).trans ((dif_neg (by show ¬ (1792 + k.val) - 768 - 256 - 256 - 256 < 256; omega)).trans ((dif_pos (by show (1792 + k.val) - 768 - 256 - 256 - 256 - 256 < 512; omega)).trans (congrArg x5 (Fin.ext (by show (1792 + k.val) - 768 - 256 - 256 - 256 - 256 = k.val; omega))))))))

/-- The row at piece 7's numbers. -/
theorem cat_6 (k : Fin 256) : cat x0 x1 x2 x3 x4 x5 x6 x7 x8 x9 ⟨2304 + k.val, by omega⟩ = x6 k := by
  have hk := k.isLt
  exact (dif_neg (by show ¬ (2304 + k.val) < 768; omega)).trans ((dif_neg (by show ¬ (2304 + k.val) - 768 < 256; omega)).trans ((dif_neg (by show ¬ (2304 + k.val) - 768 - 256 < 256; omega)).trans ((dif_neg (by show ¬ (2304 + k.val) - 768 - 256 - 256 < 256; omega)).trans ((dif_neg (by show ¬ (2304 + k.val) - 768 - 256 - 256 - 256 < 256; omega)).trans ((dif_neg (by show ¬ (2304 + k.val) - 768 - 256 - 256 - 256 - 256 < 512; omega)).trans ((dif_pos (by show (2304 + k.val) - 768 - 256 - 256 - 256 - 256 - 512 < 256; omega)).trans (congrArg x6 (Fin.ext (by show (2304 + k.val) - 768 - 256 - 256 - 256 - 256 - 512 = k.val; omega)))))))))

/-- The row at piece 8's numbers. -/
theorem cat_7 (k : Fin 256) : cat x0 x1 x2 x3 x4 x5 x6 x7 x8 x9 ⟨2560 + k.val, by omega⟩ = x7 k := by
  have hk := k.isLt
  exact (dif_neg (by show ¬ (2560 + k.val) < 768; omega)).trans ((dif_neg (by show ¬ (2560 + k.val) - 768 < 256; omega)).trans ((dif_neg (by show ¬ (2560 + k.val) - 768 - 256 < 256; omega)).trans ((dif_neg (by show ¬ (2560 + k.val) - 768 - 256 - 256 < 256; omega)).trans ((dif_neg (by show ¬ (2560 + k.val) - 768 - 256 - 256 - 256 < 256; omega)).trans ((dif_neg (by show ¬ (2560 + k.val) - 768 - 256 - 256 - 256 - 256 < 512; omega)).trans ((dif_neg (by show ¬ (2560 + k.val) - 768 - 256 - 256 - 256 - 256 - 512 < 256; omega)).trans ((dif_pos (by show (2560 + k.val) - 768 - 256 - 256 - 256 - 256 - 512 - 256 < 256; omega)).trans (congrArg x7 (Fin.ext (by show (2560 + k.val) - 768 - 256 - 256 - 256 - 256 - 512 - 256 = k.val; omega))))))))))

/-- The row at piece 9's numbers. -/
theorem cat_8 (k : Fin 256) : cat x0 x1 x2 x3 x4 x5 x6 x7 x8 x9 ⟨2816 + k.val, by omega⟩ = x8 k := by
  have hk := k.isLt
  exact (dif_neg (by show ¬ (2816 + k.val) < 768; omega)).trans ((dif_neg (by show ¬ (2816 + k.val) - 768 < 256; omega)).trans ((dif_neg (by show ¬ (2816 + k.val) - 768 - 256 < 256; omega)).trans ((dif_neg (by show ¬ (2816 + k.val) - 768 - 256 - 256 < 256; omega)).trans ((dif_neg (by show ¬ (2816 + k.val) - 768 - 256 - 256 - 256 < 256; omega)).trans ((dif_neg (by show ¬ (2816 + k.val) - 768 - 256 - 256 - 256 - 256 < 512; omega)).trans ((dif_neg (by show ¬ (2816 + k.val) - 768 - 256 - 256 - 256 - 256 - 512 < 256; omega)).trans ((dif_neg (by show ¬ (2816 + k.val) - 768 - 256 - 256 - 256 - 256 - 512 - 256 < 256; omega)).trans ((dif_pos (by show (2816 + k.val) - 768 - 256 - 256 - 256 - 256 - 512 - 256 - 256 < 256; omega)).trans (congrArg x8 (Fin.ext (by show (2816 + k.val) - 768 - 256 - 256 - 256 - 256 - 512 - 256 - 256 = k.val; omega)))))))))))

/-- The row at piece 10's numbers. -/
theorem cat_9 (k : Fin 128) : cat x0 x1 x2 x3 x4 x5 x6 x7 x8 x9 ⟨3072 + k.val, by omega⟩ = x9 k := by
  have hk := k.isLt
  exact (dif_neg (by show ¬ (3072 + k.val) < 768; omega)).trans ((dif_neg (by show ¬ (3072 + k.val) - 768 < 256; omega)).trans ((dif_neg (by show ¬ (3072 + k.val) - 768 - 256 < 256; omega)).trans ((dif_neg (by show ¬ (3072 + k.val) - 768 - 256 - 256 < 256; omega)).trans ((dif_neg (by show ¬ (3072 + k.val) - 768 - 256 - 256 - 256 < 256; omega)).trans ((dif_neg (by show ¬ (3072 + k.val) - 768 - 256 - 256 - 256 - 256 < 512; omega)).trans ((dif_neg (by show ¬ (3072 + k.val) - 768 - 256 - 256 - 256 - 256 - 512 < 256; omega)).trans ((dif_neg (by show ¬ (3072 + k.val) - 768 - 256 - 256 - 256 - 256 - 512 - 256 < 256; omega)).trans ((dif_neg (by show ¬ (3072 + k.val) - 768 - 256 - 256 - 256 - 256 - 512 - 256 - 256 < 256; omega)).trans (congrArg x9 (Fin.ext (by show (3072 + k.val) - 768 - 256 - 256 - 256 - 256 - 512 - 256 - 256 - 256 = k.val; omega)))))))))))

/-- A sum over the row's numbers is the sum of the sums over its pieces. -/
theorem sum_pieces (F : Fin 3200 → EReal) : ∑ k, F k = (∑ k : Fin 768, F ⟨k.val, by omega⟩) + (∑ k : Fin 256, F ⟨768 + k.val, by omega⟩) + (∑ k : Fin 256, F ⟨1024 + k.val, by omega⟩) + (∑ k : Fin 256, F ⟨1280 + k.val, by omega⟩) + (∑ k : Fin 256, F ⟨1536 + k.val, by omega⟩) + (∑ k : Fin 512, F ⟨1792 + k.val, by omega⟩) + (∑ k : Fin 256, F ⟨2304 + k.val, by omega⟩) + (∑ k : Fin 256, F ⟨2560 + k.val, by omega⟩) + (∑ k : Fin 256, F ⟨2816 + k.val, by omega⟩) + (∑ k : Fin 128, F ⟨3072 + k.val, by omega⟩) := by
  exact (Fin.sum_univ_add (a := 3072) (b := 128) _).trans (congrArg₂ _ ((Fin.sum_univ_add (a := 2816) (b := 256) _).trans (congrArg₂ _ ((Fin.sum_univ_add (a := 2560) (b := 256) _).trans (congrArg₂ _ ((Fin.sum_univ_add (a := 2304) (b := 256) _).trans (congrArg₂ _ ((Fin.sum_univ_add (a := 1792) (b := 512) _).trans (congrArg₂ _ ((Fin.sum_univ_add (a := 1536) (b := 256) _).trans (congrArg₂ _ ((Fin.sum_univ_add (a := 1280) (b := 256) _).trans (congrArg₂ _ ((Fin.sum_univ_add (a := 1024) (b := 256) _).trans (congrArg₂ _ ((Fin.sum_univ_add (a := 768) (b := 256) _).trans (congrArg₂ _ (rfl) rfl)) rfl)) rfl)) rfl)) rfl)) rfl)) rfl)) rfl)) rfl)

end Cert.Pieces

end
-- ==== Proof.Product13.lean ====
module

public import proofs.«01_k».proof.Defs
public import proofs.«01_k».proof.Proof.Feed
public import proofs.«01_k».proof.Proof.Pieces
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init

/-!
# The gradient by the projection's input
-/

@[expose] public section

set_option maxRecDepth 16384

noncomputable section

namespace Cert.Product13

open Idealize.ShloMosaic Idealize.ShloMosaic.TcCoe Idealize.SL.Sem Cert.Kernel13Ideal Cert.Kernel13Ideal.Gen Finset Cert.Feed Cert.Pieces

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0]
    ∧ win0_11.index t = ![t.val, 0] ∧ win0_12.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- Piece 1 of the projection's gradient. -/
def inp0 : Fin 8192 → Fin 768 → EReal := fun t k => m ((c : Thread nD τ).loc main_arg0) (ix2 t k)

/-- Piece 2 of the projection's gradient. -/
def inp1 : Fin 8192 → Fin 256 → EReal := fun t k => m ((c : Thread nD τ).loc main_arg1) (ix2 t k)

/-- Piece 3 of the projection's gradient. -/
def inp2 : Fin 8192 → Fin 256 → EReal := fun t k => m ((c : Thread nD τ).loc main_arg2) (ix2 t k)

/-- Piece 4 of the projection's gradient. -/
def inp3 : Fin 8192 → Fin 256 → EReal := fun t k => m ((c : Thread nD τ).loc main_arg3) (ix2 t k)

/-- Piece 5 of the projection's gradient. -/
def inp4 : Fin 8192 → Fin 256 → EReal := fun t k => m ((c : Thread nD τ).loc main_arg4) (ix2 t k)

/-- Piece 6 of the projection's gradient. -/
def inp5 : Fin 8192 → Fin 512 → EReal := fun t k => m ((c : Thread nD τ).loc main_arg5) (ix2 t k)

/-- Piece 7 of the projection's gradient. -/
def inp6 : Fin 8192 → Fin 256 → EReal := fun t k => m ((c : Thread nD τ).loc main_arg6) (ix2 t k)

/-- Piece 8 of the projection's gradient. -/
def inp7 : Fin 8192 → Fin 256 → EReal := fun t k => m ((c : Thread nD τ).loc main_arg7) (ix2 t k)

/-- Piece 9 of the projection's gradient. -/
def inp8 : Fin 8192 → Fin 256 → EReal := fun t k => m ((c : Thread nD τ).loc main_arg8) (ix2 t k)

/-- Piece 10 of the projection's gradient. -/
def inp9 : Fin 8192 → Fin 128 → EReal := fun t k => m ((c : Thread nD τ).loc main_arg9) (ix2 t k)

/-- The projection's gradient. -/
def cot (t : Fin 8192) : Fin 3200 → EReal := cat (inp0 m c t) (inp1 m c t) (inp2 m c t) (inp3 m c t) (inp4 m c t) (inp5 m c t) (inp6 m c t) (inp7 m c t) (inp8 m c t) (inp9 m c t)

/-- The weight. -/
def weight : Fin 1024 → Fin 3200 → EReal := fun k l => m ((c : Thread nD τ).loc main_arg10) (ix2 k l)

/-- The residual's gradient. -/
def res : Fin 8192 → Fin 1024 → EReal := fun t k => m ((c : Thread nD τ).loc main_arg11) (ix2 t k)

/-- The result at a row and a column. -/
def value (t : Fin 8192) (l : Fin 1024) : EReal := (∑ f : Fin 3200, cot m c t f * weight m c l f) + gain * res m c t l

/-- What the call finds of the weight. -/
theorem found10 (k : Fin 1024) (l : Fin 3200) : V m c main_v0 (ix2 k l) = weight m c k l := by
  simp only [V, hostOps0, List.flatten_cons, List.flatten_nil, List.append_nil, List.cons_append, List.nil_append]
  entry_read
  unfold weight
  pointwise

/-- A point's rows of piece 1. -/
theorem block0 (t : Fin cfg0.N) (r : Fin 512) (k : Fin 768) : iblk m c 0 t (ix2 r k) = inp0 m c (row t r) k := by
  have ht : t.val < 16 := t.isLt
  refine Eq.trans ?_ (congrFun (V_main_arg0 m c) _)
  unfold row
  blk_ext [iblk, index_eq t]

/-- A point's rows of piece 2. -/
theorem block1 (t : Fin cfg0.N) (r : Fin 512) (k : Fin 256) : iblk m c 1 t (ix2 r k) = inp1 m c (row t r) k := by
  have ht : t.val < 16 := t.isLt
  refine Eq.trans ?_ (congrFun (V_main_arg1 m c) _)
  unfold row
  blk_ext [iblk, index_eq t]

/-- A point's rows of piece 3. -/
theorem block2 (t : Fin cfg0.N) (r : Fin 512) (k : Fin 256) : iblk m c 2 t (ix2 r k) = inp2 m c (row t r) k := by
  have ht : t.val < 16 := t.isLt
  refine Eq.trans ?_ (congrFun (V_main_arg2 m c) _)
  unfold row
  blk_ext [iblk, index_eq t]

/-- A point's rows of piece 4. -/
theorem block3 (t : Fin cfg0.N) (r : Fin 512) (k : Fin 256) : iblk m c 3 t (ix2 r k) = inp3 m c (row t r) k := by
  have ht : t.val < 16 := t.isLt
  refine Eq.trans ?_ (congrFun (V_main_arg3 m c) _)
  unfold row
  blk_ext [iblk, index_eq t]

/-- A point's rows of piece 5. -/
theorem block4 (t : Fin cfg0.N) (r : Fin 512) (k : Fin 256) : iblk m c 4 t (ix2 r k) = inp4 m c (row t r) k := by
  have ht : t.val < 16 := t.isLt
  refine Eq.trans ?_ (congrFun (V_main_arg4 m c) _)
  unfold row
  blk_ext [iblk, index_eq t]

/-- A point's rows of piece 6. -/
theorem block5 (t : Fin cfg0.N) (r : Fin 512) (k : Fin 512) : iblk m c 5 t (ix2 r k) = inp5 m c (row t r) k := by
  have ht : t.val < 16 := t.isLt
  refine Eq.trans ?_ (congrFun (V_main_arg5 m c) _)
  unfold row
  blk_ext [iblk, index_eq t]

/-- A point's rows of piece 7. -/
theorem block6 (t : Fin cfg0.N) (r : Fin 512) (k : Fin 256) : iblk m c 6 t (ix2 r k) = inp6 m c (row t r) k := by
  have ht : t.val < 16 := t.isLt
  refine Eq.trans ?_ (congrFun (V_main_arg6 m c) _)
  unfold row
  blk_ext [iblk, index_eq t]

/-- A point's rows of piece 8. -/
theorem block7 (t : Fin cfg0.N) (r : Fin 512) (k : Fin 256) : iblk m c 7 t (ix2 r k) = inp7 m c (row t r) k := by
  have ht : t.val < 16 := t.isLt
  refine Eq.trans ?_ (congrFun (V_main_arg7 m c) _)
  unfold row
  blk_ext [iblk, index_eq t]

/-- A point's rows of piece 9. -/
theorem block8 (t : Fin cfg0.N) (r : Fin 512) (k : Fin 256) : iblk m c 8 t (ix2 r k) = inp8 m c (row t r) k := by
  have ht : t.val < 16 := t.isLt
  refine Eq.trans ?_ (congrFun (V_main_arg8 m c) _)
  unfold row
  blk_ext [iblk, index_eq t]

/-- A point's rows of piece 10. -/
theorem block9 (t : Fin cfg0.N) (r : Fin 512) (k : Fin 128) : iblk m c 9 t (ix2 r k) = inp9 m c (row t r) k := by
  have ht : t.val < 16 := t.isLt
  refine Eq.trans ?_ (congrFun (V_main_arg9 m c) _)
  unfold row
  blk_ext [iblk, index_eq t]

/-- A point's rows of the residual. -/
theorem block11 (t : Fin cfg0.N) (r : Fin 512) (k : Fin 1024) : iblk m c 11 t (ix2 r k) = res m c (row t r) k := by
  have ht : t.val < 16 := t.isLt
  refine Eq.trans ?_ (congrFun (V_main_arg11 m c) _)
  unfold row
  blk_ext [iblk, index_eq t]

/-- A point's weight. -/
theorem block10 (t : Fin cfg0.N) (k : Fin 1024) (l : Fin 3200) : iblk m c 10 t (ix2 k l) = weight m c k l := by
  refine Eq.trans ?_ (found10 m c _ _)
  blk_ext [iblk, index_eq t]

/-- The weight's columns of piece 1. -/
theorem load0 (w : Vec Ideal S1024x3200 .bf16) (d : Fin 1024) (k : Fin 768) : View.ld w r0_1 (ix2 d k) = w (ix2 d ⟨k.val, by omega⟩) := by
  pointwise

/-- The weight's columns of piece 2. -/
theorem load1 (w : Vec Ideal S1024x3200 .bf16) (d : Fin 1024) (k : Fin 256) : View.ld w r0_3 (ix2 d k) = w (ix2 d ⟨768 + k.val, by omega⟩) := by
  pointwise

/-- The weight's columns of piece 3. -/
theorem load2 (w : Vec Ideal S1024x3200 .bf16) (d : Fin 1024) (k : Fin 256) : View.ld w r0_4 (ix2 d k) = w (ix2 d ⟨1024 + k.val, by omega⟩) := by
  pointwise

/-- The weight's columns of piece 4. -/
theorem load3 (w : Vec Ideal S1024x3200 .bf16) (d : Fin 1024) (k : Fin 256) : View.ld w r0_5 (ix2 d k) = w (ix2 d ⟨1280 + k.val, by omega⟩) := by
  pointwise

/-- The weight's columns of piece 5. -/
theorem load4 (w : Vec Ideal S1024x3200 .bf16) (d : Fin 1024) (k : Fin 256) : View.ld w r0_6 (ix2 d k) = w (ix2 d ⟨1536 + k.val, by omega⟩) := by
  pointwise

/-- The weight's columns of piece 6. -/
theorem load5 (w : Vec Ideal S1024x3200 .bf16) (d : Fin 1024) (k : Fin 512) : View.ld w r0_8 (ix2 d k) = w (ix2 d ⟨1792 + k.val, by omega⟩) := by
  pointwise

/-- The weight's columns of piece 7. -/
theorem load6 (w : Vec Ideal S1024x3200 .bf16) (d : Fin 1024) (k : Fin 256) : View.ld w r0_9 (ix2 d k) = w (ix2 d ⟨2304 + k.val, by omega⟩) := by
  pointwise

/-- The weight's columns of piece 8. -/
theorem load7 (w : Vec Ideal S1024x3200 .bf16) (d : Fin 1024) (k : Fin 256) : View.ld w r0_10 (ix2 d k) = w (ix2 d ⟨2560 + k.val, by omega⟩) := by
  pointwise

/-- The weight's columns of piece 9. -/
theorem load8 (w : Vec Ideal S1024x3200 .bf16) (d : Fin 1024) (k : Fin 256) : View.ld w r0_11 (ix2 d k) = w (ix2 d ⟨2816 + k.val, by omega⟩) := by
  pointwise

/-- The weight's columns of piece 10. -/
theorem load9 (w : Vec Ideal S1024x3200 .bf16) (d : Fin 1024) (k : Fin 128) : View.ld w r0_13 (ix2 d k) = w (ix2 d ⟨3072 + k.val, by omega⟩) := by
  pointwise

/-- What a point computes for its result. -/
theorem pay (x0 : Vec Ideal S512x768 .f32) (w0 : Vec Ideal S1024x768 .bf16) (x1 : Vec Ideal S512x256 .f32) (w1 : Vec Ideal S1024x256 .bf16) (x2 : Vec Ideal S512x256 .f32) (w2 : Vec Ideal S1024x256 .bf16) (x3 : Vec Ideal S512x256 .f32) (w3 : Vec Ideal S1024x256 .bf16) (x4 : Vec Ideal S512x256 .f32) (w4 : Vec Ideal S1024x256 .bf16) (x5 : Vec Ideal S512x512 .f32) (w5 : Vec Ideal S1024x512 .bf16) (x6 : Vec Ideal S512x256 .f32) (w6 : Vec Ideal S1024x256 .bf16) (x7 : Vec Ideal S512x256 .f32) (w7 : Vec Ideal S1024x256 .bf16) (x8 : Vec Ideal S512x256 .f32) (w8 : Vec Ideal S1024x256 .bf16) (x9 : Vec Ideal S512x128 .f32) (w9 : Vec Ideal S1024x128 .bf16) (d : Vec Ideal S512x1024 .f32) (r : Fin 512) (l : Fin 1024) :
    k0_pay3 (F := Ideal) (k0_pay1 x0 w0 x1 w1 x2 w2 x3 w3 x4 w4) (k0_pay2 x5) w5 x6 w6 x7 w7 x8 w8 x9 w9 d (ix2 r l)
      = (∑ k : Fin 768, x0 (ix2 r k) * w0 (ix2 l k)) + (∑ k : Fin 256, x1 (ix2 r k) * w1 (ix2 l k)) + (∑ k : Fin 256, x2 (ix2 r k) * w2 (ix2 l k)) + (∑ k : Fin 256, x3 (ix2 r k) * w3 (ix2 l k)) + (∑ k : Fin 256, x4 (ix2 r k) * w4 (ix2 l k)) + (∑ k : Fin 512, x5 (ix2 r k) * w5 (ix2 l k)) + (∑ k : Fin 256, x6 (ix2 r k) * w6 (ix2 l k)) + (∑ k : Fin 256, x7 (ix2 r k) * w7 (ix2 l k)) + (∑ k : Fin 256, x8 (ix2 r k) * w8 (ix2 l k)) + (∑ k : Fin 128, x9 (ix2 r k) * w9 (ix2 l k)) + gain * d (ix2 r l) := by
  unfold k0_pay3 k0_pay2 k0_pay1 gain
  pointwise

/-- A point's product with piece 1. -/
theorem part0 (t : Fin cfg0.N) (r : Fin 512) (l : Fin 1024) : ∑ k : Fin 768, (show Vec Ideal S512x768 .f32 from iblk m c 0 t) (ix2 r k) * (show Vec Ideal S1024x768 .bf16 from View.ld (iblk m c 10 t) r0_1) (ix2 l k)
    = ∑ k : Fin 768, cot m c (row t r) ⟨k.val, by omega⟩ * weight m c l ⟨k.val, by omega⟩ :=
  sum_congr rfl fun k _ => congrArg₂ _ ((block0 m c t r k).trans (cat_0 _ _ _ _ _ _ _ _ _ _ k).symm) ((load0 _ l k).trans (block10 m c t l _))

/-- A point's product with piece 2. -/
theorem part1 (t : Fin cfg0.N) (r : Fin 512) (l : Fin 1024) : ∑ k : Fin 256, (show Vec Ideal S512x256 .f32 from iblk m c 1 t) (ix2 r k) * (show Vec Ideal S1024x256 .bf16 from View.ld (iblk m c 10 t) r0_3) (ix2 l k)
    = ∑ k : Fin 256, cot m c (row t r) ⟨768 + k.val, by omega⟩ * weight m c l ⟨768 + k.val, by omega⟩ :=
  sum_congr rfl fun k _ => congrArg₂ _ ((block1 m c t r k).trans (cat_1 _ _ _ _ _ _ _ _ _ _ k).symm) ((load1 _ l k).trans (block10 m c t l _))

/-- A point's product with piece 3. -/
theorem part2 (t : Fin cfg0.N) (r : Fin 512) (l : Fin 1024) : ∑ k : Fin 256, (show Vec Ideal S512x256 .f32 from iblk m c 2 t) (ix2 r k) * (show Vec Ideal S1024x256 .bf16 from View.ld (iblk m c 10 t) r0_4) (ix2 l k)
    = ∑ k : Fin 256, cot m c (row t r) ⟨1024 + k.val, by omega⟩ * weight m c l ⟨1024 + k.val, by omega⟩ :=
  sum_congr rfl fun k _ => congrArg₂ _ ((block2 m c t r k).trans (cat_2 _ _ _ _ _ _ _ _ _ _ k).symm) ((load2 _ l k).trans (block10 m c t l _))

/-- A point's product with piece 4. -/
theorem part3 (t : Fin cfg0.N) (r : Fin 512) (l : Fin 1024) : ∑ k : Fin 256, (show Vec Ideal S512x256 .f32 from iblk m c 3 t) (ix2 r k) * (show Vec Ideal S1024x256 .bf16 from View.ld (iblk m c 10 t) r0_5) (ix2 l k)
    = ∑ k : Fin 256, cot m c (row t r) ⟨1280 + k.val, by omega⟩ * weight m c l ⟨1280 + k.val, by omega⟩ :=
  sum_congr rfl fun k _ => congrArg₂ _ ((block3 m c t r k).trans (cat_3 _ _ _ _ _ _ _ _ _ _ k).symm) ((load3 _ l k).trans (block10 m c t l _))

/-- A point's product with piece 5. -/
theorem part4 (t : Fin cfg0.N) (r : Fin 512) (l : Fin 1024) : ∑ k : Fin 256, (show Vec Ideal S512x256 .f32 from iblk m c 4 t) (ix2 r k) * (show Vec Ideal S1024x256 .bf16 from View.ld (iblk m c 10 t) r0_6) (ix2 l k)
    = ∑ k : Fin 256, cot m c (row t r) ⟨1536 + k.val, by omega⟩ * weight m c l ⟨1536 + k.val, by omega⟩ :=
  sum_congr rfl fun k _ => congrArg₂ _ ((block4 m c t r k).trans (cat_4 _ _ _ _ _ _ _ _ _ _ k).symm) ((load4 _ l k).trans (block10 m c t l _))

/-- A point's product with piece 6. -/
theorem part5 (t : Fin cfg0.N) (r : Fin 512) (l : Fin 1024) : ∑ k : Fin 512, (show Vec Ideal S512x512 .f32 from iblk m c 5 t) (ix2 r k) * (show Vec Ideal S1024x512 .bf16 from View.ld (iblk m c 10 t) r0_8) (ix2 l k)
    = ∑ k : Fin 512, cot m c (row t r) ⟨1792 + k.val, by omega⟩ * weight m c l ⟨1792 + k.val, by omega⟩ :=
  sum_congr rfl fun k _ => congrArg₂ _ ((block5 m c t r k).trans (cat_5 _ _ _ _ _ _ _ _ _ _ k).symm) ((load5 _ l k).trans (block10 m c t l _))

/-- A point's product with piece 7. -/
theorem part6 (t : Fin cfg0.N) (r : Fin 512) (l : Fin 1024) : ∑ k : Fin 256, (show Vec Ideal S512x256 .f32 from iblk m c 6 t) (ix2 r k) * (show Vec Ideal S1024x256 .bf16 from View.ld (iblk m c 10 t) r0_9) (ix2 l k)
    = ∑ k : Fin 256, cot m c (row t r) ⟨2304 + k.val, by omega⟩ * weight m c l ⟨2304 + k.val, by omega⟩ :=
  sum_congr rfl fun k _ => congrArg₂ _ ((block6 m c t r k).trans (cat_6 _ _ _ _ _ _ _ _ _ _ k).symm) ((load6 _ l k).trans (block10 m c t l _))

/-- A point's product with piece 8. -/
theorem part7 (t : Fin cfg0.N) (r : Fin 512) (l : Fin 1024) : ∑ k : Fin 256, (show Vec Ideal S512x256 .f32 from iblk m c 7 t) (ix2 r k) * (show Vec Ideal S1024x256 .bf16 from View.ld (iblk m c 10 t) r0_10) (ix2 l k)
    = ∑ k : Fin 256, cot m c (row t r) ⟨2560 + k.val, by omega⟩ * weight m c l ⟨2560 + k.val, by omega⟩ :=
  sum_congr rfl fun k _ => congrArg₂ _ ((block7 m c t r k).trans (cat_7 _ _ _ _ _ _ _ _ _ _ k).symm) ((load7 _ l k).trans (block10 m c t l _))

/-- A point's product with piece 9. -/
theorem part8 (t : Fin cfg0.N) (r : Fin 512) (l : Fin 1024) : ∑ k : Fin 256, (show Vec Ideal S512x256 .f32 from iblk m c 8 t) (ix2 r k) * (show Vec Ideal S1024x256 .bf16 from View.ld (iblk m c 10 t) r0_11) (ix2 l k)
    = ∑ k : Fin 256, cot m c (row t r) ⟨2816 + k.val, by omega⟩ * weight m c l ⟨2816 + k.val, by omega⟩ :=
  sum_congr rfl fun k _ => congrArg₂ _ ((block8 m c t r k).trans (cat_8 _ _ _ _ _ _ _ _ _ _ k).symm) ((load8 _ l k).trans (block10 m c t l _))

/-- A point's product with piece 10. -/
theorem part9 (t : Fin cfg0.N) (r : Fin 512) (l : Fin 1024) : ∑ k : Fin 128, (show Vec Ideal S512x128 .f32 from iblk m c 9 t) (ix2 r k) * (show Vec Ideal S1024x128 .bf16 from View.ld (iblk m c 10 t) r0_13) (ix2 l k)
    = ∑ k : Fin 128, cot m c (row t r) ⟨3072 + k.val, by omega⟩ * weight m c l ⟨3072 + k.val, by omega⟩ :=
  sum_congr rfl fun k _ => congrArg₂ _ ((block9 m c t r k).trans (cat_9 _ _ _ _ _ _ _ _ _ _ k).symm) ((load9 _ l k).trans (block10 m c t l _))

/-- A point's block of the result. -/
theorem point (t : Fin cfg0.N) (r : Fin 512) (l : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l) = value m c (row t r) l := by
  unfold out0_12
  rw [View.canon_unit_zero offset]
  simp only [View.ld_unit_zero (S := S512x768) offset, View.ld_unit_zero (S := S512x256) offset, View.ld_unit_zero (S := S512x512) offset, View.ld_unit_zero (S := S512x128) offset, View.ld_unit_zero (S := S512x1024) offset]
  unfold value
  rw [sum_pieces]
  exact (pay _ _ _ _ _ _ _ _ _ _ _ _ _ _ _ _ _ _ _ _ _ r l).trans (congrArg₂ _ (congrArg₂ _ (congrArg₂ _ (congrArg₂ _ (congrArg₂ _ (congrArg₂ _ (congrArg₂ _ (congrArg₂ _ (congrArg₂ _ (congrArg₂ _ (part0 m c t r l) (part1 m c t r l)) (part2 m c t r l)) (part3 m c t r l)) (part4 m c t r l)) (part5 m c t r l)) (part6 m c t r l)) (part7 m c t r l)) (part8 m c t r l)) (part9 m c t r l)) (congrArg _ (block11 m c t r l)))

/-- The result at an array's index. -/
def result : Buf (Elt Ideal) ((c : Thread nD τ).loc main_v1) := fun i => value m c (i 0) (i 1)

/-- The array of the result. -/
theorem array : (dats m 0 c).arrAt 12 cfg0.N = result m c := by
  refine (dats m 0 c).arrAt_eq_of_covers 12 _ (by decide +kernel) fun t hf y => ?_
  have h := point m c t (y 0) (y 1)
  have e0 : (win0_12.blk t).view.emb y 0 = row t (y 0) := Fin.ext (by show _ = 512 * t.val + (y 0).val; blk_simp [index_eq t]; try omega)
  have e1 : (win0_12.blk t).view.emb y 1 = y 1 := Fin.ext (by blk_simp [index_eq t]; try omega)
  blk_simp
  rw [after0_12]
  refine (congrArg _ (eq_ix2 y)).trans (h.trans ?_)
  unfold result
  rw [e0, e1]

open Cert.Reference13Ideal.Read in
/-- The reference's result. -/
theorem ref (x0 : FVec Ideal Cert.Reference13Ideal.S8192x768 .f32) (x1 : FVec Ideal Cert.Reference13Ideal.S8192x256 .f32) (x2 : FVec Ideal Cert.Reference13Ideal.S8192x256 .f32) (x3 : FVec Ideal Cert.Reference13Ideal.S8192x256 .f32) (x4 : FVec Ideal Cert.Reference13Ideal.S8192x256 .f32) (x5 : FVec Ideal Cert.Reference13Ideal.S8192x512 .f32) (x6 : FVec Ideal Cert.Reference13Ideal.S8192x256 .f32) (x7 : FVec Ideal Cert.Reference13Ideal.S8192x256 .f32) (x8 : FVec Ideal Cert.Reference13Ideal.S8192x256 .f32) (x9 : FVec Ideal Cert.Reference13Ideal.S8192x128 .f32) (x10 : FVec Ideal Cert.Reference13Ideal.S1024x3200 .f32) (x11 : FVec Ideal Cert.Reference13Ideal.S8192x1024 .f32) (t : Fin 8192) (l : Fin 1024) :
    val_main_v8 (F := Ideal) x0 x1 x2 x3 x4 x5 x6 x7 x8 x9 x10 x11 (ix2 t l)
      = (∑ f : Fin 3200, cat (fun k => x0 (ix2 t k)) (fun k => x1 (ix2 t k)) (fun k => x2 (ix2 t k)) (fun k => x3 (ix2 t k)) (fun k => x4 (ix2 t k)) (fun k => x5 (ix2 t k)) (fun k => x6 (ix2 t k)) (fun k => x7 (ix2 t k)) (fun k => x8 (ix2 t k)) (fun k => x9 (ix2 t k)) f * x10 (ix2 l f)) + gain * x11 (ix2 t l) := by
  unfold val_main_v8 val_main_v7 val_main_v0 val_main_v6 val_main_v5 val_main_cst_1 cat gain
  pointwise
  exact add_comm _ _

/-- The kernel's result is the reference's. -/
theorem equal : Cert.algebraic_Kernel13Ideal_Reference13Ideal (hKernel13Ideal := Cert.Kernel13Ideal.Gen.facts)
    (hReference13Ideal := Cert.Reference13Ideal.Gen.facts) := by
  intro m g m' g' _ hargs
  refine ⟨fun c => result m c,
    (θ_run _ _ _).mono (fun r h c => ⟨(h c).1.trans (array m c), (h c).2⟩) (Cert.Kernel13Ideal.Value.run_blocks m g),
    (θ_run _ _ _).mono (fun r h c => ⟨(h c).1.trans ?_, (h c).2⟩) (Cert.Reference13Ideal.Value.run (F := Ideal) m' g')⟩
  refine (Cert.Reference13Ideal.Read.val_main_v8_eq _ _ _ _ _ _ _ _ _ _ _ _ ).trans ?_
  obtain ⟨h0, h1, h2, h3, h4, h5, h6, h7, h8, h9, h10, h11⟩ := hargs c
  rw [h0, h1, h2, h3, h4, h5, h6, h7, h8, h9, h10, h11]
  refine funext fun (i : Cert.Reference13Ideal.S8192x1024.Idx) => ?_
  rw [show i = ix2 (i 0 : Fin 8192) (i 1 : Fin 1024) from eq_ix2 i]
  exact ref _ _ _ _ _ _ _ _ _ _ _ _ _ _

end Cert.Product13

end
-- ==== Proof.Weight14.lean ====
module

public import proofs.«01_k».proof.Proof.Pieces
public import proofs.«01_k».proof.Proof.Gen.Kernel14Ideal
public import proofs.«01_k».proof.Proof.Gen.Kernel14Ideal.Value
public import Idealize.ShloMosaic.Lib.Pipeline.ReadBack

/-!
# What a point of the projection's weight gradient leaves
-/

@[expose] public section

set_option maxRecDepth 16384

noncomputable section

namespace Cert.Weight14

open Idealize.ShloMosaic Idealize.ShloMosaic.TcCoe Idealize.SL.Sem Cert.Kernel14Ideal Cert.Kernel14Ideal.Gen Finset Cert.Pieces

variable (m : (ℓ : Loc nD τ sig) → Buf (Elt Ideal) ℓ) (c : Dev nD)

/-- The offsets of a whole block. -/
theorem offset : (![0, 0] : Fin 2 → ℕ) = fun _ => 0 := funext fun a => by fin_cases a <;> rfl

variable (Z : Vec Ideal S1024x3200 .f32) (a : Vec Ideal S512x1024 .f32) (x1 : Vec Ideal S512x768 .f32) (x2 : Vec Ideal S512x256 .f32) (x3 : Vec Ideal S512x256 .f32) (x4 : Vec Ideal S512x256 .f32) (x5 : Vec Ideal S512x256 .f32) (x6 : Vec Ideal S512x512 .f32) (x7 : Vec Ideal S512x256 .f32) (x8 : Vec Ideal S512x256 .f32) (x9 : Vec Ideal S512x256 .f32) (x10 : Vec Ideal S512x128 .f32)

/-- What a point stores over an array: its ten pieces, the last one first. -/
def pieces : List (View.Piece (Elt Ideal) S1024x3200 .f32) :=
  [⟨(Rect.unit (s := S1024x3200) ![0, 3072] S1024x128.size inb_S1024x3200_S1024x128_0_3072), k0_pay3 (F := Ideal) (k0_pay5 (View.ld a (Rect.unit (s := S512x1024) ![0, 0] S512x1024.size inb_S512x1024_S512x1024_0_0))) (View.ld Z (Rect.unit (s := S1024x3200) ![0, 3072] S1024x128.size inb_S1024x3200_S1024x128_0_3072)) (View.ld x10 (Rect.unit (s := S512x128) ![0, 0] S512x128.size inb_S512x128_S512x128_0_0))⟩,
   ⟨(Rect.unit (s := S1024x3200) ![0, 2816] S1024x256.size inb_S1024x3200_S1024x256_0_2816), k0_pay2 (F := Ideal) (k0_pay5 (View.ld a (Rect.unit (s := S512x1024) ![0, 0] S512x1024.size inb_S512x1024_S512x1024_0_0))) (View.ld Z (Rect.unit (s := S1024x3200) ![0, 2816] S1024x256.size inb_S1024x3200_S1024x256_0_2816)) (View.ld x9 (Rect.unit (s := S512x256) ![0, 0] S512x256.size inb_S512x256_S512x256_0_0))⟩,
   ⟨(Rect.unit (s := S1024x3200) ![0, 2560] S1024x256.size inb_S1024x3200_S1024x256_0_2560), k0_pay1 (F := Ideal) (k0_pay5 (View.ld a (Rect.unit (s := S512x1024) ![0, 0] S512x1024.size inb_S512x1024_S512x1024_0_0))) (View.ld Z (Rect.unit (s := S1024x3200) ![0, 2560] S1024x256.size inb_S1024x3200_S1024x256_0_2560)) (View.ld x8 (Rect.unit (s := S512x256) ![0, 0] S512x256.size inb_S512x256_S512x256_0_0))⟩,
   ⟨(Rect.unit (s := S1024x3200) ![0, 2304] S1024x256.size inb_S1024x3200_S1024x256_0_2304), k0_pay12 (F := Ideal) (k0_pay5 (View.ld a (Rect.unit (s := S512x1024) ![0, 0] S512x1024.size inb_S512x1024_S512x1024_0_0))) (View.ld Z (Rect.unit (s := S1024x3200) ![0, 2304] S1024x256.size inb_S1024x3200_S1024x256_0_2304)) (View.ld x7 (Rect.unit (s := S512x256) ![0, 0] S512x256.size inb_S512x256_S512x256_0_0))⟩,
   ⟨(Rect.unit (s := S1024x3200) ![0, 1792] S1024x512.size inb_S1024x3200_S1024x512_0_1792), k0_pay11 (F := Ideal) (k0_pay5 (View.ld a (Rect.unit (s := S512x1024) ![0, 0] S512x1024.size inb_S512x1024_S512x1024_0_0))) (View.ld Z (Rect.unit (s := S1024x3200) ![0, 1792] S1024x512.size inb_S1024x3200_S1024x512_0_1792)) (View.ld x6 (Rect.unit (s := S512x512) ![0, 0] S512x512.size inb_S512x512_S512x512_0_0))⟩,
   ⟨(Rect.unit (s := S1024x3200) ![0, 1536] S1024x256.size inb_S1024x3200_S1024x256_0_1536), k0_pay10 (F := Ideal) (k0_pay5 (View.ld a (Rect.unit (s := S512x1024) ![0, 0] S512x1024.size inb_S512x1024_S512x1024_0_0))) (View.ld Z (Rect.unit (s := S1024x3200) ![0, 1536] S1024x256.size inb_S1024x3200_S1024x256_0_1536)) (View.ld x5 (Rect.unit (s := S512x256) ![0, 0] S512x256.size inb_S512x256_S512x256_0_0))⟩,
   ⟨(Rect.unit (s := S1024x3200) ![0, 1280] S1024x256.size inb_S1024x3200_S1024x256_0_1280), k0_pay9 (F := Ideal) (k0_pay5 (View.ld a (Rect.unit (s := S512x1024) ![0, 0] S512x1024.size inb_S512x1024_S512x1024_0_0))) (View.ld Z (Rect.unit (s := S1024x3200) ![0, 1280] S1024x256.size inb_S1024x3200_S1024x256_0_1280)) (View.ld x4 (Rect.unit (s := S512x256) ![0, 0] S512x256.size inb_S512x256_S512x256_0_0))⟩,
   ⟨(Rect.unit (s := S1024x3200) ![0, 1024] S1024x256.size inb_S1024x3200_S1024x256_0_1024), k0_pay8 (F := Ideal) (View.ld a (Rect.unit (s := S512x1024) ![0, 0] S512x1024.size inb_S512x1024_S512x1024_0_0)) (View.ld Z (Rect.unit (s := S1024x3200) ![0, 1024] S1024x256.size inb_S1024x3200_S1024x256_0_1024)) (View.ld x3 (Rect.unit (s := S512x256) ![0, 0] S512x256.size inb_S512x256_S512x256_0_0))⟩,
   ⟨(Rect.unit (s := S1024x3200) ![0, 768] S1024x256.size inb_S1024x3200_S1024x256_0_768), k0_pay7 (F := Ideal) (View.ld a (Rect.unit (s := S512x1024) ![0, 0] S512x1024.size inb_S512x1024_S512x1024_0_0)) (View.ld Z (Rect.unit (s := S1024x3200) ![0, 768] S1024x256.size inb_S1024x3200_S1024x256_0_768)) (View.ld x2 (Rect.unit (s := S512x256) ![0, 0] S512x256.size inb_S512x256_S512x256_0_0))⟩,
   ⟨(Rect.unit (s := S1024x3200) ![0, 0] S1024x768.size inb_S1024x3200_S1024x768_0_0), k0_pay6 (F := Ideal) (View.ld a (Rect.unit (s := S512x1024) ![0, 0] S512x1024.size inb_S512x1024_S512x1024_0_0)) (View.ld Z (Rect.unit (s := S1024x3200) ![0, 0] S1024x768.size inb_S1024x3200_S1024x768_0_0)) (View.ld x1 (Rect.unit (s := S512x768) ![0, 0] S512x768.size inb_S512x768_S512x768_0_0))⟩]

/-- The pieces cover the array. -/
theorem cover (y : S1024x3200.Idx) : ∃ p ∈ pieces Z a x1 x2 x3 x4 x5 x6 x7 x8 x9 x10, y ∈ p.1.set :=
  View.cover_of_tiledBy (pieces Z a x1 x2 x3 x4 x5 x6 x7 x8 x9 x10) ![1024, 128] (by sl_kernel_rfl) y

/-- What a point adds to an array. -/
def added (k : Fin 1024) (l : Fin 3200) : EReal := ∑ p : Fin 512, a (ix2 p k) * cat (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) l

/-- The array after a point. -/
def after : Vec Ideal S1024x3200 .f32 := fun y => Z y + added a x1 x2 x3 x4 x5 x6 x7 x8 x9 x10 (y 0) (y 1)

/-- What a point computes for piece 1. -/
theorem pay0 (z : Vec Ideal S1024x768 .f32) (g : Vec Ideal S512x768 .f32) (k : Fin 1024) (l : Fin 768) :
    k0_pay6 (F := Ideal) a z g (ix2 k l) = z (ix2 k l) + ∑ p : Fin 512, a (ix2 p k) * g (ix2 p l) := by
  unfold k0_pay6 k0_pay5
  pointwise

/-- Piece 1 of the array after a point. -/
theorem piece0 (y : S1024x768.Idx) : k0_pay6 (F := Ideal) (View.ld a (Rect.unit (s := S512x1024) ![0, 0] S512x1024.size inb_S512x1024_S512x1024_0_0)) (View.ld Z (Rect.unit (s := S1024x3200) ![0, 0] S1024x768.size inb_S1024x3200_S1024x768_0_0)) (View.ld x1 (Rect.unit (s := S512x768) ![0, 0] S512x768.size inb_S512x768_S512x768_0_0)) y
    = after Z a x1 x2 x3 x4 x5 x6 x7 x8 x9 x10 ((Rect.unit (s := S1024x3200) ![0, 0] S1024x768.size inb_S1024x3200_S1024x768_0_0).emb y) := by
  simp only [View.ld_unit_zero (S := S512x1024) offset, View.ld_unit_zero (S := S512x768) offset]
  refine (congrArg _ (eq_ix2 y)).trans ((pay0 a _ _ (y 0) (y 1)).trans ?_)
  unfold after added
  refine congrArg₂ _ (congrArg (fun u => Z ((Rect.unit (s := S1024x3200) ![0, 0] S1024x768.size inb_S1024x3200_S1024x768_0_0).emb u)) (eq_ix2 y).symm) (sum_congr rfl fun p _ => congrArg₂ _ (congrArg (fun u => a (ix2 p u)) (Fin.ext ?_)) ?_)
  · show (y 0).val = 0 + 1 * (y 0).val
    omega
  · refine (cat_0 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show (y 1).val = 0 + 1 * (y 1).val
    omega

/-- What a point computes for piece 2. -/
theorem pay1 (z : Vec Ideal S1024x256 .f32) (g : Vec Ideal S512x256 .f32) (k : Fin 1024) (l : Fin 256) :
    k0_pay7 (F := Ideal) a z g (ix2 k l) = z (ix2 k l) + ∑ p : Fin 512, a (ix2 p k) * g (ix2 p l) := by
  unfold k0_pay7 k0_pay5
  pointwise

/-- Piece 2 of the array after a point. -/
theorem piece1 (y : S1024x256.Idx) : k0_pay7 (F := Ideal) (View.ld a (Rect.unit (s := S512x1024) ![0, 0] S512x1024.size inb_S512x1024_S512x1024_0_0)) (View.ld Z (Rect.unit (s := S1024x3200) ![0, 768] S1024x256.size inb_S1024x3200_S1024x256_0_768)) (View.ld x2 (Rect.unit (s := S512x256) ![0, 0] S512x256.size inb_S512x256_S512x256_0_0)) y
    = after Z a x1 x2 x3 x4 x5 x6 x7 x8 x9 x10 ((Rect.unit (s := S1024x3200) ![0, 768] S1024x256.size inb_S1024x3200_S1024x256_0_768).emb y) := by
  simp only [View.ld_unit_zero (S := S512x1024) offset, View.ld_unit_zero (S := S512x256) offset]
  refine (congrArg _ (eq_ix2 y)).trans ((pay1 a _ _ (y 0) (y 1)).trans ?_)
  unfold after added
  refine congrArg₂ _ (congrArg (fun u => Z ((Rect.unit (s := S1024x3200) ![0, 768] S1024x256.size inb_S1024x3200_S1024x256_0_768).emb u)) (eq_ix2 y).symm) (sum_congr rfl fun p _ => congrArg₂ _ (congrArg (fun u => a (ix2 p u)) (Fin.ext ?_)) ?_)
  · show (y 0).val = 0 + 1 * (y 0).val
    omega
  · refine (cat_1 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 768 + (y 1).val = 768 + 1 * (y 1).val
    omega

/-- What a point computes for piece 3. -/
theorem pay2 (z : Vec Ideal S1024x256 .f32) (g : Vec Ideal S512x256 .f32) (k : Fin 1024) (l : Fin 256) :
    k0_pay8 (F := Ideal) a z g (ix2 k l) = z (ix2 k l) + ∑ p : Fin 512, a (ix2 p k) * g (ix2 p l) := by
  unfold k0_pay8 k0_pay5
  pointwise

/-- Piece 3 of the array after a point. -/
theorem piece2 (y : S1024x256.Idx) : k0_pay8 (F := Ideal) (View.ld a (Rect.unit (s := S512x1024) ![0, 0] S512x1024.size inb_S512x1024_S512x1024_0_0)) (View.ld Z (Rect.unit (s := S1024x3200) ![0, 1024] S1024x256.size inb_S1024x3200_S1024x256_0_1024)) (View.ld x3 (Rect.unit (s := S512x256) ![0, 0] S512x256.size inb_S512x256_S512x256_0_0)) y
    = after Z a x1 x2 x3 x4 x5 x6 x7 x8 x9 x10 ((Rect.unit (s := S1024x3200) ![0, 1024] S1024x256.size inb_S1024x3200_S1024x256_0_1024).emb y) := by
  simp only [View.ld_unit_zero (S := S512x1024) offset, View.ld_unit_zero (S := S512x256) offset]
  refine (congrArg _ (eq_ix2 y)).trans ((pay2 a _ _ (y 0) (y 1)).trans ?_)
  unfold after added
  refine congrArg₂ _ (congrArg (fun u => Z ((Rect.unit (s := S1024x3200) ![0, 1024] S1024x256.size inb_S1024x3200_S1024x256_0_1024).emb u)) (eq_ix2 y).symm) (sum_congr rfl fun p _ => congrArg₂ _ (congrArg (fun u => a (ix2 p u)) (Fin.ext ?_)) ?_)
  · show (y 0).val = 0 + 1 * (y 0).val
    omega
  · refine (cat_2 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 1024 + (y 1).val = 1024 + 1 * (y 1).val
    omega

/-- What a point computes for piece 4. -/
theorem pay3 (z : Vec Ideal S1024x256 .f32) (g : Vec Ideal S512x256 .f32) (k : Fin 1024) (l : Fin 256) :
    k0_pay9 (F := Ideal) (k0_pay5 a) z g (ix2 k l) = z (ix2 k l) + ∑ p : Fin 512, a (ix2 p k) * g (ix2 p l) := by
  unfold k0_pay9 k0_pay5
  pointwise

/-- Piece 4 of the array after a point. -/
theorem piece3 (y : S1024x256.Idx) : k0_pay9 (F := Ideal) (k0_pay5 (View.ld a (Rect.unit (s := S512x1024) ![0, 0] S512x1024.size inb_S512x1024_S512x1024_0_0))) (View.ld Z (Rect.unit (s := S1024x3200) ![0, 1280] S1024x256.size inb_S1024x3200_S1024x256_0_1280)) (View.ld x4 (Rect.unit (s := S512x256) ![0, 0] S512x256.size inb_S512x256_S512x256_0_0)) y
    = after Z a x1 x2 x3 x4 x5 x6 x7 x8 x9 x10 ((Rect.unit (s := S1024x3200) ![0, 1280] S1024x256.size inb_S1024x3200_S1024x256_0_1280).emb y) := by
  simp only [View.ld_unit_zero (S := S512x1024) offset, View.ld_unit_zero (S := S512x256) offset]
  refine (congrArg _ (eq_ix2 y)).trans ((pay3 a _ _ (y 0) (y 1)).trans ?_)
  unfold after added
  refine congrArg₂ _ (congrArg (fun u => Z ((Rect.unit (s := S1024x3200) ![0, 1280] S1024x256.size inb_S1024x3200_S1024x256_0_1280).emb u)) (eq_ix2 y).symm) (sum_congr rfl fun p _ => congrArg₂ _ (congrArg (fun u => a (ix2 p u)) (Fin.ext ?_)) ?_)
  · show (y 0).val = 0 + 1 * (y 0).val
    omega
  · refine (cat_3 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 1280 + (y 1).val = 1280 + 1 * (y 1).val
    omega

/-- What a point computes for piece 5. -/
theorem pay4 (z : Vec Ideal S1024x256 .f32) (g : Vec Ideal S512x256 .f32) (k : Fin 1024) (l : Fin 256) :
    k0_pay10 (F := Ideal) (k0_pay5 a) z g (ix2 k l) = z (ix2 k l) + ∑ p : Fin 512, a (ix2 p k) * g (ix2 p l) := by
  unfold k0_pay10 k0_pay5
  pointwise

/-- Piece 5 of the array after a point. -/
theorem piece4 (y : S1024x256.Idx) : k0_pay10 (F := Ideal) (k0_pay5 (View.ld a (Rect.unit (s := S512x1024) ![0, 0] S512x1024.size inb_S512x1024_S512x1024_0_0))) (View.ld Z (Rect.unit (s := S1024x3200) ![0, 1536] S1024x256.size inb_S1024x3200_S1024x256_0_1536)) (View.ld x5 (Rect.unit (s := S512x256) ![0, 0] S512x256.size inb_S512x256_S512x256_0_0)) y
    = after Z a x1 x2 x3 x4 x5 x6 x7 x8 x9 x10 ((Rect.unit (s := S1024x3200) ![0, 1536] S1024x256.size inb_S1024x3200_S1024x256_0_1536).emb y) := by
  simp only [View.ld_unit_zero (S := S512x1024) offset, View.ld_unit_zero (S := S512x256) offset]
  refine (congrArg _ (eq_ix2 y)).trans ((pay4 a _ _ (y 0) (y 1)).trans ?_)
  unfold after added
  refine congrArg₂ _ (congrArg (fun u => Z ((Rect.unit (s := S1024x3200) ![0, 1536] S1024x256.size inb_S1024x3200_S1024x256_0_1536).emb u)) (eq_ix2 y).symm) (sum_congr rfl fun p _ => congrArg₂ _ (congrArg (fun u => a (ix2 p u)) (Fin.ext ?_)) ?_)
  · show (y 0).val = 0 + 1 * (y 0).val
    omega
  · refine (cat_4 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 1536 + (y 1).val = 1536 + 1 * (y 1).val
    omega

/-- What a point computes for piece 6. -/
theorem pay5 (z : Vec Ideal S1024x512 .f32) (g : Vec Ideal S512x512 .f32) (k : Fin 1024) (l : Fin 512) :
    k0_pay11 (F := Ideal) (k0_pay5 a) z g (ix2 k l) = z (ix2 k l) + ∑ p : Fin 512, a (ix2 p k) * g (ix2 p l) := by
  unfold k0_pay11 k0_pay5
  pointwise

/-- Piece 6 of the array after a point. -/
theorem piece5 (y : S1024x512.Idx) : k0_pay11 (F := Ideal) (k0_pay5 (View.ld a (Rect.unit (s := S512x1024) ![0, 0] S512x1024.size inb_S512x1024_S512x1024_0_0))) (View.ld Z (Rect.unit (s := S1024x3200) ![0, 1792] S1024x512.size inb_S1024x3200_S1024x512_0_1792)) (View.ld x6 (Rect.unit (s := S512x512) ![0, 0] S512x512.size inb_S512x512_S512x512_0_0)) y
    = after Z a x1 x2 x3 x4 x5 x6 x7 x8 x9 x10 ((Rect.unit (s := S1024x3200) ![0, 1792] S1024x512.size inb_S1024x3200_S1024x512_0_1792).emb y) := by
  simp only [View.ld_unit_zero (S := S512x1024) offset, View.ld_unit_zero (S := S512x512) offset]
  refine (congrArg _ (eq_ix2 y)).trans ((pay5 a _ _ (y 0) (y 1)).trans ?_)
  unfold after added
  refine congrArg₂ _ (congrArg (fun u => Z ((Rect.unit (s := S1024x3200) ![0, 1792] S1024x512.size inb_S1024x3200_S1024x512_0_1792).emb u)) (eq_ix2 y).symm) (sum_congr rfl fun p _ => congrArg₂ _ (congrArg (fun u => a (ix2 p u)) (Fin.ext ?_)) ?_)
  · show (y 0).val = 0 + 1 * (y 0).val
    omega
  · refine (cat_5 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 1792 + (y 1).val = 1792 + 1 * (y 1).val
    omega

/-- What a point computes for piece 7. -/
theorem pay6 (z : Vec Ideal S1024x256 .f32) (g : Vec Ideal S512x256 .f32) (k : Fin 1024) (l : Fin 256) :
    k0_pay12 (F := Ideal) (k0_pay5 a) z g (ix2 k l) = z (ix2 k l) + ∑ p : Fin 512, a (ix2 p k) * g (ix2 p l) := by
  unfold k0_pay12 k0_pay5
  pointwise

/-- Piece 7 of the array after a point. -/
theorem piece6 (y : S1024x256.Idx) : k0_pay12 (F := Ideal) (k0_pay5 (View.ld a (Rect.unit (s := S512x1024) ![0, 0] S512x1024.size inb_S512x1024_S512x1024_0_0))) (View.ld Z (Rect.unit (s := S1024x3200) ![0, 2304] S1024x256.size inb_S1024x3200_S1024x256_0_2304)) (View.ld x7 (Rect.unit (s := S512x256) ![0, 0] S512x256.size inb_S512x256_S512x256_0_0)) y
    = after Z a x1 x2 x3 x4 x5 x6 x7 x8 x9 x10 ((Rect.unit (s := S1024x3200) ![0, 2304] S1024x256.size inb_S1024x3200_S1024x256_0_2304).emb y) := by
  simp only [View.ld_unit_zero (S := S512x1024) offset, View.ld_unit_zero (S := S512x256) offset]
  refine (congrArg _ (eq_ix2 y)).trans ((pay6 a _ _ (y 0) (y 1)).trans ?_)
  unfold after added
  refine congrArg₂ _ (congrArg (fun u => Z ((Rect.unit (s := S1024x3200) ![0, 2304] S1024x256.size inb_S1024x3200_S1024x256_0_2304).emb u)) (eq_ix2 y).symm) (sum_congr rfl fun p _ => congrArg₂ _ (congrArg (fun u => a (ix2 p u)) (Fin.ext ?_)) ?_)
  · show (y 0).val = 0 + 1 * (y 0).val
    omega
  · refine (cat_6 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 2304 + (y 1).val = 2304 + 1 * (y 1).val
    omega

/-- What a point computes for piece 8. -/
theorem pay7 (z : Vec Ideal S1024x256 .f32) (g : Vec Ideal S512x256 .f32) (k : Fin 1024) (l : Fin 256) :
    k0_pay1 (F := Ideal) (k0_pay5 a) z g (ix2 k l) = z (ix2 k l) + ∑ p : Fin 512, a (ix2 p k) * g (ix2 p l) := by
  unfold k0_pay1 k0_pay5
  pointwise

/-- Piece 8 of the array after a point. -/
theorem piece7 (y : S1024x256.Idx) : k0_pay1 (F := Ideal) (k0_pay5 (View.ld a (Rect.unit (s := S512x1024) ![0, 0] S512x1024.size inb_S512x1024_S512x1024_0_0))) (View.ld Z (Rect.unit (s := S1024x3200) ![0, 2560] S1024x256.size inb_S1024x3200_S1024x256_0_2560)) (View.ld x8 (Rect.unit (s := S512x256) ![0, 0] S512x256.size inb_S512x256_S512x256_0_0)) y
    = after Z a x1 x2 x3 x4 x5 x6 x7 x8 x9 x10 ((Rect.unit (s := S1024x3200) ![0, 2560] S1024x256.size inb_S1024x3200_S1024x256_0_2560).emb y) := by
  simp only [View.ld_unit_zero (S := S512x1024) offset, View.ld_unit_zero (S := S512x256) offset]
  refine (congrArg _ (eq_ix2 y)).trans ((pay7 a _ _ (y 0) (y 1)).trans ?_)
  unfold after added
  refine congrArg₂ _ (congrArg (fun u => Z ((Rect.unit (s := S1024x3200) ![0, 2560] S1024x256.size inb_S1024x3200_S1024x256_0_2560).emb u)) (eq_ix2 y).symm) (sum_congr rfl fun p _ => congrArg₂ _ (congrArg (fun u => a (ix2 p u)) (Fin.ext ?_)) ?_)
  · show (y 0).val = 0 + 1 * (y 0).val
    omega
  · refine (cat_7 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 2560 + (y 1).val = 2560 + 1 * (y 1).val
    omega

/-- What a point computes for piece 9. -/
theorem pay8 (z : Vec Ideal S1024x256 .f32) (g : Vec Ideal S512x256 .f32) (k : Fin 1024) (l : Fin 256) :
    k0_pay2 (F := Ideal) (k0_pay5 a) z g (ix2 k l) = z (ix2 k l) + ∑ p : Fin 512, a (ix2 p k) * g (ix2 p l) := by
  unfold k0_pay2 k0_pay5
  pointwise

/-- Piece 9 of the array after a point. -/
theorem piece8 (y : S1024x256.Idx) : k0_pay2 (F := Ideal) (k0_pay5 (View.ld a (Rect.unit (s := S512x1024) ![0, 0] S512x1024.size inb_S512x1024_S512x1024_0_0))) (View.ld Z (Rect.unit (s := S1024x3200) ![0, 2816] S1024x256.size inb_S1024x3200_S1024x256_0_2816)) (View.ld x9 (Rect.unit (s := S512x256) ![0, 0] S512x256.size inb_S512x256_S512x256_0_0)) y
    = after Z a x1 x2 x3 x4 x5 x6 x7 x8 x9 x10 ((Rect.unit (s := S1024x3200) ![0, 2816] S1024x256.size inb_S1024x3200_S1024x256_0_2816).emb y) := by
  simp only [View.ld_unit_zero (S := S512x1024) offset, View.ld_unit_zero (S := S512x256) offset]
  refine (congrArg _ (eq_ix2 y)).trans ((pay8 a _ _ (y 0) (y 1)).trans ?_)
  unfold after added
  refine congrArg₂ _ (congrArg (fun u => Z ((Rect.unit (s := S1024x3200) ![0, 2816] S1024x256.size inb_S1024x3200_S1024x256_0_2816).emb u)) (eq_ix2 y).symm) (sum_congr rfl fun p _ => congrArg₂ _ (congrArg (fun u => a (ix2 p u)) (Fin.ext ?_)) ?_)
  · show (y 0).val = 0 + 1 * (y 0).val
    omega
  · refine (cat_8 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 2816 + (y 1).val = 2816 + 1 * (y 1).val
    omega

/-- What a point computes for piece 10. -/
theorem pay9 (z : Vec Ideal S1024x128 .f32) (g : Vec Ideal S512x128 .f32) (k : Fin 1024) (l : Fin 128) :
    k0_pay3 (F := Ideal) (k0_pay5 a) z g (ix2 k l) = z (ix2 k l) + ∑ p : Fin 512, a (ix2 p k) * g (ix2 p l) := by
  unfold k0_pay3 k0_pay5
  pointwise

/-- Piece 10 of the array after a point. -/
theorem piece9 (y : S1024x128.Idx) : k0_pay3 (F := Ideal) (k0_pay5 (View.ld a (Rect.unit (s := S512x1024) ![0, 0] S512x1024.size inb_S512x1024_S512x1024_0_0))) (View.ld Z (Rect.unit (s := S1024x3200) ![0, 3072] S1024x128.size inb_S1024x3200_S1024x128_0_3072)) (View.ld x10 (Rect.unit (s := S512x128) ![0, 0] S512x128.size inb_S512x128_S512x128_0_0)) y
    = after Z a x1 x2 x3 x4 x5 x6 x7 x8 x9 x10 ((Rect.unit (s := S1024x3200) ![0, 3072] S1024x128.size inb_S1024x3200_S1024x128_0_3072).emb y) := by
  simp only [View.ld_unit_zero (S := S512x1024) offset, View.ld_unit_zero (S := S512x128) offset]
  refine (congrArg _ (eq_ix2 y)).trans ((pay9 a _ _ (y 0) (y 1)).trans ?_)
  unfold after added
  refine congrArg₂ _ (congrArg (fun u => Z ((Rect.unit (s := S1024x3200) ![0, 3072] S1024x128.size inb_S1024x3200_S1024x128_0_3072).emb u)) (eq_ix2 y).symm) (sum_congr rfl fun p _ => congrArg₂ _ (congrArg (fun u => a (ix2 p u)) (Fin.ext ?_)) ?_)
  · show (y 0).val = 0 + 1 * (y 0).val
    omega
  · refine (cat_9 (fun l => x1 (ix2 p l)) (fun l => x2 (ix2 p l)) (fun l => x3 (ix2 p l)) (fun l => x4 (ix2 p l)) (fun l => x5 (ix2 p l)) (fun l => x6 (ix2 p l)) (fun l => x7 (ix2 p l)) (fun l => x8 (ix2 p l)) (fun l => x9 (ix2 p l)) (fun l => x10 (ix2 p l)) (y 1)).symm.trans (congrArg _ (Fin.ext ?_))
    show 3072 + (y 1).val = 3072 + 1 * (y 1).val
    omega

/-- The pieces are blocks of the array after a point. -/
theorem blocks : View.PiecesOf (after Z a x1 x2 x3 x4 x5 x6 x7 x8 x9 x10) (pieces Z a x1 x2 x3 x4 x5 x6 x7 x8 x9 x10) :=
  ⟨piece9 Z a x1 x2 x3 x4 x5 x6 x7 x8 x9 x10, piece8 Z a x1 x2 x3 x4 x5 x6 x7 x8 x9 x10, piece7 Z a x1 x2 x3 x4 x5 x6 x7 x8 x9 x10, piece6 Z a x1 x2 x3 x4 x5 x6 x7 x8 x9 x10, piece5 Z a x1 x2 x3 x4 x5 x6 x7 x8 x9 x10, piece4 Z a x1 x2 x3 x4 x5 x6 x7 x8 x9 x10, piece3 Z a x1 x2 x3 x4 x5 x6 x7 x8 x9 x10, piece2 Z a x1 x2 x3 x4 x5 x6 x7 x8 x9 x10, piece1 Z a x1 x2 x3 x4 x5 x6 x7 x8 x9 x10, piece0 Z a x1 x2 x3 x4 x5 x6 x7 x8 x9 x10, trivial⟩

/-- The pieces stored over anything leave the array after a point. -/
theorem stored (L : List (View.Piece (Elt Ideal) S1024x3200 .f32)) : View.canon (pieces Z a x1 x2 x3 x4 x5 x6 x7 x8 x9 x10 ++ L) = after Z a x1 x2 x3 x4 x5 x6 x7 x8 x9 x10 :=
  funext fun y => View.canon_append_of_piecesOf _ L _ (blocks Z a x1 x2 x3 x4 x5 x6 x7 x8 x9 x10) y (cover Z a x1 x2 x3 x4 x5 x6 x7 x8 x9 x10 y)

/-- The array after the first point. -/
theorem first (t : Fin cfg0.N) (h0 : t.val % 16 = 0) : outsAt0 m c t.val t.isLt = after (k0_pay4 (F := Ideal)) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  rw [outsAt0_A m c t h0]
  unfold out0_A_11
  rw [View.read_writes_eq_canon _ _ _ (cover0_A_11 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ _ _ _ _ _ _ _ _ _ _ _ )]
  unfold kernelRun0_A
  dsimp only
  try sl_unfold_words
  simp (disch := decide) only [↓ View.readCov_skip, ↓ View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  exact stored _ _ _ _ _ _ _ _ _ _ _ _ [_]

/-- The array after a later point. -/
theorem later (t : Fin cfg0.N) (h0 : ¬ t.val % 16 = 0) :
    outsAt0 m c t.val t.isLt = after (outsAt0 m c (t.val - 1) (Nat.lt_of_le_of_lt (Nat.sub_le _ _) t.isLt)) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  rw [outsAt0_B m c t h0]
  unfold out0_B_11
  rw [View.read_writes_eq_canon _ _ _ (cover0_B_11 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ _ _ _ _ _ _ _ _ _ _ _ _ )]
  unfold kernelRun0_B
  dsimp only
  try sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  exact stored _ _ _ _ _ _ _ _ _ _ _ _ []

end Cert.Weight14

end
-- ==== Proof.Product14.lean ====
module

public import proofs.«01_k».proof.Defs
public import proofs.«01_k».proof.Proof.Weight14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init

/-!
# The projection's weight gradient
-/

@[expose] public section

set_option maxRecDepth 16384

noncomputable section

namespace Cert.Product14

open Idealize.ShloMosaic Idealize.ShloMosaic.TcCoe Idealize.SL.Sem Cert.Kernel14Ideal Cert.Kernel14Ideal.Gen Cert.Weight14 Cert.Pieces Cert.Stick Finset

variable (m : (ℓ : Loc nD τ sig) → Buf (Elt Ideal) ℓ) (c : Dev nD)

/-- The blocks of the grid's points. -/
theorem index_eq : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

/-- The layer's input. -/
def inp : Fin 8192 → Fin 1024 → EReal := fun t k => m ((c : Thread nD τ).loc main_arg0) (ix2 t k)

/-- Piece 1 of the projection's gradient. -/
def part0 : Fin 8192 → Fin 768 → EReal := fun t l => m ((c : Thread nD τ).loc main_arg1) (ix2 t l)

/-- Piece 2 of the projection's gradient. -/
def part1 : Fin 8192 → Fin 256 → EReal := fun t l => m ((c : Thread nD τ).loc main_arg2) (ix2 t l)

/-- Piece 3 of the projection's gradient. -/
def part2 : Fin 8192 → Fin 256 → EReal := fun t l => m ((c : Thread nD τ).loc main_arg3) (ix2 t l)

/-- Piece 4 of the projection's gradient. -/
def part3 : Fin 8192 → Fin 256 → EReal := fun t l => m ((c : Thread nD τ).loc main_arg4) (ix2 t l)

/-- Piece 5 of the projection's gradient. -/
def part4 : Fin 8192 → Fin 256 → EReal := fun t l => m ((c : Thread nD τ).loc main_arg5) (ix2 t l)

/-- Piece 6 of the projection's gradient. -/
def part5 : Fin 8192 → Fin 512 → EReal := fun t l => m ((c : Thread nD τ).loc main_arg6) (ix2 t l)

/-- Piece 7 of the projection's gradient. -/
def part6 : Fin 8192 → Fin 256 → EReal := fun t l => m ((c : Thread nD τ).loc main_arg7) (ix2 t l)

/-- Piece 8 of the projection's gradient. -/
def part7 : Fin 8192 → Fin 256 → EReal := fun t l => m ((c : Thread nD τ).loc main_arg8) (ix2 t l)

/-- Piece 9 of the projection's gradient. -/
def part8 : Fin 8192 → Fin 256 → EReal := fun t l => m ((c : Thread nD τ).loc main_arg9) (ix2 t l)

/-- Piece 10 of the projection's gradient. -/
def part9 : Fin 8192 → Fin 128 → EReal := fun t l => m ((c : Thread nD τ).loc main_arg10) (ix2 t l)

/-- The projection's gradient. -/
def cot (t : Fin 8192) : Fin 3200 → EReal := cat (part0 m c t) (part1 m c t) (part2 m c t) (part3 m c t) (part4 m c t) (part5 m c t) (part6 m c t) (part7 m c t) (part8 m c t) (part9 m c t)

/-- A block's row in the whole array. -/
def row (t : Fin cfg0.N) (p : Fin 512) : Fin 8192 := ⟨512 * t.val + p.val, by have ht : t.val < 16 := t.isLt; omega⟩

/-- A point's rows of the input. -/
theorem block0 (t : Fin cfg0.N) (p : Fin 512) (k : Fin 1024) : iblk m c 0 t (ix2 p k) = inp m c (row t p) k := by
  have ht : t.val < 16 := t.isLt
  refine Eq.trans ?_ (congrFun (V_main_arg0 m c) _)
  unfold row
  blk_ext [iblk, index_eq t]

/-- A point's rows of piece 1. -/
theorem block1 (t : Fin cfg0.N) (p : Fin 512) (k : Fin 768) : iblk m c 1 t (ix2 p k) = part0 m c (row t p) k := by
  have ht : t.val < 16 := t.isLt
  refine Eq.trans ?_ (congrFun (V_main_arg1 m c) _)
  unfold row
  blk_ext [iblk, index_eq t]

/-- A point's rows of piece 2. -/
theorem block2 (t : Fin cfg0.N) (p : Fin 512) (k : Fin 256) : iblk m c 2 t (ix2 p k) = part1 m c (row t p) k := by
  have ht : t.val < 16 := t.isLt
  refine Eq.trans ?_ (congrFun (V_main_arg2 m c) _)
  unfold row
  blk_ext [iblk, index_eq t]

/-- A point's rows of piece 3. -/
theorem block3 (t : Fin cfg0.N) (p : Fin 512) (k : Fin 256) : iblk m c 3 t (ix2 p k) = part2 m c (row t p) k := by
  have ht : t.val < 16 := t.isLt
  refine Eq.trans ?_ (congrFun (V_main_arg3 m c) _)
  unfold row
  blk_ext [iblk, index_eq t]

/-- A point's rows of piece 4. -/
theorem block4 (t : Fin cfg0.N) (p : Fin 512) (k : Fin 256) : iblk m c 4 t (ix2 p k) = part3 m c (row t p) k := by
  have ht : t.val < 16 := t.isLt
  refine Eq.trans ?_ (congrFun (V_main_arg4 m c) _)
  unfold row
  blk_ext [iblk, index_eq t]

/-- A point's rows of piece 5. -/
theorem block5 (t : Fin cfg0.N) (p : Fin 512) (k : Fin 256) : iblk m c 5 t (ix2 p k) = part4 m c (row t p) k := by
  have ht : t.val < 16 := t.isLt
  refine Eq.trans ?_ (congrFun (V_main_arg5 m c) _)
  unfold row
  blk_ext [iblk, index_eq t]

/-- A point's rows of piece 6. -/
theorem block6 (t : Fin cfg0.N) (p : Fin 512) (k : Fin 512) : iblk m c 6 t (ix2 p k) = part5 m c (row t p) k := by
  have ht : t.val < 16 := t.isLt
  refine Eq.trans ?_ (congrFun (V_main_arg6 m c) _)
  unfold row
  blk_ext [iblk, index_eq t]

/-- A point's rows of piece 7. -/
theorem block7 (t : Fin cfg0.N) (p : Fin 512) (k : Fin 256) : iblk m c 7 t (ix2 p k) = part6 m c (row t p) k := by
  have ht : t.val < 16 := t.isLt
  refine Eq.trans ?_ (congrFun (V_main_arg7 m c) _)
  unfold row
  blk_ext [iblk, index_eq t]

/-- A point's rows of piece 8. -/
theorem block8 (t : Fin cfg0.N) (p : Fin 512) (k : Fin 256) : iblk m c 8 t (ix2 p k) = part7 m c (row t p) k := by
  have ht : t.val < 16 := t.isLt
  refine Eq.trans ?_ (congrFun (V_main_arg8 m c) _)
  unfold row
  blk_ext [iblk, index_eq t]

/-- A point's rows of piece 9. -/
theorem block9 (t : Fin cfg0.N) (p : Fin 512) (k : Fin 256) : iblk m c 9 t (ix2 p k) = part8 m c (row t p) k := by
  have ht : t.val < 16 := t.isLt
  refine Eq.trans ?_ (congrFun (V_main_arg9 m c) _)
  unfold row
  blk_ext [iblk, index_eq t]

/-- A point's rows of piece 10. -/
theorem block10 (t : Fin cfg0.N) (p : Fin 512) (k : Fin 128) : iblk m c 10 t (ix2 p k) = part9 m c (row t p) k := by
  have ht : t.val < 16 := t.isLt
  refine Eq.trans ?_ (congrFun (V_main_arg10 m c) _)
  unfold row
  blk_ext [iblk, index_eq t]

/-- A row of a point's pieces. -/
theorem blocks (t : Fin cfg0.N) (p : Fin 512) : cat (fun l => iblk m c 1 t (ix2 p l)) (fun l => iblk m c 2 t (ix2 p l)) (fun l => iblk m c 3 t (ix2 p l)) (fun l => iblk m c 4 t (ix2 p l)) (fun l => iblk m c 5 t (ix2 p l)) (fun l => iblk m c 6 t (ix2 p l)) (fun l => iblk m c 7 t (ix2 p l)) (fun l => iblk m c 8 t (ix2 p l)) (fun l => iblk m c 9 t (ix2 p l)) (fun l => iblk m c 10 t (ix2 p l)) = cot m c (row t p) := by
  unfold cot
  rw [show (fun l : Fin 768 => iblk m c 1 t (ix2 p l)) = part0 m c (row t p) from funext fun l => block1 m c t p l, show (fun l : Fin 256 => iblk m c 2 t (ix2 p l)) = part1 m c (row t p) from funext fun l => block2 m c t p l, show (fun l : Fin 256 => iblk m c 3 t (ix2 p l)) = part2 m c (row t p) from funext fun l => block3 m c t p l, show (fun l : Fin 256 => iblk m c 4 t (ix2 p l)) = part3 m c (row t p) from funext fun l => block4 m c t p l, show (fun l : Fin 256 => iblk m c 5 t (ix2 p l)) = part4 m c (row t p) from funext fun l => block5 m c t p l, show (fun l : Fin 512 => iblk m c 6 t (ix2 p l)) = part5 m c (row t p) from funext fun l => block6 m c t p l, show (fun l : Fin 256 => iblk m c 7 t (ix2 p l)) = part6 m c (row t p) from funext fun l => block7 m c t p l, show (fun l : Fin 256 => iblk m c 8 t (ix2 p l)) = part7 m c (row t p) from funext fun l => block8 m c t p l, show (fun l : Fin 256 => iblk m c 9 t (ix2 p l)) = part8 m c (row t p) from funext fun l => block9 m c t p l, show (fun l : Fin 128 => iblk m c 10 t (ix2 p l)) = part9 m c (row t p) from funext fun l => block10 m c t p l]

/-- The sum over a point's rows. -/
def term (k : Fin 1024) (l : Fin 3200) (n : ℕ) : EReal :=
  ∑ p ∈ range 512, cell (inp m c) (512 * n + p) k.val * cell (cot m c) (512 * n + p) l.val

/-- A point adds the sum over its rows. -/
theorem step (Z : Vec Ideal S1024x3200 .f32) (t : Fin cfg0.N) (k : Fin 1024) (l : Fin 3200) :
    after Z (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 k l) = Z (ix2 k l) + term m c k l t.val := by
  have ht : t.val < 16 := t.isLt
  show Z (ix2 k l) + added (iblk m c 0 t) (iblk m c 1 t) (iblk m c 2 t) (iblk m c 3 t) (iblk m c 4 t) (iblk m c 5 t) (iblk m c 6 t) (iblk m c 7 t) (iblk m c 8 t) (iblk m c 9 t) (iblk m c 10 t) k l = _
  refine congrArg _ ?_
  unfold added term
  rw [sum_range]
  refine sum_congr rfl fun p _ => congrArg₂ _ ?_ ?_
  · exact (block0 m c t p k).trans (cell_of _ (by omega) k.isLt).symm
  · exact (congrFun (blocks m c t p) l).trans (cell_of _ (by omega) l.isLt).symm

/-- The first point starts from zero. -/
theorem zero (k : Fin 1024) (l : Fin 3200) : k0_pay4 (F := Ideal) (ix2 k l) = 0 := by
  unfold k0_pay4
  pointwise

/-- The array after point `n`. -/
theorem sums (k : Fin 1024) (l : Fin 3200) : ∀ (n : ℕ) (h : n < cfg0.N), outsAt0 m c n h (ix2 k l) = ∑ j ∈ range (n + 1), term m c k l j := by
  intro n
  induction n with
  | zero =>
    intro h
    rw [sum_range_one, show outsAt0 m c 0 h = _ from first m c ⟨0, h⟩ rfl]
    exact (step m c _ ⟨0, h⟩ k l).trans (by rw [zero, zero_add])
  | succ n ih =>
    intro h
    have hn : n + 1 < 16 := h
    rw [sum_range_succ, show outsAt0 m c (n + 1) h = _ from later m c ⟨n + 1, h⟩ (by show ¬ (n + 1) % 16 = 0; omega)]
    exact (step m c _ ⟨n + 1, h⟩ k l).trans (congrArg (· + _) (ih (Nat.lt_of_succ_lt h)))

/-- The result at a row and a column. -/
def value (k : Fin 1024) (l : Fin 3200) : EReal := ∑ t : Fin 8192, inp m c t k * cot m c t l

/-- The last point leaves the result. -/
theorem last (t : Fin cfg0.N) (h : t.val = 15) (k : Fin 1024) (l : Fin 3200) : outsAt0 m c t.val t.isLt (ix2 k l) = value m c k l := by
  rw [sums, h]
  unfold term value
  rw [sum_tiles (fun s => cell (inp m c) s k.val * cell (cot m c) s l.val) 512 16, sum_range]
  exact sum_congr rfl fun t _ => congrArg₂ _ (cell_mk _ t k) (cell_mk _ t l)

/-- The result at an array's index. -/
def result : Buf (Elt Ideal) ((c : Thread nD τ).loc main_v0) := fun i => value m c (i 0) (i 1)

/-- The array of the result. -/
theorem array : (dats m 0 c).arrAt 11 cfg0.N = result m c := by
  refine (dats m 0 c).arrAt_eq_of_covers 11 _ (by decide +kernel) fun t hf y => ?_
  have ht : t.val < 16 := t.isLt
  have hf := (flush0_11 t).1 hf
  have h := last m c t (by omega) (y 0) (y 1)
  have e0 : (win0_11.blk t).view.emb y 0 = y 0 := Fin.ext (by blk_simp [index_eq t]; try omega)
  have e1 : (win0_11.blk t).view.emb y 1 = y 1 := Fin.ext (by blk_simp [index_eq t]; try omega)
  blk_simp
  rw [after0_11]
  refine (congrArg _ (eq_ix2 y)).trans (h.trans ?_)
  unfold result
  rw [e0, e1]

open Cert.Reference14Ideal.Read in
/-- The reference's result. -/
theorem ref (x0 : FVec Ideal Cert.Reference14Ideal.S8192x1024 .f32) (x1 : FVec Ideal Cert.Reference14Ideal.S8192x768 .f32) (x2 : FVec Ideal Cert.Reference14Ideal.S8192x256 .f32) (x3 : FVec Ideal Cert.Reference14Ideal.S8192x256 .f32) (x4 : FVec Ideal Cert.Reference14Ideal.S8192x256 .f32) (x5 : FVec Ideal Cert.Reference14Ideal.S8192x256 .f32) (x6 : FVec Ideal Cert.Reference14Ideal.S8192x512 .f32) (x7 : FVec Ideal Cert.Reference14Ideal.S8192x256 .f32) (x8 : FVec Ideal Cert.Reference14Ideal.S8192x256 .f32) (x9 : FVec Ideal Cert.Reference14Ideal.S8192x256 .f32) (x10 : FVec Ideal Cert.Reference14Ideal.S8192x128 .f32) (k : Fin 1024) (l : Fin 3200) :
    val_main_v4 (F := Ideal) x0 x1 x2 x3 x4 x5 x6 x7 x8 x9 x10 (ix2 k l)
      = ∑ t : Fin 8192, x0 (ix2 t k) * cat (fun l => x1 (ix2 t l)) (fun l => x2 (ix2 t l)) (fun l => x3 (ix2 t l)) (fun l => x4 (ix2 t l)) (fun l => x5 (ix2 t l)) (fun l => x6 (ix2 t l)) (fun l => x7 (ix2 t l)) (fun l => x8 (ix2 t l)) (fun l => x9 (ix2 t l)) (fun l => x10 (ix2 t l)) l := by
  unfold val_main_v4 val_main_v3 val_main_v0 cat
  pointwise
  exact sum_congr rfl fun t _ => mul_comm _ _

/-- The kernel's result is the reference's. -/
theorem equal : Cert.algebraic_Kernel14Ideal_Reference14Ideal (hKernel14Ideal := Cert.Kernel14Ideal.Gen.facts)
    (hReference14Ideal := Cert.Reference14Ideal.Gen.facts) := by
  intro m g m' g' _ hargs
  refine ⟨fun c => result m c,
    (θ_run _ _ _).mono (fun r h c => ⟨(h c).1.trans (array m c), (h c).2⟩) (Cert.Kernel14Ideal.Value.run_blocks m g),
    (θ_run _ _ _).mono (fun r h c => ⟨(h c).1.trans ?_, (h c).2⟩) (Cert.Reference14Ideal.Value.run (F := Ideal) m' g')⟩
  refine (Cert.Reference14Ideal.Read.val_main_v4_eq _ _ _ _ _ _ _ _ _ _ _ ).trans ?_
  obtain ⟨h0, h1, h2, h3, h4, h5, h6, h7, h8, h9, h10⟩ := hargs c
  rw [h0, h1, h2, h3, h4, h5, h6, h7, h8, h9, h10]
  refine funext fun (i : Cert.Reference14Ideal.S1024x3200.Idx) => ?_
  rw [show i = ix2 (i 0 : Fin 1024) (i 1 : Fin 3200) from eq_ix2 i]
  exact ref _ _ _ _ _ _ _ _ _ _ _ _ _

end Cert.Product14

end
-- ==== Proof.Product15.lean ====
module

public import proofs.«01_k».proof.Defs
public import proofs.«01_k».proof.Proof.Sums
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Adequacy
public import Idealize.ShloMosaic.Init

/-!
# The memory's keys and values
-/

@[expose] public section

set_option maxRecDepth 16384

noncomputable section

namespace Cert.Product15

open Idealize.ShloMosaic Idealize.ShloMosaic.TcCoe Idealize.SL.Sem Cert.Kernel15Ideal Cert.Kernel15Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's points. -/
theorem index_eq : ∀ t : Fin cfg0.N, win0_0.index t = ![0, 0] ∧ win0_1.index t = ![0, t.val] ∧ win0_2.index t = ![0, t.val] :=
  (by decide +kernel : ∀ t : Fin grid0.N, _)

/-- A block's column in the whole array. -/
def col (t : Fin cfg0.N) (l : Fin 512) : Fin 2048 := ⟨512 * t.val + l.val, by have ht : t.val < 4 := t.isLt; omega⟩

/-- The memory. -/
def inp : Fin 256 → Fin 1024 → EReal := fun t k => m ((c : Thread nD τ).loc main_arg0) (ix2 t k)

/-- The weight. -/
def weight : Fin 1024 → Fin 2048 → EReal := fun k l => m ((c : Thread nD τ).loc main_arg1) (ix2 k l)

/-- The result at a row and a column. -/
def value (t : Fin 256) (l : Fin 2048) : EReal := ∑ k : Fin 1024, inp m c t k * weight m c k l

/-- What the call finds of the weight. -/
theorem found1 (k : Fin 1024) (l : Fin 2048) : V m c main_v0 (ix2 k l) = weight m c k l := by
  simp only [V, hostOps0, List.flatten_cons, List.flatten_nil, List.append_nil, List.cons_append, List.nil_append]
  entry_read
  unfold weight
  pointwise

/-- A point's rows. -/
theorem block0 (t : Fin cfg0.N) (r : Fin 256) (k : Fin 1024) : iblk m c 0 t (ix2 r k) = inp m c r k := by
  refine Eq.trans ?_ (congrFun (V_main_arg0 m c) _)
  blk_ext [iblk, index_eq t]

/-- A point's columns of the weight. -/
theorem block1 (t : Fin cfg0.N) (k : Fin 1024) (l : Fin 512) : iblk m c 1 t (ix2 k l) = weight m c k (col t l) := by
  have ht : t.val < 4 := t.isLt
  refine Eq.trans ?_ (found1 m c _ _)
  unfold col
  blk_ext [iblk, index_eq t]

/-- What a point computes. -/
theorem pay1 (x : Vec Ideal S256x1024 .f32) (w : Vec Ideal S1024x512 .bf16) (r : Fin 256) (l : Fin 512) : k0_pay1 (F := Ideal) x w (ix2 r l) = ∑ k : Fin 1024, x (ix2 r k) * w (ix2 k l) := by
  unfold k0_pay1
  pointwise

/-- The result at an array's index. -/
def result2 : Buf (Elt Ideal) ((c : Thread nD τ).loc main_v1) := fun i => value m c (i 0) (i 1)

/-- A point's block of the result. -/
theorem point2 (t : Fin cfg0.N) (r : Fin 256) (l : Fin 512) : out0_2 (iblk m c 0 t) (iblk m c 1 t) (ix2 r l) = value m c r (col t l) := by
  unfold out0_2
  rw [View.canon_unit_zero offset]
  simp only [View.ld_unit_zero (S := S256x1024) offset, View.ld_unit_zero (S := S1024x512) offset]
  exact (pay1 _ _ r l).trans (sum_congr rfl fun k _ => congrArg₂ _ (block0 m c t r k) (block1 m c t k l))

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = y 0 := Fin.ext (by blk_simp [index_eq t]; try omega)
  have e1 : (win0_2.blk t).view.emb y 1 = col t (y 1) := Fin.ext (by show _ = 512 * t.val + (y 1).val; blk_simp [index_eq t]; try omega)
  blk_simp
  rw [after0_2]
  refine (congrArg _ (eq_ix2 y)).trans (h.trans ?_)
  unfold result2
  rw [e0, e1]

open Cert.Reference15Ideal.Read in
/-- The reference's result. -/
theorem ref2 (x0 : FVec Ideal Cert.Reference15Ideal.S256x1024 .f32) (x1 : FVec Ideal Cert.Reference15Ideal.S1024x2048 .f32) (t : Fin 256) (l : Fin 2048) :
    val_main_v0 (F := Ideal) x0 x1 (ix2 t l) = ∑ k : Fin 1024, x0 (ix2 t k) * x1 (ix2 k l) := by
  unfold val_main_v0
  pointwise

/-- The kernel's result is the reference's. -/
theorem equal : Cert.algebraic_Kernel15Ideal_Reference15Ideal (hKernel15Ideal := Cert.Kernel15Ideal.Gen.facts)
    (hReference15Ideal := Cert.Reference15Ideal.Gen.facts) := by
  intro m g m' g' _ hargs
  refine ⟨fun c => result2 m c,
    (θ_run _ _ _).mono (fun r h c => ⟨(h c).1.trans (array2 m c), (h c).2⟩) (Cert.Kernel15Ideal.Value.run_blocks m g),
    (θ_run _ _ _).mono (fun r h c => ⟨(h c).1.trans ?_, (h c).2⟩) (Cert.Reference15Ideal.Value.run (F := Ideal) m' g')⟩
  refine (Cert.Reference15Ideal.Read.val_main_v0_eq _ _).trans ?_
  rw [(hargs c).1, (hargs c).2]
  refine funext fun (i : Cert.Reference15Ideal.S256x2048.Idx) => ?_
  rw [show i = ix2 (i 0 : Fin 256) (i 1 : Fin 2048) from eq_ix2 i]
  exact ref2 _ _ _ _

end Cert.Product15

end
-- ==== Proof.Product16.lean ====
module

public import proofs.«01_k».proof.Defs
public import proofs.«01_k».proof.Proof.Sums
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ReadBack
public import Idealize.ShloMosaic.Adequacy
public import Idealize.ShloMosaic.Init

/-!
# The gradient of the weight of the memory's keys and values
-/

@[expose] public section

set_option maxRecDepth 16384

noncomputable section

namespace Cert.Product16

open Idealize.ShloMosaic Idealize.ShloMosaic.TcCoe Idealize.SL.Sem Cert.Kernel16Ideal Cert.Kernel16Ideal.Gen Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The blocks of the grid's point. -/
theorem index_eq : ∀ t : Fin cfg0.N, win0_0.index t = ![0, 0] ∧ win0_1.index t = ![0, 0] ∧ win0_2.index t = ![0, 0] :=
  (by decide +kernel : ∀ t : Fin grid0.N, _)

/-- The memory. -/
def inp : Fin 256 → Fin 1024 → EReal := fun t k => m ((c : Thread nD τ).loc main_arg0) (ix2 t k)

/-- The gradient of the keys and values. -/
def cot : Fin 256 → Fin 2048 → EReal := fun t l => m ((c : Thread nD τ).loc main_arg1) (ix2 t l)

/-- The result at a row and a column. -/
def value (k : Fin 1024) (l : Fin 2048) : EReal := ∑ t : Fin 256, inp m c t k * cot m c t l

/-- The point's block of the memory. -/
theorem block0 (t : Fin cfg0.N) (r : Fin 256) (k : Fin 1024) : iblk m c 0 t (ix2 r k) = inp m c r k := by
  refine Eq.trans ?_ (congrFun (V_main_arg0 m c) _)
  blk_ext [iblk, index_eq t]

/-- The point's block of the gradient. -/
theorem block1 (t : Fin cfg0.N) (r : Fin 256) (l : Fin 2048) : iblk m c 1 t (ix2 r l) = cot m c r l := by
  refine Eq.trans ?_ (congrFun (V_main_arg1 m c) _)
  blk_ext [iblk, index_eq t]

/-- What the point stores first. -/
theorem pay1 (k : Fin 1024) (l : Fin 2048) : k0_pay1 (F := Ideal) (ix2 k l) = 0 := by
  unfold k0_pay1
  pointwise

/-- What the point adds. -/
theorem pay2 (x : Vec Ideal S1024x2048 .f32) (a : Vec Ideal S256x1024 .f32) (g : Vec Ideal S256x2048 .f32) (k : Fin 1024) (l : Fin 2048) :
    k0_pay2 (F := Ideal) x a g (ix2 k l) = x (ix2 k l) + ∑ p : Fin 256, a (ix2 p k) * g (ix2 p l) := by
  unfold k0_pay2
  pointwise

/-- The array after the point. -/
theorem point2 (t : Fin cfg0.N) (k : Fin 1024) (l : Fin 2048) : outsAt0 m c t (ix2 k l) = value m c k l := by
  unfold outsAt0 out0_A_2
  rw [View.read_writes_eq_canon _ _ _ (cover0_A_2 c _ _ (hs0_0 t) _ (hs0_1 t) _ (hs0_2 t) _ _ _)]
  unfold kernelRun0_A
  dsimp only
  try sl_unfold_words
  rw [View.canon_cons_unit_zero offset]
  simp (disch := decide) only [↓ View.readCov_skip, ↓ View.readCov_fill, View.readAt_eq_ld, (hs0_0 t).read_unread, (hs0_1 t).read_unread, (hs0_2 t).read_unread]
  simp only [View.ld_unit_zero (S := S256x1024) offset, View.ld_unit_zero (S := S256x2048) offset, View.ld_unit_zero (S := S1024x2048) offset]
  refine (pay2 _ _ _ k l).trans ?_
  rw [pay1, zero_add]
  exact sum_congr rfl fun p _ => congrArg₂ _ (block0 m c t p k) (block1 m c t p l)

/-- The result at an array's index. -/
def result2 : Buf (Elt Ideal) ((c : Thread nD τ).loc main_v0) := fun i => value m c (i 0) (i 1)

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = y 0 := Fin.ext (by blk_simp [index_eq t]; try omega)
  have e1 : (win0_2.blk t).view.emb y 1 = y 1 := Fin.ext (by blk_simp [index_eq t]; try omega)
  blk_simp
  rw [after0_2]
  refine (congrArg _ (eq_ix2 y)).trans (h.trans ?_)
  unfold result2
  rw [e0, e1]

open Cert.Reference16Ideal.Read in
/-- The reference's result. -/
theorem ref2 (x0 : FVec Ideal Cert.Reference16Ideal.S256x1024 .f32) (x1 : FVec Ideal Cert.Reference16Ideal.S256x2048 .f32) (k : Fin 1024) (l : Fin 2048) :
    val_main_v3 (F := Ideal) x0 x1 (ix2 k l) = ∑ t : Fin 256, x0 (ix2 t k) * x1 (ix2 t l) := by
  unfold val_main_v3 val_main_v2
  pointwise
  exact sum_congr rfl fun t _ => mul_comm _ _

/-- The kernel's result is the reference's. -/
theorem equal : Cert.algebraic_Kernel16Ideal_Reference16Ideal (hKernel16Ideal := Cert.Kernel16Ideal.Gen.facts)
    (hReference16Ideal := Cert.Reference16Ideal.Gen.facts) := by
  intro m g m' g' _ hargs
  refine ⟨fun c => result2 m c,
    (θ_run _ _ _).mono (fun r h c => ⟨(h c).1.trans (array2 m c), (h c).2⟩) (Cert.Kernel16Ideal.Value.run_blocks m g),
    (θ_run _ _ _).mono (fun r h c => ⟨(h c).1.trans ?_, (h c).2⟩) (Cert.Reference16Ideal.Value.run (F := Ideal) m' g')⟩
  refine (Cert.Reference16Ideal.Read.val_main_v3_eq _ _).trans ?_
  rw [(hargs c).1, (hargs c).2]
  refine funext fun (i : Cert.Reference16Ideal.S1024x2048.Idx) => ?_
  rw [show i = ix2 (i 0 : Fin 1024) (i 1 : Fin 2048) from eq_ix2 i]
  exact ref2 _ _ _ _

end Cert.Product16

end
-- ==== Proof.Soft.lean ====
module

public import proofs.«01_k».proof.Proof.Sums
public import Idealize.ShloMosaic.Lib.ValueIdx

/-!
# Attention over a memory of 256 rows
-/

@[expose] public section

set_option maxRecDepth 16384

noncomputable section

namespace Cert.Soft

open Idealize.ShloMosaic Finset

/-- A query's scores over the memory's rows. -/
def score (q : Fin 256 → EReal) (k : Fin 256 → Fin 256 → EReal) (j : Fin 256) : EReal :=
  (∑ d : Fin 256, q d * k j d) * Ideal.ofBits .f32 0x3D800000#32

/-- The largest score. -/
def peak (q : Fin 256 → EReal) (k : Fin 256 → Fin 256 → EReal) : EReal :=
  univ.fold max (Ideal.ofBits .f32 0xFF800000#32) (score q k)

/-- A score's weight before the division. -/
def raw (q : Fin 256 → EReal) (k : Fin 256 → Fin 256 → EReal) (j : Fin 256) : EReal := Ideal.exp (score q k j - peak q k)

/-- A score's weight. -/
def weight (q : Fin 256 → EReal) (k : Fin 256 → Fin 256 → EReal) (j : Fin 256) : EReal :=
  Ideal.div (raw q k j) (∑ i : Fin 256, raw q k i)

/-- The attention's result in one column. -/
def attend (q : Fin 256 → EReal) (k : Fin 256 → Fin 256 → EReal) (v : Fin 256 → EReal) : EReal :=
  ∑ j : Fin 256, weight q k j * v j

/-- A maximum with the value a maximum starts from. -/
theorem max_fold (b : EReal) (s : Fin 256 → EReal) : max b (univ.fold max b s) = univ.fold max b s :=
  max_eq_right ((Finset.le_fold_max b).2 (Or.inl le_rfl))

/-- A maximum of two arrays at an index. -/
theorem max_at {s : Shape} (a b : FVec Ideal s .f32) (i : s.Idx) : maximumf a b i = max (a i) (b i) := rfl

/-- Column `d` of head `h`. -/
def at' (h : Fin 4) (d : Fin 256) : Fin 1024 := ⟨h.val * 256 + d.val, by omega⟩

/-- The head of a column. -/
def head (l : Fin 1024) : Fin 4 := ⟨l.val / 256, by omega⟩

/-- The column of a column's head. -/
def inner (l : Fin 1024) : Fin 256 := ⟨l.val % 256, by omega⟩

/-- A key's column of a head. -/
def key (kv : Fin 256 → Fin 2048 → EReal) (h : Fin 4) (j d : Fin 256) : EReal := kv j ⟨h.val * 256 + d.val, by omega⟩

/-- A value's column. -/
def val (kv : Fin 256 → Fin 2048 → EReal) (l : Fin 1024) (j : Fin 256) : EReal := kv j ⟨1024 + l.val, by omega⟩

/-- The attention's result at a row and a column, of the queries and of the keys and values. -/
def value {R : ℕ} (q : Fin R → Fin 1024 → EReal) (kv : Fin 256 → Fin 2048 → EReal) (t : Fin R) (l : Fin 1024) : EReal :=
  attend (fun d => q t (at' (head l) d)) (key kv (head l)) (val kv l)

end Cert.Soft

end
-- ==== Proof.Memory17.lean ====
module

public import proofs.«01_k».proof.Proof.Soft
public import proofs.«01_k».proof.Proof.Gen.Kernel17Ideal
public import proofs.«01_k».proof.Proof.Gen.Kernel17Ideal.Value
public import Idealize.ShloMosaic.Lib.Pipeline.ReadBack

/-!
# The attention over the memory
-/

@[expose] public section

set_option maxRecDepth 16384

noncomputable section

namespace Cert.Memory17

open Idealize.ShloMosaic Idealize.ShloMosaic.TcCoe Idealize.SL.Sem Cert.Kernel17Ideal Cert.Kernel17Ideal.Gen Finset Cert.Soft

/-- The offsets of a whole block. -/
theorem offset : (![0, 0] : Fin 2 → ℕ) = fun _ => 0 := funext fun a => by fin_cases a <;> rfl

/-- What a point computes for head 1. -/
theorem pay0 (kk vv : Vec Ideal S256x256 .f32) (q : Vec Ideal S512x256 .bf16) (r : Fin 512) (l : Fin 256) :
    k0_pay2 (F := Ideal) kk vv q (ix2 r l) = attend (fun d => q (ix2 r d)) (fun j d => kk (ix2 j d)) (fun j => vv (ix2 j l)) := by
  unfold k0_pay2 attend weight raw peak score
  pointwise

/-- What a point computes for head 2. -/
theorem pay1 (kk vv : Vec Ideal S256x256 .f32) (q : Vec Ideal S512x256 .bf16) (r : Fin 512) (l : Fin 256) :
    k0_pay6 (F := Ideal) (k0_pay3 vv) (k0_pay4 kk q) (k0_pay5 kk q) (ix2 r l) = attend (fun d => q (ix2 r d)) (fun j d => kk (ix2 j d)) (fun j => vv (ix2 j l)) := by
  unfold k0_pay6 k0_pay5 k0_pay4 k0_pay3 attend weight raw peak score
  pointwise

/-- What a point computes for head 3. -/
theorem pay2 (kk vv : Vec Ideal S256x256 .f32) (q : Vec Ideal S512x256 .bf16) (r : Fin 512) (l : Fin 256) :
    k0_pay7 (F := Ideal) kk vv q (ix2 r l) = attend (fun d => q (ix2 r d)) (fun j d => kk (ix2 j d)) (fun j => vv (ix2 j l)) := by
  unfold k0_pay7 attend weight raw peak score
  pointwise

/-- What a point computes for head 4. -/
theorem pay3 (kk vv : Vec Ideal S256x256 .f32) (q : Vec Ideal S512x256 .bf16) (r : Fin 512) (l : Fin 256) :
    k0_pay1 (F := Ideal) (k0_pay8 vv) (k0_pay9 kk q) (Scalar.ofBits .f32 0x3D800000#32) (ix2 r l) = attend (fun d => q (ix2 r d)) (fun j d => kk (ix2 j d)) (fun j => vv (ix2 j l)) := by
  unfold k0_pay1 k0_pay8 k0_pay9 attend weight raw peak score
  pointwise

variable (m : (ℓ : Loc nD τ sig) → Buf (Elt Ideal) ℓ) (c : Dev nD)

/-- The queries. -/
def inp : Fin 8192 → Fin 1024 → EReal := fun t k => m ((c : Thread nD τ).loc main_arg0) (ix2 t k)

/-- The keys and values. -/
def mem : Fin 256 → Fin 2048 → EReal := fun j l => m ((c : Thread nD τ).loc main_arg1) (ix2 j l)

/-- The blocks of the grid's points. -/
theorem index_eq : ∀ t : Fin cfg0.N, win0_0.index t = ![t.val, 0] ∧ win0_1.index t = ![0, 0] ∧ win0_2.index t = ![t.val, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- A point's rows of the queries. -/
theorem block0 (t : Fin cfg0.N) (r : Fin 512) (k : Fin 1024) : iblk m c 0 t (ix2 r k) = inp m c (row t r) k := by
  have ht : t.val < 16 := t.isLt
  refine Eq.trans ?_ (congrFun (V_main_arg0 m c) _)
  unfold row
  blk_ext [iblk, index_eq t]

/-- A point's keys and values. -/
theorem block1 (t : Fin cfg0.N) (j : Fin 256) (l : Fin 2048) : iblk m c 1 t (ix2 j l) = mem m c j l := by
  refine Eq.trans ?_ (congrFun (V_main_arg1 m c) _)
  blk_ext [iblk, index_eq t]

/-- A block's attention. -/
def block (x0 : Vec Ideal S512x1024 .bf16) (x1 : Vec Ideal S256x2048 .f32) : Vec Ideal S512x1024 .bf16 :=
  fun y => value (R := 512) (fun r k => x0 (ix2 r k)) (fun j l => x1 (ix2 j l)) (y 0) (y 1)

/-- Head 1 of a block's attention. -/
theorem piece0' (x0 : Vec Ideal S512x1024 .bf16) (x1 : Vec Ideal S256x2048 .f32) (r : Fin 512) (l : Fin 256) :
    k0_pay2 (F := Ideal) (View.ld x1 r0_0) (View.ld x1 r0_1) (View.ld x0 r0_2) (ix2 r l)
      = value (R := 512) (fun r k => x0 (ix2 r k)) (fun j l => x1 (ix2 j l)) r (at' 0 l) := by
  refine (pay0 _ _ _ r l).trans ?_
  have eh : head (at' 0 l) = 0 := Fin.ext (by show (0 * 256 + l.val) / 256 = 0; omega)
  have hq : (fun d : Fin 256 => View.ld x0 r0_2 (ix2 r d)) = fun d => x0 (ix2 r (at' 0 d)) := funext fun d =>
    congrArg x0 ((eq_ix2 _).trans (congrArg₂ ix2 (Fin.ext (by show 0 + 1 * r.val = r.val; omega)) (Fin.ext (by show 0 + 1 * d.val = 0 * 256 + d.val; omega))))
  have hk : (fun j d : Fin 256 => View.ld x1 r0_0 (ix2 j d)) = key (fun j l => x1 (ix2 j l)) 0 := funext fun j => funext fun d =>
    congrArg x1 ((eq_ix2 _).trans (congrArg₂ ix2 (Fin.ext (by show 0 + 1 * j.val = j.val; omega)) (Fin.ext (by show 0 + 1 * d.val = 0 * 256 + d.val; omega))))
  have hv : (fun j : Fin 256 => View.ld x1 r0_1 (ix2 j l)) = val (fun j l => x1 (ix2 j l)) (at' 0 l) := funext fun j =>
    congrArg x1 ((eq_ix2 _).trans (congrArg₂ ix2 (Fin.ext (by show 0 + 1 * j.val = j.val; omega)) (Fin.ext (by show 1024 + 1 * l.val = 1024 + (0 * 256 + l.val); omega))))
  unfold value
  rw [eh, hq, hk, hv]

/-- Head 1 of a block's attention at an index. -/
theorem piece0 (x0 : Vec Ideal S512x1024 .bf16) (x1 : Vec Ideal S256x2048 .f32) (y : S512x256.Idx) :
    k0_pay2 (F := Ideal) (View.ld x1 r0_0) (View.ld x1 r0_1) (View.ld x0 r0_2) y
      = block x0 x1 (r0_2.emb y) := by
  refine (congrArg _ (eq_ix2 y)).trans ((piece0' x0 x1 (y 0) (y 1)).trans ?_)
  have e0 : r0_2.emb y 0 = y 0 := Fin.ext (by show 0 + 1 * (y 0).val = _; omega)
  have e1 : r0_2.emb y 1 = at' 0 (y 1) := Fin.ext (by show 0 + 1 * (y 1).val = 0 * 256 + (y 1).val; omega)
  unfold block
  rw [e0, e1]

/-- Head 2 of a block's attention. -/
theorem piece1' (x0 : Vec Ideal S512x1024 .bf16) (x1 : Vec Ideal S256x2048 .f32) (r : Fin 512) (l : Fin 256) :
    k0_pay6 (F := Ideal) (k0_pay3 (View.ld x1 r0_4)) (k0_pay4 (View.ld x1 r0_3) (View.ld x0 r0_5)) (k0_pay5 (View.ld x1 r0_3) (View.ld x0 r0_5)) (ix2 r l)
      = value (R := 512) (fun r k => x0 (ix2 r k)) (fun j l => x1 (ix2 j l)) r (at' 1 l) := by
  refine (pay1 _ _ _ r l).trans ?_
  have eh : head (at' 1 l) = 1 := Fin.ext (by show (1 * 256 + l.val) / 256 = 1; omega)
  have hq : (fun d : Fin 256 => View.ld x0 r0_5 (ix2 r d)) = fun d => x0 (ix2 r (at' 1 d)) := funext fun d =>
    congrArg x0 ((eq_ix2 _).trans (congrArg₂ ix2 (Fin.ext (by show 0 + 1 * r.val = r.val; omega)) (Fin.ext (by show 256 + 1 * d.val = 1 * 256 + d.val; omega))))
  have hk : (fun j d : Fin 256 => View.ld x1 r0_3 (ix2 j d)) = key (fun j l => x1 (ix2 j l)) 1 := funext fun j => funext fun d =>
    congrArg x1 ((eq_ix2 _).trans (congrArg₂ ix2 (Fin.ext (by show 0 + 1 * j.val = j.val; omega)) (Fin.ext (by show 256 + 1 * d.val = 1 * 256 + d.val; omega))))
  have hv : (fun j : Fin 256 => View.ld x1 r0_4 (ix2 j l)) = val (fun j l => x1 (ix2 j l)) (at' 1 l) := funext fun j =>
    congrArg x1 ((eq_ix2 _).trans (congrArg₂ ix2 (Fin.ext (by show 0 + 1 * j.val = j.val; omega)) (Fin.ext (by show 1280 + 1 * l.val = 1024 + (1 * 256 + l.val); omega))))
  unfold value
  rw [eh, hq, hk, hv]

/-- Head 2 of a block's attention at an index. -/
theorem piece1 (x0 : Vec Ideal S512x1024 .bf16) (x1 : Vec Ideal S256x2048 .f32) (y : S512x256.Idx) :
    k0_pay6 (F := Ideal) (k0_pay3 (View.ld x1 r0_4)) (k0_pay4 (View.ld x1 r0_3) (View.ld x0 r0_5)) (k0_pay5 (View.ld x1 r0_3) (View.ld x0 r0_5)) y
      = block x0 x1 (r0_5.emb y) := by
  refine (congrArg _ (eq_ix2 y)).trans ((piece1' x0 x1 (y 0) (y 1)).trans ?_)
  have e0 : r0_5.emb y 0 = y 0 := Fin.ext (by show 0 + 1 * (y 0).val = _; omega)
  have e1 : r0_5.emb y 1 = at' 1 (y 1) := Fin.ext (by show 256 + 1 * (y 1).val = 1 * 256 + (y 1).val; omega)
  unfold block
  rw [e0, e1]

/-- Head 3 of a block's attention. -/
theorem piece2' (x0 : Vec Ideal S512x1024 .bf16) (x1 : Vec Ideal S256x2048 .f32) (r : Fin 512) (l : Fin 256) :
    k0_pay7 (F := Ideal) (View.ld x1 r0_6) (View.ld x1 r0_7) (View.ld x0 r0_8) (ix2 r l)
      = value (R := 512) (fun r k => x0 (ix2 r k)) (fun j l => x1 (ix2 j l)) r (at' 2 l) := by
  refine (pay2 _ _ _ r l).trans ?_
  have eh : head (at' 2 l) = 2 := Fin.ext (by show (2 * 256 + l.val) / 256 = 2; omega)
  have hq : (fun d : Fin 256 => View.ld x0 r0_8 (ix2 r d)) = fun d => x0 (ix2 r (at' 2 d)) := funext fun d =>
    congrArg x0 ((eq_ix2 _).trans (congrArg₂ ix2 (Fin.ext (by show 0 + 1 * r.val = r.val; omega)) (Fin.ext (by show 512 + 1 * d.val = 2 * 256 + d.val; omega))))
  have hk : (fun j d : Fin 256 => View.ld x1 r0_6 (ix2 j d)) = key (fun j l => x1 (ix2 j l)) 2 := funext fun j => funext fun d =>
    congrArg x1 ((eq_ix2 _).trans (congrArg₂ ix2 (Fin.ext (by show 0 + 1 * j.val = j.val; omega)) (Fin.ext (by show 512 + 1 * d.val = 2 * 256 + d.val; omega))))
  have hv : (fun j : Fin 256 => View.ld x1 r0_7 (ix2 j l)) = val (fun j l => x1 (ix2 j l)) (at' 2 l) := funext fun j =>
    congrArg x1 ((eq_ix2 _).trans (congrArg₂ ix2 (Fin.ext (by show 0 + 1 * j.val = j.val; omega)) (Fin.ext (by show 1536 + 1 * l.val = 1024 + (2 * 256 + l.val); omega))))
  unfold value
  rw [eh, hq, hk, hv]

/-- Head 3 of a block's attention at an index. -/
theorem piece2 (x0 : Vec Ideal S512x1024 .bf16) (x1 : Vec Ideal S256x2048 .f32) (y : S512x256.Idx) :
    k0_pay7 (F := Ideal) (View.ld x1 r0_6) (View.ld x1 r0_7) (View.ld x0 r0_8) y
      = block x0 x1 (r0_8.emb y) := by
  refine (congrArg _ (eq_ix2 y)).trans ((piece2' x0 x1 (y 0) (y 1)).trans ?_)
  have e0 : r0_8.emb y 0 = y 0 := Fin.ext (by show 0 + 1 * (y 0).val = _; omega)
  have e1 : r0_8.emb y 1 = at' 2 (y 1) := Fin.ext (by show 512 + 1 * (y 1).val = 2 * 256 + (y 1).val; omega)
  unfold block
  rw [e0, e1]

/-- Head 4 of a block's attention. -/
theorem piece3' (x0 : Vec Ideal S512x1024 .bf16) (x1 : Vec Ideal S256x2048 .f32) (r : Fin 512) (l : Fin 256) :
    k0_pay1 (F := Ideal) (k0_pay8 (View.ld x1 r0_10)) (k0_pay9 (View.ld x1 r0_9) (View.ld x0 r0_11)) (Scalar.ofBits .f32 0x3D800000#32) (ix2 r l)
      = value (R := 512) (fun r k => x0 (ix2 r k)) (fun j l => x1 (ix2 j l)) r (at' 3 l) := by
  refine (pay3 _ _ _ r l).trans ?_
  have eh : head (at' 3 l) = 3 := Fin.ext (by show (3 * 256 + l.val) / 256 = 3; omega)
  have hq : (fun d : Fin 256 => View.ld x0 r0_11 (ix2 r d)) = fun d => x0 (ix2 r (at' 3 d)) := funext fun d =>
    congrArg x0 ((eq_ix2 _).trans (congrArg₂ ix2 (Fin.ext (by show 0 + 1 * r.val = r.val; omega)) (Fin.ext (by show 768 + 1 * d.val = 3 * 256 + d.val; omega))))
  have hk : (fun j d : Fin 256 => View.ld x1 r0_9 (ix2 j d)) = key (fun j l => x1 (ix2 j l)) 3 := funext fun j => funext fun d =>
    congrArg x1 ((eq_ix2 _).trans (congrArg₂ ix2 (Fin.ext (by show 0 + 1 * j.val = j.val; omega)) (Fin.ext (by show 768 + 1 * d.val = 3 * 256 + d.val; omega))))
  have hv : (fun j : Fin 256 => View.ld x1 r0_10 (ix2 j l)) = val (fun j l => x1 (ix2 j l)) (at' 3 l) := funext fun j =>
    congrArg x1 ((eq_ix2 _).trans (congrArg₂ ix2 (Fin.ext (by show 0 + 1 * j.val = j.val; omega)) (Fin.ext (by show 1792 + 1 * l.val = 1024 + (3 * 256 + l.val); omega))))
  unfold value
  rw [eh, hq, hk, hv]

/-- Head 4 of a block's attention at an index. -/
theorem piece3 (x0 : Vec Ideal S512x1024 .bf16) (x1 : Vec Ideal S256x2048 .f32) (y : S512x256.Idx) :
    k0_pay1 (F := Ideal) (k0_pay8 (View.ld x1 r0_10)) (k0_pay9 (View.ld x1 r0_9) (View.ld x0 r0_11)) (Scalar.ofBits .f32 0x3D800000#32) y
      = block x0 x1 (r0_11.emb y) := by
  refine (congrArg _ (eq_ix2 y)).trans ((piece3' x0 x1 (y 0) (y 1)).trans ?_)
  have e0 : r0_11.emb y 0 = y 0 := Fin.ext (by show 0 + 1 * (y 0).val = _; omega)
  have e1 : r0_11.emb y 1 = at' 3 (y 1) := Fin.ext (by show 768 + 1 * (y 1).val = 3 * 256 + (y 1).val; omega)
  unfold block
  rw [e0, e1]

/-- A block's result. -/
theorem stored (x0 : Vec Ideal S512x1024 .bf16) (x1 : Vec Ideal S256x2048 .f32) : out0_2 (F := Ideal) x0 x1 = block x0 x1 := by
  unfold out0_2
  refine funext fun y => ?_
  refine (congrArg (fun L => View.canon L y) (List.append_nil _).symm).trans (View.canon_append_of_piecesOf (block x0 x1) [] _ ?_ y (cover0_2 _ _ _ _ y))
  exact ⟨piece3 x0 x1, piece2 x0 x1, piece1 x0 x1, piece0 x0 x1, trivial⟩

/-- The result at an array's index. -/
def result2 : Buf (Elt Ideal) ((c : Thread nD τ).loc main_v0) := fun i => value (inp m c) (mem m c) (i 0) (i 1)

/-- A point's block of the result. -/
theorem point2 (t : Fin cfg0.N) (r : Fin 512) (l : Fin 1024) : out0_2 (iblk m c 0 t) (iblk m c 1 t) (ix2 r l) = value (inp m c) (mem m c) (row t r) l := by
  rw [stored]
  show value (fun r k => iblk m c 0 t (ix2 r k)) (fun j l => iblk m c 1 t (ix2 j l)) r l = _
  rw [show (fun r k => iblk m c 0 t (ix2 r k)) = fun r k => inp m c (row t r) k from funext fun r => funext fun k => block0 m c t r k, show (fun j l => iblk m c 1 t (ix2 j l)) = mem m c from funext fun j => funext fun l => block1 m c t j l]
  rfl

/-- The array of the result. -/
theorem array2 : (dats m 0 c).arrAt 2 cfg0.N = result2 m c := by
  refine (dats m 0 c).arrAt_eq_of_covers 2 _ (by decide +kernel) fun t hf y => ?_
  have h := point2 m c t (y 0) (y 1)
  have e0 : (win0_2.blk t).view.emb y 0 = row t (y 0) := Fin.ext (by show _ = 512 * t.val + (y 0).val; blk_simp [index_eq t]; try omega)
  have e1 : (win0_2.blk t).view.emb y 1 = y 1 := Fin.ext (by blk_simp [index_eq t]; try omega)
  blk_simp
  rw [after0_2]
  refine (congrArg _ (eq_ix2 y)).trans (h.trans ?_)
  unfold result2
  rw [e0, e1]

end Cert.Memory17

end
-- ==== Proof.Memory17Ref.lean ====
module

public import proofs.«01_k».proof.Proof.Soft
public import proofs.«01_k».proof.Proof.Gen.Reference17Ideal.Read

/-!
# The reference of the attention over the memory
-/

@[expose] public section

set_option maxRecDepth 16384

noncomputable section

namespace Cert.Memory17

open Idealize.ShloMosaic Finset Cert.Soft

open Cert.Reference17Ideal.Read in
/-- The reference's scores. -/
theorem ref_v8 (x0 : FVec Ideal Cert.Reference17Ideal.S8192x1024 .bf16) (x1 : FVec Ideal Cert.Reference17Ideal.S256x2048 .f32) (h : Fin 4) (t : Fin 8192) (j : Fin 256) :
    val_main_v8 (F := Ideal) x0 x1 (ix3 h t j) = score (fun d => x0 (ix2 t (at' h d))) (key (fun j l => x1 (ix2 j l)) h) j := by
  unfold val_main_v8 val_main_v7 val_main_cst val_main_v6 val_main_v4 val_main_v3 val_main_v1 val_main_v0
  pointwise
  rfl

/-- Reduction along the last axis. -/
theorem reduces : Cert.Reference17Ideal.S4x8192x256.Reduces [2] Cert.Reference17Ideal.S4x8192 := by decide

open Cert.Reference17Ideal.Read in
/-- The reference's maximum. -/
theorem ref_v9 (x0 : FVec Ideal Cert.Reference17Ideal.S8192x1024 .bf16) (x1 : FVec Ideal Cert.Reference17Ideal.S256x2048 .f32) (h : Fin 4) (t : Fin 8192) :
    val_main_v9 (F := Ideal) x0 x1 (ix2 h t) = univ.fold max (Ideal.ofBits .f32 0xFF800000#32) fun j : Fin 256 => val_main_v8 (F := Ideal) x0 x1 (ix3 h t j) := by
  unfold val_main_v9
  rw [Host.reduce_eq_fold_single _ _ _ _ reduces]
  refine Finset.fold_congr fun j _ => congrArg (val_main_v8 (F := Ideal) x0 x1) (funext fun a => ?_)
  match a with
  | ⟨0, _⟩ => rfl
  | ⟨1, _⟩ => rfl
  | ⟨2, _⟩ => rfl

open Cert.Reference17Ideal.Read in
/-- The value a maximum starts from. -/
theorem ref_v10 (h : Fin 4) (t : Fin 8192) : val_main_v10 (F := Ideal) (ix2 h t) = Ideal.ofBits .f32 0xFF800000#32 := by
  unfold val_main_v10 val_main_cst_1
  pointwise

open Cert.Reference17Ideal.Read in
/-- The reference's largest score. -/
theorem ref_v11 (x0 : FVec Ideal Cert.Reference17Ideal.S8192x1024 .bf16) (x1 : FVec Ideal Cert.Reference17Ideal.S256x2048 .f32) (h : Fin 4) (t : Fin 8192) :
    val_main_v11 (F := Ideal) x0 x1 (ix2 h t) = peak (fun d => x0 (ix2 t (at' h d))) (key (fun j l => x1 (ix2 j l)) h) := by
  unfold val_main_v11
  refine (max_at _ _ _).trans ?_
  rw [ref_v10, ref_v9]
  simp only [ref_v8]
  unfold peak
  exact max_fold _ _

open Cert.Reference17Ideal.Read in
/-- The reference's weights before the division. -/
theorem ref_v15 (x0 : FVec Ideal Cert.Reference17Ideal.S8192x1024 .bf16) (x1 : FVec Ideal Cert.Reference17Ideal.S256x2048 .f32) (h : Fin 4) (t : Fin 8192) (j : Fin 256) :
    val_main_v15 (F := Ideal) x0 x1 (ix3 h t j) = raw (fun d => x0 (ix2 t (at' h d))) (key (fun j l => x1 (ix2 j l)) h) j := by
  unfold val_main_v15 val_main_v14 val_main_v13 val_main_v12
  pointwise
  rw [ref_v8, ref_v11]
  rfl

open Cert.Reference17Ideal.Read in
/-- The reference's weights. -/
theorem ref_v19 (x0 : FVec Ideal Cert.Reference17Ideal.S8192x1024 .bf16) (x1 : FVec Ideal Cert.Reference17Ideal.S256x2048 .f32) (h : Fin 4) (t : Fin 8192) (j : Fin 256) :
    val_main_v19 (F := Ideal) x0 x1 (ix3 h t j) = weight (fun d => x0 (ix2 t (at' h d))) (key (fun j l => x1 (ix2 j l)) h) j := by
  unfold val_main_v19 val_main_v18 val_main_v17 val_main_v16 val_main_cst_2
  pointwise
  simp only [ref_v15]
  rfl

open Cert.Reference17Ideal.Read in
/-- The reference's result. -/
theorem ref_v23 (x0 : FVec Ideal Cert.Reference17Ideal.S8192x1024 .bf16) (x1 : FVec Ideal Cert.Reference17Ideal.S256x2048 .f32) (t : Fin 8192) (l : Fin 1024) :
    val_main_v23 (F := Ideal) x0 x1 (ix2 t l) = value (fun t k => x0 (ix2 t k)) (fun j l => x1 (ix2 j l)) t l := by
  unfold val_main_v23 val_main_v22 val_main_v21 val_main_v20 val_main_v5 val_main_v2
  pointwise
  unfold value attend
  refine sum_congr rfl fun j _ => (mul_comm _ _).trans (congrArg₂ _ ((ref_v19 x0 x1 _ _ _).trans ?_) ?_)
  · rfl
  · rfl

end Cert.Memory17

end
-- ==== Proof.Memory17Equal.lean ====
module

public import proofs.«01_k».proof.Defs
public import proofs.«01_k».proof.Proof.Memory17
public import proofs.«01_k».proof.Proof.Memory17Ref
public import proofs.«01_k».proof.Proof.Gen.Reference17Ideal
public import proofs.«01_k».proof.Proof.Gen.Reference17Ideal.Run
public import Idealize.ShloMosaic.Adequacy
public import Idealize.ShloMosaic.Init

/-!
# The attention over the memory is the reference's
-/

@[expose] public section

set_option maxRecDepth 16384

noncomputable section

namespace Cert.Memory17

open Idealize.ShloMosaic Idealize.ShloMosaic.TcCoe Idealize.SL.Sem Finset Cert.Soft Cert.Kernel17Ideal

/-- The kernel's result is the reference's. -/
theorem equal : Cert.algebraic_Kernel17Ideal_Reference17Ideal (hKernel17Ideal := Cert.Kernel17Ideal.Gen.facts)
    (hReference17Ideal := Cert.Reference17Ideal.Gen.facts) := by
  intro m g m' g' _ hargs
  refine ⟨fun c => result2 m c,
    (θ_run _ _ _).mono (fun r h c => ⟨(h c).1.trans (array2 m c), (h c).2⟩) (Cert.Kernel17Ideal.Value.run_blocks m g),
    (θ_run _ _ _).mono (fun r h c => ⟨(h c).1.trans ?_, (h c).2⟩) (Cert.Reference17Ideal.Value.run (F := Ideal) m' g')⟩
  refine (Cert.Reference17Ideal.Read.val_main_v23_eq _ _).trans ?_
  rw [(hargs c).1, (hargs c).2]
  refine funext fun (i : Cert.Reference17Ideal.S8192x1024.Idx) => ?_
  rw [show i = ix2 (i 0 : Fin 8192) (i 1 : Fin 1024) from eq_ix2 i]
  exact ref_v23 _ _ _ _

end Cert.Memory17

end
-- ==== Proof.Slope.lean ====
module

public import proofs.«01_k».proof.Proof.Soft

/-!
# The gradients of the attention over a memory, in two forms

The form that divides first is the kernel's; the form that divides by the square of the weights' sum is the derivative
of a quotient. They agree where the queries and the keys are real numbers.
-/

@[expose] public section

set_option maxRecDepth 16384

noncomputable section

namespace Cert.Soft

open Idealize.ShloMosaic Finset

/-- One sixteenth. -/
def scale : EReal := Ideal.ofBits .f32 0x3D800000#32

/-- The gradient of a weight. -/
def back (o : Fin 256 → EReal) (v : Fin 256 → Fin 256 → EReal) (j : Fin 256) : EReal := ∑ d : Fin 256, o d * v j d

/-- The gradient of a scaled score. -/
def slope (q : Fin 256 → EReal) (k v : Fin 256 → Fin 256 → EReal) (o : Fin 256 → EReal) (j : Fin 256) : EReal :=
  weight q k j * (back o v j - ∑ i : Fin 256, back o v i * weight q k i)

/-- The sum of the weights before the division. -/
def tot (q : Fin 256 → EReal) (k : Fin 256 → Fin 256 → EReal) : EReal := ∑ i : Fin 256, raw q k i

/-- The gradient of a score, from the derivative of a quotient. -/
def slope' (q : Fin 256 → EReal) (k v : Fin 256 → Fin 256 → EReal) (o : Fin 256 → EReal) (j : Fin 256) : EReal :=
  ((Ideal.div (back o v j) (tot q k) + -(∑ i : Fin 256, back o v i * Ideal.div 1 (tot q k * tot q k) * raw q k i)) * raw q k j) * scale

theorem scale_eq : scale = ((1 / 16 : ℝ) : EReal) := by
  unfold scale
  simp [Ideal.ofBits, Ideal.ieee, -EReal.coe_mul]; norm_num

theorem bottom_eq : Ideal.ofBits .f32 0xFF800000#32 = (⊥ : EReal) := by
  simp [Ideal.ofBits, Ideal.ieee]

/-- A sum of real numbers is a real number. -/
theorem coe_sum {ι : Type} [Fintype ι] (f : ι → ℝ) : ∑ i, ((f i : ℝ) : EReal) = ((∑ i, f i : ℝ) : EReal) :=
  (map_sum (⟨⟨Real.toEReal, rfl⟩, EReal.coe_add⟩ : ℝ →+ EReal) f univ).symm

/-- A product of real numbers summed is a real number. -/
theorem coe_dot {ι : Type} [Fintype ι] (f g : ι → ℝ) : ∑ i, ((f i : ℝ) : EReal) * ((g i : ℝ) : EReal) = ((∑ i, f i * g i : ℝ) : EReal) := by
  rw [← coe_sum]
  exact sum_congr rfl fun i _ => (EReal.coe_mul _ _).symm

/-- A nonnegative real number distributes over a sum. -/
theorem sum_mul_real {ι : Type} [Fintype ι] (f : ι → EReal) (w : ℝ) (hw : 0 ≤ w) : (∑ i, f i) * (w : EReal) = ∑ i, f i * (w : EReal) := by
  classical
  refine Finset.induction_on (univ : Finset ι) (by simp) fun i s hi ih => ?_
  rw [sum_insert hi, sum_insert hi, EReal.right_distrib_of_nonneg_of_ne_top (EReal.coe_nonneg.2 hw) (EReal.coe_ne_top w), ih]

/-- A factor moves into a sum. -/
theorem factor {ι : Type} [Fintype ι] (a y : ι → EReal) : (∑ i, a i * y i) * scale = ∑ i, a i * scale * y i := by
  rw [scale_eq, sum_mul_real _ _ (by norm_num)]
  exact sum_congr rfl fun i _ => mul_right_comm _ _ _

variable (Q : Fin 256 → ℝ) (K : Fin 256 → Fin 256 → ℝ)

/-- A score of real numbers. -/
theorem score_coe (j : Fin 256) : score (fun d => (Q d : EReal)) (fun j d => (K j d : EReal)) j = (((∑ d, Q d * K j d) * (1 / 16) : ℝ) : EReal) := by
  unfold score
  rw [coe_dot, show Ideal.ofBits .f32 0x3D800000#32 = scale from rfl, scale_eq, EReal.coe_mul]

/-- The largest score of real numbers is a real number. -/
theorem peak_coe : ∃ M : ℝ, peak (fun d => (Q d : EReal)) (fun j d => (K j d : EReal)) = (M : EReal) := by
  unfold peak
  rw [bottom_eq]
  refine ⟨_, (EReal.coe_toReal ?_ ?_).symm⟩
  · refine ne_of_lt ((Finset.fold_max_lt _).2 ⟨bot_lt_top, fun j _ => ?_⟩)
    rw [score_coe]
    exact EReal.coe_lt_top _
  · refine ne_of_gt ((Finset.lt_fold_max _).2 (Or.inr ⟨0, mem_univ _, ?_⟩))
    rw [score_coe]
    exact EReal.bot_lt_coe _

/-- The weights of real numbers before the division are positive real numbers. -/
theorem raw_coe : ∃ E : Fin 256 → ℝ, (∀ j, 0 < E j) ∧ ∀ j, raw (fun d => (Q d : EReal)) (fun j d => (K j d : EReal)) j = (E j : EReal) := by
  obtain ⟨M, hM⟩ := peak_coe Q K
  refine ⟨fun j => Real.exp ((∑ d, Q d * K j d) * (1 / 16) - M), fun j => Real.exp_pos _, fun j => ?_⟩
  unfold raw
  rw [hM, score_coe, ← EReal.coe_sub, Ideal.exp_coe]

/-- The two forms of the gradient of a score agree. -/
theorem slope_eq (v : Fin 256 → Fin 256 → EReal) (o : Fin 256 → EReal) (j : Fin 256) :
    slope' (fun d => (Q d : EReal)) (fun j d => (K j d : EReal)) v o j = slope (fun d => (Q d : EReal)) (fun j d => (K j d : EReal)) v o j * scale := by
  obtain ⟨E, hE, e⟩ := raw_coe Q K
  have hS : 0 < ∑ i : Fin 256, E i := sum_pos (s := (univ : Finset (Fin 256))) (fun i _ => hE i) ⟨0, mem_univ _⟩
  have ht : tot (fun d => (Q d : EReal)) (fun j d => (K j d : EReal)) = ((∑ i, E i : ℝ) : EReal) := by
    unfold tot
    simp only [e]
    exact coe_sum _
  generalize (∑ i : Fin 256, E i) = S at hS ht
  have hw : ∀ j, weight (fun d => (Q d : EReal)) (fun j d => (K j d : EReal)) j = ((E j * (1 / S) : ℝ) : EReal) := fun j => by
    show Ideal.div _ (tot _ _) = _
    rw [ht, e, Ideal.div_coe hS.ne', EReal.coe_mul]
  unfold slope' slope
  rw [ht]
  simp only [hw, e]
  rw [← EReal.coe_mul, Ideal.div_coe hS.ne', Ideal.div_coe (mul_pos hS hS).ne']
  generalize hb : back o v = b
  have h1 : ∑ i, b i * (1 * ((1 / (S * S) : ℝ) : EReal)) * (E i : EReal) = (∑ i, b i * ((E i * (1 / S) : ℝ) : EReal)) * ((1 / S : ℝ) : EReal) := by
    rw [sum_mul_real _ _ (one_div_pos.2 hS).le]
    refine sum_congr rfl fun i _ => ?_
    rw [one_mul, mul_assoc, mul_assoc, ← EReal.coe_mul, ← EReal.coe_mul]
    refine congrArg (fun r : ℝ => b i * (r : EReal)) ?_
    field_simp
  rw [h1, ← EReal.neg_mul, ← EReal.right_distrib_of_nonneg_of_ne_top (EReal.coe_nonneg.2 (one_div_pos.2 hS).le) (EReal.coe_ne_top _), ← sub_eq_add_neg, EReal.coe_mul]
  refine congrArg (· * scale) ?_
  rw [mul_assoc, mul_comm, mul_comm (E j : EReal)]

/-- The columns of a head's values. -/
def vals (kv : Fin 256 → Fin 2048 → EReal) (h : Fin 4) (j d : Fin 256) : EReal := kv j ⟨1024 + (h.val * 256 + d.val), by omega⟩

section
variable {R : ℕ} (o q : Fin R → Fin 1024 → EReal) (kv : Fin 256 → Fin 2048 → EReal)

/-- A head's weights. -/
def weightAt (h : Fin 4) (t : Fin R) (j : Fin 256) : EReal := weight (fun d => q t (at' h d)) (key kv h) j

/-- A head's gradients of the scaled scores. -/
def slopeAt (h : Fin 4) (t : Fin R) (j : Fin 256) : EReal := slope (fun d => q t (at' h d)) (key kv h) (vals kv h) (fun d => o t (at' h d)) j

/-- A head's gradients of the scores. -/
def slopeAt' (h : Fin 4) (t : Fin R) (j : Fin 256) : EReal := slope' (fun d => q t (at' h d)) (key kv h) (vals kv h) (fun d => o t (at' h d)) j

/-- The gradient of the queries. -/
def dq (t : Fin R) (l : Fin 1024) : EReal := (∑ j : Fin 256, slopeAt o q kv (head l) t j * key kv (head l) j (inner l)) * scale

/-- The gradient of the queries, scaled inside. -/
def dq' (t : Fin R) (l : Fin 1024) : EReal := ∑ j : Fin 256, slopeAt' o q kv (head l) t j * key kv (head l) j (inner l)

/-- The gradient of the keys and values. -/
def dkv (j : Fin 256) (l : Fin 2048) : EReal :=
  if h : l.val < 1024 then (∑ t : Fin R, slopeAt o q kv (head ⟨l.val, h⟩) t j * q t ⟨l.val, h⟩) * scale
  else ∑ t : Fin R, weightAt q kv (head ⟨l.val - 1024, by omega⟩) t j * o t ⟨l.val - 1024, by omega⟩

/-- A row's part of the gradient of the keys and values. -/
def part (j : Fin 256) (l : Fin 2048) (t : Fin R) : EReal :=
  if h : l.val < 1024 then slopeAt' o q kv (head ⟨l.val, h⟩) t j * q t ⟨l.val, h⟩
  else weightAt q kv (head ⟨l.val - 1024, by omega⟩) t j * o t ⟨l.val - 1024, by omega⟩

theorem head_at (h : Fin 4) (d : Fin 256) : head (at' h d) = h := Fin.ext (by show (h.val * 256 + d.val) / 256 = h.val; omega)

theorem inner_at (h : Fin 4) (d : Fin 256) : inner (at' h d) = d := Fin.ext (by show (h.val * 256 + d.val) % 256 = d.val; omega)

/-- The gradient of a head's queries. -/
theorem dq_at (h : Fin 4) (t : Fin R) (d : Fin 256) : dq o q kv t (at' h d) = (∑ j : Fin 256, slopeAt o q kv h t j * key kv h j d) * scale := by
  unfold dq
  rw [head_at, inner_at]

/-- The gradient of the keys. -/
theorem dkv_key (h : Fin 4) (j d : Fin 256) (l : Fin 2048) (hl : l.val = h.val * 256 + d.val) :
    dkv o q kv j l = (∑ t : Fin R, slopeAt o q kv h t j * q t (at' h d)) * scale := by
  unfold dkv
  rw [dif_pos (show l.val < 1024 by omega), show (⟨l.val, by omega⟩ : Fin 1024) = at' h d from Fin.ext hl, head_at]

/-- The gradient of the values. -/
theorem dkv_val (h : Fin 4) (j d : Fin 256) (l : Fin 2048) (hl : l.val = 1024 + (h.val * 256 + d.val)) :
    dkv o q kv j l = ∑ t : Fin R, weightAt q kv h t j * o t (at' h d) := by
  unfold dkv
  rw [dif_neg (show ¬ l.val < 1024 by omega), show (⟨l.val - 1024, by omega⟩ : Fin 1024) = at' h d from Fin.ext (by show l.val - 1024 = h.val * 256 + d.val; omega), head_at]

variable (hq : ∀ t l, (((q t l).toReal : ℝ) : EReal) = q t l) (hk : ∀ (j : Fin 256) (l : Fin 2048), l.val < 1024 → (((kv j l).toReal : ℝ) : EReal) = kv j l)

include hq hk

/-- The two forms where the queries and the keys are real numbers. -/
theorem slope_real (h : Fin 4) (t : Fin R) (j : Fin 256) : slopeAt' o q kv h t j = slopeAt o q kv h t j * scale := by
  have hx := slope_eq (fun d => (q t (at' h d)).toReal) (fun j d => (key kv h j d).toReal) (vals kv h) (fun d => o t (at' h d)) j
  rw [show (fun d => (((q t (at' h d)).toReal : ℝ) : EReal)) = fun d => q t (at' h d) from funext fun d => hq _ _,
    show (fun j d => (((key kv h j d).toReal : ℝ) : EReal)) = key kv h from funext fun j => funext fun d => hk _ _ (by show h.val * 256 + d.val < 1024; omega)] at hx
  exact hx

/-- The gradient of the queries is the same in both forms. -/
theorem dq_eq (t : Fin R) (l : Fin 1024) : dq o q kv t l = dq' o q kv t l := by
  unfold dq dq'
  simp only [slope_real o q kv hq hk]
  exact factor _ _

/-- The gradient of the keys and values is the sum of the rows' parts. -/
theorem dkv_eq (j : Fin 256) (l : Fin 2048) : dkv o q kv j l = ∑ t : Fin R, part o q kv j l t := by
  unfold dkv part
  by_cases h : l.val < 1024
  · simp only [dif_pos h, slope_real o q kv hq hk]
    exact factor _ _
  · simp only [dif_neg h]

end

end Cert.Soft

end
-- ==== Proof.Memory18Pay.lean ====
module

public import proofs.«01_k».proof.Proof.Slope
public import proofs.«01_k».proof.Proof.Gen.Kernel18Ideal
public import proofs.«01_k».proof.Proof.Gen.Kernel18Ideal.Value

/-!
# What a point of the memory's backward pass computes for a head
-/

@[expose] public section

set_option maxRecDepth 16384

noncomputable section

namespace Cert.Memory18

open Idealize.ShloMosaic Idealize.ShloMosaic.TcCoe Cert.Kernel18Ideal Cert.Kernel18Ideal.Gen Finset Cert.Soft

variable (q : Vec Ideal S512x256 .bf16) (k v : Vec Ideal S256x256 .f32) (o : Vec Ideal S512x256 .f32) (z : Vec Ideal S256x256 .f32)

/-- The weights of a head's block. -/
def weights (r : Fin 512) (j : Fin 256) : EReal := weight (fun d => q (ix2 r d)) (fun j d => k (ix2 j d)) j

/-- The gradients of the scaled scores of a head's block. -/
def slopes (r : Fin 512) (j : Fin 256) : EReal := slope (fun d => q (ix2 r d)) (fun j d => k (ix2 j d)) (fun j d => v (ix2 j d)) (fun d => o (ix2 r d)) j

/-- The weights of head 1. -/
theorem pay_w0 (r : Fin 512) (j : Fin 256) : k0_pay5 (F := Ideal) q k (ix2 r j) = weights q k r j := by
  unfold k0_pay5 k0_pay3 weights weight raw peak score
  pointwise

/-- The gradients of the scaled scores of head 1. -/
theorem pay_s0 (r : Fin 512) (j : Fin 256) : k0_pay6 (F := Ideal) q k v o (ix2 r j) = slopes q k v o r j := by
  unfold k0_pay6 k0_pay4
  pointwise
  simp only [pay_w0]
  rfl

/-- The queries' gradient of head 1. -/
theorem pay_q0 (r : Fin 512) (d : Fin 256) : k0_pay7 (F := Ideal) q k v o (ix2 r d) = (∑ j : Fin 256, slopes q k v o r j * k (ix2 j d)) * scale := by
  unfold k0_pay7 k0_pay3
  pointwise
  simp only [pay_s0]
  rfl

/-- The keys' gradient of head 1. -/
theorem pay_k0 (j d : Fin 256) : k0_pay8 (F := Ideal) q (k0_pay6 q k v o) z (ix2 j d) = z (ix2 j d) + (∑ r : Fin 512, slopes q k v o r j * q (ix2 r d)) * scale := by
  unfold k0_pay8
  pointwise
  simp only [pay_s0]
  rfl

/-- The values' gradient of head 1. -/
theorem pay_v0 (j d : Fin 256) : k0_pay9 (F := Ideal) (k0_pay4 o) (k0_pay5 q k) z (ix2 j d) = z (ix2 j d) + ∑ r : Fin 512, weights q k r j * o (ix2 r d) := by
  unfold k0_pay9 k0_pay4
  pointwise
  simp only [pay_w0]

/-- The weights of head 2. -/
theorem pay_w1 (r : Fin 512) (j : Fin 256) : k0_pay12 (F := Ideal) q k (ix2 r j) = weights q k r j := by
  unfold k0_pay12 k0_pay10 weights weight raw peak score
  pointwise

/-- The gradients of the scaled scores of head 2. -/
theorem pay_s1 (r : Fin 512) (j : Fin 256) : k0_pay15 (F := Ideal) (k0_pay12 q k) (k0_pay13 v o) (k0_pay14 q k v o) (ix2 r j) = slopes q k v o r j := by
  unfold k0_pay15 k0_pay14 k0_pay13 k0_pay11
  pointwise
  simp only [pay_w1]
  rfl

/-- The queries' gradient of head 2. -/
theorem pay_q1 (r : Fin 512) (d : Fin 256) : k0_pay16 (F := Ideal) (k0_pay10 k) (k0_pay12 q k) (k0_pay13 v o) (k0_pay14 q k v o) (ix2 r d) = (∑ j : Fin 256, slopes q k v o r j * k (ix2 j d)) * scale := by
  unfold k0_pay16 k0_pay10
  pointwise
  simp only [pay_s1]
  rfl

/-- The keys' gradient of head 2. -/
theorem pay_k1 (j d : Fin 256) : k0_pay17 (F := Ideal) q (k0_pay12 q k) (k0_pay13 v o) (k0_pay14 q k v o) z (ix2 j d) = z (ix2 j d) + (∑ r : Fin 512, slopes q k v o r j * q (ix2 r d)) * scale := by
  unfold k0_pay17
  pointwise
  simp only [pay_s1]
  rfl

/-- The values' gradient of head 2. -/
theorem pay_v1 (j d : Fin 256) : k0_pay18 (F := Ideal) (k0_pay11 o) (k0_pay12 q k) z (ix2 j d) = z (ix2 j d) + ∑ r : Fin 512, weights q k r j * o (ix2 r d) := by
  unfold k0_pay18 k0_pay11
  pointwise
  simp only [pay_w1]

/-- The weights of head 3. -/
theorem pay_w2 (r : Fin 512) (j : Fin 256) : k0_pay23 (F := Ideal) (k0_pay22 q k) (ix2 r j) = weights q k r j := by
  unfold k0_pay23 k0_pay22 k0_pay19 weights weight raw peak score
  pointwise

/-- The gradients of the scaled scores of head 3. -/
theorem pay_s2 (r : Fin 512) (j : Fin 256) : k0_pay24 (F := Ideal) (k0_pay20 v) (k0_pay21 o) (k0_pay22 q k) (ix2 r j) = slopes q k v o r j := by
  unfold k0_pay24 k0_pay20 k0_pay21
  pointwise
  simp only [pay_w2]
  rfl

/-- The queries' gradient of head 3. -/
theorem pay_q2 (r : Fin 512) (d : Fin 256) : k0_pay25 (F := Ideal) (k0_pay19 k) (k0_pay20 v) (k0_pay21 o) (k0_pay22 q k) (ix2 r d) = (∑ j : Fin 256, slopes q k v o r j * k (ix2 j d)) * scale := by
  unfold k0_pay25 k0_pay19
  pointwise
  simp only [pay_s2]
  rfl

/-- The keys' gradient of head 3. -/
theorem pay_k2 (j d : Fin 256) : k0_pay26 (F := Ideal) q (k0_pay20 v) (k0_pay21 o) (k0_pay22 q k) z (ix2 j d) = z (ix2 j d) + (∑ r : Fin 512, slopes q k v o r j * q (ix2 r d)) * scale := by
  unfold k0_pay26
  pointwise
  simp only [pay_s2]
  rfl

/-- The values' gradient of head 3. -/
theorem pay_v2 (j d : Fin 256) : k0_pay27 (F := Ideal) (k0_pay21 o) (k0_pay22 q k) z (ix2 j d) = z (ix2 j d) + ∑ r : Fin 512, weights q k r j * o (ix2 r d) := by
  unfold k0_pay27 k0_pay21
  pointwise
  simp only [pay_w2]

/-- The weights of head 4. -/
theorem pay_w3 (r : Fin 512) (j : Fin 256) : k0_pay30 (F := Ideal) q k (ix2 r j) = weights q k r j := by
  unfold k0_pay30 k0_pay28 weights weight raw peak score
  pointwise

/-- The gradients of the scaled scores of head 4. -/
theorem pay_s3 (r : Fin 512) (j : Fin 256) : k0_pay31 (F := Ideal) q k v o (ix2 r j) = slopes q k v o r j := by
  unfold k0_pay31 k0_pay29
  pointwise
  simp only [pay_w3]
  rfl

/-- The queries' gradient of head 4. -/
theorem pay_q3 (r : Fin 512) (d : Fin 256) : k0_pay32 (F := Ideal) q k v o (ix2 r d) = (∑ j : Fin 256, slopes q k v o r j * k (ix2 j d)) * scale := by
  unfold k0_pay32 k0_pay28
  pointwise
  simp only [pay_s3]
  rfl

/-- The keys' gradient of head 4. -/
theorem pay_k3 (j d : Fin 256) : k0_pay33 (F := Ideal) q k v o z (ix2 j d) = z (ix2 j d) + (∑ r : Fin 512, slopes q k v o r j * q (ix2 r d)) * scale := by
  unfold k0_pay33
  pointwise
  simp only [pay_s3]
  rfl

/-- The values' gradient of head 4. -/
theorem pay_v3 (j d : Fin 256) : k0_pay1 (F := Ideal) (k0_pay29 o) (k0_pay30 q k) z (ix2 j d) = z (ix2 j d) + ∑ r : Fin 512, weights q k r j * o (ix2 r d) := by
  unfold k0_pay1 k0_pay29
  pointwise
  simp only [pay_w3]

end Cert.Memory18

end
-- ==== Proof.Memory18Store.lean ====
module

public import proofs.«01_k».proof.Proof.Memory18Pay
public import proofs.«01_k».proof.Proof.Gen.Kernel18Ideal
public import proofs.«01_k».proof.Proof.Gen.Kernel18Ideal.Value
public import Idealize.ShloMosaic.Lib.Pipeline.ReadBack

/-!
# What a point of the memory's backward pass stores
-/

@[expose] public section

set_option maxRecDepth 16384

noncomputable section

namespace Cert.Memory18

open Idealize.ShloMosaic Idealize.ShloMosaic.TcCoe Idealize.SL.Sem Cert.Kernel18Ideal Cert.Kernel18Ideal.Gen Finset Cert.Soft

section
variable (q : Vec Ideal S512x256 .bf16) (k v : Vec Ideal S256x256 .f32) (o : Vec Ideal S512x256 .f32)
  (O Q : Fin 512 → Fin 1024 → EReal) (KV : Fin 256 → Fin 2048 → EReal) (h : Fin 4)

/-- A head's weights from the rows of all heads. -/
theorem weights_at (hq : ∀ r d, q (ix2 r d) = Q r (at' h d)) (hk : ∀ j d, k (ix2 j d) = key KV h j d) (r : Fin 512) (j : Fin 256) :
    weights q k r j = weightAt Q KV h r j := by
  unfold weights weightAt
  rw [funext (hq r), funext fun j => funext (hk j)]

/-- A head's gradients of the scaled scores from the rows of all heads. -/
theorem slopes_at (hq : ∀ r d, q (ix2 r d) = Q r (at' h d)) (hk : ∀ j d, k (ix2 j d) = key KV h j d) (hv : ∀ j d, v (ix2 j d) = vals KV h j d)
    (ho : ∀ r d, o (ix2 r d) = O r (at' h d)) (r : Fin 512) (j : Fin 256) : slopes q k v o r j = slopeAt O Q KV h r j := by
  unfold slopes slopeAt
  rw [funext (hq r), funext (ho r), funext fun j => funext (hk j), funext fun j => funext (hv j)]

end

variable (x0 : Vec Ideal S512x1024 .f32) (x1 : Vec Ideal S512x1024 .bf16) (x2 : Vec Ideal S256x2048 .f32) (Z : Vec Ideal S256x2048 .f32)

/-- A block's queries' gradient. -/
def dqBlock : Vec Ideal S512x1024 .f32 := fun y => dq (R := 512) (fun r l => x0 (ix2 r l)) (fun r l => x1 (ix2 r l)) (fun j l => x2 (ix2 j l)) (y 0) (y 1)

/-- The keys' and values' gradient after a point. -/
def after : Vec Ideal S256x2048 .f32 := fun y => Z y + dkv (R := 512) (fun r l => x0 (ix2 r l)) (fun r l => x1 (ix2 r l)) (fun j l => x2 (ix2 j l)) (y 0) (y 1)

/-- Head 1 of a block of queries. -/
theorem ld_q0 (r : Fin 512) (d : Fin 256) : View.ld x1 (Rect.unit (s := S512x1024) ![0, 0] S512x256.size inb_S512x1024_S512x256_0_0) (ix2 r d) = x1 (ix2 r (at' 0 d)) :=
  congrArg x1 ((eq_ix2 _).trans (congrArg₂ ix2 (Fin.ext (by show 0 + 1 * r.val = r.val; omega)) (Fin.ext (by show 0 + 1 * d.val = 0 * 256 + d.val; omega))))

/-- Head 1 of a block of gradients. -/
theorem ld_o0 (r : Fin 512) (d : Fin 256) : View.ld x0 (Rect.unit (s := S512x1024) ![0, 0] S512x256.size inb_S512x1024_S512x256_0_0) (ix2 r d) = x0 (ix2 r (at' 0 d)) :=
  congrArg x0 ((eq_ix2 _).trans (congrArg₂ ix2 (Fin.ext (by show 0 + 1 * r.val = r.val; omega)) (Fin.ext (by show 0 + 1 * d.val = 0 * 256 + d.val; omega))))

/-- Head 1 of the keys. -/
theorem ld_k0 (j d : Fin 256) : View.ld x2 (Rect.unit (s := S256x2048) ![0, 0] S256x256.size inb_S256x2048_S256x256_0_0) (ix2 j d) = key (fun j l => x2 (ix2 j l)) 0 j d :=
  congrArg x2 ((eq_ix2 _).trans (congrArg₂ ix2 (Fin.ext (by show 0 + 1 * j.val = j.val; omega)) (Fin.ext (by show 0 + 1 * d.val = 0 * 256 + d.val; omega))))

/-- Head 1 of the values. -/
theorem ld_v0 (j d : Fin 256) : View.ld x2 (Rect.unit (s := S256x2048) ![0, 1024] S256x256.size inb_S256x2048_S256x256_0_1024) (ix2 j d) = vals (fun j l => x2 (ix2 j l)) 0 j d :=
  congrArg x2 ((eq_ix2 _).trans (congrArg₂ ix2 (Fin.ext (by show 0 + 1 * j.val = j.val; omega)) (Fin.ext (by show 1024 + 1 * d.val = 1024 + (0 * 256 + d.val); omega))))

/-- Head 2 of a block of queries. -/
theorem ld_q1 (r : Fin 512) (d : Fin 256) : View.ld x1 (Rect.unit (s := S512x1024) ![0, 256] S512x256.size inb_S512x1024_S512x256_0_256) (ix2 r d) = x1 (ix2 r (at' 1 d)) :=
  congrArg x1 ((eq_ix2 _).trans (congrArg₂ ix2 (Fin.ext (by show 0 + 1 * r.val = r.val; omega)) (Fin.ext (by show 256 + 1 * d.val = 1 * 256 + d.val; omega))))

/-- Head 2 of a block of gradients. -/
theorem ld_o1 (r : Fin 512) (d : Fin 256) : View.ld x0 (Rect.unit (s := S512x1024) ![0, 256] S512x256.size inb_S512x1024_S512x256_0_256) (ix2 r d) = x0 (ix2 r (at' 1 d)) :=
  congrArg x0 ((eq_ix2 _).trans (congrArg₂ ix2 (Fin.ext (by show 0 + 1 * r.val = r.val; omega)) (Fin.ext (by show 256 + 1 * d.val = 1 * 256 + d.val; omega))))

/-- Head 2 of the keys. -/
theorem ld_k1 (j d : Fin 256) : View.ld x2 (Rect.unit (s := S256x2048) ![0, 256] S256x256.size inb_S256x2048_S256x256_0_256) (ix2 j d) = key (fun j l => x2 (ix2 j l)) 1 j d :=
  congrArg x2 ((eq_ix2 _).trans (congrArg₂ ix2 (Fin.ext (by show 0 + 1 * j.val = j.val; omega)) (Fin.ext (by show 256 + 1 * d.val = 1 * 256 + d.val; omega))))

/-- Head 2 of the values. -/
theorem ld_v1 (j d : Fin 256) : View.ld x2 (Rect.unit (s := S256x2048) ![0, 1280] S256x256.size inb_S256x2048_S256x256_0_1280) (ix2 j d) = vals (fun j l => x2 (ix2 j l)) 1 j d :=
  congrArg x2 ((eq_ix2 _).trans (congrArg₂ ix2 (Fin.ext (by show 0 + 1 * j.val = j.val; omega)) (Fin.ext (by show 1280 + 1 * d.val = 1024 + (1 * 256 + d.val); omega))))

/-- Head 3 of a block of queries. -/
theorem ld_q2 (r : Fin 512) (d : Fin 256) : View.ld x1 (Rect.unit (s := S512x1024) ![0, 512] S512x256.size inb_S512x1024_S512x256_0_512) (ix2 r d) = x1 (ix2 r (at' 2 d)) :=
  congrArg x1 ((eq_ix2 _).trans (congrArg₂ ix2 (Fin.ext (by show 0 + 1 * r.val = r.val; omega)) (Fin.ext (by show 512 + 1 * d.val = 2 * 256 + d.val; omega))))

/-- Head 3 of a block of gradients. -/
theorem ld_o2 (r : Fin 512) (d : Fin 256) : View.ld x0 (Rect.unit (s := S512x1024) ![0, 512] S512x256.size inb_S512x1024_S512x256_0_512) (ix2 r d) = x0 (ix2 r (at' 2 d)) :=
  congrArg x0 ((eq_ix2 _).trans (congrArg₂ ix2 (Fin.ext (by show 0 + 1 * r.val = r.val; omega)) (Fin.ext (by show 512 + 1 * d.val = 2 * 256 + d.val; omega))))

/-- Head 3 of the keys. -/
theorem ld_k2 (j d : Fin 256) : View.ld x2 (Rect.unit (s := S256x2048) ![0, 512] S256x256.size inb_S256x2048_S256x256_0_512) (ix2 j d) = key (fun j l => x2 (ix2 j l)) 2 j d :=
  congrArg x2 ((eq_ix2 _).trans (congrArg₂ ix2 (Fin.ext (by show 0 + 1 * j.val = j.val; omega)) (Fin.ext (by show 512 + 1 * d.val = 2 * 256 + d.val; omega))))

/-- Head 3 of the values. -/
theorem ld_v2 (j d : Fin 256) : View.ld x2 (Rect.unit (s := S256x2048) ![0, 1536] S256x256.size inb_S256x2048_S256x256_0_1536) (ix2 j d) = vals (fun j l => x2 (ix2 j l)) 2 j d :=
  congrArg x2 ((eq_ix2 _).trans (congrArg₂ ix2 (Fin.ext (by show 0 + 1 * j.val = j.val; omega)) (Fin.ext (by show 1536 + 1 * d.val = 1024 + (2 * 256 + d.val); omega))))

/-- Head 4 of a block of queries. -/
theorem ld_q3 (r : Fin 512) (d : Fin 256) : View.ld x1 (Rect.unit (s := S512x1024) ![0, 768] S512x256.size inb_S512x1024_S512x256_0_768) (ix2 r d) = x1 (ix2 r (at' 3 d)) :=
  congrArg x1 ((eq_ix2 _).trans (congrArg₂ ix2 (Fin.ext (by show 0 + 1 * r.val = r.val; omega)) (Fin.ext (by show 768 + 1 * d.val = 3 * 256 + d.val; omega))))

/-- Head 4 of a block of gradients. -/
theorem ld_o3 (r : Fin 512) (d : Fin 256) : View.ld x0 (Rect.unit (s := S512x1024) ![0, 768] S512x256.size inb_S512x1024_S512x256_0_768) (ix2 r d) = x0 (ix2 r (at' 3 d)) :=
  congrArg x0 ((eq_ix2 _).trans (congrArg₂ ix2 (Fin.ext (by show 0 + 1 * r.val = r.val; omega)) (Fin.ext (by show 768 + 1 * d.val = 3 * 256 + d.val; omega))))

/-- Head 4 of the keys. -/
theorem ld_k3 (j d : Fin 256) : View.ld x2 (Rect.unit (s := S256x2048) ![0, 768] S256x256.size inb_S256x2048_S256x256_0_768) (ix2 j d) = key (fun j l => x2 (ix2 j l)) 3 j d :=
  congrArg x2 ((eq_ix2 _).trans (congrArg₂ ix2 (Fin.ext (by show 0 + 1 * j.val = j.val; omega)) (Fin.ext (by show 768 + 1 * d.val = 3 * 256 + d.val; omega))))

/-- Head 4 of the values. -/
theorem ld_v3 (j d : Fin 256) : View.ld x2 (Rect.unit (s := S256x2048) ![0, 1792] S256x256.size inb_S256x2048_S256x256_0_1792) (ix2 j d) = vals (fun j l => x2 (ix2 j l)) 3 j d :=
  congrArg x2 ((eq_ix2 _).trans (congrArg₂ ix2 (Fin.ext (by show 0 + 1 * j.val = j.val; omega)) (Fin.ext (by show 1792 + 1 * d.val = 1024 + (3 * 256 + d.val); omega))))

/-- Head 1 of a block's queries' gradient. -/
theorem piece_q0 (y : S512x256.Idx) : k0_pay7 (F := Ideal) (View.ld x1 (Rect.unit (s := S512x1024) ![0, 0] S512x256.size inb_S512x1024_S512x256_0_0)) (View.ld x2 (Rect.unit (s := S256x2048) ![0, 0] S256x256.size inb_S256x2048_S256x256_0_0)) (View.ld x2 (Rect.unit (s := S256x2048) ![0, 1024] S256x256.size inb_S256x2048_S256x256_0_1024)) (View.ld x0 (Rect.unit (s := S512x1024) ![0, 0] S512x256.size inb_S512x1024_S512x256_0_0)) y = dqBlock x0 x1 x2 ((Rect.unit (s := S512x1024) ![0, 0] S512x256.size inb_S512x1024_S512x256_0_0).emb y) := by
  refine (congrArg _ (eq_ix2 y)).trans ((pay_q0 _ _ _ _ (y 0) (y 1)).trans ?_)
  have e0 : (Rect.unit (s := S512x1024) ![0, 0] S512x256.size inb_S512x1024_S512x256_0_0).emb y 0 = y 0 := Fin.ext (by show 0 + 1 * (y 0).val = _; omega)
  have e1 : (Rect.unit (s := S512x1024) ![0, 0] S512x256.size inb_S512x1024_S512x256_0_0).emb y 1 = at' 0 (y 1) := Fin.ext (by show 0 + 1 * (y 1).val = 0 * 256 + (y 1).val; omega)
  unfold dqBlock
  rw [e0, e1]
  refine Eq.trans ?_ (dq_at _ _ _ (0 : Fin 4) (y 0) (y 1)).symm
  exact congrArg (· * scale) (sum_congr rfl fun j _ => congrArg₂ _
    (slopes_at _ _ _ _ _ _ _ 0 (ld_q0 x1) (ld_k0 x2) (ld_v0 x2) (ld_o0 x0) (y 0) j) (ld_k0 x2 j (y 1)))

/-- Head 1 of the keys' gradient after a point. -/
theorem piece_k0 (y : S256x256.Idx) : k0_pay8 (F := Ideal) (View.ld x1 (Rect.unit (s := S512x1024) ![0, 0] S512x256.size inb_S512x1024_S512x256_0_0)) (k0_pay6 (View.ld x1 (Rect.unit (s := S512x1024) ![0, 0] S512x256.size inb_S512x1024_S512x256_0_0)) (View.ld x2 (Rect.unit (s := S256x2048) ![0, 0] S256x256.size inb_S256x2048_S256x256_0_0)) (View.ld x2 (Rect.unit (s := S256x2048) ![0, 1024] S256x256.size inb_S256x2048_S256x256_0_1024)) (View.ld x0 (Rect.unit (s := S512x1024) ![0, 0] S512x256.size inb_S512x1024_S512x256_0_0))) (View.ld Z (Rect.unit (s := S256x2048) ![0, 0] S256x256.size inb_S256x2048_S256x256_0_0)) y = after x0 x1 x2 Z ((Rect.unit (s := S256x2048) ![0, 0] S256x256.size inb_S256x2048_S256x256_0_0).emb y) := by
  refine (congrArg _ (eq_ix2 y)).trans ((pay_k0 _ _ _ _ _ (y 0) (y 1)).trans ?_)
  have e0 : (Rect.unit (s := S256x2048) ![0, 0] S256x256.size inb_S256x2048_S256x256_0_0).emb y 0 = y 0 := Fin.ext (by show 0 + 1 * (y 0).val = _; omega)
  have e1 : ((Rect.unit (s := S256x2048) ![0, 0] S256x256.size inb_S256x2048_S256x256_0_0).emb y 1).val = 0 * 256 + (y 1).val := by show 0 + 1 * (y 1).val = 0 * 256 + (y 1).val; omega
  unfold after
  rw [e0]
  refine congrArg₂ _ (congrArg (fun u => Z ((Rect.unit (s := S256x2048) ![0, 0] S256x256.size inb_S256x2048_S256x256_0_0).emb u)) (eq_ix2 y).symm) ?_
  refine Eq.trans ?_ (dkv_key _ _ _ (0 : Fin 4) (y 0) (y 1) _ e1).symm
  exact congrArg (· * scale) (sum_congr rfl fun r _ => congrArg₂ _
    (slopes_at _ _ _ _ _ _ _ 0 (ld_q0 x1) (ld_k0 x2) (ld_v0 x2) (ld_o0 x0) r (y 0)) (ld_q0 x1 r (y 1)))

/-- Head 1 of the values' gradient after a point. -/
theorem piece_v0 (y : S256x256.Idx) : k0_pay9 (F := Ideal) (k0_pay4 (View.ld x0 (Rect.unit (s := S512x1024) ![0, 0] S512x256.size inb_S512x1024_S512x256_0_0))) (k0_pay5 (View.ld x1 (Rect.unit (s := S512x1024) ![0, 0] S512x256.size inb_S512x1024_S512x256_0_0)) (View.ld x2 (Rect.unit (s := S256x2048) ![0, 0] S256x256.size inb_S256x2048_S256x256_0_0))) (View.ld Z (Rect.unit (s := S256x2048) ![0, 1024] S256x256.size inb_S256x2048_S256x256_0_1024)) y = after x0 x1 x2 Z ((Rect.unit (s := S256x2048) ![0, 1024] S256x256.size inb_S256x2048_S256x256_0_1024).emb y) := by
  refine (congrArg _ (eq_ix2 y)).trans ((pay_v0 _ _ _ _ (y 0) (y 1)).trans ?_)
  have e0 : (Rect.unit (s := S256x2048) ![0, 1024] S256x256.size inb_S256x2048_S256x256_0_1024).emb y 0 = y 0 := Fin.ext (by show 0 + 1 * (y 0).val = _; omega)
  have e1 : ((Rect.unit (s := S256x2048) ![0, 1024] S256x256.size inb_S256x2048_S256x256_0_1024).emb y 1).val = 1024 + (0 * 256 + (y 1).val) := by show 1024 + 1 * (y 1).val = 1024 + (0 * 256 + (y 1).val); omega
  unfold after
  rw [e0]
  refine congrArg₂ _ (congrArg (fun u => Z ((Rect.unit (s := S256x2048) ![0, 1024] S256x256.size inb_S256x2048_S256x256_0_1024).emb u)) (eq_ix2 y).symm) ?_
  refine Eq.trans ?_ (dkv_val _ _ _ (0 : Fin 4) (y 0) (y 1) _ e1).symm
  exact sum_congr rfl fun r _ => congrArg₂ _ (weights_at _ _ _ _ 0 (ld_q0 x1) (ld_k0 x2) r (y 0)) (ld_o0 x0 r (y 1))

/-- Head 2 of a block's queries' gradient. -/
theorem piece_q1 (y : S512x256.Idx) : k0_pay16 (F := Ideal) (k0_pay10 (View.ld x2 (Rect.unit (s := S256x2048) ![0, 256] S256x256.size inb_S256x2048_S256x256_0_256))) (k0_pay12 (View.ld x1 (Rect.unit (s := S512x1024) ![0, 256] S512x256.size inb_S512x1024_S512x256_0_256)) (View.ld x2 (Rect.unit (s := S256x2048) ![0, 256] S256x256.size inb_S256x2048_S256x256_0_256))) (k0_pay13 (View.ld x2 (Rect.unit (s := S256x2048) ![0, 1280] S256x256.size inb_S256x2048_S256x256_0_1280)) (View.ld x0 (Rect.unit (s := S512x1024) ![0, 256] S512x256.size inb_S512x1024_S512x256_0_256))) (k0_pay14 (View.ld x1 (Rect.unit (s := S512x1024) ![0, 256] S512x256.size inb_S512x1024_S512x256_0_256)) (View.ld x2 (Rect.unit (s := S256x2048) ![0, 256] S256x256.size inb_S256x2048_S256x256_0_256)) (View.ld x2 (Rect.unit (s := S256x2048) ![0, 1280] S256x256.size inb_S256x2048_S256x256_0_1280)) (View.ld x0 (Rect.unit (s := S512x1024) ![0, 256] S512x256.size inb_S512x1024_S512x256_0_256))) y = dqBlock x0 x1 x2 ((Rect.unit (s := S512x1024) ![0, 256] S512x256.size inb_S512x1024_S512x256_0_256).emb y) := by
  refine (congrArg _ (eq_ix2 y)).trans ((pay_q1 _ _ _ _ (y 0) (y 1)).trans ?_)
  have e0 : (Rect.unit (s := S512x1024) ![0, 256] S512x256.size inb_S512x1024_S512x256_0_256).emb y 0 = y 0 := Fin.ext (by show 0 + 1 * (y 0).val = _; omega)
  have e1 : (Rect.unit (s := S512x1024) ![0, 256] S512x256.size inb_S512x1024_S512x256_0_256).emb y 1 = at' 1 (y 1) := Fin.ext (by show 256 + 1 * (y 1).val = 1 * 256 + (y 1).val; omega)
  unfold dqBlock
  rw [e0, e1]
  refine Eq.trans ?_ (dq_at _ _ _ (1 : Fin 4) (y 0) (y 1)).symm
  exact congrArg (· * scale) (sum_congr rfl fun j _ => congrArg₂ _
    (slopes_at _ _ _ _ _ _ _ 1 (ld_q1 x1) (ld_k1 x2) (ld_v1 x2) (ld_o1 x0) (y 0) j) (ld_k1 x2 j (y 1)))

/-- Head 2 of the keys' gradient after a point. -/
theorem piece_k1 (y : S256x256.Idx) : k0_pay17 (F := Ideal) (View.ld x1 (Rect.unit (s := S512x1024) ![0, 256] S512x256.size inb_S512x1024_S512x256_0_256)) (k0_pay12 (View.ld x1 (Rect.unit (s := S512x1024) ![0, 256] S512x256.size inb_S512x1024_S512x256_0_256)) (View.ld x2 (Rect.unit (s := S256x2048) ![0, 256] S256x256.size inb_S256x2048_S256x256_0_256))) (k0_pay13 (View.ld x2 (Rect.unit (s := S256x2048) ![0, 1280] S256x256.size inb_S256x2048_S256x256_0_1280)) (View.ld x0 (Rect.unit (s := S512x1024) ![0, 256] S512x256.size inb_S512x1024_S512x256_0_256))) (k0_pay14 (View.ld x1 (Rect.unit (s := S512x1024) ![0, 256] S512x256.size inb_S512x1024_S512x256_0_256)) (View.ld x2 (Rect.unit (s := S256x2048) ![0, 256] S256x256.size inb_S256x2048_S256x256_0_256)) (View.ld x2 (Rect.unit (s := S256x2048) ![0, 1280] S256x256.size inb_S256x2048_S256x256_0_1280)) (View.ld x0 (Rect.unit (s := S512x1024) ![0, 256] S512x256.size inb_S512x1024_S512x256_0_256))) (View.ld Z (Rect.unit (s := S256x2048) ![0, 256] S256x256.size inb_S256x2048_S256x256_0_256)) y = after x0 x1 x2 Z ((Rect.unit (s := S256x2048) ![0, 256] S256x256.size inb_S256x2048_S256x256_0_256).emb y) := by
  refine (congrArg _ (eq_ix2 y)).trans ((pay_k1 _ _ _ _ _ (y 0) (y 1)).trans ?_)
  have e0 : (Rect.unit (s := S256x2048) ![0, 256] S256x256.size inb_S256x2048_S256x256_0_256).emb y 0 = y 0 := Fin.ext (by show 0 + 1 * (y 0).val = _; omega)
  have e1 : ((Rect.unit (s := S256x2048) ![0, 256] S256x256.size inb_S256x2048_S256x256_0_256).emb y 1).val = 1 * 256 + (y 1).val := by show 256 + 1 * (y 1).val = 1 * 256 + (y 1).val; omega
  unfold after
  rw [e0]
  refine congrArg₂ _ (congrArg (fun u => Z ((Rect.unit (s := S256x2048) ![0, 256] S256x256.size inb_S256x2048_S256x256_0_256).emb u)) (eq_ix2 y).symm) ?_
  refine Eq.trans ?_ (dkv_key _ _ _ (1 : Fin 4) (y 0) (y 1) _ e1).symm
  exact congrArg (· * scale) (sum_congr rfl fun r _ => congrArg₂ _
    (slopes_at _ _ _ _ _ _ _ 1 (ld_q1 x1) (ld_k1 x2) (ld_v1 x2) (ld_o1 x0) r (y 0)) (ld_q1 x1 r (y 1)))

/-- Head 2 of the values' gradient after a point. -/
theorem piece_v1 (y : S256x256.Idx) : k0_pay18 (F := Ideal) (k0_pay11 (View.ld x0 (Rect.unit (s := S512x1024) ![0, 256] S512x256.size inb_S512x1024_S512x256_0_256))) (k0_pay12 (View.ld x1 (Rect.unit (s := S512x1024) ![0, 256] S512x256.size inb_S512x1024_S512x256_0_256)) (View.ld x2 (Rect.unit (s := S256x2048) ![0, 256] S256x256.size inb_S256x2048_S256x256_0_256))) (View.ld Z (Rect.unit (s := S256x2048) ![0, 1280] S256x256.size inb_S256x2048_S256x256_0_1280)) y = after x0 x1 x2 Z ((Rect.unit (s := S256x2048) ![0, 1280] S256x256.size inb_S256x2048_S256x256_0_1280).emb y) := by
  refine (congrArg _ (eq_ix2 y)).trans ((pay_v1 _ _ _ _ (y 0) (y 1)).trans ?_)
  have e0 : (Rect.unit (s := S256x2048) ![0, 1280] S256x256.size inb_S256x2048_S256x256_0_1280).emb y 0 = y 0 := Fin.ext (by show 0 + 1 * (y 0).val = _; omega)
  have e1 : ((Rect.unit (s := S256x2048) ![0, 1280] S256x256.size inb_S256x2048_S256x256_0_1280).emb y 1).val = 1024 + (1 * 256 + (y 1).val) := by show 1280 + 1 * (y 1).val = 1024 + (1 * 256 + (y 1).val); omega
  unfold after
  rw [e0]
  refine congrArg₂ _ (congrArg (fun u => Z ((Rect.unit (s := S256x2048) ![0, 1280] S256x256.size inb_S256x2048_S256x256_0_1280).emb u)) (eq_ix2 y).symm) ?_
  refine Eq.trans ?_ (dkv_val _ _ _ (1 : Fin 4) (y 0) (y 1) _ e1).symm
  exact sum_congr rfl fun r _ => congrArg₂ _ (weights_at _ _ _ _ 1 (ld_q1 x1) (ld_k1 x2) r (y 0)) (ld_o1 x0 r (y 1))

/-- Head 3 of a block's queries' gradient. -/
theorem piece_q2 (y : S512x256.Idx) : k0_pay25 (F := Ideal) (k0_pay19 (View.ld x2 (Rect.unit (s := S256x2048) ![0, 512] S256x256.size inb_S256x2048_S256x256_0_512))) (k0_pay20 (View.ld x2 (Rect.unit (s := S256x2048) ![0, 1536] S256x256.size inb_S256x2048_S256x256_0_1536))) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512))) y = dqBlock x0 x1 x2 ((Rect.unit (s := S512x1024) ![0, 512] S512x256.size inb_S512x1024_S512x256_0_512).emb y) := by
  refine (congrArg _ (eq_ix2 y)).trans ((pay_q2 _ _ _ _ (y 0) (y 1)).trans ?_)
  have e0 : (Rect.unit (s := S512x1024) ![0, 512] S512x256.size inb_S512x1024_S512x256_0_512).emb y 0 = y 0 := Fin.ext (by show 0 + 1 * (y 0).val = _; omega)
  have e1 : (Rect.unit (s := S512x1024) ![0, 512] S512x256.size inb_S512x1024_S512x256_0_512).emb y 1 = at' 2 (y 1) := Fin.ext (by show 512 + 1 * (y 1).val = 2 * 256 + (y 1).val; omega)
  unfold dqBlock
  rw [e0, e1]
  refine Eq.trans ?_ (dq_at _ _ _ (2 : Fin 4) (y 0) (y 1)).symm
  exact congrArg (· * scale) (sum_congr rfl fun j _ => congrArg₂ _
    (slopes_at _ _ _ _ _ _ _ 2 (ld_q2 x1) (ld_k2 x2) (ld_v2 x2) (ld_o2 x0) (y 0) j) (ld_k2 x2 j (y 1)))

/-- Head 3 of the keys' gradient after a point. -/
theorem piece_k2 (y : S256x256.Idx) : k0_pay26 (F := Ideal) (View.ld x1 (Rect.unit (s := S512x1024) ![0, 512] S512x256.size inb_S512x1024_S512x256_0_512)) (k0_pay20 (View.ld x2 (Rect.unit (s := S256x2048) ![0, 1536] S256x256.size inb_S256x2048_S256x256_0_1536))) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512))) (View.ld Z (Rect.unit (s := S256x2048) ![0, 512] S256x256.size inb_S256x2048_S256x256_0_512)) y = after x0 x1 x2 Z ((Rect.unit (s := S256x2048) ![0, 512] S256x256.size inb_S256x2048_S256x256_0_512).emb y) := by
  refine (congrArg _ (eq_ix2 y)).trans ((pay_k2 _ _ _ _ _ (y 0) (y 1)).trans ?_)
  have e0 : (Rect.unit (s := S256x2048) ![0, 512] S256x256.size inb_S256x2048_S256x256_0_512).emb y 0 = y 0 := Fin.ext (by show 0 + 1 * (y 0).val = _; omega)
  have e1 : ((Rect.unit (s := S256x2048) ![0, 512] S256x256.size inb_S256x2048_S256x256_0_512).emb y 1).val = 2 * 256 + (y 1).val := by show 512 + 1 * (y 1).val = 2 * 256 + (y 1).val; omega
  unfold after
  rw [e0]
  refine congrArg₂ _ (congrArg (fun u => Z ((Rect.unit (s := S256x2048) ![0, 512] S256x256.size inb_S256x2048_S256x256_0_512).emb u)) (eq_ix2 y).symm) ?_
  refine Eq.trans ?_ (dkv_key _ _ _ (2 : Fin 4) (y 0) (y 1) _ e1).symm
  exact congrArg (· * scale) (sum_congr rfl fun r _ => congrArg₂ _
    (slopes_at _ _ _ _ _ _ _ 2 (ld_q2 x1) (ld_k2 x2) (ld_v2 x2) (ld_o2 x0) r (y 0)) (ld_q2 x1 r (y 1)))

/-- Head 3 of the values' gradient after a point. -/
theorem piece_v2 (y : S256x256.Idx) : k0_pay27 (F := Ideal) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512))) (View.ld Z (Rect.unit (s := S256x2048) ![0, 1536] S256x256.size inb_S256x2048_S256x256_0_1536)) y = after x0 x1 x2 Z ((Rect.unit (s := S256x2048) ![0, 1536] S256x256.size inb_S256x2048_S256x256_0_1536).emb y) := by
  refine (congrArg _ (eq_ix2 y)).trans ((pay_v2 _ _ _ _ (y 0) (y 1)).trans ?_)
  have e0 : (Rect.unit (s := S256x2048) ![0, 1536] S256x256.size inb_S256x2048_S256x256_0_1536).emb y 0 = y 0 := Fin.ext (by show 0 + 1 * (y 0).val = _; omega)
  have e1 : ((Rect.unit (s := S256x2048) ![0, 1536] S256x256.size inb_S256x2048_S256x256_0_1536).emb y 1).val = 1024 + (2 * 256 + (y 1).val) := by show 1536 + 1 * (y 1).val = 1024 + (2 * 256 + (y 1).val); omega
  unfold after
  rw [e0]
  refine congrArg₂ _ (congrArg (fun u => Z ((Rect.unit (s := S256x2048) ![0, 1536] S256x256.size inb_S256x2048_S256x256_0_1536).emb u)) (eq_ix2 y).symm) ?_
  refine Eq.trans ?_ (dkv_val _ _ _ (2 : Fin 4) (y 0) (y 1) _ e1).symm
  exact sum_congr rfl fun r _ => congrArg₂ _ (weights_at _ _ _ _ 2 (ld_q2 x1) (ld_k2 x2) r (y 0)) (ld_o2 x0 r (y 1))

/-- Head 4 of a block's queries' gradient. -/
theorem piece_q3 (y : S512x256.Idx) : k0_pay32 (F := Ideal) (View.ld x1 (Rect.unit (s := S512x1024) ![0, 768] S512x256.size inb_S512x1024_S512x256_0_768)) (View.ld x2 (Rect.unit (s := S256x2048) ![0, 768] S256x256.size inb_S256x2048_S256x256_0_768)) (View.ld x2 (Rect.unit (s := S256x2048) ![0, 1792] S256x256.size inb_S256x2048_S256x256_0_1792)) (View.ld x0 (Rect.unit (s := S512x1024) ![0, 768] S512x256.size inb_S512x1024_S512x256_0_768)) y = dqBlock x0 x1 x2 ((Rect.unit (s := S512x1024) ![0, 768] S512x256.size inb_S512x1024_S512x256_0_768).emb y) := by
  refine (congrArg _ (eq_ix2 y)).trans ((pay_q3 _ _ _ _ (y 0) (y 1)).trans ?_)
  have e0 : (Rect.unit (s := S512x1024) ![0, 768] S512x256.size inb_S512x1024_S512x256_0_768).emb y 0 = y 0 := Fin.ext (by show 0 + 1 * (y 0).val = _; omega)
  have e1 : (Rect.unit (s := S512x1024) ![0, 768] S512x256.size inb_S512x1024_S512x256_0_768).emb y 1 = at' 3 (y 1) := Fin.ext (by show 768 + 1 * (y 1).val = 3 * 256 + (y 1).val; omega)
  unfold dqBlock
  rw [e0, e1]
  refine Eq.trans ?_ (dq_at _ _ _ (3 : Fin 4) (y 0) (y 1)).symm
  exact congrArg (· * scale) (sum_congr rfl fun j _ => congrArg₂ _
    (slopes_at _ _ _ _ _ _ _ 3 (ld_q3 x1) (ld_k3 x2) (ld_v3 x2) (ld_o3 x0) (y 0) j) (ld_k3 x2 j (y 1)))

/-- Head 4 of the keys' gradient after a point. -/
theorem piece_k3 (y : S256x256.Idx) : k0_pay33 (F := Ideal) (View.ld x1 (Rect.unit (s := S512x1024) ![0, 768] S512x256.size inb_S512x1024_S512x256_0_768)) (View.ld x2 (Rect.unit (s := S256x2048) ![0, 768] S256x256.size inb_S256x2048_S256x256_0_768)) (View.ld x2 (Rect.unit (s := S256x2048) ![0, 1792] S256x256.size inb_S256x2048_S256x256_0_1792)) (View.ld x0 (Rect.unit (s := S512x1024) ![0, 768] S512x256.size inb_S512x1024_S512x256_0_768)) (View.ld Z (Rect.unit (s := S256x2048) ![0, 768] S256x256.size inb_S256x2048_S256x256_0_768)) y = after x0 x1 x2 Z ((Rect.unit (s := S256x2048) ![0, 768] S256x256.size inb_S256x2048_S256x256_0_768).emb y) := by
  refine (congrArg _ (eq_ix2 y)).trans ((pay_k3 _ _ _ _ _ (y 0) (y 1)).trans ?_)
  have e0 : (Rect.unit (s := S256x2048) ![0, 768] S256x256.size inb_S256x2048_S256x256_0_768).emb y 0 = y 0 := Fin.ext (by show 0 + 1 * (y 0).val = _; omega)
  have e1 : ((Rect.unit (s := S256x2048) ![0, 768] S256x256.size inb_S256x2048_S256x256_0_768).emb y 1).val = 3 * 256 + (y 1).val := by show 768 + 1 * (y 1).val = 3 * 256 + (y 1).val; omega
  unfold after
  rw [e0]
  refine congrArg₂ _ (congrArg (fun u => Z ((Rect.unit (s := S256x2048) ![0, 768] S256x256.size inb_S256x2048_S256x256_0_768).emb u)) (eq_ix2 y).symm) ?_
  refine Eq.trans ?_ (dkv_key _ _ _ (3 : Fin 4) (y 0) (y 1) _ e1).symm
  exact congrArg (· * scale) (sum_congr rfl fun r _ => congrArg₂ _
    (slopes_at _ _ _ _ _ _ _ 3 (ld_q3 x1) (ld_k3 x2) (ld_v3 x2) (ld_o3 x0) r (y 0)) (ld_q3 x1 r (y 1)))

/-- Head 4 of the values' gradient after a point. -/
theorem piece_v3 (y : S256x256.Idx) : k0_pay1 (F := Ideal) (k0_pay29 (View.ld x0 (Rect.unit (s := S512x1024) ![0, 768] S512x256.size inb_S512x1024_S512x256_0_768))) (k0_pay30 (View.ld x1 (Rect.unit (s := S512x1024) ![0, 768] S512x256.size inb_S512x1024_S512x256_0_768)) (View.ld x2 (Rect.unit (s := S256x2048) ![0, 768] S256x256.size inb_S256x2048_S256x256_0_768))) (View.ld Z (Rect.unit (s := S256x2048) ![0, 1792] S256x256.size inb_S256x2048_S256x256_0_1792)) y = after x0 x1 x2 Z ((Rect.unit (s := S256x2048) ![0, 1792] S256x256.size inb_S256x2048_S256x256_0_1792).emb y) := by
  refine (congrArg _ (eq_ix2 y)).trans ((pay_v3 _ _ _ _ (y 0) (y 1)).trans ?_)
  have e0 : (Rect.unit (s := S256x2048) ![0, 1792] S256x256.size inb_S256x2048_S256x256_0_1792).emb y 0 = y 0 := Fin.ext (by show 0 + 1 * (y 0).val = _; omega)
  have e1 : ((Rect.unit (s := S256x2048) ![0, 1792] S256x256.size inb_S256x2048_S256x256_0_1792).emb y 1).val = 1024 + (3 * 256 + (y 1).val) := by show 1792 + 1 * (y 1).val = 1024 + (3 * 256 + (y 1).val); omega
  unfold after
  rw [e0]
  refine congrArg₂ _ (congrArg (fun u => Z ((Rect.unit (s := S256x2048) ![0, 1792] S256x256.size inb_S256x2048_S256x256_0_1792).emb u)) (eq_ix2 y).symm) ?_
  refine Eq.trans ?_ (dkv_val _ _ _ (3 : Fin 4) (y 0) (y 1) _ e1).symm
  exact sum_congr rfl fun r _ => congrArg₂ _ (weights_at _ _ _ _ 3 (ld_q3 x1) (ld_k3 x2) r (y 0)) (ld_o3 x0 r (y 1))

/-- The pieces of the queries' gradient. -/
def queries : List (View.Piece (Elt Ideal) S512x1024 .f32) :=
  [⟨(Rect.unit (s := S512x1024) ![0, 768] S512x256.size inb_S512x1024_S512x256_0_768), k0_pay32 (F := Ideal) (View.ld x1 (Rect.unit (s := S512x1024) ![0, 768] S512x256.size inb_S512x1024_S512x256_0_768)) (View.ld x2 (Rect.unit (s := S256x2048) ![0, 768] S256x256.size inb_S256x2048_S256x256_0_768)) (View.ld x2 (Rect.unit (s := S256x2048) ![0, 1792] S256x256.size inb_S256x2048_S256x256_0_1792)) (View.ld x0 (Rect.unit (s := S512x1024) ![0, 768] S512x256.size inb_S512x1024_S512x256_0_768))⟩,
   ⟨(Rect.unit (s := S512x1024) ![0, 512] S512x256.size inb_S512x1024_S512x256_0_512), k0_pay25 (F := Ideal) (k0_pay19 (View.ld x2 (Rect.unit (s := S256x2048) ![0, 512] S256x256.size inb_S256x2048_S256x256_0_512))) (k0_pay20 (View.ld x2 (Rect.unit (s := S256x2048) ![0, 1536] S256x256.size inb_S256x2048_S256x256_0_1536))) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512)))⟩,
   ⟨(Rect.unit (s := S512x1024) ![0, 256] S512x256.size inb_S512x1024_S512x256_0_256), k0_pay16 (F := Ideal) (k0_pay10 (View.ld x2 (Rect.unit (s := S256x2048) ![0, 256] S256x256.size inb_S256x2048_S256x256_0_256))) (k0_pay12 (View.ld x1 (Rect.unit (s := S512x1024) ![0, 256] S512x256.size inb_S512x1024_S512x256_0_256)) (View.ld x2 (Rect.unit (s := S256x2048) ![0, 256] S256x256.size inb_S256x2048_S256x256_0_256))) (k0_pay13 (View.ld x2 (Rect.unit (s := S256x2048) ![0, 1280] S256x256.size inb_S256x2048_S256x256_0_1280)) (View.ld x0 (Rect.unit (s := S512x1024) ![0, 256] S512x256.size inb_S512x1024_S512x256_0_256))) (k0_pay14 (View.ld x1 (Rect.unit (s := S512x1024) ![0, 256] S512x256.size inb_S512x1024_S512x256_0_256)) (View.ld x2 (Rect.unit (s := S256x2048) ![0, 256] S256x256.size inb_S256x2048_S256x256_0_256)) (View.ld x2 (Rect.unit (s := S256x2048) ![0, 1280] S256x256.size inb_S256x2048_S256x256_0_1280)) (View.ld x0 (Rect.unit (s := S512x1024) ![0, 256] S512x256.size inb_S512x1024_S512x256_0_256)))⟩,
   ⟨(Rect.unit (s := S512x1024) ![0, 0] S512x256.size inb_S512x1024_S512x256_0_0), k0_pay7 (F := Ideal) (View.ld x1 (Rect.unit (s := S512x1024) ![0, 0] S512x256.size inb_S512x1024_S512x256_0_0)) (View.ld x2 (Rect.unit (s := S256x2048) ![0, 0] S256x256.size inb_S256x2048_S256x256_0_0)) (View.ld x2 (Rect.unit (s := S256x2048) ![0, 1024] S256x256.size inb_S256x2048_S256x256_0_1024)) (View.ld x0 (Rect.unit (s := S512x1024) ![0, 0] S512x256.size inb_S512x1024_S512x256_0_0))⟩]

/-- The pieces of the keys' and values' gradient. -/
def pieces : List (View.Piece (Elt Ideal) S256x2048 .f32) :=
  [⟨(Rect.unit (s := S256x2048) ![0, 1792] S256x256.size inb_S256x2048_S256x256_0_1792), k0_pay1 (F := Ideal) (k0_pay29 (View.ld x0 (Rect.unit (s := S512x1024) ![0, 768] S512x256.size inb_S512x1024_S512x256_0_768))) (k0_pay30 (View.ld x1 (Rect.unit (s := S512x1024) ![0, 768] S512x256.size inb_S512x1024_S512x256_0_768)) (View.ld x2 (Rect.unit (s := S256x2048) ![0, 768] S256x256.size inb_S256x2048_S256x256_0_768))) (View.ld Z (Rect.unit (s := S256x2048) ![0, 1792] S256x256.size inb_S256x2048_S256x256_0_1792))⟩,
   ⟨(Rect.unit (s := S256x2048) ![0, 768] S256x256.size inb_S256x2048_S256x256_0_768), k0_pay33 (F := Ideal) (View.ld x1 (Rect.unit (s := S512x1024) ![0, 768] S512x256.size inb_S512x1024_S512x256_0_768)) (View.ld x2 (Rect.unit (s := S256x2048) ![0, 768] S256x256.size inb_S256x2048_S256x256_0_768)) (View.ld x2 (Rect.unit (s := S256x2048) ![0, 1792] S256x256.size inb_S256x2048_S256x256_0_1792)) (View.ld x0 (Rect.unit (s := S512x1024) ![0, 768] S512x256.size inb_S512x1024_S512x256_0_768)) (View.ld Z (Rect.unit (s := S256x2048) ![0, 768] S256x256.size inb_S256x2048_S256x256_0_768))⟩,
   ⟨(Rect.unit (s := S256x2048) ![0, 1536] S256x256.size inb_S256x2048_S256x256_0_1536), k0_pay27 (F := Ideal) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512))) (View.ld Z (Rect.unit (s := S256x2048) ![0, 1536] S256x256.size inb_S256x2048_S256x256_0_1536))⟩,
   ⟨(Rect.unit (s := S256x2048) ![0, 512] S256x256.size inb_S256x2048_S256x256_0_512), k0_pay26 (F := Ideal) (View.ld x1 (Rect.unit (s := S512x1024) ![0, 512] S512x256.size inb_S512x1024_S512x256_0_512)) (k0_pay20 (View.ld x2 (Rect.unit (s := S256x2048) ![0, 1536] S256x256.size inb_S256x2048_S256x256_0_1536))) (k0_pay21 (View.ld x0 (Rect.unit (s := S512x1024) ![0, 512] S512x256.size inb_S512x1024_S512x256_0_512))) (k0_pay22 (View.ld x1 (Rect.unit (s := S512x1024) ![0, 512] S512x256.size inb_S512x1024_S512x256_0_512)) (View.ld x2 (Rect.unit (s := S256x2048) ![0, 512] S256x256.size inb_S256x2048_S256x256_0_512))) (View.ld Z (Rect.unit (s := S256x2048) ![0, 512] S256x256.size inb_S256x2048_S256x256_0_512))⟩,
   ⟨(Rect.unit (s := S256x2048) ![0, 1280] S256x256.size inb_S256x2048_S256x256_0_1280), k0_pay18 (F := Ideal) (k0_pay11 (View.ld x0 (Rect.unit (s := S512x1024) ![0, 256] S512x256.size inb_S512x1024_S512x256_0_256))) (k0_pay12 (View.ld x1 (Rect.unit (s := S512x1024) ![0, 256] S512x256.size inb_S512x1024_S512x256_0_256)) (View.ld x2 (Rect.unit (s := S256x2048) ![0, 256] S256x256.size inb_S256x2048_S256x256_0_256))) (View.ld Z (Rect.unit (s := S256x2048) ![0, 1280] S256x256.size inb_S256x2048_S256x256_0_1280))⟩,
   ⟨(Rect.unit (s := S256x2048) ![0, 256] S256x256.size inb_S256x2048_S256x256_0_256), k0_pay17 (F := Ideal) (View.ld x1 (Rect.unit (s := S512x1024) ![0, 256] S512x256.size inb_S512x1024_S512x256_0_256)) (k0_pay12 (View.ld x1 (Rect.unit (s := S512x1024) ![0, 256] S512x256.size inb_S512x1024_S512x256_0_256)) (View.ld x2 (Rect.unit (s := S256x2048) ![0, 256] S256x256.size inb_S256x2048_S256x256_0_256))) (k0_pay13 (View.ld x2 (Rect.unit (s := S256x2048) ![0, 1280] S256x256.size inb_S256x2048_S256x256_0_1280)) (View.ld x0 (Rect.unit (s := S512x1024) ![0, 256] S512x256.size inb_S512x1024_S512x256_0_256))) (k0_pay14 (View.ld x1 (Rect.unit (s := S512x1024) ![0, 256] S512x256.size inb_S512x1024_S512x256_0_256)) (View.ld x2 (Rect.unit (s := S256x2048) ![0, 256] S256x256.size inb_S256x2048_S256x256_0_256)) (View.ld x2 (Rect.unit (s := S256x2048) ![0, 1280] S256x256.size inb_S256x2048_S256x256_0_1280)) (View.ld x0 (Rect.unit (s := S512x1024) ![0, 256] S512x256.size inb_S512x1024_S512x256_0_256))) (View.ld Z (Rect.unit (s := S256x2048) ![0, 256] S256x256.size inb_S256x2048_S256x256_0_256))⟩,
   ⟨(Rect.unit (s := S256x2048) ![0, 1024] S256x256.size inb_S256x2048_S256x256_0_1024), k0_pay9 (F := Ideal) (k0_pay4 (View.ld x0 (Rect.unit (s := S512x1024) ![0, 0] S512x256.size inb_S512x1024_S512x256_0_0))) (k0_pay5 (View.ld x1 (Rect.unit (s := S512x1024) ![0, 0] S512x256.size inb_S512x1024_S512x256_0_0)) (View.ld x2 (Rect.unit (s := S256x2048) ![0, 0] S256x256.size inb_S256x2048_S256x256_0_0))) (View.ld Z (Rect.unit (s := S256x2048) ![0, 1024] S256x256.size inb_S256x2048_S256x256_0_1024))⟩,
   ⟨(Rect.unit (s := S256x2048) ![0, 0] S256x256.size inb_S256x2048_S256x256_0_0), k0_pay8 (F := Ideal) (View.ld x1 (Rect.unit (s := S512x1024) ![0, 0] S512x256.size inb_S512x1024_S512x256_0_0)) (k0_pay6 (View.ld x1 (Rect.unit (s := S512x1024) ![0, 0] S512x256.size inb_S512x1024_S512x256_0_0)) (View.ld x2 (Rect.unit (s := S256x2048) ![0, 0] S256x256.size inb_S256x2048_S256x256_0_0)) (View.ld x2 (Rect.unit (s := S256x2048) ![0, 1024] S256x256.size inb_S256x2048_S256x256_0_1024)) (View.ld x0 (Rect.unit (s := S512x1024) ![0, 0] S512x256.size inb_S512x1024_S512x256_0_0))) (View.ld Z (Rect.unit (s := S256x2048) ![0, 0] S256x256.size inb_S256x2048_S256x256_0_0))⟩]

/-- The queries' pieces cover a block. -/
theorem cover_q (y : S512x1024.Idx) : ∃ p ∈ queries x0 x1 x2, y ∈ p.1.set :=
  View.cover_of_tiledBy (queries x0 x1 x2) ![512, 256] (by sl_kernel_rfl) y

/-- The keys' and values' pieces cover the array. -/
theorem cover (y : S256x2048.Idx) : ∃ p ∈ pieces x0 x1 x2 Z, y ∈ p.1.set :=
  View.cover_of_tiledBy (pieces x0 x1 x2 Z) ![256, 256] (by sl_kernel_rfl) y

/-- The queries' pieces stored over anything leave the block's gradient. -/
theorem stored_q (L : List (View.Piece (Elt Ideal) S512x1024 .f32)) : View.canon (queries x0 x1 x2 ++ L) = dqBlock x0 x1 x2 :=
  funext fun y => View.canon_append_of_piecesOf _ L _ (show View.PiecesOf (dqBlock x0 x1 x2) (queries x0 x1 x2) from
    ⟨piece_q3 x0 x1 x2, piece_q2 x0 x1 x2, piece_q1 x0 x1 x2, piece_q0 x0 x1 x2, trivial⟩) y (cover_q x0 x1 x2 y)

/-- The keys' and values' pieces stored over anything leave the array after a point. -/
theorem stored (L : List (View.Piece (Elt Ideal) S256x2048 .f32)) : View.canon (pieces x0 x1 x2 Z ++ L) = after x0 x1 x2 Z :=
  funext fun y => View.canon_append_of_piecesOf _ L _ (show View.PiecesOf (after x0 x1 x2 Z) (pieces x0 x1 x2 Z) from
    ⟨piece_v3 x0 x1 x2 Z, piece_k3 x0 x1 x2 Z, piece_v2 x0 x1 x2 Z, piece_k2 x0 x1 x2 Z, piece_v1 x0 x1 x2 Z, piece_k1 x0 x1 x2 Z, piece_v0 x0 x1 x2 Z, piece_k0 x0 x1 x2 Z, trivial⟩) y (cover x0 x1 x2 Z y)

variable (m : (ℓ : Loc nD τ sig) → Buf (Elt Ideal) ℓ) (c : Dev nD)

/-- The array after the first point. -/
theorem first (t : Fin cfg0.N) (h0 : t.val % 16 = 0) : (outsAt0 m c t.val t.isLt).2 = after (iblk m c 0 t) (iblk m c 1 t) (iblk m c 2 t) (k0_pay2 (F := Ideal)) := by
  rw [outsAt0_A m c t h0]
  dsimp only
  unfold out0_A_4
  rw [View.read_writes_eq_canon _ _ _ (cover0_A_4 c _ _ (hs0_0 t) _ (hs0_1 t) _ (hs0_2 t) _ (hs0_3 t) _ (hs0_4 t) _ _ _ _)]
  unfold kernelRun0_A
  dsimp only
  try sl_unfold_words
  simp (disch := decide) only [↓ View.readCov_skip, ↓ View.readCov_fill, View.readAt_eq_ld, (hs0_0 t).read_unread, (hs0_1 t).read_unread, (hs0_2 t).read_unread, (hs0_3 t).read_unread, (hs0_4 t).read_unread]
  exact stored _ _ _ _ [_]

/-- The array after a later point. -/
theorem later (t : Fin cfg0.N) (h0 : ¬ t.val % 16 = 0) : (outsAt0 m c t.val t.isLt).2
    = after (iblk m c 0 t) (iblk m c 1 t) (iblk m c 2 t) (outsAt0 m c (t.val - 1) (Nat.lt_of_le_of_lt (Nat.sub_le _ _) t.isLt)).2 := by
  rw [outsAt0_B m c t h0]
  dsimp only
  unfold out0_B_4
  rw [View.read_writes_eq_canon _ _ _ (cover0_B_4 c _ _ (hs0_0 t) _ (hs0_1 t) _ (hs0_2 t) _ (hs0_3 t) _ (hs0_4 t) _ _ _ _ _)]
  unfold kernelRun0_B
  dsimp only
  try sl_unfold_words
  simp only [View.readAt_eq_ld, (hs0_0 t).read_unread, (hs0_1 t).read_unread, (hs0_2 t).read_unread, (hs0_3 t).read_unread, (hs0_4 t).read_unread]
  exact stored _ _ _ _ []

/-- A point's block of the queries' gradient. -/
theorem out_q (t : Fin cfg0.N) : (outsAt0 m c t.val t.isLt).1 = dqBlock (iblk m c 0 t) (iblk m c 1 t) (iblk m c 2 t) := by
  by_cases h0 : t.val % 16 = 0
  · rw [outsAt0_A m c t h0]
    dsimp only
    unfold out0_A_3
    rw [View.read_writes_eq_canon _ _ _ (cover0_A_3 c _ _ (hs0_0 t) _ (hs0_1 t) _ (hs0_2 t) _ (hs0_3 t) _ (hs0_4 t) _ _ _ _)]
    unfold kernelRun0_A
    dsimp only
    try sl_unfold_words
    simp (disch := decide) only [↓ View.readCov_skip, ↓ View.readCov_fill, View.readAt_eq_ld, (hs0_0 t).read_unread, (hs0_1 t).read_unread, (hs0_2 t).read_unread, (hs0_3 t).read_unread, (hs0_4 t).read_unread]
    exact stored_q _ _ _ []
  · rw [outsAt0_B m c t h0]
    dsimp only
    unfold out0_B_3
    rw [View.read_writes_eq_canon _ _ _ (cover0_B_3 c _ _ (hs0_0 t) _ (hs0_1 t) _ (hs0_2 t) _ (hs0_3 t) _ (hs0_4 t) _ _ _ _ _)]
    unfold kernelRun0_B
    dsimp only
    try sl_unfold_words
    simp only [View.readAt_eq_ld, (hs0_0 t).read_unread, (hs0_1 t).read_unread, (hs0_2 t).read_unread, (hs0_3 t).read_unread, (hs0_4 t).read_unread]
    exact stored_q _ _ _ []

end Cert.Memory18

end
-- ==== Proof.Memory18.lean ====
module

public import proofs.«01_k».proof.Proof.Memory18Store
public import proofs.«01_k».proof.Proof.Sums

/-!
# The memory's backward pass over the whole sequence
-/

@[expose] public section

set_option maxRecDepth 16384

noncomputable section

namespace Cert.Memory18

open Idealize.ShloMosaic Idealize.ShloMosaic.TcCoe Idealize.SL.Sem Cert.Kernel18Ideal Cert.Kernel18Ideal.Gen Finset Cert.Soft Cert.Stick

variable (m : (ℓ : Loc nD τ sig) → Buf (Elt Ideal) ℓ) (c : Dev nD)

/-- The gradient of the attention. -/
def grad : Fin 8192 → Fin 1024 → EReal := fun t l => m ((c : Thread nD τ).loc main_arg0) (ix2 t l)

/-- The queries. -/
def inp : Fin 8192 → Fin 1024 → EReal := fun t l => m ((c : Thread nD τ).loc main_arg1) (ix2 t l)

/-- The keys and values. -/
def mem : Fin 256 → Fin 2048 → EReal := fun j l => m ((c : Thread nD τ).loc main_arg2) (ix2 j l)

/-- The blocks of the grid's points. -/
theorem index_eq : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- A block's row in the whole array. -/
def row (t : Fin cfg0.N) (r : Fin 512) : Fin 8192 := ⟨512 * t.val + r.val, by have ht : t.val < 16 := t.isLt; omega⟩

/-- A point's rows of the gradient. -/
theorem block0 (t : Fin cfg0.N) (r : Fin 512) (l : Fin 1024) : iblk m c 0 t (ix2 r l) = grad m c (row t r) l := by
  have ht : t.val < 16 := t.isLt
  refine Eq.trans ?_ (congrFun (V_main_arg0 m c) _)
  unfold row
  blk_ext [iblk, index_eq t]

/-- A point's rows of the queries. -/
theorem block1 (t : Fin cfg0.N) (r : Fin 512) (l : Fin 1024) : iblk m c 1 t (ix2 r l) = inp m c (row t r) l := by
  have ht : t.val < 16 := t.isLt
  refine Eq.trans ?_ (congrFun (V_main_arg1 m c) _)
  unfold row
  blk_ext [iblk, index_eq t]

/-- A point's keys and values. -/
theorem block2 (t : Fin cfg0.N) (j : Fin 256) (l : Fin 2048) : iblk m c 2 t (ix2 j l) = mem m c j l := by
  refine Eq.trans ?_ (congrFun (V_main_arg2 m c) _)
  blk_ext [iblk, index_eq t]

/-- A point's rows of the gradient, as a function. -/
theorem rows0 (t : Fin cfg0.N) : (fun r l => iblk m c 0 t (ix2 r l)) = fun r => grad m c (row t r) := funext fun r => funext fun l => block0 m c t r l

/-- A point's rows of the queries, as a function. -/
theorem rows1 (t : Fin cfg0.N) : (fun r l => iblk m c 1 t (ix2 r l)) = fun r => inp m c (row t r) := funext fun r => funext fun l => block1 m c t r l

/-- A point's keys and values, as a function. -/
theorem rows2 (t : Fin cfg0.N) : (fun j l => iblk m c 2 t (ix2 j l)) = mem m c := funext fun j => funext fun l => block2 m c t j l

/-- The parts of a row, as an array with one column. -/
def parts (j : Fin 256) (l : Fin 2048) : Fin 8192 → Fin 1 → EReal := fun t _ => part (grad m c) (inp m c) (mem m c) j l t

/-- The sum over a point's rows. -/
def term (j : Fin 256) (l : Fin 2048) (n : ℕ) : EReal := ∑ p ∈ range 512, cell (parts m c j l) (512 * n + p) 0

/-- The first point starts from zero. -/
theorem zero (j : Fin 256) (l : Fin 2048) : k0_pay2 (F := Ideal) (ix2 j l) = 0 := by
  unfold k0_pay2
  pointwise

/-- The queries' gradient at an array's index. -/
def result3 : Buf (Elt Ideal) ((c : Thread nD τ).loc main_v0_0) := fun i => dq' (grad m c) (inp m c) (mem m c) (i 0) (i 1)

/-- The keys' and values' gradient at a row and a column. -/
def value4 (j : Fin 256) (l : Fin 2048) : EReal := ∑ t : Fin 8192, part (grad m c) (inp m c) (mem m c) j l t

/-- The keys' and values' gradient at an array's index. -/
def result4 : Buf (Elt Ideal) ((c : Thread nD τ).loc main_v0_1) := fun i => value4 m c (i 0) (i 1)

variable (hq : ∀ t l, (((inp m c t l).toReal : ℝ) : EReal) = inp m c t l)
  (hk : ∀ (j : Fin 256) (l : Fin 2048), l.val < 1024 → (((mem m c j l).toReal : ℝ) : EReal) = mem m c j l)

include hq hk

/-- A point adds the sum over its rows. -/
theorem step (Z : Vec Ideal S256x2048 .f32) (t : Fin cfg0.N) (j : Fin 256) (l : Fin 2048) :
    after (iblk m c 0 t) (iblk m c 1 t) (iblk m c 2 t) Z (ix2 j l) = Z (ix2 j l) + term m c j l t.val := by
  have ht : t.val < 16 := t.isLt
  show Z (ix2 j l) + dkv (fun r l => iblk m c 0 t (ix2 r l)) (fun r l => iblk m c 1 t (ix2 r l)) (fun j l => iblk m c 2 t (ix2 j l)) j l = _
  rw [rows0, rows1, rows2, dkv_eq _ _ _ (fun r l => hq (row t r) l) hk]
  refine congrArg _ ?_
  unfold term
  rw [sum_range]
  exact sum_congr rfl fun p _ => (cell_of (parts m c j l) (show 512 * t.val + p.val < 8192 by omega) Nat.one_pos).symm

/-- The array after point `n`. -/
theorem sums (j : Fin 256) (l : Fin 2048) : ∀ (n : ℕ) (h : n < cfg0.N), (outsAt0 m c n h).2 (ix2 j l) = ∑ i ∈ range (n + 1), term m c j l i := by
  intro n
  induction n with
  | zero =>
    intro h
    rw [sum_range_one, show (outsAt0 m c 0 h).2 = _ from first m c ⟨0, h⟩ rfl]
    exact (step m c hq hk _ ⟨0, h⟩ j l).trans (by rw [zero, zero_add])
  | succ n ih =>
    intro h
    have hn : n + 1 < 16 := h
    rw [sum_range_succ, show (outsAt0 m c (n + 1) h).2 = _ from later m c ⟨n + 1, h⟩ (by show ¬ (n + 1) % 16 = 0; omega)]
    exact (step m c hq hk _ ⟨n + 1, h⟩ j l).trans (congrArg (· + _) (ih (Nat.lt_of_succ_lt h)))

/-- The last point leaves the keys' and values' gradient. -/
theorem last (t : Fin cfg0.N) (h : t.val = 15) (j : Fin 256) (l : Fin 2048) :
    (outsAt0 m c t.val t.isLt).2 (ix2 j l) = value4 m c j l := by
  rw [sums m c hq hk, h]
  unfold term value4
  rw [sum_tiles (fun s => cell (parts m c j l) s 0) 512 16, sum_range]
  exact sum_congr rfl fun t _ => cell_mk (parts m c j l) t 0

/-- A point's block of the queries' gradient. -/
theorem point3 (t : Fin cfg0.N) (r : Fin 512) (l : Fin 1024) : (outsAt0 m c t.val t.isLt).1 (ix2 r l) = dq' (grad m c) (inp m c) (mem m c) (row t r) l := by
  rw [out_q]
  show dq (fun r l => iblk m c 0 t (ix2 r l)) (fun r l => iblk m c 1 t (ix2 r l)) (fun j l => iblk m c 2 t (ix2 j l)) r l = _
  rw [rows0, rows1, rows2, dq_eq _ _ _ (fun r l => hq (row t r) l) hk]
  rfl

/-- The array of the queries' gradient. -/
theorem array3 : (dats m 0 c).arrAt 3 cfg0.N = result3 m c := by
  refine (dats m 0 c).arrAt_eq_of_covers 3 _ (by decide +kernel) fun t hf y => ?_
  have h := point3 m c hq hk t (y 0) (y 1)
  have e0 : (win0_3.blk t).view.emb y 0 = row t (y 0) := Fin.ext (by show _ = 512 * t.val + (y 0).val; blk_simp [index_eq t]; try omega)
  have e1 : (win0_3.blk t).view.emb y 1 = y 1 := Fin.ext (by blk_simp [index_eq t]; try omega)
  blk_simp
  rw [after0_3]
  refine (congrArg _ (eq_ix2 y)).trans (h.trans ?_)
  unfold result3
  rw [e0, e1]

/-- The array of the keys' and values' gradient. -/
theorem array4 : (dats m 0 c).arrAt 4 cfg0.N = result4 m c := by
  refine (dats m 0 c).arrAt_eq_of_covers 4 _ (by decide +kernel) fun t hf y => ?_
  have ht : t.val < 16 := t.isLt
  have hf := (flush0_4 t).1 hf
  have h := last m c hq hk t (by omega) (y 0) (y 1)
  have e0 : (win0_4.blk t).view.emb y 0 = y 0 := Fin.ext (by blk_simp [index_eq t]; try omega)
  have e1 : (win0_4.blk t).view.emb y 1 = y 1 := Fin.ext (by blk_simp [index_eq t]; try omega)
  blk_simp
  rw [after0_4]
  refine (congrArg _ (eq_ix2 y)).trans (h.trans ?_)
  unfold result4
  rw [e0, e1]

end Cert.Memory18

end
-- ==== Proof.Memory18Ref.lean ====
module

public import proofs.«01_k».proof.Proof.Slope
public import proofs.«01_k».proof.Proof.Gen.Reference18Ideal.Read

/-!
# The reference of the memory's backward pass
-/

@[expose] public section

set_option maxRecDepth 16384

noncomputable section

namespace Cert.Memory18

open Idealize.ShloMosaic Finset Cert.Soft

open Cert.Reference18Ideal.Read in
/-- The reference's scores. -/
theorem ref_v8 (x1 : FVec Ideal Cert.Reference18Ideal.S8192x1024 .bf16) (x2 : FVec Ideal Cert.Reference18Ideal.S256x2048 .f32) (h : Fin 4) (t : Fin 8192) (j : Fin 256) :
    val_main_v8 (F := Ideal) x1 x2 (ix3 h t j) = score (fun d => x1 (ix2 t (at' h d))) (key (fun j l => x2 (ix2 j l)) h) j := by
  unfold val_main_v8 val_main_v7 val_main_cst val_main_v6 val_main_v4 val_main_v3 val_main_v1 val_main_v0
  pointwise
  rfl

/-- Reduction along the last axis. -/
theorem reduces : Cert.Reference18Ideal.S4x8192x256.Reduces [2] Cert.Reference18Ideal.S4x8192 := by decide

open Cert.Reference18Ideal.Read in
/-- The reference's maximum. -/
theorem ref_v9 (x1 : FVec Ideal Cert.Reference18Ideal.S8192x1024 .bf16) (x2 : FVec Ideal Cert.Reference18Ideal.S256x2048 .f32) (h : Fin 4) (t : Fin 8192) :
    val_main_v9 (F := Ideal) x1 x2 (ix2 h t) = univ.fold max (Ideal.ofBits .f32 0xFF800000#32) fun j : Fin 256 => val_main_v8 (F := Ideal) x1 x2 (ix3 h t j) := by
  unfold val_main_v9
  rw [Host.reduce_eq_fold_single _ _ _ _ reduces]
  refine Finset.fold_congr fun j _ => congrArg (val_main_v8 (F := Ideal) x1 x2) (funext fun a => ?_)
  match a with
  | ⟨0, _⟩ => rfl
  | ⟨1, _⟩ => rfl
  | ⟨2, _⟩ => rfl

open Cert.Reference18Ideal.Read in
/-- The value a maximum starts from. -/
theorem ref_v15 (h : Fin 4) (t : Fin 8192) :
    val_main_v15 (F := Ideal) (ix2 h t) = Ideal.ofBits .f32 0xFF800000#32 := by
  unfold val_main_v15 val_main_cst_2
  pointwise

open Cert.Reference18Ideal.Read in
/-- The reference's largest score. -/
theorem ref_v16 (x1 : FVec Ideal Cert.Reference18Ideal.S8192x1024 .bf16) (x2 : FVec Ideal Cert.Reference18Ideal.S256x2048 .f32) (h : Fin 4) (t : Fin 8192) :
    val_main_v16 (F := Ideal) x1 x2 (ix2 h t) = peak (fun d => x1 (ix2 t (at' h d))) (key (fun j l => x2 (ix2 j l)) h) := by
  unfold val_main_v16
  refine (max_at _ _ _).trans ?_
  rw [ref_v15, ref_v9]
  simp only [ref_v8]
  unfold peak
  exact max_fold _ _

open Cert.Reference18Ideal.Read in
/-- The reference's weights before the division. -/
theorem ref_v29 (x1 : FVec Ideal Cert.Reference18Ideal.S8192x1024 .bf16) (x2 : FVec Ideal Cert.Reference18Ideal.S256x2048 .f32) (h : Fin 4) (t : Fin 8192) (j : Fin 256) :
    val_main_v29 (F := Ideal) x1 x2 (ix3 h t j) = raw (fun d => x1 (ix2 t (at' h d))) (key (fun j l => x2 (ix2 j l)) h) j := by
  unfold val_main_v29 val_main_v28 val_main_v27 val_main_v26
  pointwise
  rw [ref_v8, ref_v16]
  rfl

open Cert.Reference18Ideal.Read in
/-- The sum of the reference's weights. -/
theorem ref_v31 (x1 : FVec Ideal Cert.Reference18Ideal.S8192x1024 .bf16) (x2 : FVec Ideal Cert.Reference18Ideal.S256x2048 .f32) (h : Fin 4) (t : Fin 8192) (e : Fin 1) :
    val_main_v31 (F := Ideal) x1 x2 (ix3 h t e) = tot (fun d => x1 (ix2 t (at' h d))) (key (fun j l => x2 (ix2 j l)) h) := by
  unfold val_main_v31 val_main_v30 val_main_cst_8
  pointwise
  simp only [ref_v29]
  rfl

open Cert.Reference18Ideal.Read in
/-- The reference's weights. -/
theorem ref_v33 (x1 : FVec Ideal Cert.Reference18Ideal.S8192x1024 .bf16) (x2 : FVec Ideal Cert.Reference18Ideal.S256x2048 .f32) (h : Fin 4) (t : Fin 8192) (j : Fin 256) :
    val_main_v33 (F := Ideal) x1 x2 (ix3 h t j) = weight (fun d => x1 (ix2 t (at' h d))) (key (fun j l => x2 (ix2 j l)) h) j := by
  unfold val_main_v33 val_main_v32
  pointwise
  rw [ref_v29, ref_v31]
  rfl

open Cert.Reference18Ideal.Read in
/-- The gradient of the reference's weights. -/
theorem ref_v42 (x0 : FVec Ideal Cert.Reference18Ideal.S8192x1024 .f32) (x2 : FVec Ideal Cert.Reference18Ideal.S256x2048 .f32) (h : Fin 4) (t : Fin 8192) (j : Fin 256) :
    val_main_v42 (F := Ideal) x0 x2 (ix3 h t j) = back (fun d => x0 (ix2 t (at' h d))) (vals (fun j l => x2 (ix2 j l)) h) j := by
  unfold val_main_v42 val_main_v41 val_main_v40 val_main_v5 val_main_v2
  pointwise
  rfl

open Cert.Reference18Ideal.Read in
/-- The terms of the gradient of the sum. -/
theorem ref_v47 (x0 : FVec Ideal Cert.Reference18Ideal.S8192x1024 .f32) (x1 : FVec Ideal Cert.Reference18Ideal.S8192x1024 .bf16) (x2 : FVec Ideal Cert.Reference18Ideal.S256x2048 .f32) (h : Fin 4) (t : Fin 8192) (j : Fin 256) :
    val_main_v47 (F := Ideal) x0 x1 x2 (ix3 h t j) = back (fun d => x0 (ix2 t (at' h d))) (vals (fun j l => x2 (ix2 j l)) h) j * Ideal.div 1 (tot (fun d => x1 (ix2 t (at' h d))) (key (fun j l => x2 (ix2 j l)) h) * tot (fun d => x1 (ix2 t (at' h d))) (key (fun j l => x2 (ix2 j l)) h)) * raw (fun d => x1 (ix2 t (at' h d))) (key (fun j l => x2 (ix2 j l)) h) j := by
  unfold val_main_v47 val_main_v46 val_main_v45 val_main_v36 val_main_v35 val_main_v34 val_main_cst_9
  pointwise
  rw [ref_v42, ref_v31, ref_v29]

open Cert.Reference18Ideal.Read in
/-- The gradient of the sum. -/
theorem ref_v53 (x0 : FVec Ideal Cert.Reference18Ideal.S8192x1024 .f32) (x1 : FVec Ideal Cert.Reference18Ideal.S8192x1024 .bf16) (x2 : FVec Ideal Cert.Reference18Ideal.S256x2048 .f32) (h : Fin 4) (t : Fin 8192) :
    val_main_v53 (F := Ideal) x0 x1 x2 (ix2 h t) = -(∑ i : Fin 256, back (fun d => x0 (ix2 t (at' h d))) (vals (fun j l => x2 (ix2 j l)) h) i * Ideal.div 1 (tot (fun d => x1 (ix2 t (at' h d))) (key (fun j l => x2 (ix2 j l)) h) * tot (fun d => x1 (ix2 t (at' h d))) (key (fun j l => x2 (ix2 j l)) h)) * raw (fun d => x1 (ix2 t (at' h d))) (key (fun j l => x2 (ix2 j l)) h) i) := by
  unfold val_main_v53 val_main_v50 val_main_v49 val_main_v48 val_main_cst_11 val_main_cst_10
  pointwise
  simp only [ref_v47]
  exact Fin.sum_univ_one _

open Cert.Reference18Ideal.Read in
/-- The gradient of the reference's scores. -/
theorem ref_v58 (x0 : FVec Ideal Cert.Reference18Ideal.S8192x1024 .f32) (x1 : FVec Ideal Cert.Reference18Ideal.S8192x1024 .bf16) (x2 : FVec Ideal Cert.Reference18Ideal.S256x2048 .f32) (h : Fin 4) (t : Fin 8192) (j : Fin 256) :
    val_main_v58 (F := Ideal) x0 x1 x2 (ix3 h t j) = slopeAt' (fun t l => x0 (ix2 t l)) (fun t l => x1 (ix2 t l)) (fun j l => x2 (ix2 j l)) h t j := by
  unfold val_main_v58 val_main_v57 val_main_v56 val_main_v55 val_main_v54 val_main_v52 val_main_v51 val_main_cst_12
  pointwise
  rw [ref_v42, ref_v31, ref_v29, ref_v53]
  rfl

open Cert.Reference18Ideal.Read in
/-- The reference's queries' gradient. -/
theorem ref_v65 (x0 : FVec Ideal Cert.Reference18Ideal.S8192x1024 .f32) (x1 : FVec Ideal Cert.Reference18Ideal.S8192x1024 .bf16) (x2 : FVec Ideal Cert.Reference18Ideal.S256x2048 .f32) (t : Fin 8192) (l : Fin 1024) :
    val_main_v65 (F := Ideal) x0 x1 x2 (ix2 t l) = dq' (fun t l => x0 (ix2 t l)) (fun t l => x1 (ix2 t l)) (fun j l => x2 (ix2 j l)) t l := by
  unfold val_main_v65 val_main_v62 val_main_v61 val_main_v4 val_main_v1
  pointwise
  unfold dq'
  refine sum_congr rfl fun j _ => congrArg₂ _ ((ref_v58 x0 x1 x2 _ _ _).trans ?_) (congrArg x2 (congrArg (ix2 j) (Fin.ext ?_)))
  · rfl
  · show l.val = l.val / 256 * 256 + l.val % 256
    omega

open Cert.Reference18Ideal.Read in
/-- The reference's keys' gradient. -/
theorem ref_v64 (x0 : FVec Ideal Cert.Reference18Ideal.S8192x1024 .f32) (x1 : FVec Ideal Cert.Reference18Ideal.S8192x1024 .bf16) (x2 : FVec Ideal Cert.Reference18Ideal.S256x2048 .f32) (j : Fin 256) (l : Fin 1024) :
    val_main_v64 (F := Ideal) x0 x1 x2 (ix2 j l) = ∑ t : Fin 8192, slopeAt' (fun t l => x0 (ix2 t l)) (fun t l => x1 (ix2 t l)) (fun j l => x2 (ix2 j l)) (head l) t j * x1 (ix2 t l) := by
  unfold val_main_v64 val_main_v60 val_main_v59 val_main_v3 val_main_v0
  pointwise
  refine sum_congr rfl fun t _ => congrArg₂ _ ((ref_v58 x0 x1 x2 _ _ _).trans ?_) ?_
  · rfl
  · rfl

open Cert.Reference18Ideal.Read in
/-- The reference's values' gradient. -/
theorem ref_v63 (x0 : FVec Ideal Cert.Reference18Ideal.S8192x1024 .f32) (x1 : FVec Ideal Cert.Reference18Ideal.S8192x1024 .bf16) (x2 : FVec Ideal Cert.Reference18Ideal.S256x2048 .f32) (j : Fin 256) (l : Fin 1024) :
    val_main_v63 (F := Ideal) x0 x1 x2 (ix2 j l) = ∑ t : Fin 8192, weightAt (fun t l => x1 (ix2 t l)) (fun j l => x2 (ix2 j l)) (head l) t j * x0 (ix2 t l) := by
  unfold val_main_v63 val_main_v44 val_main_v43 val_main_v41 val_main_v40
  pointwise
  refine sum_congr rfl fun t _ => (mul_comm _ _).trans (congrArg₂ _ ((ref_v33 x1 x2 _ _ _).trans ?_) ?_)
  · rfl
  · rfl

open Cert.Reference18Ideal.Read in
/-- The reference's keys' and values' gradient. -/
theorem ref_v66 (x0 : FVec Ideal Cert.Reference18Ideal.S8192x1024 .f32) (x1 : FVec Ideal Cert.Reference18Ideal.S8192x1024 .bf16) (x2 : FVec Ideal Cert.Reference18Ideal.S256x2048 .f32) (j : Fin 256) (l : Fin 2048) :
    val_main_v66 (F := Ideal) x0 x1 x2 (ix2 j l) = ∑ t : Fin 8192, part (fun t l => x0 (ix2 t l)) (fun t l => x1 (ix2 t l)) (fun j l => x2 (ix2 j l)) j l t := by
  unfold val_main_v66 part
  pointwise
  by_cases h : l.val < 1024
  · simp only [dif_pos h]
    exact ref_v64 x0 x1 x2 j _
  · simp only [dif_neg h]
    exact ref_v63 x0 x1 x2 j _

end Cert.Memory18

end
-- ==== Proof.Spec.lean ====
module

public import Mathlib.Analysis.SpecialFunctions.Log.Basic
public import Mathlib.Algebra.BigOperators.Intervals
public import Mathlib.Tactic.Linarith
public import Mathlib.Tactic.Ring
public import Mathlib.Tactic.FieldSimp
public import Mathlib.Tactic.Positivity

@[expose] public section

/-!
The gradient of stick-breaking attention over the real numbers: the functions that the kernel
computes, one element each, and their second form, which is the one the reference computes.
Rows and columns are natural numbers; only those within the arrays are ever read.
-/

noncomputable section

namespace Cert.Stick

open Finset

/-- `log (1 + exp x)`. -/
def softplus (x : ℝ) : ℝ := Real.log (1 + Real.exp x)

/-- `softplus` with the exponential taken of a number that is never positive. -/
theorem softplus_stable (z : ℝ) :
    min (-z) 0 - Real.log (1 + Real.exp (min z (-z))) = -softplus z := by
  unfold softplus
  rcases le_total z 0 with h | h
  · rw [min_eq_right (by linarith), min_eq_left (by linarith)]; ring
  · rw [min_eq_left (by linarith), min_eq_right (by linarith)]
    have e : 1 + Real.exp z = Real.exp z * (1 + Real.exp (-z)) := by
      rw [mul_add, ← Real.exp_add, add_neg_cancel, Real.exp_zero]; ring
    rw [e, Real.log_mul (Real.exp_pos z).ne' (by positivity), Real.log_exp]; ring

/-- `softplus` with the larger of the number and zero taken out. -/
theorem softplus_max (x : ℝ) : max x 0 + Real.log (1 + Real.exp (-|x|)) = softplus x := by
  have h := softplus_stable x
  have e : min x (-x) = -|x| := by
    rcases le_total x 0 with h | h
    · rw [abs_of_nonpos h, min_eq_left (by linarith)]; ring
    · rw [abs_of_nonneg h, min_eq_right (by linarith)]
  have e2 : min (-x) 0 = -max x 0 := by
    rcases le_total x 0 with h | h
    · rw [max_eq_right h, min_eq_right (by linarith)]; ring
    · rw [max_eq_left h, min_eq_left (by linarith)]
  rw [e, e2] at h
  linarith

/-- The logarithm of a number's logistic and of its negative's differ by the number. -/
theorem sub_softplus (z : ℝ) : z - softplus z = -softplus (-z) := by
  unfold softplus
  have e : 1 + Real.exp z = Real.exp z * (1 + Real.exp (-z)) := by
    rw [mul_add, ← Real.exp_add, add_neg_cancel, Real.exp_zero]; ring
  rw [e, Real.log_mul (Real.exp_pos z).ne' (by positivity), Real.log_exp]; ring

/-- The logistic of a number and of its negative add to one. -/
theorem exp_neg_softplus_add (z : ℝ) : Real.exp (-softplus z) + Real.exp (-softplus (-z)) = 1 := by
  unfold softplus
  rw [Real.exp_neg, Real.exp_neg, Real.exp_log (by positivity), Real.exp_log (by positivity), Real.exp_neg]
  have := Real.exp_pos z
  field_simp
  ring

section
variable (q k v g : ℕ → ℕ → ℝ)

/-- The score of query `t` and key `s` in head `H`. -/
def score (H t s : ℕ) : ℝ := ∑ d ∈ range 64, (q t (64 * H + d) * (1 / 8)) * k s (64 * H + d)

/-- The logarithm of what query `t` keeps of its stick at key `s`: zero from `s = t` on. -/
def logKeep (H t s : ℕ) : ℝ := if s < t then -softplus (score q k H t s) else 0

/-- The sum of `logKeep` over all keys. -/
def total (H t : ℕ) : ℝ := ∑ s ∈ range 8192, logKeep q k H t s

/-- The weight of key `s` for query `t`: what is broken off at `s` of what the keys between left. -/
def weight (H t s : ℕ) : ℝ :=
  if s < t then
    Real.exp (score q k H t s + -softplus (score q k H t s)
      + (total q k H t - ∑ s' ∈ range (s + 1), logKeep q k H t s'))
  else 0

/-- The weight times its own gradient. -/
def push (H t s : ℕ) : ℝ :=
  weight q k H t s * ∑ d ∈ range 64, g t (64 * H + d) * v s (64 * H + d)

/-- The sum of `push` over the keys before `s`. -/
def pushed (H t s : ℕ) : ℝ := ∑ s' ∈ range s, push q k v g H t s'

/-- The gradient of the score. -/
def dscore (H t s : ℕ) : ℝ :=
  if s < t then
    Real.exp (-softplus (score q k H t s)) * (push q k v g H t s + pushed q k v g H t s)
      - pushed q k v g H t s
  else 0

/-- The gradient of the query, the key and the value of row `t` or `s` and column `c`. -/
def gradQ (t c : ℕ) : ℝ := (∑ s ∈ range 8192, dscore q k v g (c / 64) t s * k s c) * (1 / 8)
def gradK (s c : ℕ) : ℝ := ∑ t ∈ range 8192, dscore q k v g (c / 64) t s * (q t c * (1 / 8))
def gradV (s c : ℕ) : ℝ := ∑ t ∈ range 8192, weight q k (c / 64) t s * g t c

end

end Cert.Stick
-- ==== Proof.Real.lean ====
module

public import proofs.«01_k».proof.Proof.Spec
public import Idealize.ShloMosaic.Lib.Pointwise
public import Idealize.ShloMosaic.Lib.WordCmp
public import Idealize.ShloMosaic.Lib.IdealHost

/-!
# Extended reals of the kernel's scalars, read as reals

Each lemma reads one scalar expression of a tile, at finite operands, as the coercion of a real one.
-/

@[expose] public section

noncomputable section

namespace Cert.Stick

open Idealize.ShloMosaic Finset

/-- A finite sum of coerced reals is the coercion of the sum. -/
theorem sum_coe {n : ℕ} (f : ℕ → ℝ) : (∑ x : Fin n, ((f x : ℝ) : EReal)) = ((∑ s ∈ range n, f s : ℝ) : EReal) := by
  induction n with
  | zero => simp
  | succ n ih => rw [Fin.sum_univ_castSucc, sum_range_succ, EReal.coe_add]; congr 1

/-- The minimum of two coerced reals is the coercion of their minimum. -/
theorem coe_min (a b : ℝ) : min (a : EReal) (b : EReal) = ((min a b : ℝ) : EReal) :=
  (EReal.coe_strictMono.monotone.map_min).symm

/-- The larger of two real numbers. -/
theorem coe_max (a b : ℝ) : max (a : EReal) (b : EReal) = ((max a b : ℝ) : EReal) :=
  (EReal.coe_strictMono.monotone.map_max).symm

/-- The kernel's stable form of `-log (1 + exp z)` at a finite score. -/
theorem neg_softplus_coe (z : ℝ) :
    min (0 - (z : EReal)) 0 - Ideal.log (1 + Ideal.exp (min (z : EReal) (0 - (z : EReal)))) = ((-softplus z : ℝ) : EReal) := by
  rw [← softplus_stable]
  have h0 : (0 : EReal) - (z : EReal) = ((-z : ℝ) : EReal) := by
    rw [← EReal.coe_zero, ← EReal.coe_sub]; simp
  rw [h0, coe_min, Ideal.exp_coe, ← EReal.coe_one, ← EReal.coe_add, Ideal.log_coe, ← EReal.coe_zero, coe_min,
    if_neg (not_le.mpr (by positivity)), ← EReal.coe_sub]

/-- A comparison's bit, widened and converted, is one or zero. -/
theorem sitofp_decide (φ : FTy) (P : Prop) [Decidable P] :
    (FloatOps.sitofp φ (BitVec.setWidth 32 (BitVec.ofBool (decide P))) : Ideal φ) = (((if P then 1 else 0 : ℝ)) : EReal) := by
  change (((BitVec.setWidth 32 (BitVec.ofBool (decide P))).toInt : ℝ) : EReal) = _
  by_cases h : P <;> simp [h]

/-- The entry of the triangular matrix of ones on and above the diagonal. -/
theorem tri_le (φ : FTy) (x c : Fin 256) :
    (FloatOps.sitofp φ (BitVec.setWidth 32 (IntOp.cmpi .sle (BitVec.ofNat 32 ↑x) (BitVec.ofNat 32 ↑c))) : Ideal φ)
      = (((if x.val ≤ c.val then 1 else 0 : ℝ)) : EReal) := by
  rw [WordCmp.cmpi_sle_ofNat (by omega) (by omega), sitofp_decide]

/-- The entry of the triangular matrix of ones above the diagonal. -/
theorem tri_lt (φ : FTy) (x c : Fin 256) :
    (FloatOps.sitofp φ (BitVec.setWidth 32 (IntOp.cmpi .slt (BitVec.ofNat 32 ↑x) (BitVec.ofNat 32 ↑c))) : Ideal φ)
      = (((if x.val < c.val then 1 else 0 : ℝ)) : EReal) := by
  rw [WordCmp.cmpi_slt_ofNat (by omega) (by omega), sitofp_decide]

/-- A lane of the first head of a pair. -/
theorem select_lt {α : Type} (l : Fin 128) (a b : α) :
    Scalar.select (IntOp.cmpi .slt (BitVec.ofNat 32 ↑l) 64#32) a b = if l.val / 64 = 0 then a else b := by
  rw [WordCmp.cmpi_slt_ofNat (by omega) (by omega), WordCmp.select_decide]
  exact if_congr (by omega) rfl rfl

/-- A lane of the second head of a pair. -/
theorem select_ge {α : Type} (l : Fin 128) (a b : α) :
    Scalar.select (IntOp.cmpi .sge (BitVec.ofNat 32 ↑l) 64#32) a b = if l.val / 64 = 1 then a else b := by
  rw [WordCmp.cmpi_sge_ofNat (by omega) (by omega), WordCmp.select_decide]
  exact if_congr (by omega) rfl rfl

/-- A lane picked by its number. -/
theorem select_eq {α : Type} (l : Fin 128) (j : ℕ) (hj : j < 128) (a b : α) :
    Scalar.select (IntOp.cmpi .eq (BitVec.ofNat 32 ↑l) (BitVec.ofNat 32 j)) a b = if l.val = j then a else b := by
  rw [WordCmp.cmpi_eq_ofNat (by omega) (by omega), WordCmp.select_decide]

/-- The strict causal mask of a diagonal tile: key `c + o` against query `ρ % 512`. -/
theorem select_mask {α : Type} (ρ : Fin 1024) (c : Fin 256) (o : ℕ) (ho : o ≤ 256) (a b : α) :
    Scalar.select
      (IntOp.cmpi .slt (IntOp.addi (BitVec.ofNat 32 ↑c) (BitVec.ofNat 32 o))
        (Scalar.select (IntOp.cmpi .sge (BitVec.ofNat 32 ↑ρ) 512#32)
          (IntOp.subi (BitVec.ofNat 32 ↑ρ) 512#32) (BitVec.ofNat 32 ↑ρ))) a b
      = if c.val + o < ρ.val % 512 then a else b := by
  have h1 : IntOp.addi (BitVec.ofNat 32 ↑c) (BitVec.ofNat 32 o) = BitVec.ofNat 32 (c.val + o) := by
    apply BitVec.eq_of_toNat_eq; simp [IntOp.addi, BitVec.toNat_add, BitVec.toNat_ofNat]
  have h2 : Scalar.select (IntOp.cmpi .sge (BitVec.ofNat 32 ↑ρ) 512#32)
      (IntOp.subi (BitVec.ofNat 32 ↑ρ) 512#32) (BitVec.ofNat 32 ↑ρ) = BitVec.ofNat 32 (ρ.val % 512) := by
    rw [WordCmp.cmpi_sge_ofNat (by omega) (by omega), WordCmp.select_decide]
    split
    · apply BitVec.eq_of_toNat_eq; simp only [IntOp.subi, BitVec.toNat_sub, BitVec.toNat_ofNat]; omega
    · congr 1; omega
  rw [h1, h2, WordCmp.cmpi_slt_ofNat (by omega) (by omega), WordCmp.select_decide]

/-- The bfloat16 word of one eighth. -/
theorem eighth_bf16 : Ideal.ofBits FTy.bf16 15872#16 = ((1 / 8 : ℝ) : EReal) := by
  simp [Ideal.ofBits, Ideal.ieee, -EReal.coe_mul]; norm_num

/-- The float32 word of one eighth. -/
theorem eighth_f32 : Ideal.ofBits FTy.f32 0x3E000000#32 = ((1 / 8 : ℝ) : EReal) := by
  simp [Ideal.ofBits, Ideal.ieee, -EReal.coe_mul]; norm_num

/-- A product with the triangular matrix on and above the diagonal sums the columns up to and including this one. -/
theorem sum_tri_le (f : ℕ → ℝ) (c : Fin 256) :
    (∑ x : Fin 256, ((f x : ℝ) : EReal) * (((if x.val ≤ c.val then 1 else 0 : ℝ)) : EReal))
      = ((∑ s ∈ range (c.val + 1), f s : ℝ) : EReal) := by
  have : ∀ x : Fin 256, ((f x : ℝ) : EReal) * (((if x.val ≤ c.val then 1 else 0 : ℝ)) : EReal)
      = ((if x.val < c.val + 1 then f x else 0 : ℝ) : EReal) := by
    intro x; rw [← EReal.coe_mul]; congr 1; split_ifs <;> first | omega | simp
  rw [Finset.sum_congr rfl fun x _ => this x, sum_coe (fun s => if s < c.val + 1 then f s else 0), ← sum_filter]
  congr 2; ext s; simp; omega

/-- A product with the triangular matrix above the diagonal sums the columns before this one. -/
theorem sum_tri_lt (f : ℕ → ℝ) (c : Fin 256) :
    (∑ x : Fin 256, ((f x : ℝ) : EReal) * (((if x.val < c.val then 1 else 0 : ℝ)) : EReal))
      = ((∑ s ∈ range c.val, f s : ℝ) : EReal) := by
  have : ∀ x : Fin 256, ((f x : ℝ) : EReal) * (((if x.val < c.val then 1 else 0 : ℝ)) : EReal)
      = ((if x.val < c.val then f x else 0 : ℝ) : EReal) := by
    intro x; rw [← EReal.coe_mul]; congr 1; split_ifs <;> simp
  rw [Finset.sum_congr rfl fun x _ => this x, sum_coe (fun s => if s < c.val then f s else 0), ← sum_filter]
  congr 2; ext s; simp; omega

/-- The part a cast to bfloat16 leaves over is zero over the reals, and so is its product. -/
theorem sum_low (f : ℕ → ℝ) (g : Fin 256 → EReal) :
    (∑ x : Fin 256, (((f x : ℝ) : EReal) - ((f x : ℝ) : EReal)) * g x) = 0 := by
  apply Finset.sum_eq_zero; intro x _; rw [← EReal.coe_sub, sub_self, EReal.coe_zero, zero_mul]

/-- A sum over the 128 lanes of one head's masked product is the sum over that head's 64 columns. -/
theorem sum_head (h : ℕ) (hh : h < 2) (a b : ℕ → ℝ) :
    ∑ l ∈ range 128, (if l / 64 = h then a l else 0) * b l = ∑ d ∈ range 64, a (64 * h + d) * b (64 * h + d) := by
  rw [show (128 : ℕ) = 64 + 64 from rfl, sum_range_add]
  have h0 : ∀ d ∈ range 64, (if d / 64 = h then a d else 0) * b d = if h = 0 then a d * b d else 0 := by
    intro d hd; rw [mem_range] at hd; rw [Nat.div_eq_of_lt hd]; split_ifs <;> first | omega | simp
  have h1 : ∀ d ∈ range 64, (if (64 + d) / 64 = h then a (64 + d) else 0) * b (64 + d)
      = if h = 1 then a (64 + d) * b (64 + d) else 0 := by
    intro d hd; rw [mem_range] at hd
    rw [show (64 + d) / 64 = 1 by omega]; split_ifs <;> first | omega | simp
  rw [sum_congr rfl h0, sum_congr rfl h1]
  rcases (show h = 0 ∨ h = 1 by omega) with rfl | rfl <;> simp

end Cert.Stick
-- ==== Proof.Scores.lean ====
module

public import proofs.«01_k».proof.Proof.Real
public import Idealize.ShloMosaic.Lib.Pointwise

/-!
# Arrays of scores, and the projection that they come from
-/

@[expose] public section

set_option maxRecDepth 16384

noncomputable section

namespace Cert.Stick

open Idealize.ShloMosaic Idealize.ShloMosaic.TcCoe Finset

variable {q k v : ℕ → ℕ → ℝ}

/-- A finite score's `log (1 + exp x)` as the host writes it. -/
theorem softplus_host (x : ℝ) :
    max (x : EReal) 0 + Ideal.log1p (Ideal.exp (-FloatOps.absf (φ := .f32) (F := Ideal) (x : EReal))) = ((softplus x : ℝ) : EReal) := by
  have e : (FloatOps.absf (φ := .f32) (F := Ideal) (x : EReal) : EReal) = ((|x| : ℝ) : EReal) := by
    show max (x : EReal) (-(x : EReal)) = _
    rw [← EReal.coe_neg, coe_max, abs_eq_max_neg]
  rw [e, ← EReal.coe_neg, Ideal.exp_coe]
  unfold Ideal.log1p
  rw [← EReal.coe_one, ← EReal.coe_add, Ideal.log_coe, if_neg (by have := Real.exp_pos (-|x|); linarith),
    ← EReal.coe_zero, coe_max, ← EReal.coe_add, softplus_max]

/-- The strict causal mask of the whole score matrix. -/
theorem select_before {α : Type} (s t : Fin 8192) (a b : α) :
    Scalar.select (IntOp.cmpi .slt (BitVec.ofNat 32 ↑s) (BitVec.ofNat 32 ↑t)) a b = if s.val < t.val then a else b := by
  rw [WordCmp.cmpi_slt_ofNat (by omega) (by omega), WordCmp.select_decide]

/-- A head's product of a query and a key, scaled afterwards. -/
theorem score_after (H t s : ℕ) : (∑ d ∈ range 64, q t (64 * H + d) * k s (64 * H + d)) * (1 / 8) = score q k H t s := by
  unfold score
  rw [sum_mul]
  exact sum_congr rfl fun d _ => by ring

/-- An array of a number for each head, query and key. -/
def Full (x : FVec Ideal ⟨3, ![4, 8192, 8192]⟩ .f32) (f : ℕ → ℕ → ℕ → ℝ) : Prop :=
  ∀ (H : Fin 4) (t s : Fin 8192), x (ix3 H t s) = ((f H.val t.val s.val : ℝ) : EReal)

/-- The columns of the projection that the attention reads are the real numbers `q`, `k` and `v`. -/
structure Proj (x : FVec Ideal ⟨2, ![8192, 3200]⟩ .f32) (q k v : ℕ → ℕ → ℝ) : Prop where
  /-- The queries. -/
  qry : ∀ (t : Fin 8192) (y : Fin 3200) (x' : ℕ), x' < 256 → y.val = 2304 + x' → x (ix2 t y) = ((q t.val x' : ℝ) : EReal)
  /-- The keys. -/
  key : ∀ (t : Fin 8192) (y : Fin 3200) (x' : ℕ), x' < 256 → y.val = 2560 + x' → x (ix2 t y) = ((k t.val x' : ℝ) : EReal)
  /-- The values. -/
  val : ∀ (t : Fin 8192) (y : Fin 3200) (x' : ℕ), x' < 256 → y.val = 2816 + x' → x (ix2 t y) = ((v t.val x' : ℝ) : EReal)

/-- The gradients of the results of the attention are the real numbers `g`. -/
def Cot (x : FVec Ideal ⟨2, ![8192, 256]⟩ .f32) (g : ℕ → ℕ → ℝ) : Prop :=
  ∀ (t : Fin 8192) (x' : Fin 256), x (ix2 t x') = ((g t.val x'.val : ℝ) : EReal)

end Cert.Stick
-- ==== Proof.Finite.lean ====
module

public import proofs.«01_k».proof.Proof.Scores
public import proofs.«01_k».proof.Pre_finite
public import Idealize.ShloMosaic.Lib.ReduceAll
public import Idealize.ShloMosaic.Lib.Affine

/-!
# The precondition gives real numbers
-/

@[expose] public section

set_option maxRecDepth 16384

noncomputable section

namespace Cert.Stick

open Idealize.ShloMosaic Idealize.ShloMosaic.TcCoe Finset

/-- The shapes of the precondition's operations fit. -/
instance finite_facts : Cert.Pre_finite.Facts where
  bcast_S_S8192x256 := by decide
  reducesTo_S8192x256_S_d0_1 := by decide
  h_S_ := by decide
  slices_S8192x3200_S8192x768_0_2304 := by decide
  bcast_S_S8192x768 := by decide
  reducesTo_S8192x768_S_d0_1 := by decide

/-- What lies below infinity in absolute value is a real number. -/
theorem real_of_lt (x : EReal) (h : Ideal.cmp .olt (max x (-x)) (Ideal.ofBits FTy.f32 0x7F800000#32) = 1#1) : ((x.toReal : ℝ) : EReal) = x := by
  have e : Ideal.ofBits FTy.f32 0x7F800000#32 = (⊤ : EReal) := by simp [Ideal.ofBits, Ideal.ieee]
  rw [e] at h
  have hlt : max x (-x) < ⊤ := by
    by_contra hn
    simp [Ideal.cmp, hn] at h
  refine EReal.coe_toReal ?_ ?_
  · rintro rfl
    simp at hlt
  · rintro rfl
    simp at hlt

instance : Subsingleton Cert.Pre_finite.S_.Idx := ⟨fun a b => funext fun i => i.elim0⟩

/-- Under the precondition the arguments that the attention reads are real numbers. -/
theorem real_of_finite (x0 : FVec Ideal Cert.Pre_finite.S8192x256 .f32) (x1 : FVec Ideal Cert.Pre_finite.S8192x3200 .f32)
    (h : Cert.Pre_finite.fn (F := Ideal) x0 x1 = fun _ => 1#1) :
    (∀ (t : Fin 8192) (y : Fin 256), (((x0 (ix2 t y)).toReal : ℝ) : EReal) = x0 (ix2 t y))
    ∧ (∀ (t : Fin 8192) (y : Fin 3200), 2304 ≤ y.val → y.val < 3072 → (((x1 (ix2 t y)).toReal : ℝ) : EReal) = x1 (ix2 t y)) := by
  have h0 := congrFun h ix0
  dsimp only [Cert.Pre_finite.fn] at h0
  have h1 := IntOp.andi_eq_one.1 h0
  refine ⟨fun t y => ?_, fun t y hl hu => ?_⟩
  · have h2 := Host.reduce_andi_all _ _ _ _ _ h1.1 (ix2 t y)
    refine real_of_lt _ (Eq.trans ?_ h2)
    pointwise
    rfl
  · have h2 := Host.reduce_andi_all _ _ _ _ _ h1.2 (ix2 t ⟨y.val - 2304, by omega⟩)
    refine real_of_lt _ (Eq.trans ?_ h2)
    pointwise
    rw [show (⟨2304 + (y.val - 2304), by omega⟩ : Fin 3200) = y from Fin.ext (by show 2304 + (y.val - 2304) = y.val; omega)]
    rfl

/-- The real numbers of an array from column `o` on. -/
def reals {C : ℕ} (x : FVec Ideal ⟨2, ![8192, C]⟩ .f32) (o : ℕ) (t y : ℕ) : ℝ :=
  if h : t < 8192 ∧ o + y < C then (x (ix2 ⟨t, h.1⟩ ⟨o + y, h.2⟩)).toReal else 0

theorem reals_coe {C : ℕ} (x : FVec Ideal ⟨2, ![8192, C]⟩ .f32) (o : ℕ) (t : Fin 8192) (y : Fin C) (x' : ℕ) (hy : y.val = o + x')
    (h : (((x (ix2 t y)).toReal : ℝ) : EReal) = x (ix2 t y)) : x (ix2 t y) = ((reals x o t.val x' : ℝ) : EReal) := by
  unfold reals
  have e : (⟨o + x', by omega⟩ : Fin C) = y := Fin.ext hy.symm
  rw [dif_pos ⟨t.isLt, by omega⟩, e]
  exact h.symm

/-- The queries, keys and values under the precondition. -/
theorem proj_of_finite {x0 : FVec Ideal Cert.Pre_finite.S8192x256 .f32} {x1 : FVec Ideal Cert.Pre_finite.S8192x3200 .f32}
    (h : Cert.Pre_finite.fn (F := Ideal) x0 x1 = fun _ => 1#1) : Proj x1 (reals x1 2304) (reals x1 2560) (reals x1 2816) where
  qry t y x' hx hy := reals_coe _ _ _ _ _ hy ((real_of_finite x0 x1 h).2 t y (by omega) (by omega))
  key t y x' hx hy := reals_coe _ _ _ _ _ hy ((real_of_finite x0 x1 h).2 t y (by omega) (by omega))
  val t y x' hx hy := reals_coe _ _ _ _ _ hy ((real_of_finite x0 x1 h).2 t y (by omega) (by omega))

/-- The gradients of the results under the precondition. -/
theorem cot_of_finite {x0 : FVec Ideal Cert.Pre_finite.S8192x256 .f32} {x1 : FVec Ideal Cert.Pre_finite.S8192x3200 .f32}
    (h : Cert.Pre_finite.fn (F := Ideal) x0 x1 = fun _ => 1#1) : Cot x0 (reals x0 0) :=
  fun t y => reals_coe _ _ _ _ _ (Nat.zero_add _).symm ((real_of_finite x0 x1 h).1 t y)

end Cert.Stick
-- ==== Proof.Finite18.lean ====
module

public import proofs.«01_k».proof.Proof.Finite
public import proofs.«01_k».proof.Pre_finite18

/-!
# The precondition of the memory's backward pass gives real numbers
-/

@[expose] public section

set_option maxRecDepth 16384

noncomputable section

namespace Cert.Memory18

open Idealize.ShloMosaic Idealize.ShloMosaic.TcCoe Finset Cert.Stick

/-- The shapes of the precondition's operations fit. -/
instance finite18_facts : Cert.Pre_finite18.Facts where
  bcast_S_S8192x1024 := by decide
  reducesTo_S8192x1024_S_d0_1 := by decide
  h_S_ := by decide
  bitsLt_bf16_f32 := by decide
  slices_S256x2048_S256x1024_0_0 := by decide
  bcast_S_S256x1024 := by decide
  reducesTo_S256x1024_S_d0_1 := by decide

instance : Subsingleton Cert.Pre_finite18.S_.Idx := ⟨fun a b => funext fun i => i.elim0⟩

/-- Under the precondition the queries and the keys are real numbers. -/
theorem real_of_finite18 (x0 : FVec Ideal Cert.Pre_finite18.S8192x1024 .f32) (x1 : FVec Ideal Cert.Pre_finite18.S8192x1024 .bf16)
    (x2 : FVec Ideal Cert.Pre_finite18.S256x2048 .f32) (h : Cert.Pre_finite18.fn (F := Ideal) x0 x1 x2 = fun _ => 1#1) :
    (∀ (t : Fin 8192) (l : Fin 1024), (((x1 (ix2 t l)).toReal : ℝ) : EReal) = x1 (ix2 t l))
    ∧ ∀ (j : Fin 256) (l : Fin 2048), l.val < 1024 → (((x2 (ix2 j l)).toReal : ℝ) : EReal) = x2 (ix2 j l) := by
  have h0 := congrFun h ix0
  dsimp only [Cert.Pre_finite18.fn] at h0
  have h1 := IntOp.andi_eq_one.1 h0
  refine ⟨fun t l => ?_, fun j l hl => ?_⟩
  · refine real_of_lt _ (Eq.trans ?_ (Host.reduce_andi_all _ _ _ _ _ h1.1 (ix2 t l)))
    pointwise
    rfl
  · refine real_of_lt _ (Eq.trans ?_ (Host.reduce_andi_all _ _ _ _ _ h1.2 (ix2 j ⟨l.val, hl⟩)))
    pointwise
    rfl

end Cert.Memory18

end
-- ==== Proof.Memory18Equal.lean ====
module

public import proofs.«01_k».proof.Defs
public import proofs.«01_k».proof.Proof.Memory18
public import proofs.«01_k».proof.Proof.Memory18Ref
public import proofs.«01_k».proof.Proof.Finite18
public import proofs.«01_k».proof.Proof.Gen.Reference18Ideal
public import proofs.«01_k».proof.Proof.Gen.Reference18Ideal.Run
public import Idealize.ShloMosaic.Adequacy
public import Idealize.ShloMosaic.Init

/-!
# The memory's backward pass is the reference's
-/

@[expose] public section

set_option maxRecDepth 16384

noncomputable section

namespace Cert.Memory18

open Idealize.ShloMosaic Idealize.ShloMosaic.TcCoe Idealize.SL.Sem Finset Cert.Soft

/-- The kernel's two results are the reference's. -/
theorem equal : Cert.algebraic_Kernel18Ideal_Reference18Ideal_pre_finite18 (hKernel18Ideal := Cert.Kernel18Ideal.Gen.facts)
    (hReference18Ideal := Cert.Reference18Ideal.Gen.facts) (hPre_finite18 := finite18_facts) := by
  intro m g m' g' hpre hargs
  have R := fun c => real_of_finite18 _ _ _ (hpre c)
  refine ⟨fun c => result3 m c, fun c => result4 m c,
    (θ_run _ _ _).mono (fun r h c => ⟨(h c).1.trans (array3 m c (R c).1 (R c).2), (h c).2.1.trans (array4 m c (R c).1 (R c).2),
      (h c).2.2⟩) (Cert.Kernel18Ideal.Value.run_blocks m g),
    (θ_run _ _ _).mono (fun r h c => ⟨(h c).1.trans ?_, (h c).2.1.trans ?_, (h c).2.2⟩) (Cert.Reference18Ideal.Value.run (F := Ideal) m' g')⟩
  · refine (Cert.Reference18Ideal.Read.val_main_v65_eq _ _).trans ?_
    rw [(hargs c).1, (hargs c).2.1, (hargs c).2.2]
    refine funext fun (i : Cert.Reference18Ideal.S8192x1024.Idx) => ?_
    rw [show i = ix2 (i 0 : Fin 8192) (i 1 : Fin 1024) from eq_ix2 i]
    exact ref_v65 _ _ _ _ _
  · refine (Cert.Reference18Ideal.Read.val_main_v66_eq _ _).trans ?_
    rw [(hargs c).1, (hargs c).2.1, (hargs c).2.2]
    refine funext fun (i : Cert.Reference18Ideal.S256x2048.Idx) => ?_
    rw [show i = ix2 (i 0 : Fin 256) (i 1 : Fin 2048) from eq_ix2 i]
    exact ref_v66 _ _ _ _ _

end Cert.Memory18

end
-- ==== Proof.Tile.lean ====
module

public import proofs.«01_k».proof.Proof.Real
public import proofs.«01_k».proof.Proof.Gen.KernelIdeal.Skeleton

/-!
# One tile of the kernel at an index

A tile holds 512 queries of two heads, stacked in 1024 rows, against 256 keys. Row `ρ` is query `512 i + ρ % 512`
of head `2 p + ρ / 512`; column `c` is key `b + c`. Each lemma reads one vector of the tile at an index, as a real.
-/

@[expose] public section

set_option maxRecDepth 16384

noncomputable section

namespace Cert.Stick

open Idealize.ShloMosaic Cert.KernelIdeal Cert.KernelIdeal.Gen Finset

variable (q k v g : ℕ → ℕ → ℝ) (p i b : ℕ)

/-- The stacked queries, scaled, each head's rows zero outside its own lanes. -/
def Queries (x : FVec Ideal S1024x128 .bf16) : Prop :=
  ∀ (ρ : Fin 1024) (l : Fin 128), x (ix2 ρ l)
    = ((if l.val / 64 = ρ.val / 512 then q (512 * i + ρ.val % 512) (128 * p + l.val) * (1 / 8) else 0 : ℝ) : EReal)

/-- The stacked cotangents, each head's rows zero outside its own lanes. -/
def Cots (x : FVec Ideal S1024x128 .bf16) : Prop :=
  ∀ (ρ : Fin 1024) (l : Fin 128), x (ix2 ρ l)
    = ((if l.val / 64 = ρ.val / 512 then g (512 * i + ρ.val % 512) (128 * p + l.val) else 0 : ℝ) : EReal)

/-- A block of 256 keys or values, from row `b`. -/
def Keys (x : Vec Ideal S256x128 .bf16) : Prop :=
  ∀ (c : Fin 256) (l : Fin 128), x (ix2 c l) = ((k (b + c.val) (128 * p + l.val) : ℝ) : EReal)

/-- A stacked column whose row `ρ` is a function of the head and the query. -/
def Col (f : ℕ → ℕ → ℝ) (x : FVec Ideal S1024x1 .f32) : Prop :=
  ∀ ρ : Fin 1024, x (ix2 ρ 0) = ((f (2 * p + ρ.val / 512) (512 * i + ρ.val % 512) : ℝ) : EReal)

/-- A stacked tile whose entry is a function of the head, the query and the key. -/
def Tile {φ : FTy} (f : ℕ → ℕ → ℕ → ℝ) (x : FVec Ideal S1024x256 φ) : Prop :=
  ∀ (ρ : Fin 1024) (c : Fin 256), x (ix2 ρ c) = ((f (2 * p + ρ.val / 512) (512 * i + ρ.val % 512) (b + c.val) : ℝ) : EReal)

variable {q k v g p i b}

/-- The inner product of a stacked query (or cotangent) row with a key (or value) row, over the row's head. -/
theorem inner_coe (f : ℕ → ℕ → ℝ) (ρ : Fin 1024) (c : Fin 256) (a : ℕ → ℝ)
    (x : Fin 128 → EReal) (y : Fin 128 → EReal)
    (hx : ∀ l, x l = ((if l.val / 64 = ρ.val / 512 then a (128 * p + l.val) else 0 : ℝ) : EReal))
    (hy : ∀ l, y l = ((f (b + c.val) (128 * p + l.val) : ℝ) : EReal)) :
    ∑ l, x l * y l = ((∑ d ∈ range 64, a (64 * (2 * p + ρ.val / 512) + d) * f (b + c.val) (64 * (2 * p + ρ.val / 512) + d) : ℝ) : EReal) := by
  have h : ∀ l : Fin 128, x l * y l
      = (((if l.val / 64 = ρ.val / 512 then a (128 * p + l.val) else 0) * f (b + c.val) (128 * p + l.val) : ℝ) : EReal) := by
    intro l; rw [hx, hy, EReal.coe_mul]
  rw [sum_congr rfl fun l _ => h l,
    sum_coe (fun l => (if l / 64 = ρ.val / 512 then a (128 * p + l) else 0) * f (b + c.val) (128 * p + l)),
    sum_head (ρ.val / 512) (by omega) (fun l => a (128 * p + l)) (fun l => f (b + c.val) (128 * p + l))]
  congr 1
  refine sum_congr rfl fun d _ => ?_
  rw [show 128 * p + (64 * (ρ.val / 512) + d) = 64 * (2 * p + ρ.val / 512) + d by ring]

/-- The scores of a tile. -/
theorem score_coe {v20 : FVec Ideal S1024x128 .bf16} {kb : Vec Ideal S256x128 .bf16} (hq : Queries q p i v20) (hk : Keys k p b kb)
    (ρ : Fin 1024) (c : Fin 256) :
    ∑ l, v20 (ix2 ρ l) * kb (ix2 c l) = ((score q k (2 * p + ρ.val / 512) (512 * i + ρ.val % 512) (b + c.val) : ℝ) : EReal) :=
  inner_coe k ρ c (fun l => q (512 * i + ρ.val % 512) l * (1 / 8)) _ _ (hq ρ) (hk c)

/-- The products of the cotangents with the values of a tile. -/
theorem cot_coe {v31 : FVec Ideal S1024x128 .bf16} {vb : Vec Ideal S256x128 .bf16} (hg : Cots g p i v31) (hv : Keys v p b vb)
    (ρ : Fin 1024) (c : Fin 256) :
    ∑ l, v31 (ix2 ρ l) * vb (ix2 c l)
      = ((∑ d ∈ range 64, g (512 * i + ρ.val % 512) (64 * (2 * p + ρ.val / 512) + d) * v (b + c.val) (64 * (2 * p + ρ.val / 512) + d) : ℝ) : EReal) :=
  inner_coe v ρ c (fun l => g (512 * i + ρ.val % 512) l) _ _ (hg ρ) (hv c)

/-- The running sum of the log keeps up to and including a column: what came before the tile, and the triangular product in two parts. -/
theorem upto_coe (L : ℕ → ℝ) (x : EReal) (y : Fin 256 → EReal) (c : Fin 256)
    (hx : x = ((∑ s ∈ range b, L s : ℝ) : EReal)) (hy : ∀ n, y n = ((L (b + n.val) : ℝ) : EReal)) (φ : FTy) :
    x + ((∑ n : Fin 256, y n * (FloatOps.sitofp φ (BitVec.setWidth 32 (IntOp.cmpi .sle (BitVec.ofNat 32 ↑n) (BitVec.ofNat 32 ↑c))) : Ideal φ))
      + (∑ n : Fin 256, (y n - y n) * (FloatOps.sitofp φ (BitVec.setWidth 32 (IntOp.cmpi .sle (BitVec.ofNat 32 ↑n) (BitVec.ofNat 32 ↑c))) : Ideal φ)))
      = ((∑ s ∈ range (b + c.val + 1), L s : ℝ) : EReal) := by
  simp only [hy, tri_le]
  rw [sum_low (fun n => L (b + n)), sum_tri_le (fun n => L (b + n)), hx, add_zero, ← EReal.coe_add, ← sum_range_add, add_assoc]

/-- The running sum of the pushes before a column. -/
theorem before_coe (L : ℕ → ℝ) (x : EReal) (y : Fin 256 → EReal) (c : Fin 256)
    (hx : x = ((∑ s ∈ range b, L s : ℝ) : EReal)) (hy : ∀ n, y n = ((L (b + n.val) : ℝ) : EReal)) (φ : FTy) :
    x + (∑ n : Fin 256, y n * (FloatOps.sitofp φ (BitVec.setWidth 32 (IntOp.cmpi .slt (BitVec.ofNat 32 ↑n) (BitVec.ofNat 32 ↑c))) : Ideal φ))
      = ((∑ s ∈ range (b + c.val), L s : ℝ) : EReal) := by
  simp only [hy, tri_lt]
  rw [sum_tri_lt (fun n => L (b + n)), hx, ← EReal.coe_add, ← sum_range_add]

/-- The sum of a stacked column with a tile's row sums is the column one tile on. -/
theorem next_coe (L : ℕ → ℝ) (x : EReal) (y : Fin 256 → EReal)
    (hx : x = ((∑ s ∈ range b, L s : ℝ) : EReal)) (hy : ∀ n, y n = ((L (b + n.val) : ℝ) : EReal)) :
    x + ∑ n : Fin 256, y n = ((∑ s ∈ range (b + 256), L s : ℝ) : EReal) := by
  simp only [hy]
  rw [sum_coe (fun n => L (b + n)), hx, ← EReal.coe_add, ← sum_range_add]

variable {v20 v31 : FVec Ideal S1024x128 .bf16} {kb vb : Vec Ideal S256x128 .bf16} {pre cg tot : FVec Ideal S1024x1 .f32}
  (hq : Queries q p i v20) (hg : Cots g p i v31) (hk : Keys k p b kb) (hv : Keys v p b vb)
  (hpre : Col p i (fun H t => ∑ s ∈ range b, logKeep q k H t s) pre)
  (hcg : Col p i (fun H t => ∑ s ∈ range b, push q k v g H t s) cg)
  (htot : Col p i (total q k) tot)

/-! ## A tile wholly before its queries -/

section Full

variable (hb : b + 256 ≤ 512 * i)

include hq hk in
theorem score2 : Tile p i b (score q k) (k0_pay2 v20 kb) := by
  intro ρ c
  rw [← score_coe hq hk]
  pointwise [k0_pay2, k0_pay1]

include hq hk hb in
theorem keep3 : Tile p i b (logKeep q k) (k0_pay3 v20 kb) := by
  intro ρ c
  have hz := score2 hq hk ρ c
  unfold k0_pay3
  revert hz
  generalize k0_pay2 v20 kb = z
  intro hz
  pointwise
  rw [hz, neg_softplus_coe, logKeep, if_pos (by omega)]

include hq hk hb hpre htot in
theorem weight4 : Tile p i b (weight q k) (k0_pay4 v20 tot k0_pay24 pre kb) := by
  intro ρ c
  have hz := score2 hq hk ρ c
  have hl := fun c => keep3 hq hk hb ρ c
  have hp := hpre ρ
  have ht := htot ρ
  unfold k0_pay4
  revert hz hl
  generalize k0_pay2 v20 kb = z
  generalize k0_pay3 v20 kb = lk
  intro hz hl
  pointwise [k0_pay24]
  rw [upto_coe _ _ (fun n => lk (ix2 ρ n)) c hp hl, ht, hz, hl, ← EReal.coe_add, ← EReal.coe_sub, ← EReal.coe_add, Ideal.exp_coe]
  rw [weight, if_pos (by omega), logKeep, if_pos (by omega)]

include hq hk hb hpre htot hg hv in
theorem push5 : Tile p i b (push q k v g) (k0_pay5 v20 v31 tot k0_pay24 pre kb vb) := by
  intro ρ c
  have hw := weight4 hq hk hpre htot hb ρ c
  unfold k0_pay5
  revert hw
  generalize k0_pay4 v20 tot k0_pay24 pre kb = w
  intro hw
  pointwise
  rw [cot_coe hg hv, hw, push, EReal.coe_mul]

include hq hk hb hpre htot hg hv hcg in
theorem dscore6 : Tile p i b (dscore q k v g) (k0_pay6 v20 v31 tot k0_pay24 k0_pay25 pre cg kb vb) := by
  intro ρ c
  have hl := keep3 hq hk hb ρ c
  have hp := fun c => push5 hq hg hk hv hpre htot hb ρ c
  have hc := hcg ρ
  unfold k0_pay6
  revert hl hp
  generalize k0_pay3 v20 kb = lk
  generalize k0_pay5 v20 v31 tot k0_pay24 pre kb vb = G
  intro hl hp
  pointwise [k0_pay25]
  rw [before_coe _ _ (fun n => G (ix2 ρ n)) c hc hp, hl, hp, Ideal.exp_coe, ← EReal.coe_add, ← EReal.coe_mul, ← EReal.coe_sub]
  rw [dscore, if_pos (by omega), logKeep, if_pos (by omega), pushed]

end Full

/-! ## The first diagonal tile -/

section First

variable (hb : b = 512 * i)

include hq hk in
theorem score39 : Tile p i b (score q k) (k0_pay39 v20 kb) := by
  intro ρ c
  rw [← score_coe hq hk]
  pointwise [k0_pay39, k0_pay38]

include hq hk in
theorem neg41 : Tile p i b (fun H t s => -softplus (score q k H t s)) (k0_pay41 (k0_pay39 v20 kb) (k0_pay40 v20 kb) (Scalar.ofBits .f32 0x00000000#32)) := by
  intro ρ c
  have hz := score39 hq hk ρ c
  unfold k0_pay40
  revert hz
  generalize k0_pay39 v20 kb = z
  intro hz
  pointwise [k0_pay41]
  rw [hz, neg_softplus_coe]

include hq hk in
theorem exp42 : Tile p i b (fun H t s => Real.exp (-softplus (score q k H t s)))
    (k0_pay42 (k0_pay39 v20 kb) (k0_pay40 v20 kb) (Scalar.ofBits .f32 0x00000000#32)) := by
  intro ρ c
  have hl := neg41 hq hk ρ c
  unfold k0_pay42
  revert hl
  generalize k0_pay41 (k0_pay39 v20 kb) (k0_pay40 v20 kb) (Scalar.ofBits .f32 0x00000000#32) = lk
  intro hl
  pointwise
  rw [hl, Ideal.exp_coe]

include hq hk hb in
theorem keep43 : Tile p i b (logKeep q k) (k0_pay43 (k0_pay39 v20 kb) (k0_pay40 v20 kb) (Scalar.ofBits .f32 0x00000000#32)) := by
  intro ρ c
  have hl := neg41 hq hk ρ c
  unfold k0_pay43
  revert hl
  generalize k0_pay41 (k0_pay39 v20 kb) (k0_pay40 v20 kb) (Scalar.ofBits .f32 0x00000000#32) = lk
  intro hl
  pointwise
  rw [select_mask ρ c 0 (by omega), hl, logKeep]
  by_cases h : c.val + 0 < ρ.val % 512
  · rw [if_pos h, if_pos (by omega)]
  · rw [if_neg h, if_neg (by omega), EReal.coe_zero]

include hq hk hb hpre htot in
theorem weight44 : Tile p i b (weight q k) (k0_pay44 tot k0_pay24 pre (k0_pay39 v20 kb) (k0_pay40 v20 kb) (Scalar.ofBits .f32 0x00000000#32)) := by
  intro ρ c
  have hz := score39 hq hk ρ c
  have hl := fun c => keep43 hq hk hb ρ c
  have hp := hpre ρ
  have ht := htot ρ
  unfold k0_pay44
  revert hz hl
  generalize k0_pay43 (k0_pay39 v20 kb) (k0_pay40 v20 kb) (Scalar.ofBits .f32 0x00000000#32) = lk
  generalize k0_pay39 v20 kb = z
  intro hz hl
  pointwise [k0_pay24]
  rw [select_mask ρ c 0 (by omega), upto_coe _ _ (fun n => lk (ix2 ρ n)) c hp hl, ht, hz, hl, ← EReal.coe_add, ← EReal.coe_sub, ← EReal.coe_add, Ideal.exp_coe, weight]
  by_cases h : c.val + 0 < ρ.val % 512
  · rw [if_pos h, if_pos (by omega), logKeep, if_pos (by omega)]
  · rw [if_neg h, if_neg (by omega), EReal.coe_zero]

variable {w keep : FVec Ideal S1024x256 .f32} (hw : Tile p i b (weight q k) w)
  (hkeep : Tile p i b (fun H t s => Real.exp (-softplus (score q k H t s))) keep)

include hw hg hv in
theorem push45 : Tile p i b (push q k v g) (k0_pay45 v31 w vb) := by
  intro ρ c
  have hw := hw ρ c
  pointwise [k0_pay45]
  rw [cot_coe hg hv, hw, push, EReal.coe_mul]

include hw hg hv hcg hkeep hb in
theorem dscore46 : Tile p i b (dscore q k v g) (k0_pay46 v31 k0_pay25 cg keep w vb) := by
  intro ρ c
  have hk := hkeep ρ c
  have hp := fun c => push45 hg hv hw ρ c
  have hc := hcg ρ
  unfold k0_pay46
  revert hp
  generalize k0_pay45 v31 w vb = G
  intro hp
  pointwise [k0_pay25]
  rw [select_mask ρ c 0 (by omega), before_coe _ _ (fun n => G (ix2 ρ n)) c hc hp, hk, hp, ← EReal.coe_add, ← EReal.coe_mul, ← EReal.coe_sub, dscore, pushed]
  by_cases h : c.val + 0 < ρ.val % 512
  · rw [if_pos h, if_pos (by omega)]
  · rw [if_neg h, if_neg (by omega), EReal.coe_zero]

end First

/-! ## The second diagonal tile -/

section Second

variable (hb : b = 512 * i + 256)

include hq hk in
theorem score53 : Tile p i b (score q k) (k0_pay53 v20 kb) := by
  intro ρ c
  rw [← score_coe hq hk]
  pointwise [k0_pay53, k0_pay52]

include hq hk in
theorem neg54 : Tile p i b (fun H t s => -softplus (score q k H t s)) (k0_pay54 v20 kb) := by
  intro ρ c
  have hz := score53 hq hk ρ c
  unfold k0_pay54
  revert hz
  generalize k0_pay53 v20 kb = z
  intro hz
  pointwise
  rw [hz, neg_softplus_coe]

include hq hk in
theorem exp55 : Tile p i b (fun H t s => Real.exp (-softplus (score q k H t s))) (k0_pay55 v20 kb) := by
  intro ρ c
  have hl := neg54 hq hk ρ c
  unfold k0_pay55
  revert hl
  generalize k0_pay54 v20 kb = lk
  intro hl
  pointwise
  rw [hl, Ideal.exp_coe]

include hq hk hb hpre htot in
theorem weight57 : Tile p i b (weight q k)
    (k0_pay57 tot k0_pay24 pre (k0_pay53 v20 kb) (k0_pay54 v20 kb) k0_pay56 (Scalar.ofBits .f32 0x00000000#32)) := by
  intro ρ c
  have hz := score53 hq hk ρ c
  have hl : ∀ c, (select k0_pay56 (k0_pay54 v20 kb) (broadcast S1024x256 (Scalar.ofBits .f32 0x00000000#32)) : FVec Ideal S1024x256 .f32) (ix2 ρ c)
      = ((logKeep q k (2 * p + ρ.val / 512) (512 * i + ρ.val % 512) (b + c.val) : ℝ) : EReal) := by
    intro c
    have hl := neg54 hq hk ρ c
    revert hl
    generalize k0_pay54 v20 kb = lk
    intro hl
    pointwise [k0_pay56]
    rw [select_mask ρ c 256 (by omega), hl, logKeep]
    by_cases h : c.val + 256 < ρ.val % 512
    · rw [if_pos h, if_pos (by omega)]
    · rw [if_neg h, if_neg (by omega), EReal.coe_zero]
  have hp := hpre ρ
  have ht := htot ρ
  unfold k0_pay57
  revert hz hl
  generalize (select k0_pay56 (k0_pay54 v20 kb) (broadcast S1024x256 (Scalar.ofBits .f32 0x00000000#32)) : FVec Ideal S1024x256 .f32) = lk
  generalize k0_pay53 v20 kb = z
  intro hz hl
  pointwise [k0_pay24]
  rw [select_mask ρ c 256 (by omega), upto_coe _ _ (fun n => lk (ix2 ρ n)) c hp hl, ht, hz, hl, ← EReal.coe_add, ← EReal.coe_sub, ← EReal.coe_add, Ideal.exp_coe, weight]
  by_cases h : c.val + 256 < ρ.val % 512
  · rw [if_pos h, if_pos (by omega), logKeep, if_pos (by omega)]
  · rw [if_neg h, if_neg (by omega), EReal.coe_zero]

include hq hk hb hpre htot hg hv hcg in
theorem dscore60 : Tile p i b (dscore q k v g)
    (k0_pay60 (k0_pay58 v31 tot k0_pay24 k0_pay25 pre cg (k0_pay53 v20 kb) (k0_pay54 v20 kb) (k0_pay55 v20 kb) k0_pay56 (Scalar.ofBits .f32 0x00000000#32) vb)
      k0_pay59 (iota .tc S1024x256 32 [1] iota_S1024x256_d1_w32) 256#32) := by
  intro ρ c
  have hw := fun c => weight57 hq hk hpre htot hb ρ c
  have hkeep := exp55 hq hk ρ c
  have hc := hcg ρ
  unfold k0_pay58
  revert hw hkeep
  generalize k0_pay57 tot k0_pay24 pre (k0_pay53 v20 kb) (k0_pay54 v20 kb) k0_pay56 (Scalar.ofBits .f32 0x00000000#32) = w
  generalize k0_pay55 v20 kb = keep
  intro hw hkeep
  have hp : ∀ c, w (ix2 ρ c) * ∑ l, v31 (ix2 ρ l) * vb (ix2 c l)
      = ((push q k v g (2 * p + ρ.val / 512) (512 * i + ρ.val % 512) (b + c.val) : ℝ) : EReal) := by
    intro c
    rw [cot_coe hg hv, hw, push, EReal.coe_mul]
  pointwise [k0_pay60, k0_pay59, k0_pay25]
  rw [select_mask ρ c 256 (by omega), before_coe _ _ (fun n => w (ix2 ρ n) * ∑ l, v31 (ix2 ρ l) * vb (ix2 n l)) c hc hp, hkeep, hp,
    ← EReal.coe_add, ← EReal.coe_mul, ← EReal.coe_sub, dscore, pushed]
  by_cases h : c.val + 256 < ρ.val % 512
  · rw [if_pos h, if_pos (by omega)]
  · rw [if_neg h, if_neg (by omega), EReal.coe_zero]

end Second

end Cert.Stick
-- ==== Proof.TileOut.lean ====
module

public import proofs.«01_k».proof.Proof.Tile

/-!
# What a tile is prepared from, and what it adds to the three gradients
-/

@[expose] public section

set_option maxRecDepth 16384

noncomputable section

namespace Cert.Stick

open Idealize.ShloMosaic Cert.KernelIdeal Cert.KernelIdeal.Gen Finset

variable {q k v g : ℕ → ℕ → ℝ} {p i b : ℕ}

/-- The stacked queries from the block of queries. -/
theorem queries19 {x : Vec Ideal S512x128 .bf16}
    (hx : ∀ (r : Fin 512) (l : Fin 128), x (ix2 r l) = ((q (512 * i + r.val) (128 * p + l.val) : ℝ) : EReal)) :
    Queries q p i (k0_pay19 x) := by
  intro ρ l
  pointwise [k0_pay19, k0_pay17, k0_pay18]
  simp only [select_lt, select_ge, hx, eighth_bf16]
  split
  · rename_i h
    rw [show ρ.val / 512 = 0 by omega, show ρ.val % 512 = ρ.val by omega]
    split_ifs
    · rw [EReal.coe_mul]
    · rw [EReal.coe_zero]
  · rename_i h
    rw [show ρ.val / 512 = 1 by omega, show ρ.val % 512 = ρ.val - 512 by omega]
    split_ifs
    · rw [EReal.coe_mul]
    · rw [EReal.coe_zero]

/-- The stacked cotangents from the block of cotangents. -/
theorem cots20 {x : Vec Ideal S512x128 .f32}
    (hx : ∀ (r : Fin 512) (l : Fin 128), x (ix2 r l) = ((g (512 * i + r.val) (128 * p + l.val) : ℝ) : EReal)) :
    Cots g p i (k0_pay20 x) := by
  intro ρ l
  pointwise [k0_pay20, k0_pay17, k0_pay18]
  simp only [select_lt, select_ge, hx]
  split
  · rename_i h
    rw [show ρ.val / 512 = 0 by omega, show ρ.val % 512 = ρ.val by omega]
    split_ifs <;> simp
  · rename_i h
    rw [show ρ.val / 512 = 1 by omega, show ρ.val % 512 = ρ.val - 512 by omega]
    split_ifs <;> simp

/-- The stacked totals from the two lanes of the block of totals. -/
theorem totals23 {f : ℕ → ℕ → ℝ} {x : Vec Ideal S1x512x128 .f32}
    (hx : ∀ (r : Fin 512) (j : Fin 128), j.val < 2 → x (ix3 0 r j) = ((f (2 * p + j.val) (512 * i + r.val) : ℝ) : EReal)) :
    Col p i f (k0_pay23 (k0_pay21 x) (k0_pay22 x)) := by
  intro ρ
  pointwise [k0_pay23, k0_pay22, k0_pay21]
  have h0 := fun (y : Fin 128) (a b : EReal) => select_eq y 0 (by omega) a b
  have h1 := fun (y : Fin 128) (a b : EReal) => select_eq y 1 (by omega) a b
  simp only [h0, h1]
  split
  · rename_i h
    rw [sum_eq_single (⟨0, by omega⟩ : Fin 128) (by intro y _ hy; rw [if_neg]; intro h; exact hy (Fin.ext h)) (by simp),
      if_pos rfl, hx _ _ (by simp), show ρ.val / 512 = 0 by omega, show ρ.val % 512 = ρ.val by omega]
  · rename_i h
    rw [sum_eq_single (⟨1, by omega⟩ : Fin 128) (by intro y _ hy; rw [if_neg]; intro h; exact hy (Fin.ext h)) (by simp),
      if_pos rfl, hx _ _ (by simp), show ρ.val / 512 = 1 by omega, show ρ.val % 512 = ρ.val - 512 by omega]

/-- The running sums start at nothing. -/
theorem col26 (f : ℕ → ℕ → ℕ → ℝ) : Col p i (fun H t => ∑ s ∈ range 0, f H t s) (k0_pay26 (F := Ideal)) := by
  intro ρ
  pointwise [k0_pay26]
  simp

/-- The query gradient's block before scaling, from the keys before `b`. -/
def DQ (q k v g : ℕ → ℕ → ℝ) (p i b : ℕ) (x : FVec Ideal S512x128 .f32) : Prop :=
  ∀ (r : Fin 512) (l : Fin 128), x (ix2 r l)
    = ((∑ s ∈ range b, dscore q k v g (2 * p + l.val / 64) (512 * i + r.val) s * k s (128 * p + l.val) : ℝ) : EReal)

/-- The query gradient starts at nothing. -/
theorem dq27 : DQ q k v g p i 0 (k0_pay27 (F := Ideal)) := by
  intro r l
  pointwise [k0_pay27]
  simp

/-- A tile's part of one head's row, over the two masked halves of the keys. -/
theorem halves_coe (D : ℕ → ℕ → ℕ → ℝ) (r : Fin 512) (l : Fin 128) (x : EReal) (y0 y1 z : Fin 256 → EReal)
    (hx : x = ((∑ s ∈ range b, D (2 * p + l.val / 64) (512 * i + r.val) s * k s (128 * p + l.val) : ℝ) : EReal))
    (h0 : ∀ c, y0 c = ((D (2 * p) (512 * i + r.val) (b + c.val) : ℝ) : EReal))
    (h1 : ∀ c, y1 c = ((D (2 * p + 1) (512 * i + r.val) (b + c.val) : ℝ) : EReal))
    (hz : ∀ c, z c = ((k (b + c.val) (128 * p + l.val) : ℝ) : EReal)) :
    x + (∑ c : Fin 256, (if l.val / 64 = 0 then y0 c * z c else 0) + ∑ c : Fin 256, (if l.val / 64 = 1 then y1 c * z c else 0))
      = ((∑ s ∈ range (b + 256), D (2 * p + l.val / 64) (512 * i + r.val) s * k s (128 * p + l.val) : ℝ) : EReal) := by
  rw [hx, sum_range_add, EReal.coe_add]
  congr 1
  rw [← sum_coe (fun c => D (2 * p + l.val / 64) (512 * i + r.val) (b + c) * k (b + c) (128 * p + l.val))]
  rcases (show l.val / 64 = 0 ∨ l.val / 64 = 1 by omega) with h | h
  · simp [h, h0, hz]
  · simp [h, h1, hz]

/-- The rows of a tile's dual product: the two heads' rows, of which a lane keeps its own. -/
theorem rows_coe (D : ℕ → ℕ → ℝ) (a : ℕ → ℝ) (l : Fin 128) (y z : Fin 1024 → EReal)
    (hy : ∀ ρ, y ρ = ((D (2 * p + ρ.val / 512) (512 * i + ρ.val % 512) : ℝ) : EReal))
    (hz : ∀ ρ, z ρ = ((if l.val / 64 = ρ.val / 512 then a (512 * i + ρ.val % 512) else 0 : ℝ) : EReal)) :
    ∑ ρ, y ρ * z ρ = ((∑ r ∈ range 512, D (2 * p + l.val / 64) (512 * i + r) * a (512 * i + r) : ℝ) : EReal) := by
  have h : ∀ ρ : Fin 1024, y ρ * z ρ = (((D (2 * p + ρ.val / 512) (512 * i + ρ.val % 512)
      * (if l.val / 64 = ρ.val / 512 then a (512 * i + ρ.val % 512) else 0)) : ℝ) : EReal) := by
    intro ρ; rw [hy, hz, EReal.coe_mul]
  rw [sum_congr rfl fun ρ _ => h ρ, sum_coe (fun ρ => D (2 * p + ρ / 512) (512 * i + ρ % 512)
      * (if l.val / 64 = ρ / 512 then a (512 * i + ρ % 512) else 0)), show (1024 : ℕ) = 512 + 512 from rfl, sum_range_add, ← sum_add_distrib]
  congr 1
  refine sum_congr rfl fun r hr => ?_
  rw [mem_range] at hr
  rw [show r / 512 = 0 by omega, show r % 512 = r by omega, show (512 + r) / 512 = 1 by omega, show (512 + r) % 512 = r by omega]
  rcases (show l.val / 64 = 0 ∨ l.val / 64 = 1 by omega) with h | h <;> simp [h]

variable {v20 v31 : FVec Ideal S1024x128 .bf16} {kb vb : Vec Ideal S256x128 .bf16} {pre cg tot : FVec Ideal S1024x1 .f32}
  {dq : FVec Ideal S512x128 .f32}
  (hq : Queries q p i v20) (hg : Cots g p i v31) (hk : Keys k p b kb) (hv : Keys v p b vb) (hdq : DQ q k v g p i b dq)

section Cols
variable {L : ℕ → ℕ → ℕ → ℝ} {lk : FVec Ideal S1024x256 .f32} (hl : Tile p i b L lk) (hpre : Col p i (fun H t => ∑ s ∈ range b, L H t s) pre)

include hl hpre

theorem next31 : Col p i (fun H t => ∑ s ∈ range (b + 256), L H t s) (k0_pay31 pre lk) := by
  intro ρ
  pointwise [k0_pay31]
  exact next_coe _ _ (fun n => lk (ix2 ρ n)) (hpre ρ) (hl ρ)

theorem next32 : Col p i (fun H t => ∑ s ∈ range (b + 256), L H t s) (k0_pay32 pre lk) := by
  intro ρ
  pointwise [k0_pay32]
  exact next_coe _ _ (fun n => lk (ix2 ρ n)) (hpre ρ) (hl ρ)

theorem next50 : Col p i (fun H t => ∑ s ∈ range (b + 256), L H t s) (k0_pay50 pre lk) := by
  intro ρ
  pointwise [k0_pay50]
  exact next_coe _ _ (fun n => lk (ix2 ρ n)) (hpre ρ) (hl ρ)

theorem next51 : Col p i (fun H t => ∑ s ∈ range (b + 256), L H t s) (k0_pay51 pre lk) := by
  intro ρ
  pointwise [k0_pay51]
  exact next_coe _ _ (fun n => lk (ix2 ρ n)) (hpre ρ) (hl ρ)

end Cols

section Outs
variable {dz : FVec Ideal S1024x256 .bf16} (hdz : Tile p i b (dscore q k v g) dz)

include hdq hk in
theorem dq28 (dz : FVec Ideal S1024x256 .bf16) (hdz : Tile p i b (dscore q k v g) dz) (d7 : FVec Ideal S512x512 .bf16)
    (h7 : d7 = concatenate S512x512 1 [⟨S512x256, extractStridedSlice S512x256 ![0, 0] dz slices_S1024x256_o0_0_S512x256⟩,
      ⟨S512x256, extractStridedSlice S512x256 ![512, 0] dz slices_S1024x256_o512_0_S512x256⟩] concatenates_S512x256_S512x256_S512x512_d1) :
    DQ q k v g p i (b + 256) (k0_pay28 k0_pay17 k0_pay18 dq (k0_pay1 kb) d7) := by
  intro r l
  subst h7
  have h0 := fun c => hdz ⟨r.val, by omega⟩ c
  have h1 := fun c => hdz ⟨512 + r.val, by omega⟩ c
  pointwise [k0_pay28, k0_pay17, k0_pay18, k0_pay1]
  simp only [select_lt, select_ge]
  refine halves_coe (dscore q k v g) r l _ _ _ (fun c => kb (ix2 c l)) (hdq r l) (fun c => (h0 c).trans ?_) (fun c => (h1 c).trans ?_) (fun c => hk c l)
  · simp only; rw [show r.val / 512 = 0 by omega, show r.val % 512 = r.val by omega]; rfl
  · simp only; rw [show (512 + r.val) / 512 = 1 by omega, show (512 + r.val) % 512 = r.val by omega]

include hdq hk in
theorem dq47 {keep w : FVec Ideal S1024x256 .f32} (hdz : Tile p i b (dscore q k v g) (k0_pay46 v31 k0_pay25 cg keep w vb)) :
    DQ q k v g p i (b + 256) (k0_pay47 k0_pay17 k0_pay18 v31 k0_pay25 cg dq (k0_pay38 kb) keep w vb) :=
  dq28 hk hdq _ hdz _ rfl

include hdq hk in
theorem dq63 {d : FVec Ideal S1024x256 .f32} {a e : IVec S1024x256 32} {o : BitVec 32}
    (hdz : Tile p i b (dscore q k v g) (k0_pay60 d a e o)) (r : Fin 512) (l : Fin 128) :
    k0_pay63 k0_pay17 k0_pay18 dq (k0_pay52 kb) d a e o (ix2 r l)
      = (((∑ s ∈ range (b + 256), dscore q k v g (2 * p + l.val / 64) (512 * i + r.val) s * k s (128 * p + l.val)) * (1 / 8) : ℝ) : EReal) := by
  have h := dq28 hk hdq _ hdz _ rfl r l
  rw [EReal.coe_mul, ← h, ← eighth_f32]
  rfl

section Dk
variable {d8 : Vec Ideal S256x128 .f32} (c : Fin 256) (l : Fin 128)

include hq hdz in
theorem dk29 : k0_pay29 v20 dz d8 (ix2 c l) = d8 (ix2 c l)
    + ((∑ r ∈ range 512, dscore q k v g (2 * p + l.val / 64) (512 * i + r) (b + c.val) * (q (512 * i + r) (128 * p + l.val) * (1 / 8)) : ℝ) : EReal) := by
  rw [← rows_coe (fun H t => dscore q k v g H t (b + c.val)) (fun t => q t (128 * p + l.val) * (1 / 8)) l _ _ (fun ρ => hdz ρ c) (fun ρ => hq ρ l)]
  pointwise [k0_pay29]

include hg in
theorem dv30 {w : FVec Ideal S1024x256 .f32} (hw : Tile p i b (weight q k) w) : k0_pay30 v31 w d8 (ix2 c l) = d8 (ix2 c l)
    + ((∑ r ∈ range 512, weight q k (2 * p + l.val / 64) (512 * i + r) (b + c.val) * g (512 * i + r) (128 * p + l.val) : ℝ) : EReal) := by
  rw [← rows_coe (fun H t => weight q k H t (b + c.val)) (fun t => g t (128 * p + l.val)) l _ _ (fun ρ => hw ρ c) (fun ρ => hg ρ l)]
  pointwise [k0_pay30]

include hq in
theorem dk48 {keep w : FVec Ideal S1024x256 .f32} (hdz : Tile p i b (dscore q k v g) (k0_pay46 v31 k0_pay25 cg keep w vb)) :
    k0_pay48 v20 v31 k0_pay25 cg keep w vb d8 (ix2 c l) = d8 (ix2 c l)
    + ((∑ r ∈ range 512, dscore q k v g (2 * p + l.val / 64) (512 * i + r) (b + c.val) * (q (512 * i + r) (128 * p + l.val) * (1 / 8)) : ℝ) : EReal) :=
  dk29 hq hdz c l

include hg in
theorem dv49 {w : FVec Ideal S1024x256 .f32} (hw : Tile p i b (weight q k) w) : k0_pay49 v31 w d8 (ix2 c l) = d8 (ix2 c l)
    + ((∑ r ∈ range 512, weight q k (2 * p + l.val / 64) (512 * i + r) (b + c.val) * g (512 * i + r) (128 * p + l.val) : ℝ) : EReal) :=
  dv30 hg c l hw

include hq in
theorem dk61 {d : FVec Ideal S1024x256 .f32} {a e : IVec S1024x256 32} {o : BitVec 32}
    (hdz : Tile p i b (dscore q k v g) (k0_pay60 d a e o)) :
    k0_pay61 v20 d a e o d8 (ix2 c l) = d8 (ix2 c l)
    + ((∑ r ∈ range 512, dscore q k v g (2 * p + l.val / 64) (512 * i + r) (b + c.val) * (q (512 * i + r) (128 * p + l.val) * (1 / 8)) : ℝ) : EReal) :=
  dk29 hq hdz c l

include hg in
theorem dv62 {w : FVec Ideal S1024x256 .f32} (hw : Tile p i b (weight q k) w) : k0_pay62 v31 w d8 (ix2 c l) = d8 (ix2 c l)
    + ((∑ r ∈ range 512, weight q k (2 * p + l.val / 64) (512 * i + r) (b + c.val) * g (512 * i + r) (128 * p + l.val) : ℝ) : EReal) :=
  dv30 hg c l hw

end Dk
end Outs

end Cert.Stick
-- ==== Proof.Trip.lean ====
module

public import proofs.«01_k».proof.Proof.TileOut
public import proofs.«01_k».proof.Proof.Gen.KernelIdeal.Loops
public import Idealize.ShloMosaic.Lib.WritesUnit
public import Idealize.ShloMosaic.Lib.VecWindow

/-!
# The loop over the key tiles before a query tile

The invariant of the kernel's loop: before tile `n` the carried columns hold the sums over the first `256 n` keys, and the
two key gradients have received this query tile's part in their first `256 n` rows.
-/

@[expose] public section

set_option maxRecDepth 16384

noncomputable section

namespace Cert.Stick

open Idealize.ShloMosaic Cert.KernelIdeal Cert.KernelIdeal.Gen Finset

/-- The number of tiles wholly before query tile `i`. -/
theorem trips_eq : ∀ i : grid0.Coords, (k0_t1_loop i).trips = 2 * (i 1).val := by decide +kernel

/-- Reading 256 rows of a buffer of 8192. -/
theorem readAt_rows {e : EltTy} (v : View sig .tc .vmem S8192x128 e) (f : v.ty.Contents (Elt Ideal)) {off : Fin 2 → ℕ} {o : ℕ}
    (inb : ∀ a : Fin 2, off a + S256x128.size a ≤ S8192x128.size a) (hoff : off = ![o, 0]) (c : Fin 256) (l : Fin 128) (h : o + c.val < 8192) :
    v.readAt (Elt Ideal) (Rect.unit (s := S8192x128) off S256x128.size inb).toLoadRect f (ix2 c l) = v.read (Elt Ideal) f (ix2 ⟨o + c.val, h⟩ l) := by
  subst hoff
  show v.read (Elt Ideal) f _ = _
  congr 1
  funext a
  apply Fin.ext
  fin_cases a
  · simp [Rect.unit]
  · simp [Rect.unit]

/-- A gradient after one more tile has been added to its rows `[o, o + 256)`. -/
theorem acc_step (v : View sig .tc .vmem S8192x128 .f32) (G : v.ty.Contents (Elt Ideal)) (L : List (View.Piece (Elt Ideal) S8192x128 .f32))
    {off : Fin 2 → ℕ} {o : ℕ} (inb : ∀ a : Fin 2, off a + S256x128.size a ≤ S8192x128.size a) (hoff : off = ![o, 0])
    (w : Vec Ideal S256x128 .f32) (A : ℕ → ℕ → ℝ) (B : Fin 8192 → Fin 128 → EReal)
    (h0 : ∀ s l, v.read (Elt Ideal) (v.writes (Elt Ideal) G L) (ix2 s l) = B s l + ((if s.val < o then A s.val l.val else 0 : ℝ) : EReal))
    (hw : ∀ c l, w (ix2 c l) = v.readAt (Elt Ideal) (Rect.unit (s := S8192x128) off S256x128.size inb).toLoadRect (v.writes (Elt Ideal) G L) (ix2 c l)
      + ((A (o + c.val) l.val : ℝ) : EReal)) (s : Fin 8192) (l : Fin 128) :
    v.read (Elt Ideal) (v.writes (Elt Ideal) G ((⟨Rect.unit (s := S8192x128) off S256x128.size inb, w⟩ : View.Piece (Elt Ideal) S8192x128 .f32) :: L)) (ix2 s l)
      = B s l + ((if s.val < o + 256 then A s.val l.val else 0 : ℝ) : EReal) := by
  by_cases h : o ≤ s.val ∧ s.val < o + 256
  · have hx : s.val = o + (⟨s.val - o, by omega⟩ : Fin 256).val := by simp only; omega
    rw [View.read_writes_cons_rows_of_mem v G inb w L (ix2 s l) (ix2 (⟨s.val - o, by omega⟩ : Fin 256) l) hoff hx rfl, hw,
      readAt_rows v _ inb hoff _ l (by rw [← hx]; exact s.isLt)]
    rw [show (⟨o + (⟨s.val - o, by omega⟩ : Fin 256).val, by rw [← hx]; exact s.isLt⟩ : Fin 8192) = s from Fin.ext hx.symm, h0,
      if_neg (by omega), if_pos (by omega), EReal.coe_zero, add_zero, ← hx]
  · rw [View.read_writes_cons_rows_of_not_mem v G inb w L (ix2 s l) hoff (W := 256) rfl (show s.val < o ∨ o + 256 ≤ s.val by omega), h0]
    congr 2
    split_ifs <;> first | rfl | omega

/-- A query tile's part of the key gradient. -/
def addK (q k v g : ℕ → ℕ → ℝ) (p i s l : ℕ) : ℝ :=
  ∑ r ∈ range 512, dscore q k v g (2 * p + l / 64) (512 * i + r) s * (q (512 * i + r) (128 * p + l) * (1 / 8))

/-- A query tile's part of the value gradient. -/
def addV (q k g : ℕ → ℕ → ℝ) (p i s l : ℕ) : ℝ :=
  ∑ r ∈ range 512, weight q k (2 * p + l / 64) (512 * i + r) s * g (512 * i + r) (128 * p + l)

variable (𝒱 : Variants) (c : Dev nD) (bd : Option 𝒱.V) (i : grid0.Coords) (arg2 : Memref sig .tc .vmem S512x128 .f32) (harg2 : arg2.IsWhole) (arg3 : Memref sig .tc .vmem S1x512x128 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg1 : BitVec 32)
  {v20 v31 : FVec Ideal S1024x128 .bf16} {v33 v38 : FVec Ideal S512x128 .f32}
  {X5 : BufTy.Contents (Elt Ideal) arg5.view.ty} {X6 : BufTy.Contents (Elt Ideal) arg6.view.ty}
  (G8 : BufTy.Contents (Elt Ideal) arg8.view.ty) (G9 : BufTy.Contents (Elt Ideal) arg9.view.ty)
  {q k v g : ℕ → ℕ → ℝ} {p : ℕ}

/-- The state of the loop before tile `n`: the gradients are `B8` and `B9` and this query tile's part of their first rows. -/
structure Inv (n : ℕ) (st : (FVec Ideal S1024x1 .f32 × FVec Ideal S1024x1 .f32 × FVec Ideal S512x128 .f32)
    × List (View.Piece (Elt Ideal) S8192x128 .f32) × List (View.Piece (Elt Ideal) S8192x128 .f32))
    (i : ℕ) (arg8 arg9 : View sig .tc .vmem S8192x128 .f32) (f8 : arg8.ty.Contents (Elt Ideal)) (f9 : arg9.ty.Contents (Elt Ideal))
    (B8 B9 : Fin 8192 → Fin 128 → EReal) (q k v g : ℕ → ℕ → ℝ) (p : ℕ) : Prop where
  pre : Col p i (fun H t => ∑ s ∈ range (256 * n), logKeep q k H t s) st.1.1
  cg : Col p i (fun H t => ∑ s ∈ range (256 * n), push q k v g H t s) st.1.2.1
  dq : DQ q k v g p i (256 * n) st.1.2.2
  dk : ∀ s l, arg8.read (Elt Ideal) (arg8.writes (Elt Ideal) f8 st.2.1) (ix2 s l)
    = B8 s l + ((if s.val < 256 * n then addK q k v g p i s.val l.val else 0 : ℝ) : EReal)
  dv : ∀ s l, arg9.read (Elt Ideal) (arg9.writes (Elt Ideal) f9 st.2.2) (ix2 s l)
    = B9 s l + ((if s.val < 256 * n then addV q k g p i s.val l.val else 0 : ℝ) : EReal)

/-- The invariant holds before every tile, and after the last. -/
theorem loop_inv (hq : Queries q p (i 1).val v20) (hg : Cots g p (i 1).val v31) (htot : Col p (i 1).val (total q k) (k0_pay23 v33 v38))
    (hX5 : ∀ s l, arg5.view.read (Elt Ideal) X5 (ix2 s l) = ((k s.val (128 * p + l.val) : ℝ) : EReal))
    (hX6 : ∀ s l, arg6.view.read (Elt Ideal) X6 (ix2 s l) = ((v s.val (128 * p + l.val) : ℝ) : EReal)) :
    ∀ n, n ≤ 2 * (i 1).val → Inv n (st_k0_t1 (F := Ideal) 𝒱 c bd i arg2 harg2 arg3 harg3 arg4 harg4 arg5 harg5 arg6 harg6 arg7 harg7 arg8 harg8 arg9 harg9 arg1 k0_pay17 k0_pay18 v20 v31 v33 v38 X5 X6 G8 G9 (k0_pay26, k0_pay26, k0_pay27) n)
      (i 1).val arg8.view arg9.view G8 G9 (fun s l => arg8.view.read (Elt Ideal) G8 (ix2 s l)) (fun s l => arg9.view.read (Elt Ideal) G9 (ix2 s l)) q k v g p
  | 0, _ => by
    rw [st_k0_t1.eq_1]
    exact ⟨col26 _, col26 _, dq27, fun s l => by simp [View.writes], fun s l => by simp [View.writes]⟩
  | n + 1, hn => by
    have ih := loop_inv hq hg htot hX5 hX6 n (by omega)
    have hlt : n < (k0_t1_loop i).trips := by rw [trips_eq]; omega
    have hi : (i 1).val < 16 := (i 1).isLt
    have e := st_k0_t1_succ (F := Ideal) 𝒱 c bd i arg2 harg2 arg3 harg3 arg4 harg4 arg5 harg5 arg6 harg6 arg7 harg7 arg8 harg8 arg9 harg9 arg1 k0_pay17 k0_pay18 v20 v31 v33 v38 X5 X6 G8 G9 (k0_pay26, k0_pay26, k0_pay27) ⟨n, hlt⟩
    rw [show n + 1 = (⟨n, hlt⟩ : Fin (k0_t1_loop i).trips).val + 1 from rfl, e]
    clear e
    revert ih
    generalize st_k0_t1 (F := Ideal) 𝒱 c bd i arg2 harg2 arg3 harg3 arg4 harg4 arg5 harg5 arg6 harg6 arg7 harg7 arg8 harg8 arg9 harg9 arg1 k0_pay17 k0_pay18 v20 v31 v33 v38 X5 X6 G8 G9 (k0_pay26, k0_pay26, k0_pay27) n = st
    intro ih
    have hoff : k0_off1 i ⟨n, hlt⟩ = ![256 * n, 0] := k0_off1_eq i ⟨n, hlt⟩
    have hk : Keys k p (256 * n) (arg5.view.readAt (Elt Ideal) (Rect.unit (s := S8192x128) (k0_off1 i ⟨n, hlt⟩) S256x128.size (k0_off1_inb i ⟨n, hlt⟩)).toLoadRect X5) :=
      fun c l => (readAt_rows arg5.view X5 _ hoff c l (by omega)).trans (hX5 _ _)
    have hv : Keys v p (256 * n) (arg6.view.readAt (Elt Ideal) (Rect.unit (s := S8192x128) (k0_off1 i ⟨n, hlt⟩) S256x128.size (k0_off1_inb i ⟨n, hlt⟩)).toLoadRect X6) :=
      fun c l => (readAt_rows arg6.view X6 _ hoff c l (by omega)).trans (hX6 _ _)
    have hb : 256 * n + 256 ≤ 512 * (i 1).val := by omega
    have hl := keep3 hq hk hb
    have hw := weight4 hq hk ih.pre htot hb
    have hp := push5 hq hg hk hv ih.pre htot hb
    have hd := dscore6 hq hg hk hv ih.pre ih.cg htot hb
    unfold tripR_k0_t1 tripL_k0_t1 trip_k0_t1
    dsimp only
    refine ⟨?_, ?_, ?_, ?_, ?_⟩
    · exact next31 hl ih.pre
    · exact next32 hp ih.cg
    · exact dq28 hk ih.dq _ hd _ rfl
    · exact acc_step arg8.view G8 st.2.1 _ hoff _ (addK q k v g p (i 1).val) _ ih.dk fun c l => dk29 hq hd c l
    · exact acc_step arg9.view G9 st.2.2 _ hoff _ (addV q k g p (i 1).val) _ ih.dv fun c l => dv30 hg c l hw

end Cert.Stick
-- ==== Proof.Body.lean ====
module

public import proofs.«01_k».proof.Proof.Trip
public import proofs.«01_k».proof.Proof.Gen.KernelIdeal.Frame

/-!
# One grid point of the kernel

The two diagonal tiles after the loop, and what a grid point leaves in the three output blocks.
-/

@[expose] public section

set_option maxRecDepth 16384

noncomputable section

namespace Cert.Stick

open Idealize.ShloMosaic Cert.KernelIdeal Cert.KernelIdeal.Gen Finset

/-- The loop's remainder has no trips. -/
theorem trips2_eq : ∀ i : grid0.Coords, (k0_t2_loop i).trips = 0 := by decide +kernel

/-- So its state is the state it began with. -/
theorem rest_eq (𝒱 : Variants) (c : Dev nD) (bd : Option 𝒱.V) (i : grid0.Coords) (arg2 : Memref sig .tc .vmem S512x128 .f32) (harg2 : arg2.IsWhole) (arg3 : Memref sig .tc .vmem S1x512x128 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (arg1 : BitVec 32) (v5 : IVec S1x128 1) (v7 : IVec S1x128 1) (v20 : FVec Ideal S1024x128 .bf16) (v31 : FVec Ideal S1024x128 .bf16) (v33 : FVec Ideal S512x128 .f32) (v38 : FVec Ideal S512x128 .f32) (v68 : BitVec 32) (X_arg5 : BufTy.Contents (Elt Ideal) arg5.view.ty) (X_arg6 : BufTy.Contents (Elt Ideal) arg6.view.ty) (G_arg8 : BufTy.Contents (Elt Ideal) arg8.view.ty) (G_arg9 : BufTy.Contents (Elt Ideal) arg9.view.ty) (init : FVec Ideal S1024x1 .f32 × FVec Ideal S1024x1 .f32 × FVec Ideal S512x128 .f32) :
    st_k0_t2 (F := Ideal) 𝒱 c bd i arg2 harg2 arg3 harg3 arg4 harg4 arg5 harg5 arg6 harg6 arg7 harg7 arg8 harg8 arg9 harg9 arg1 v5 v7 v20 v31 v33 v38 v68 X_arg5 X_arg6 G_arg8 G_arg9 init (Scf.trips (k0_t2_loop i).lb (k0_t2_loop i).ub (k0_t2_loop i).st) = (init, [], []) := by
  rw [show Scf.trips (k0_t2_loop i).lb (k0_t2_loop i).ub (k0_t2_loop i).st = 0 from trips2_eq i, st_k0_t2.eq_1]

section Diag

variable {i : grid0.Coords} {v20 v31 : FVec Ideal S1024x128 .bf16} {tot : FVec Ideal S1024x1 .f32}
  {a5 a6 : View sig .tc .vmem S8192x128 .bf16} {X5 : a5.ty.Contents (Elt Ideal)} {X6 : a6.ty.Contents (Elt Ideal)}
  {a8 a9 : View sig .tc .vmem S8192x128 .f32} {f8 : a8.ty.Contents (Elt Ideal)} {f9 : a9.ty.Contents (Elt Ideal)}
  {B8 B9 : Fin 8192 → Fin 128 → EReal} {q k v g : ℕ → ℕ → ℝ} {p : ℕ}

/-- Rows of the first diagonal tile. -/
abbrev rect0 (i : grid0.Coords) : Rect S8192x128 := Rect.unit (s := S8192x128) (k0_off3 i 0#32) S256x128.size (k0_off3_inb i 0)

/-- Rows of the second diagonal tile. -/
abbrev rect1 (i : grid0.Coords) : Rect S8192x128 := Rect.unit (s := S8192x128) (k0_off3 i 1#32) S256x128.size (k0_off3_inb i 1)

theorem rect0_off (i : grid0.Coords) : k0_off3 i 0#32 = ![512 * (i 1).val, 0] := k0_off3_eq i ⟨0, by decide⟩

theorem rect1_off (i : grid0.Coords) : k0_off3 i 1#32 = ![512 * (i 1).val + 256, 0] := k0_off3_eq i ⟨1, by decide⟩

/-- The two diagonal tiles take the state after the loop to the grid point's three results. -/
theorem diag (hq : Queries q p (i 1).val v20) (hg : Cots g p (i 1).val v31) (htot : Col p (i 1).val (total q k) tot)
    (hX5 : ∀ s l, a5.read (Elt Ideal) X5 (ix2 s l) = ((k s.val (128 * p + l.val) : ℝ) : EReal))
    (hX6 : ∀ s l, a6.read (Elt Ideal) X6 (ix2 s l) = ((v s.val (128 * p + l.val) : ℝ) : EReal))
    {pre cg : FVec Ideal S1024x1 .f32} {dq : FVec Ideal S512x128 .f32} {L8 L9 : List (View.Piece (Elt Ideal) S8192x128 .f32)}
    (hS : Inv (2 * (i 1).val) ((pre, cg, dq), L8, L9) (i 1).val a8 a9 f8 f9 B8 B9 q k v g p)
    {kb0 kb1 vb0 vb1 : Vec Ideal S256x128 .bf16}
    (hkb0 : kb0 = a5.readAt (Elt Ideal) (rect0 i).toLoadRect X5) (hkb1 : kb1 = a5.readAt (Elt Ideal) (rect1 i).toLoadRect X5)
    (hvb0 : vb0 = a6.readAt (Elt Ideal) (rect0 i).toLoadRect X6) (hvb1 : vb1 = a6.readAt (Elt Ideal) (rect1 i).toLoadRect X6)
    {keep w w1 d1 : FVec Ideal S1024x256 .f32} {e : IVec S1024x256 32} {p8 p9 : Vec Ideal S256x128 .f32} {dq1 : FVec Ideal S512x128 .f32}
    {M8 M9 : List (View.Piece (Elt Ideal) S8192x128 .f32)} {pre1 cg1 : FVec Ideal S1024x1 .f32}
    (hkeep : keep = k0_pay42 (k0_pay39 v20 kb0) (k0_pay40 v20 kb0) (Scalar.ofBits .f32 0x00000000#32))
    (hw : w = k0_pay44 tot k0_pay24 pre (k0_pay39 v20 kb0) (k0_pay40 v20 kb0) (Scalar.ofBits .f32 0x00000000#32))
    (hpre1 : pre1 = k0_pay50 pre (k0_pay43 (k0_pay39 v20 kb0) (k0_pay40 v20 kb0) (Scalar.ofBits .f32 0x00000000#32)))
    (hcg1 : cg1 = k0_pay51 cg (k0_pay45 v31 w vb0))
    (hdq1 : dq1 = k0_pay47 k0_pay17 k0_pay18 v31 k0_pay25 cg dq (k0_pay38 kb0) keep w vb0)
    (hM8 : M8 = (⟨rect0 i, k0_pay48 v20 v31 k0_pay25 cg keep w vb0 (a8.readAt (Elt Ideal) (rect0 i).toLoadRect (a8.writes (Elt Ideal) f8 L8))⟩ :: L8))
    (hM9 : M9 = (⟨rect0 i, k0_pay49 v31 w (a9.readAt (Elt Ideal) (rect0 i).toLoadRect (a9.writes (Elt Ideal) f9 L9))⟩ :: L9))
    (hw1 : w1 = k0_pay57 tot k0_pay24 pre1 (k0_pay53 v20 kb1) (k0_pay54 v20 kb1) k0_pay56 (Scalar.ofBits .f32 0x00000000#32))
    (hd1 : d1 = k0_pay58 v31 tot k0_pay24 k0_pay25 pre1 cg1 (k0_pay53 v20 kb1) (k0_pay54 v20 kb1) (k0_pay55 v20 kb1) k0_pay56 (Scalar.ofBits .f32 0x00000000#32) vb1)
    (he : e = iota .tc S1024x256 32 [1] iota_S1024x256_d1_w32)
    (hp8 : p8 = k0_pay61 v20 d1 k0_pay59 e 256#32 (a8.readAt (Elt Ideal) (rect1 i).toLoadRect (a8.writes (Elt Ideal) f8 M8)))
    (hp9 : p9 = k0_pay62 v31 w1 (a9.readAt (Elt Ideal) (rect1 i).toLoadRect (a9.writes (Elt Ideal) f9 M9))) :
    (∀ r l, k0_pay63 k0_pay17 k0_pay18 dq1 (k0_pay52 kb1) d1 k0_pay59 e 256#32 (ix2 r l)
      = (((∑ s ∈ range (512 * (i 1).val + 512), dscore q k v g (2 * p + l.val / 64) (512 * (i 1).val + r.val) s * k s (128 * p + l.val)) * (1 / 8) : ℝ) : EReal))
    ∧ (∀ s l, a8.read (Elt Ideal) (a8.writes (Elt Ideal) f8 (⟨rect1 i, p8⟩ :: M8)) (ix2 s l)
      = B8 s l + ((if s.val < 512 * (i 1).val + 512 then addK q k v g p (i 1).val s.val l.val else 0 : ℝ) : EReal))
    ∧ (∀ s l, a9.read (Elt Ideal) (a9.writes (Elt Ideal) f9 (⟨rect1 i, p9⟩ :: M9)) (ix2 s l)
      = B9 s l + ((if s.val < 512 * (i 1).val + 512 then addV q k g p (i 1).val s.val l.val else 0 : ℝ) : EReal)) := by
  have hi : (i 1).val < 16 := (i 1).isLt
  have e2 : 256 * (2 * (i 1).val) = 512 * (i 1).val := by ring
  obtain ⟨h1, h2, h3, h4, h5⟩ := hS
  rw [e2] at h1 h2 h3
  simp only [e2] at h4 h5
  dsimp only at h1 h2 h3 h4 h5
  have hk0 : Keys k p (512 * (i 1).val) kb0 := hkb0 ▸ fun c l => (readAt_rows a5 X5 _ (rect0_off i) c l (by omega)).trans (hX5 _ _)
  have hv0 : Keys v p (512 * (i 1).val) vb0 := hvb0 ▸ fun c l => (readAt_rows a6 X6 _ (rect0_off i) c l (by omega)).trans (hX6 _ _)
  have hk1 : Keys k p (512 * (i 1).val + 256) kb1 := hkb1 ▸ fun c l => (readAt_rows a5 X5 _ (rect1_off i) c l (by omega)).trans (hX5 _ _)
  have hv1 : Keys v p (512 * (i 1).val + 256) vb1 := hvb1 ▸ fun c l => (readAt_rows a6 X6 _ (rect1_off i) c l (by omega)).trans (hX6 _ _)
  have tkeep := exp42 hq hk0
  have tlk := keep43 hq hk0 rfl
  have tw := weight44 hq hk0 h1 htot rfl
  rw [← hkeep] at tkeep
  rw [← hw] at tw
  have tp := push45 hg hv0 tw
  have td := dscore46 hg hv0 h2 rfl tw tkeep
  have tpre := next50 tlk h1
  have tcg := next51 tp h2
  rw [← hpre1] at tpre
  rw [← hcg1] at tcg
  have tw1 := weight57 hq hk1 tpre htot rfl
  have td1 := dscore60 hq hg hk1 hv1 tpre tcg htot rfl
  rw [← hw1] at tw1
  rw [← hd1, ← he] at td1
  have tdq := dq47 hk0 h3 td
  rw [← hdq1] at tdq
  have t8 : ∀ s l, a8.read (Elt Ideal) (a8.writes (Elt Ideal) f8 M8) (ix2 s l)
      = B8 s l + ((if s.val < 512 * (i 1).val + 256 then addK q k v g p (i 1).val s.val l.val else 0 : ℝ) : EReal) := by
    rw [hM8]
    exact acc_step a8 f8 L8 _ (rect0_off i) _ (addK q k v g p (i 1).val) _ h4 fun c l => dk48 hq c l td
  have t9 : ∀ s l, a9.read (Elt Ideal) (a9.writes (Elt Ideal) f9 M9) (ix2 s l)
      = B9 s l + ((if s.val < 512 * (i 1).val + 256 then addV q k g p (i 1).val s.val l.val else 0 : ℝ) : EReal) := by
    rw [hM9]
    exact acc_step a9 f9 L9 _ (rect0_off i) _ (addV q k g p (i 1).val) _ h5 fun c l => dv49 hg c l tw
  subst hp8 hp9
  refine ⟨?_, ?_, ?_⟩
  · exact dq63 hk1 tdq td1
  · exact acc_step a8 f8 M8 _ (rect1_off i) _ (addK q k v g p (i 1).val) _ t8 fun c l => dk61 hq c l td1
  · exact acc_step a9 f9 M9 _ (rect1_off i) _ (addV q k g p (i 1).val) _ t9 fun c l => dv62 hg c l tw1

end Diag

/-- One piece over the whole block is what the block reads. -/
theorem read_whole (v : View sig .tc .vmem S512x128 .f32) (f : v.ty.Contents (Elt Ideal)) (inb : ∀ a : Fin 2, (![0, 0] : Fin 2 → ℕ) a + S512x128.size a ≤ S512x128.size a)
    (w : Vec Ideal S512x128 .f32) (r : Fin 512) (l : Fin 128) :
    v.read (Elt Ideal) (v.writes (Elt Ideal) f [⟨Rect.unit (s := S512x128) ![0, 0] S512x128.size inb, w⟩]) (ix2 r l) = w (ix2 r l) :=
  View.read_writes_cons_rows_of_mem v f inb w [] (ix2 r l) (ix2 r l) rfl (Nat.zero_add _).symm rfl

/-- One piece over a whole gradient block is what the block reads. -/
theorem read_whole8 (v : View sig .tc .vmem S8192x128 .f32) (f : v.ty.Contents (Elt Ideal)) (inb : ∀ a : Fin 2, (![0, 0] : Fin 2 → ℕ) a + S8192x128.size a ≤ S8192x128.size a)
    (w : Vec Ideal S8192x128 .f32) (s : Fin 8192) (l : Fin 128) :
    v.read (Elt Ideal) (v.writes (Elt Ideal) f [⟨Rect.unit (s := S8192x128) ![0, 0] S8192x128.size inb, w⟩]) (ix2 s l) = w (ix2 s l) :=
  View.read_writes_cons_rows_of_mem v f inb w [] (ix2 s l) (ix2 s l) rfl (Nat.zero_add _).symm rfl

/-- A first grid point starts the key gradient at zero. -/
theorem read_zero8 (v : View sig .tc .vmem S8192x128 .f32) (f : v.ty.Contents (Elt Ideal)) (s : Fin 8192) (l : Fin 128) :
    v.read (Elt Ideal) (v.writes (Elt Ideal) f kernelRun0_A.sl.H6_1) (ix2 s l) = 0 := by
  unfold kernelRun0_A.sl.H6_1
  refine (read_whole8 v f inb_S8192x128_S8192x128_0_0 (k0_pay15 (F := Ideal)) s l).trans ?_
  pointwise [k0_pay15]

/-- A first grid point starts the value gradient at zero. -/
theorem read_zero9 (v : View sig .tc .vmem S8192x128 .f32) (f : v.ty.Contents (Elt Ideal)) (s : Fin 8192) (l : Fin 128) :
    v.read (Elt Ideal) (v.writes (Elt Ideal) f kernelRun0_A.sl.H7_1) (ix2 s l) = 0 := by
  unfold kernelRun0_A.sl.H7_1
  refine (read_whole8 v f inb_S8192x128_S8192x128_0_0 (k0_pay16 (F := Ideal)) s l).trans ?_
  pointwise [k0_pay16]

variable {q k v g : ℕ → ℕ → ℝ} {p : ℕ}

/-- What a first grid point of a head pair leaves in the three blocks. -/
theorem pointA (c : Dev nD) (i : grid0.Coords) (arg2 : Memref sig .tc .vmem S512x128 .f32) (harg2 : arg2.IsWhole) (arg3 : Memref sig .tc .vmem S1x512x128 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (hc0 : cond0_0 i)
    (x0 : Vec Ideal S512x128 .f32) (x1 : Vec Ideal S1x512x128 .f32) (x2 : Vec Ideal S512x128 .bf16) (x3 : Vec Ideal S8192x128 .bf16) (x4 : Vec Ideal S8192x128 .bf16)
    (hx0 : ∀ (r : Fin 512) (l : Fin 128), x0 (ix2 r l) = ((g (512 * (i 1).val + r.val) (128 * p + l.val) : ℝ) : EReal))
    (hx1 : ∀ (r : Fin 512) (j : Fin 128), j.val < 2 → x1 (ix3 0 r j) = ((total q k (2 * p + j.val) (512 * (i 1).val + r.val) : ℝ) : EReal))
    (hx2 : ∀ (r : Fin 512) (l : Fin 128), x2 (ix2 r l) = ((q (512 * (i 1).val + r.val) (128 * p + l.val) : ℝ) : EReal))
    (hx3 : ∀ s l, x3 (ix2 s l) = ((k s.val (128 * p + l.val) : ℝ) : EReal))
    (hx4 : ∀ s l, x4 (ix2 s l) = ((v s.val (128 * p + l.val) : ℝ) : EReal)) :
    (∀ r l, out0_A_5 (F := Ideal) c i arg2 harg2 arg3 harg3 arg4 harg4 arg5 harg5 arg6 harg6 arg7 harg7 arg8 harg8 arg9 harg9 hc0 x0 x1 x2 x3 x4 (ix2 r l)
      = (((∑ s ∈ range (512 * (i 1).val + 512), dscore q k v g (2 * p + l.val / 64) (512 * (i 1).val + r.val) s * k s (128 * p + l.val)) * (1 / 8) : ℝ) : EReal))
    ∧ (∀ s l, out0_A_6 (F := Ideal) c i arg2 harg2 arg3 harg3 arg4 harg4 arg5 harg5 arg6 harg6 arg7 harg7 arg8 harg8 arg9 harg9 hc0 x0 x1 x2 x3 x4 (ix2 s l)
      = 0 + ((if s.val < 512 * (i 1).val + 512 then addK q k v g p (i 1).val s.val l.val else 0 : ℝ) : EReal))
    ∧ (∀ s l, out0_A_7 (F := Ideal) c i arg2 harg2 arg3 harg3 arg4 harg4 arg5 harg5 arg6 harg6 arg7 harg7 arg8 harg8 arg9 harg9 hc0 x0 x1 x2 x3 x4 (ix2 s l)
      = 0 + ((if s.val < 512 * (i 1).val + 512 then addV q k g p (i 1).val s.val l.val else 0 : ℝ) : EReal)) := by
  have hq : Queries q p (i 1).val (kernelRun0_A.sl.r (F := Ideal) c arg4 harg4 x2) := by
    unfold kernelRun0_A.sl.r
    rw [View.readAt_full, harg4.read_unread]
    exact queries19 hx2
  have hg : Cots g p (i 1).val (kernelRun0_A.sl.r_1 (F := Ideal) c arg2 harg2 x0) := by
    unfold kernelRun0_A.sl.r_1
    rw [View.readAt_full, harg2.read_unread]
    exact cots20 hx0
  have htot : Col p (i 1).val (total q k) (k0_pay23 (kernelRun0_A.sl.r_2 (F := Ideal) c arg3 harg3 x1) (kernelRun0_A.sl.r_3 c arg3 harg3 x1)) := by
    unfold kernelRun0_A.sl.r_2 kernelRun0_A.sl.r_3
    rw [View.readAt_full, harg3.read_unread]
    exact totals23 hx1
  have hX5 : ∀ s l, arg5.view.read (Elt Ideal) (harg5.unread x3) (ix2 s l) = ((k s.val (128 * p + l.val) : ℝ) : EReal) := by
    rw [harg5.read_unread]; exact hx3
  have hX6 : ∀ s l, arg6.view.read (Elt Ideal) (harg6.unread x4) (ix2 s l) = ((v s.val (128 * p + l.val) : ℝ) : EReal) := by
    rw [harg6.read_unread]; exact hx4
  have hn : (Scf.trips (k0_t1_loop i).lb (k0_t1_loop i).ub (k0_t1_loop i).st) = 2 * (i 1).val := trips_eq i
  have hinv : Inv (2 * (i 1).val) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)) (i 1).val arg8.view arg9.view (arg8.view.writes (Elt Ideal) arg8.view.junk kernelRun0_A.sl.H6_1) (arg9.view.writes (Elt Ideal) arg9.view.junk kernelRun0_A.sl.H7_1)
      (fun s l => arg8.view.read (Elt Ideal) (arg8.view.writes (Elt Ideal) arg8.view.junk kernelRun0_A.sl.H6_1) (ix2 s l)) (fun s l => arg9.view.read (Elt Ideal) (arg9.view.writes (Elt Ideal) arg9.view.junk kernelRun0_A.sl.H7_1) (ix2 s l)) q k v g p := by
    rw [hn]
    exact loop_inv Variants.none c none i arg2 harg2 arg3 harg3 arg4 harg4 arg5 harg5 arg6 harg6 arg7 harg7 arg8 harg8 arg9 harg9 (BitVec.ofNat 32 ↑(i 1)) (arg8.view.writes (Elt Ideal) arg8.view.junk kernelRun0_A.sl.H6_1) (arg9.view.writes (Elt Ideal) arg9.view.junk kernelRun0_A.sl.H7_1) hq hg htot hX5 hX6 (2 * (i 1).val) le_rfl
  have hS : Inv (2 * (i 1).val) (((st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (kernelRun0_A.sl.v68 i) (harg5.unread x3) (harg6.unread x4) (arg8.view.writes (Elt Ideal) arg8.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1)) (arg9.view.writes (Elt Ideal) arg9.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1)) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.1, (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (kernelRun0_A.sl.v68 i) (harg5.unread x3) (harg6.unread x4) (arg8.view.writes (Elt Ideal) arg8.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1)) (arg9.view.writes (Elt Ideal) arg9.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1)) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.2.1, (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (kernelRun0_A.sl.v68 i) (harg5.unread x3) (harg6.unread x4) (arg8.view.writes (Elt Ideal) arg8.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1)) (arg9.view.writes (Elt Ideal) arg9.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1)) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.2.2), (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (kernelRun0_A.sl.v68 i) (harg5.unread x3) (harg6.unread x4) (arg8.view.writes (Elt Ideal) arg8.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1)) (arg9.view.writes (Elt Ideal) arg9.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1)) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.2) (Scf.trips (k0_t2_loop i).lb (k0_t2_loop i).ub (k0_t2_loop i).st)).2.1 ++ ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1), (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (kernelRun0_A.sl.v68 i) (harg5.unread x3) (harg6.unread x4) (arg8.view.writes (Elt Ideal) arg8.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.1 ++ kernelRun0_A.sl.H6_1)) (arg9.view.writes (Elt Ideal) arg9.view.junk ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1)) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).1.2.2) (Scf.trips (k0_t2_loop i).lb (k0_t2_loop i).ub (k0_t2_loop i).st)).2.2 ++ ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_A.sl.r (F := Ideal) c arg4 harg4 x2) (kernelRun0_A.sl.r_1 (F := Ideal) c arg2 harg2 x0) (kernelRun0_A.sl.r_2 (F := Ideal) c arg3 harg3 x1) (kernelRun0_A.sl.r_3 c arg3 harg3 x1) (harg5.unread x3) (harg6.unread x4) (arg8.view.writes (Elt Ideal) arg8.view.junk kernelRun0_A.sl.H6_1) (arg9.view.writes (Elt Ideal) arg9.view.junk kernelRun0_A.sl.H7_1) (k0_pay26, k0_pay26, k0_pay27) (Scf.trips (k0_t1_loop i).lb (k0_t1_loop i).ub (k0_t1_loop i).st)).2.2 ++ kernelRun0_A.sl.H7_1))
      (i 1).val arg8.view arg9.view arg8.view.junk arg9.view.junk (fun _ _ => 0) (fun _ _ => 0) q k v g p := by
    rw [rest_eq]
    refine ⟨hinv.pre, hinv.cg, hinv.dq, fun s l => ?_, fun s l => ?_⟩
    · have := hinv.dk s l
      dsimp only
      rw [List.nil_append, View.writes_append, this, read_zero8]
    · have := hinv.dv s l
      dsimp only
      rw [List.nil_append, View.writes_append, this, read_zero9]
  have D := diag hq hg htot hX5 hX6 hS rfl rfl rfl rfl rfl rfl rfl rfl rfl rfl rfl rfl rfl rfl rfl rfl
  refine ⟨fun r l => ?_, fun s l => ?_, fun s l => ?_⟩
  · unfold out0_A_5 kernelRun0_A
    dsimp only
    rw [read_whole]
    exact D.1 r l
  · unfold out0_A_6
    rw [View.read_writes_of_cover _ _ arg8.view arg8.view.junk _ (cover0_A_6 c i arg2 harg2 arg3 harg3 arg4 harg4 arg5 harg5 arg6 harg6 arg7 harg7 arg8 harg8 arg9 harg9 hc0 x0 x1 x2 x3 x4)]
    exact D.2.1 s l
  · unfold out0_A_7
    rw [View.read_writes_of_cover _ _ arg9.view arg9.view.junk _ (cover0_A_7 c i arg2 harg2 arg3 harg3 arg4 harg4 arg5 harg5 arg6 harg6 arg7 harg7 arg8 harg8 arg9 harg9 hc0 x0 x1 x2 x3 x4)]
    exact D.2.2 s l

/-- What a later grid point of a head pair leaves in the three blocks. -/
theorem pointB (c : Dev nD) (i : grid0.Coords) (arg2 : Memref sig .tc .vmem S512x128 .f32) (harg2 : arg2.IsWhole) (arg3 : Memref sig .tc .vmem S1x512x128 .f32) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S512x128 .f32) (harg7 : arg7.IsWhole) (arg8 : Memref sig .tc .vmem S8192x128 .f32) (harg8 : arg8.IsWhole) (arg9 : Memref sig .tc .vmem S8192x128 .f32) (harg9 : arg9.IsWhole) (hc0 : ¬cond0_0 i)
    (x0 : Vec Ideal S512x128 .f32) (x1 : Vec Ideal S1x512x128 .f32) (x2 : Vec Ideal S512x128 .bf16) (x3 : Vec Ideal S8192x128 .bf16) (x4 : Vec Ideal S8192x128 .bf16) (xo6 : Vec Ideal S8192x128 .f32) (xo7 : Vec Ideal S8192x128 .f32)
    (hx0 : ∀ (r : Fin 512) (l : Fin 128), x0 (ix2 r l) = ((g (512 * (i 1).val + r.val) (128 * p + l.val) : ℝ) : EReal))
    (hx1 : ∀ (r : Fin 512) (j : Fin 128), j.val < 2 → x1 (ix3 0 r j) = ((total q k (2 * p + j.val) (512 * (i 1).val + r.val) : ℝ) : EReal))
    (hx2 : ∀ (r : Fin 512) (l : Fin 128), x2 (ix2 r l) = ((q (512 * (i 1).val + r.val) (128 * p + l.val) : ℝ) : EReal))
    (hx3 : ∀ s l, x3 (ix2 s l) = ((k s.val (128 * p + l.val) : ℝ) : EReal))
    (hx4 : ∀ s l, x4 (ix2 s l) = ((v s.val (128 * p + l.val) : ℝ) : EReal)) :
    (∀ r l, out0_B_5 (F := Ideal) c i arg2 harg2 arg3 harg3 arg4 harg4 arg5 harg5 arg6 harg6 arg7 harg7 arg8 harg8 arg9 harg9 hc0 x0 x1 x2 x3 x4 xo6 xo7 (ix2 r l)
      = (((∑ s ∈ range (512 * (i 1).val + 512), dscore q k v g (2 * p + l.val / 64) (512 * (i 1).val + r.val) s * k s (128 * p + l.val)) * (1 / 8) : ℝ) : EReal))
    ∧ (∀ s l, out0_B_6 (F := Ideal) c i arg2 harg2 arg3 harg3 arg4 harg4 arg5 harg5 arg6 harg6 arg7 harg7 arg8 harg8 arg9 harg9 hc0 x0 x1 x2 x3 x4 xo6 xo7 (ix2 s l)
      = xo6 (ix2 s l) + ((if s.val < 512 * (i 1).val + 512 then addK q k v g p (i 1).val s.val l.val else 0 : ℝ) : EReal))
    ∧ (∀ s l, out0_B_7 (F := Ideal) c i arg2 harg2 arg3 harg3 arg4 harg4 arg5 harg5 arg6 harg6 arg7 harg7 arg8 harg8 arg9 harg9 hc0 x0 x1 x2 x3 x4 xo6 xo7 (ix2 s l)
      = xo7 (ix2 s l) + ((if s.val < 512 * (i 1).val + 512 then addV q k g p (i 1).val s.val l.val else 0 : ℝ) : EReal)) := by
  have hq : Queries q p (i 1).val (kernelRun0_B.sl.r (F := Ideal) c arg4 harg4 x2) := by
    unfold kernelRun0_B.sl.r
    rw [View.readAt_full, harg4.read_unread]
    exact queries19 hx2
  have hg : Cots g p (i 1).val (kernelRun0_B.sl.r_1 (F := Ideal) c arg2 harg2 x0) := by
    unfold kernelRun0_B.sl.r_1
    rw [View.readAt_full, harg2.read_unread]
    exact cots20 hx0
  have htot : Col p (i 1).val (total q k) (k0_pay23 (kernelRun0_B.sl.r_2 (F := Ideal) c arg3 harg3 x1) (kernelRun0_B.sl.r_3 c arg3 harg3 x1)) := by
    unfold kernelRun0_B.sl.r_2 kernelRun0_B.sl.r_3
    rw [View.readAt_full, harg3.read_unread]
    exact totals23 hx1
  have hX5 : ∀ s l, arg5.view.read (Elt Ideal) (harg5.unread x3) (ix2 s l) = ((k s.val (128 * p + l.val) : ℝ) : EReal) := by
    rw [harg5.read_unread]; exact hx3
  have hX6 : ∀ s l, arg6.view.read (Elt Ideal) (harg6.unread x4) (ix2 s l) = ((v s.val (128 * p + l.val) : ℝ) : EReal) := by
    rw [harg6.read_unread]; exact hx4
  have hn : (Scf.trips (k0_t1_loop i).lb (k0_t1_loop i).ub (k0_t1_loop i).st) = 2 * (i 1).val := trips_eq i
  have hinv : Inv (2 * (i 1).val) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)) (i 1).val arg8.view arg9.view (harg8.unread xo6) (harg9.unread xo7)
      (fun s l => arg8.view.read (Elt Ideal) (harg8.unread xo6) (ix2 s l)) (fun s l => arg9.view.read (Elt Ideal) (harg9.unread xo7) (ix2 s l)) q k v g p := by
    rw [hn]
    exact loop_inv Variants.none c none i arg2 harg2 arg3 harg3 arg4 harg4 arg5 harg5 arg6 harg6 arg7 harg7 arg8 harg8 arg9 harg9 (BitVec.ofNat 32 ↑(i 1)) (harg8.unread xo6) (harg9.unread xo7) hq hg htot hX5 hX6 (2 * (i 1).val) le_rfl
  have hS : Inv (2 * (i 1).val) (((st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (kernelRun0_B.sl.v68 i) (harg5.unread x3) (harg6.unread x4) (arg8.view.writes (Elt Ideal) (harg8.unread xo6) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1) (arg9.view.writes (Elt Ideal) (harg9.unread xo7) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.1, (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (kernelRun0_B.sl.v68 i) (harg5.unread x3) (harg6.unread x4) (arg8.view.writes (Elt Ideal) (harg8.unread xo6) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1) (arg9.view.writes (Elt Ideal) (harg9.unread xo7) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.2.1, (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (kernelRun0_B.sl.v68 i) (harg5.unread x3) (harg6.unread x4) (arg8.view.writes (Elt Ideal) (harg8.unread xo6) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1) (arg9.view.writes (Elt Ideal) (harg9.unread xo7) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.2) (Scf.trips (k0_t2_loop i).lb (k0_t2_loop i).ub (k0_t2_loop i).st)).1.2.2), (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (kernelRun0_B.sl.v68 i) (harg5.unread x3) (harg6.unread x4) (arg8.view.writes (Elt Ideal) (harg8.unread xo6) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1) (arg9.view.writes (Elt Ideal) (harg9.unread xo7) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.2) (Scf.trips (k0_t2_loop i).lb (k0_t2_loop i).ub (k0_t2_loop i).st)).2.1 ++ (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1, (st_k0_t2 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (kernelRun0_B.sl.v68 i) (harg5.unread x3) (harg6.unread x4) (arg8.view.writes (Elt Ideal) (harg8.unread xo6) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.1) (arg9.view.writes (Elt Ideal) (harg9.unread xo7) (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2) ((st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.1, (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).1.2.2) (Scf.trips (k0_t2_loop i).lb (k0_t2_loop i).ub (k0_t2_loop i).st)).2.2 ++ (st_k0_t1 (F := Ideal) Variants.none c none i arg2 harg2 arg3 harg3 arg4 harg4 arg5 harg5 arg6 harg6 arg7 harg7 arg8 harg8 arg9 harg9 (BitVec.ofNat 32 ↑(i 1)) k0_pay17 k0_pay18 (kernelRun0_B.sl.r (F := Ideal) c arg4 harg4 x2) (kernelRun0_B.sl.r_1 (F := Ideal) c arg2 harg2 x0) (kernelRun0_B.sl.r_2 (F := Ideal) c arg3 harg3 x1) (kernelRun0_B.sl.r_3 c arg3 harg3 x1) (harg5.unread x3) (harg6.unread x4) (harg8.unread xo6) (harg9.unread xo7) (k0_pay26, k0_pay26, k0_pay27) (Scf.trips (k0_t1_loop i).lb (k0_t1_loop i).ub (k0_t1_loop i).st)).2.2)
      (i 1).val arg8.view arg9.view (harg8.unread xo6) (harg9.unread xo7) (fun s l => xo6 (ix2 s l)) (fun s l => xo7 (ix2 s l)) q k v g p := by
    rw [rest_eq]
    refine ⟨hinv.pre, hinv.cg, hinv.dq, fun s l => ?_, fun s l => ?_⟩
    · have := hinv.dk s l
      rw [harg8.read_unread] at this
      exact this
    · have := hinv.dv s l
      rw [harg9.read_unread] at this
      exact this
  have D := diag hq hg htot hX5 hX6 hS rfl rfl rfl rfl rfl rfl rfl rfl rfl rfl rfl rfl rfl rfl rfl rfl
  refine ⟨fun r l => ?_, fun s l => ?_, fun s l => ?_⟩
  · unfold out0_B_5 kernelRun0_B
    dsimp only
    rw [read_whole]
    exact D.1 r l
  · exact D.2.1 s l
  · exact D.2.2 s l

end Cert.Stick
-- ==== Proof.Grid.lean ====
module

public import proofs.«01_k».proof.Proof.Body
public import Idealize.ShloMosaic.Lib.Pipeline.ValueKit

/-!
# The grid

What the three output blocks hold after each grid point: sixteen query tiles for each of the two
head pairs, the key and value gradients summed over the tiles so far.
-/

@[expose] public section

set_option maxRecDepth 16384

noncomputable section

namespace Cert.Stick

open Idealize.ShloMosaic Idealize.ShloMosaic.TcCoe Cert.KernelIdeal Cert.KernelIdeal.Gen Finset

variable {m : (ℓ : Loc nD τ sig) → Buf (Elt Ideal) ℓ} {c : Dev nD} {q k v g : ℕ → ℕ → ℝ}

/-- The arrays the kernel's call finds hold the real numbers `q`, `k`, `v`, `g` and their totals. -/
structure Found (m : (ℓ : Loc nD τ sig) → Buf (Elt Ideal) ℓ) (c : Dev nD) (q k v g : ℕ → ℕ → ℝ) : Prop where
  /-- The gradient of the attention's result. -/
  cot : ∀ (t : Fin 8192) (x : Fin 256), V m c main_arg0 (ix2 t x) = ((g t.val x.val : ℝ) : EReal)
  /-- The totals, two heads to a pair. -/
  tot : ∀ (a : Fin 2) (t : Fin 8192) (j : Fin 128), j.val < 2 → V m c main_v23 (ix3 a t j) = ((total q k (2 * a.val + j.val) t.val : ℝ) : EReal)
  /-- The queries. -/
  qry : ∀ (t : Fin 8192) (y : Fin 3200) (x : ℕ), x < 256 → y.val = 2304 + x → V m c main_v0 (ix2 t y) = ((q t.val x : ℝ) : EReal)
  /-- The keys. -/
  key : ∀ (t : Fin 8192) (y : Fin 3200) (x : ℕ), x < 256 → y.val = 2560 + x → V m c main_v0 (ix2 t y) = ((k t.val x : ℝ) : EReal)
  /-- The values. -/
  val : ∀ (t : Fin 8192) (y : Fin 3200) (x : ℕ), x < 256 → y.val = 2816 + x → V m c main_v0 (ix2 t y) = ((v t.val x : ℝ) : EReal)

/-- The coordinates of a grid point. -/
theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The blocks that the windows read and write at a grid point. -/
theorem index_eq : ∀ t : Fin cfg0.N,
    win0_0.index t = ![t.val % 16, t.val / 16] ∧ win0_1.index t = ![t.val / 16, t.val % 16, 0]
    ∧ win0_2.index t = ![t.val % 16, 18 + t.val / 16] ∧ win0_3.index t = ![0, 20 + t.val / 16]
    ∧ win0_4.index t = ![0, 22 + t.val / 16] ∧ win0_5.index t = ![t.val % 16, t.val / 16]
    ∧ win0_6.index t = ![0, t.val / 16] ∧ win0_7.index t = ![0, t.val / 16] :=
  (by decide +kernel : ∀ t : Fin grid0.N,
    win0_0.index t = ![t.val % 16, t.val / 16] ∧ win0_1.index t = ![t.val / 16, t.val % 16, 0]
    ∧ win0_2.index t = ![t.val % 16, 18 + t.val / 16] ∧ win0_3.index t = ![0, 20 + t.val / 16]
    ∧ win0_4.index t = ![0, 22 + t.val / 16] ∧ win0_5.index t = ![t.val % 16, t.val / 16]
    ∧ win0_6.index t = ![0, t.val / 16] ∧ win0_7.index t = ![0, t.val / 16])

/-- There are thirty-two grid points. -/
theorem lt_points (t : Fin cfg0.N) : t.val < 32 := t.isLt

section Blocks
variable (F : Found m c q k v g) (t : Fin cfg0.N)
include F

theorem block0 (r : Fin 512) (l : Fin 128) :
    iblk m c 0 t (ix2 r l) = ((g (512 * (grid0.coords t 1).val + r.val) (128 * (t.val / 16) + l.val) : ℝ) : EReal) := by
  have ht := lt_points t
  have h := F.cot ⟨512 * (t.val % 16) + r.val, by omega⟩ ⟨128 * (t.val / 16) + l.val, by omega⟩
  rw [(coords_eq t).2]
  refine Eq.trans ?_ h
  blk_ext [iblk, index_eq t]

theorem block1 (r : Fin 512) (j : Fin 128) (hj : j.val < 2) :
    iblk m c 1 t (ix3 0 r j) = ((total q k (2 * (t.val / 16) + j.val) (512 * (grid0.coords t 1).val + r.val) : ℝ) : EReal) := by
  have ht := lt_points t
  have h := F.tot ⟨t.val / 16, by omega⟩ ⟨512 * (t.val % 16) + r.val, by omega⟩ j hj
  rw [(coords_eq t).2]
  refine Eq.trans ?_ h
  blk_ext [iblk, index_eq t]

theorem block2 (r : Fin 512) (l : Fin 128) :
    iblk m c 2 t (ix2 r l) = ((q (512 * (grid0.coords t 1).val + r.val) (128 * (t.val / 16) + l.val) : ℝ) : EReal) := by
  have ht := lt_points t
  have h := F.qry ⟨512 * (t.val % 16) + r.val, by omega⟩ ⟨2304 + (128 * (t.val / 16) + l.val), by omega⟩ _ (by omega) rfl
  rw [(coords_eq t).2]
  refine Eq.trans ?_ h
  blk_ext [iblk, index_eq t]

theorem block3 (s : Fin 8192) (l : Fin 128) :
    iblk m c 3 t (ix2 s l) = ((k s.val (128 * (t.val / 16) + l.val) : ℝ) : EReal) := by
  have ht := lt_points t
  have h := F.key s ⟨2560 + (128 * (t.val / 16) + l.val), by omega⟩ _ (by omega) rfl
  refine Eq.trans ?_ h
  blk_ext [iblk, index_eq t]

theorem block4 (s : Fin 8192) (l : Fin 128) :
    iblk m c 4 t (ix2 s l) = ((v s.val (128 * (t.val / 16) + l.val) : ℝ) : EReal) := by
  have ht := lt_points t
  have h := F.val s ⟨2816 + (128 * (t.val / 16) + l.val), by omega⟩ _ (by omega) rfl
  refine Eq.trans ?_ h
  blk_ext [iblk, index_eq t]

end Blocks

/-- The score's gradient is zero from the diagonal on. -/
theorem dscore_zero (H : ℕ) {t s : ℕ} (h : t ≤ s) : dscore q k v g H t s = 0 := if_neg (by omega)

/-- So is the weight. -/
theorem weight_zero (H : ℕ) {t s : ℕ} (h : t ≤ s) : weight q k H t s = 0 := if_neg (by omega)

/-- A query tile adds nothing to the rows of later keys. -/
theorem addK_if (p i s l : ℕ) : (if s < 512 * i + 512 then addK q k v g p i s l else 0) = addK q k v g p i s l := by
  split_ifs with h
  · rfl
  · refine (sum_eq_zero fun r hr => ?_).symm
    rw [dscore_zero _ (by have := mem_range.mp hr; omega), zero_mul]

/-- A query tile adds nothing to the rows of later values. -/
theorem addV_if (p i s l : ℕ) : (if s < 512 * i + 512 then addV q k g p i s l else 0) = addV q k g p i s l := by
  split_ifs with h
  · rfl
  · refine (sum_eq_zero fun r hr => ?_).symm
    rw [weight_zero _ (by have := mem_range.mp hr; omega), zero_mul]

/-- The key gradient's terms of the first `n` queries. -/
def partK (q k v g : ℕ → ℕ → ℝ) (n s x : ℕ) : ℝ := ∑ t ∈ range n, dscore q k v g (x / 64) t s * (q t x * (1 / 8))

/-- The value gradient's terms of the first `n` queries. -/
def partV (q k g : ℕ → ℕ → ℝ) (n s x : ℕ) : ℝ := ∑ t ∈ range n, weight q k (x / 64) t s * g t x

theorem partK_add (p i s l : ℕ) :
    partK q k v g (512 * i) s (128 * p + l) + addK q k v g p i s l = partK q k v g (512 * (i + 1)) s (128 * p + l) := by
  unfold partK addK
  rw [show 512 * (i + 1) = 512 * i + 512 by ring, sum_range_add, show (128 * p + l) / 64 = 2 * p + l / 64 by omega]

theorem partV_add (p i s l : ℕ) :
    partV q k g (512 * i) s (128 * p + l) + addV q k g p i s l = partV q k g (512 * (i + 1)) s (128 * p + l) := by
  unfold partV addV
  rw [show 512 * (i + 1) = 512 * i + 512 by ring, sum_range_add, show (128 * p + l) / 64 = 2 * p + l / 64 by omega]

/-- Keys after a query tile do not enter its query gradient. -/
theorem sumQ (p i r l : ℕ) (hr : r < 512) (hi : i < 16) :
    (∑ s ∈ range (512 * i + 512), dscore q k v g (2 * p + l / 64) (512 * i + r) s * k s (128 * p + l)) * (1 / 8)
      = gradQ q k v g (512 * i + r) (128 * p + l) := by
  unfold gradQ
  rw [show (128 * p + l) / 64 = 2 * p + l / 64 by omega]
  congr 1
  refine sum_subset (fun s hs => mem_range.mpr (by have := mem_range.mp hs; omega)) fun s _ hs => ?_
  rw [dscore_zero _ (by have : ¬ s < _ := fun h => hs (mem_range.mpr h); omega), zero_mul]

/-- What a head pair's first grid point leaves. -/
theorem point_first (F : Found m c q k v g) (t : Fin cfg0.N) (h0 : t.val % 16 = 0) :
    (∀ (r : Fin 512) (l : Fin 128), (outsAt0 m c t.val t.isLt).1 (ix2 r l)
        = ((gradQ q k v g (512 * (t.val % 16) + r.val) (128 * (t.val / 16) + l.val) : ℝ) : EReal))
    ∧ (∀ (s : Fin 8192) (l : Fin 128), (outsAt0 m c t.val t.isLt).2.1 (ix2 s l)
        = ((partK q k v g (512 * (t.val % 16 + 1)) s.val (128 * (t.val / 16) + l.val) : ℝ) : EReal))
    ∧ (∀ (s : Fin 8192) (l : Fin 128), (outsAt0 m c t.val t.isLt).2.2 (ix2 s l)
        = ((partV q k g (512 * (t.val % 16 + 1)) s.val (128 * (t.val / 16) + l.val) : ℝ) : EReal)) := by
  have hi := (coords_eq t).2
  obtain ⟨h5, h6, h7⟩ := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (block0 F t) (block1 F t) (block2 F t) (block3 F t) (block4 F t)
  rw [hi] at h5 h6 h7
  refine ⟨fun r l => (congrArg (fun x => x.1 (ix2 r l)) (outsAt0_A m c t h0)).trans ((h5 r l).trans ?_),
    fun s l => (congrArg (fun x => x.2.1 (ix2 s l)) (outsAt0_A m c t h0)).trans ((h6 s l).trans ?_),
    fun s l => (congrArg (fun x => x.2.2 (ix2 s l)) (outsAt0_A m c t h0)).trans ((h7 s l).trans ?_)⟩
  · rw [sumQ _ _ _ _ r.isLt (by omega)]
  · rw [addK_if, zero_add, ← partK_add, h0]
    simp [partK]
  · rw [addV_if, zero_add, ← partV_add, h0]
    simp [partV]

/-- What any other grid point leaves, over what the point before left. -/
theorem point_next (F : Found m c q k v g) (t : Fin cfg0.N) (h0 : ¬t.val % 16 = 0)
    (ihK : ∀ (s : Fin 8192) (l : Fin 128), (outsAt0 m c (t.val - 1) (Nat.lt_of_le_of_lt (Nat.sub_le _ _) t.isLt)).2.1 (ix2 s l)
        = ((partK q k v g (512 * (t.val % 16)) s.val (128 * (t.val / 16) + l.val) : ℝ) : EReal))
    (ihV : ∀ (s : Fin 8192) (l : Fin 128), (outsAt0 m c (t.val - 1) (Nat.lt_of_le_of_lt (Nat.sub_le _ _) t.isLt)).2.2 (ix2 s l)
        = ((partV q k g (512 * (t.val % 16)) s.val (128 * (t.val / 16) + l.val) : ℝ) : EReal)) :
    (∀ (r : Fin 512) (l : Fin 128), (outsAt0 m c t.val t.isLt).1 (ix2 r l)
        = ((gradQ q k v g (512 * (t.val % 16) + r.val) (128 * (t.val / 16) + l.val) : ℝ) : EReal))
    ∧ (∀ (s : Fin 8192) (l : Fin 128), (outsAt0 m c t.val t.isLt).2.1 (ix2 s l)
        = ((partK q k v g (512 * (t.val % 16 + 1)) s.val (128 * (t.val / 16) + l.val) : ℝ) : EReal))
    ∧ (∀ (s : Fin 8192) (l : Fin 128), (outsAt0 m c t.val t.isLt).2.2 (ix2 s l)
        = ((partV q k g (512 * (t.val % 16 + 1)) s.val (128 * (t.val / 16) + l.val) : ℝ) : EReal)) := by
  have hi := (coords_eq t).2
  obtain ⟨h5, h6, h7⟩ := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 (block0 F t) (block1 F t) (block2 F t) (block3 F t) (block4 F t)
  rw [hi] at h5 h6 h7
  refine ⟨fun r l => (congrArg (fun x => x.1 (ix2 r l)) (outsAt0_B m c t h0)).trans ((h5 r l).trans ?_),
    fun s l => (congrArg (fun x => x.2.1 (ix2 s l)) (outsAt0_B m c t h0)).trans ((h6 s l).trans ?_),
    fun s l => (congrArg (fun x => x.2.2 (ix2 s l)) (outsAt0_B m c t h0)).trans ((h7 s l).trans ?_)⟩
  · rw [sumQ _ _ _ _ r.isLt (by omega)]
  · rw [addK_if, ihK, ← EReal.coe_add, partK_add]
  · rw [addV_if, ihV, ← EReal.coe_add, partV_add]

/-- What every grid point leaves: its rows of the query gradient, and the key and value gradients
    of the queries so far. -/
theorem point (F : Found m c q k v g) : ∀ (n : ℕ) (hn : n < cfg0.N),
    (∀ (r : Fin 512) (l : Fin 128), (outsAt0 m c n hn).1 (ix2 r l)
        = ((gradQ q k v g (512 * (n % 16) + r.val) (128 * (n / 16) + l.val) : ℝ) : EReal))
    ∧ (∀ (s : Fin 8192) (l : Fin 128), (outsAt0 m c n hn).2.1 (ix2 s l)
        = ((partK q k v g (512 * (n % 16 + 1)) s.val (128 * (n / 16) + l.val) : ℝ) : EReal))
    ∧ (∀ (s : Fin 8192) (l : Fin 128), (outsAt0 m c n hn).2.2 (ix2 s l)
        = ((partV q k g (512 * (n % 16 + 1)) s.val (128 * (n / 16) + l.val) : ℝ) : EReal))
  | 0, hn => point_first F ⟨0, hn⟩ (Nat.zero_mod _)
  | n + 1, hn => by
    by_cases h0 : (n + 1) % 16 = 0
    · exact point_first F ⟨n + 1, hn⟩ h0
    · obtain ⟨-, hK, hV⟩ := point F n (Nat.lt_of_succ_lt hn)
      rw [show n % 16 + 1 = (n + 1) % 16 by omega, show n / 16 = (n + 1) / 16 by omega] at hK hV
      exact point_next F ⟨n + 1, hn⟩ h0 hK hV

end Cert.Stick
-- ==== Proof.Arrays.lean ====
module

public import proofs.«01_k».proof.Proof.Grid
public import proofs.«01_k».proof.Proof.Gen.KernelIdeal.Value

/-!
# The kernel's three result arrays
-/

@[expose] public section

set_option maxRecDepth 16384

noncomputable section

namespace Cert.Stick

open Idealize.ShloMosaic Idealize.ShloMosaic.TcCoe Cert.KernelIdeal Cert.KernelIdeal.Gen Finset

variable {m : (ℓ : Loc nD τ sig) → Buf (Elt Ideal) ℓ} {c : Dev nD} {q k v g : ℕ → ℕ → ℝ}

/-- A real function of the row and column as an array. -/
def grid2 (f : ℕ → ℕ → ℝ) : S8192x256.Idx → EReal := fun i => ((f (i 0).val (i 1).val : ℝ) : EReal)

/-- The key and value gradients are written back after a pair's last query tile. -/
theorem last_of_flush : ∀ t : Fin cfg0.N, ((cfg0.win 6).flush t = true → t.val % 16 = 15) ∧ ((cfg0.win 7).flush t = true → t.val % 16 = 15) :=
  (by decide +kernel : ∀ t : Fin grid0.N, ((win0_6).flush t = true → t.val % 16 = 15) ∧ ((win0_7).flush t = true → t.val % 16 = 15))

/-- The array of the query gradient. -/
theorem arrayQ (F : Found m c q k v g) : (dats m 0 c).arrAt 5 cfg0.N = grid2 (gradQ q k v g) := by
  refine (dats m 0 c).arrAt_eq_of_covers 5 _ (by decide +kernel) fun t hf y => ?_
  have h := (point F t.val t.isLt).1 (y 0) (y 1)
  have e0 : ((win0_5.blk t).view.emb y 0).val = 512 * (t.val % 16) + (y 0).val := by blk_simp [index_eq t]; try omega
  have e1 : ((win0_5.blk t).view.emb y 1).val = 128 * (t.val / 16) + (y 1).val := by blk_simp [index_eq t]; try omega
  blk_simp
  rw [after0_5]
  refine (congrArg _ (eq_ix2 y)).trans (h.trans ?_)
  unfold grid2
  rw [e0, e1]

/-- The array of the key gradient. -/
theorem arrayK (F : Found m c q k v g) : (dats m 0 c).arrAt 6 cfg0.N = grid2 (gradK q k v g) := by
  refine (dats m 0 c).arrAt_eq_of_covers 6 _ (by decide +kernel) fun t hf y => ?_
  have hl := (last_of_flush t).1 hf
  have h := (point F t.val t.isLt).2.1 (y 0) (y 1)
  have e0 : ((win0_6.blk t).view.emb y 0).val = (y 0).val := by blk_simp [index_eq t]; try omega
  have e1 : ((win0_6.blk t).view.emb y 1).val = 128 * (t.val / 16) + (y 1).val := by blk_simp [index_eq t]; try omega
  blk_simp
  rw [after0_6]
  refine (congrArg _ (eq_ix2 y)).trans (h.trans ?_)
  unfold grid2
  rw [e0, e1, hl]
  rfl

/-- The array of the value gradient. -/
theorem arrayV (F : Found m c q k v g) : (dats m 0 c).arrAt 7 cfg0.N = grid2 (gradV q k g) := by
  refine (dats m 0 c).arrAt_eq_of_covers 7 _ (by decide +kernel) fun t hf y => ?_
  have hl := (last_of_flush t).2 hf
  have h := (point F t.val t.isLt).2.2 (y 0) (y 1)
  have e0 : ((win0_7.blk t).view.emb y 0).val = (y 0).val := by blk_simp [index_eq t]; try omega
  have e1 : ((win0_7.blk t).view.emb y 1).val = 128 * (t.val / 16) + (y 1).val := by blk_simp [index_eq t]; try omega
  blk_simp
  rw [after0_7]
  refine (congrArg _ (eq_ix2 y)).trans (h.trans ?_)
  unfold grid2
  rw [e0, e1, hl]
  rfl

end Cert.Stick
-- ==== Proof.Host.lean ====
module

public import proofs.«01_k».proof.Proof.Grid
public import proofs.«01_k».proof.Proof.Scores
public import Idealize.ShloMosaic.Lib.Claim
public import Idealize.ShloMosaic.Lib.Pointwise

/-!
# The arrays that the host's lines prepare for the kernel's call
-/

@[expose] public section

set_option maxRecDepth 16384

noncomputable section

namespace Cert.Stick

open Idealize.ShloMosaic Idealize.ShloMosaic.TcCoe Cert.KernelIdeal Cert.KernelIdeal.Gen Finset

variable {m : (ℓ : Loc nD τ sig) → Buf (Elt Ideal) ℓ} {c : Dev nD} {q k v g : ℕ → ℕ → ℝ}

/-- The host's scores. -/
def hostScore (x : FVec Ideal S8192x3200 .f32) : FVec Ideal S4x8192x8192 .f32 :=
  mulf (Host.dotGeneral dot_S4x8192x64_S4x8192x64_S4x8192x8192_2_2_1_1_0_0 none
      (transpose S4x8192x64 [1, 0, 2] (shapeCast S8192x4x64 (extractStridedSlice S8192x256 ![0, 2304] x slices_S8192x3200_S8192x256_0_2304) shapeCasts_S8192x256_S8192x4x64) transposes_S8192x4x64_S4x8192x64_1_0_2)
      (transpose S4x8192x64 [1, 0, 2] (shapeCast S8192x4x64 (extractStridedSlice S8192x256 ![0, 2560] x slices_S8192x3200_S8192x256_0_2560) shapeCasts_S8192x256_S8192x4x64) transposes_S8192x4x64_S4x8192x64_1_0_2))
    (broadcastInDim S4x8192x8192 ![] bcast_S_S4x8192x8192 (constant S_ .f32 0x3E000000#32))

/-- Zero everywhere. -/
def hostZero : FVec Ideal S4x8192x8192 .f32 := broadcastInDim S4x8192x8192 ![] bcast_S_S4x8192x8192 (constant S_ .f32 0x00000000#32)

/-- The host's logarithm of the logistic. -/
def hostLogSigmoid (x : FVec Ideal S4x8192x8192 .f32) : FVec Ideal S4x8192x8192 .f32 :=
  Host.negf (select (cmpf .une (subf (Host.negf x) hostZero) (subf (Host.negf x) hostZero)) (addf (Host.negf x) hostZero)
    (addf (maximumf (Host.negf x) hostZero) (Host.log1p (Host.exp (Host.negf (Host.absf (subf (Host.negf x) hostZero)))))))

/-- Which keys come before which query. -/
def hostBefore : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The host's logarithms of what is kept. -/
def hostKeep (x : FVec Ideal S4x8192x8192 .f32) : FVec Ideal S4x8192x8192 .f32 :=
  select (broadcastInDim S4x8192x8192 ![1, 2] bcast_S8192x8192_S4x8192x8192_1_2 hostBefore) (hostLogSigmoid (Host.negf x)) hostZero

/-- The host's totals, a row to each head. -/
def hostTotal (x : FVec Ideal S4x8192x8192 .f32) : FVec Ideal S4x8192 .f32 :=
  Host.reduceAdd (hostKeep x) (constant S_ .f32 0x00000000#32) reducesTo_S4x8192x8192_S4x8192_d2 h_S_

/-- The totals in the kernel's layout. -/
def hostPairs (x : FVec Ideal S4x8192 .f32) : FVec Ideal S2x8192x128 .f32 :=
  pad S2x8192x128 ![0, 0, 0] ![0, 0, 126] ![0, 0, 0]
    (transpose S2x8192x2 [0, 2, 1] (shapeCast S2x2x8192 x shapeCasts_S4x8192_S2x2x8192) transposes_S2x2x8192_S2x8192x2_0_2_1)
    (sitofp .f32 (constantI S_ 32 0#32)) pads_S2x8192x2_S2x8192x128_000_000_01260 h_S_

/-- The totals that the call finds. -/
theorem found_totals : V m c main_v23 = hostPairs (hostTotal (hostScore (m ((c : Thread nD τ).loc main_arg1)))) := by
  simp only [V, hostOps0, hostOps0_1, hostOps0_2, hostOps0_3, hostOps0_4, hostOps0_5, List.flatten_cons, List.flatten_nil, List.append_nil, List.cons_append, List.nil_append]
  entry_read
  simp only [StableHlo.TRef.ofBuf_toBuf]
  rfl

/-- The projection that the call finds. -/
theorem found_proj (t : Fin 8192) (y : Fin 3200) : V m c main_v0 (ix2 t y) = m ((c : Thread nD τ).loc main_arg1) (ix2 t y) := by
  simp only [V, hostOps0, hostOps0_1, hostOps0_2, hostOps0_3, hostOps0_4, hostOps0_5, List.flatten_cons, List.flatten_nil, List.append_nil, List.cons_append, List.nil_append]
  entry_read
  pointwise

theorem hostScore_full {x : FVec Ideal S8192x3200 .f32} (P : Proj x q k v) : Full (hostScore x) (score q k) := by
  intro H t s
  unfold hostScore
  pointwise
  have h : ∀ d : Fin 64, x (ix2 t ⟨2304 + (H.val * 64 + d.val), by omega⟩) * x (ix2 s ⟨2560 + (H.val * 64 + d.val), by omega⟩)
      = ((q t.val (64 * H.val + d.val) * k s.val (64 * H.val + d.val) : ℝ) : EReal) := by
    intro d
    rw [P.qry t _ (64 * H.val + d.val) (by omega) (by simp; omega), P.key s _ (64 * H.val + d.val) (by omega) (by simp; omega), EReal.coe_mul]
  rw [eighth_f32, ← score_after, EReal.coe_mul, ← sum_coe]
  exact congrArg (· * _) (sum_congr rfl fun d _ => h d)

theorem hostKeep_full {x : FVec Ideal S4x8192x8192 .f32} (h : Full x (score q k)) : Full (hostKeep x) (logKeep q k) := by
  intro H t s
  unfold hostKeep hostLogSigmoid hostZero hostBefore
  pointwise
  rw [h H t s, select_before, neg_neg]
  simp only [ne_eq, not_true_eq_false, if_false]
  rw [softplus_host]
  unfold logKeep
  split_ifs <;> simp

theorem hostTotal_full {x : FVec Ideal S4x8192x8192 .f32} (h : Full x (score q k)) (H : Fin 4) (t : Fin 8192) :
    hostTotal x (ix2 H t) = ((total q k H.val t.val : ℝ) : EReal) := by
  have hk := hostKeep_full h
  unfold hostTotal
  revert hk
  generalize hostKeep x = y
  intro hk
  pointwise
  unfold total
  rw [← sum_coe]
  exact sum_congr rfl fun s _ => hk H t s

theorem hostPairs_full {x : FVec Ideal S4x8192 .f32} (h : ∀ (H : Fin 4) (t : Fin 8192), x (ix2 H t) = ((total q k H.val t.val : ℝ) : EReal))
    (a : Fin 2) (t : Fin 8192) (j : Fin 128) (hj : j.val < 2) :
    hostPairs x (ix3 a t j) = ((total q k (2 * a.val + j.val) t.val : ℝ) : EReal) := by
  unfold hostPairs
  pointwise
  rw [dif_pos hj, h]
  exact congrArg (fun n => ((total q k n t.val : ℝ) : EReal)) (show a.val * 2 + j.val = 2 * a.val + j.val by omega)

/-- What the kernel's call finds. -/
theorem found (P : Proj (m ((c : Thread nD τ).loc main_arg1)) q k v)
    (hg : ∀ (t : Fin 8192) (x : Fin 256), m ((c : Thread nD τ).loc main_arg0) (ix2 t x) = ((g t.val x.val : ℝ) : EReal)) : Found m c q k v g where
  cot t x := by rw [V_main_arg0]; exact hg t x
  tot a t j hj := by rw [found_totals]; exact hostPairs_full (hostTotal_full (hostScore_full P)) a t j hj
  qry t y x hx hy := (found_proj t y).trans (P.qry t y x hx hy)
  key t y x hx hy := (found_proj t y).trans (P.key t y x hx hy)
  val t y x hx hy := (found_proj t y).trans (P.val t y x hx hy)

end Cert.Stick
-- ==== Proof.Window.lean ====
module

public import proofs.«01_k».proof.Proof.Real

/-!
# Running sums along the last axis, written as sums over a window
-/

@[expose] public section

set_option maxRecDepth 16384

noncomputable section

namespace Cert.Stick

open Idealize.ShloMosaic Idealize.ShloMosaic.TcCoe Finset

/-- Adding up a list from a start is the start and the list's sum. -/
theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A sum over the positions of a row. -/
theorem sum_row {N : ℕ} (f : (⟨3, ![1, 1, N]⟩ : Shape).Idx → EReal) : ∑ i, f i = ∑ n : Fin N, f (ix3 (0 : Fin 1) (0 : Fin 1) n) := by
  refine Finset.sum_bij' (fun i _ => (i 2 : Fin N)) (fun n _ => ix3 (0 : Fin 1) (0 : Fin 1) n) (fun _ _ => mem_univ _) (fun _ _ => mem_univ _) ?_ (fun _ _ => rfl) ?_
  · intro i _
    funext a
    match a with
    | ⟨0, _⟩ => exact Subsingleton.elim (α := Fin 1) _ _
    | ⟨1, _⟩ => exact Subsingleton.elim (α := Fin 1) _ _
    | ⟨2, _⟩ => rfl
  · intro i _
    congr 1
    funext a
    match a with
    | ⟨0, _⟩ => exact Subsingleton.elim (α := Fin 1) _ _
    | ⟨1, _⟩ => exact Subsingleton.elim (α := Fin 1) _ _
    | ⟨2, _⟩ => rfl

/-- A window as long as the last axis, with `L` places of padding before it: each result is the sum
of the window's elements that are not padding. -/
theorem window_sum {A B N L R : ℕ} {u : Shape} (x : FVec Ideal ⟨3, ![A, B, N]⟩ .f32) (init : u.Idx → Ideal .f32)
    (h : (⟨3, ![A, B, N]⟩ : Shape).ReduceWindows (![1, 1, N] : Fin 3 → ℕ) ![1, 1, 1] ![0, 0, L] ![0, 0, R] ⟨3, ![A, B, N]⟩) (hu : 0 < u.numel)
    (hinit : init (Shape.Idx.first hu) = (0 : EReal)) (a : Fin A) (b : Fin B) (j : Fin N) (f : ℕ → ℝ)
    (hx : ∀ s : Fin N, x (ix3 a b s) = ((f s.val : ℝ) : EReal)) :
    Host.reduceWindowAdd ![1, 1, N] ![1, 1, 1] ![0, 0, L] ![0, 0, R] x init h hu (ix3 a b j)
      = ((∑ n ∈ range N, if L ≤ j.val + n ∧ j.val + n - L < N then f (j.val + n - L) else 0 : ℝ) : EReal) := by
  unfold Host.reduceWindowAdd
  rw [Ideal.hostReduceWindowAdd_def]
  unfold Ideal.hostReduceWindowAdd Host.reduceWindow
  rw [hinit]
  let F : (⟨3, ![1, 1, N]⟩ : Shape).Idx → EReal := fun i =>
    if hin : ∀ c : Fin 3, (![0, 0, L] : Fin 3 → ℕ) c ≤ (ix3 a b j c).val * (![1, 1, 1] : Fin 3 → ℕ) c + (i c).val
        ∧ (ix3 a b j c).val * (![1, 1, 1] : Fin 3 → ℕ) c + (i c).val - (![0, 0, L] : Fin 3 → ℕ) c < (⟨3, ![A, B, N]⟩ : Shape).size c
      then x (fun c => ⟨(ix3 a b j c).val * (![1, 1, 1] : Fin 3 → ℕ) c + (i c).val - (![0, 0, L] : Fin 3 → ℕ) c, (hin c).2⟩) else 0
  have e1 : (List.finRange (⟨3, ![1, 1, N]⟩ : Shape).numel).foldl (fun r n => r + F ((⟨3, ![1, 1, N]⟩ : Shape).rowMajor.symm n)) 0
      = ∑ n : Fin N, F (ix3 (0 : Fin 1) (0 : Fin 1) n) := by
    rw [foldl_add, zero_add, ← Fin.sum_univ_def, Equiv.sum_comp (⟨3, ![1, 1, N]⟩ : Shape).rowMajor.symm F, sum_row]
  refine Eq.trans (congrArg (fun w => List.foldl w (0 : EReal) (List.finRange (⟨3, ![1, 1, N]⟩ : Shape).numel))
    (funext fun r => funext fun n => congrArg (r + ·) (dite_congr rfl (fun _ => rfl) fun _ => rfl))) (e1.trans ?_)
  rw [← sum_coe (fun n => if L ≤ j.val + n ∧ j.val + n - L < N then f (j.val + n - L) else 0)]
  refine sum_congr rfl fun n _ => ?_
  show (if hin : _ then _ else _) = _
  by_cases hn : L ≤ j.val + n.val ∧ j.val + n.val - L < N
  · have hin : ∀ c : Fin 3, (![0, 0, L] : Fin 3 → ℕ) c ≤ (ix3 a b j c).val * (![1, 1, 1] : Fin 3 → ℕ) c + (ix3 (0 : Fin 1) (0 : Fin 1) n c).val
        ∧ (ix3 a b j c).val * (![1, 1, 1] : Fin 3 → ℕ) c + (ix3 (0 : Fin 1) (0 : Fin 1) n c).val - (![0, 0, L] : Fin 3 → ℕ) c < (⟨3, ![A, B, N]⟩ : Shape).size c := by
      intro c
      match c with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨by show L ≤ j.val * 1 + n.val; omega, by show j.val * 1 + n.val - L < N; omega⟩
    rw [dif_pos hin, if_pos hn, ← hx ⟨j.val + n.val - L, hn.2⟩]
    congr 1
    funext c
    match c with
    | ⟨0, _⟩ => exact Fin.ext (by show a.val * 1 + 0 - 0 = a.val; omega)
    | ⟨1, _⟩ => exact Fin.ext (by show b.val * 1 + 0 - 0 = b.val; omega)
    | ⟨2, _⟩ => exact Fin.ext (by show j.val * 1 + n.val - L = j.val + n.val - L; omega)
  · rw [if_neg hn, dif_neg]
    · rfl
    · intro hin
      have h2 := hin 2
      apply hn
      change L ≤ j.val * 1 + n.val ∧ j.val * 1 + n.val - L < N at h2
      omega

/-- A sum from `j` on. -/
theorem sum_suffix (f : ℕ → ℝ) {N j : ℕ} (hj : j < N) :
    (∑ n ∈ range N, if 0 ≤ j + n ∧ j + n - 0 < N then f (j + n - 0) else 0) = ∑ s ∈ range N, f s - ∑ s ∈ range j, f s := by
  obtain ⟨m, rfl⟩ : ∃ m, N = m + j := ⟨N - j, by omega⟩
  have e : ∑ s ∈ range (m + j), f s = ∑ s ∈ range j, f s + ∑ s ∈ range m, f (j + s) := by rw [add_comm m j, sum_range_add]
  have h1 : (∑ n ∈ range m, if 0 ≤ j + n ∧ j + n - 0 < m + j then f (j + n - 0) else 0) = ∑ s ∈ range m, f (j + s) :=
    sum_congr rfl fun n hn => by rw [mem_range] at hn; rw [if_pos (by omega), Nat.sub_zero]
  have h2 : (∑ n ∈ range j, if 0 ≤ j + (m + n) ∧ j + (m + n) - 0 < m + j then f (j + (m + n) - 0) else 0) = 0 :=
    sum_eq_zero fun n _ => by rw [if_neg (by omega)]
  rw [e, sum_range_add, h1, h2]
  ring

/-- A sum up to `j`. -/
theorem sum_prefix (f : ℕ → ℝ) {L j : ℕ} (hj : j < L + 1) :
    (∑ n ∈ range (L + 1), if L ≤ j + n ∧ j + n - L < L + 1 then f (j + n - L) else 0) = ∑ s ∈ range (j + 1), f s := by
  obtain ⟨m, rfl⟩ : ∃ m, L = m + j := ⟨L - j, by omega⟩
  have h1 : (∑ n ∈ range m, if m + j ≤ j + n ∧ j + n - (m + j) < m + (j + 1) then f (j + n - (m + j)) else 0) = 0 :=
    sum_eq_zero fun n hn => by rw [mem_range] at hn; rw [if_neg (by omega)]
  rw [show m + j + 1 = m + (j + 1) by omega, sum_range_add, h1, zero_add]
  refine sum_congr rfl fun n hn => ?_
  rw [mem_range] at hn
  rw [if_pos (by omega)]
  congr 1
  omega

end Cert.Stick
-- ==== Proof.Reference.lean ====
module

public import proofs.«01_k».proof.Proof.Scores
public import proofs.«01_k».proof.Proof.Window
public import proofs.«01_k».proof.Proof.Gen.ReferenceIdeal.Read

/-!
# The reference's values, read as real numbers
-/

@[expose] public section

set_option maxRecDepth 16384

noncomputable section

namespace Cert.Stick

open Idealize.ShloMosaic Idealize.ShloMosaic.TcCoe Cert.ReferenceIdeal Cert.ReferenceIdeal.Gen Cert.ReferenceIdeal.Read Finset

variable {q k v g : ℕ → ℕ → ℝ} {x0 : FVec Ideal S8192x256 .f32} {x1 : FVec Ideal S8192x3200 .f32}

/-- Infinity is no finite number. -/
theorem coe_ne_inf (x : ℝ) : ¬(x : EReal) = Ideal.ofBits FTy.f32 0x7F800000#32 := by
  have e : Ideal.ofBits FTy.f32 0x7F800000#32 = (⊤ : EReal) := by simp [Ideal.ofBits, Ideal.ieee]
  rw [e]
  exact EReal.coe_ne_top x

/-- The scores. -/
theorem ref_score (P : Proj x1 q k v) : Full (val_main_v13 (F := Ideal) x1) (score q k) := by
  intro H t s
  unfold val_main_v13 val_main_v11 val_main_v12 val_main_cst val_main_v5 val_main_v4 val_main_v1 val_main_v7 val_main_v6 val_main_v2 val_main_v0
  pointwise
  have h : ∀ d : Fin 64, x1 (ix2 t ⟨2304 + (H.val * 64 + d.val), by omega⟩) * x1 (ix2 s ⟨2304 + (256 + (H.val * 64 + d.val)), by omega⟩)
      = ((q t.val (64 * H.val + d.val) * k s.val (64 * H.val + d.val) : ℝ) : EReal) := by
    intro d
    rw [P.qry t _ (64 * H.val + d.val) (by omega) (by simp; omega), P.key s _ (64 * H.val + d.val) (by omega) (by simp; omega), EReal.coe_mul]
  rw [eighth_f32, ← score_after, EReal.coe_mul, ← sum_coe]
  exact congrArg (· * _) (sum_congr rfl fun d _ => h d)

/-- `log (1 + exp z)` of each score `z`. -/
theorem ref_softplus (P : Proj x1 q k v) : Full (val_main_call0_v1_0 (F := Ideal) x1) (fun H t s => softplus (score q k H t s)) := by
  intro H t s
  have h := ref_score P H t s
  unfold val_main_call0_v1_0 val_main_call0_call0_v11 val_main_call0_call0_v10 val_main_call0_call0_v9 val_main_call0_call0_v8
    val_main_call0_call0_v7 val_main_call0_call0_v6 val_main_call0_call0_v5 val_main_call0_call0_v4 val_main_call0_call0_v3
    val_main_call0_call0_v2 val_main_call0_call0_v1 val_main_call0_call0_v0 val_main_call0_call0_cst val_main_call0_v0 val_main_v19
  revert h
  generalize val_main_v13 (F := Ideal) x1 = y
  intro h
  pointwise
  rw [h, neg_neg]
  simp only [ne_eq, not_true_eq_false, if_false]
  exact softplus_host _

/-- `log (1 + exp (-z))` of each score `z`. -/
theorem ref_softplus_neg (P : Proj x1 q k v) : Full (val_main_call3_v1_0 (F := Ideal) x1) (fun H t s => softplus (-score q k H t s)) := by
  intro H t s
  have h := ref_score P H t s
  unfold val_main_call3_v1_0 val_main_call3_call0_v11 val_main_call3_call0_v10 val_main_call3_call0_v9 val_main_call3_call0_v8
    val_main_call3_call0_v7 val_main_call3_call0_v6 val_main_call3_call0_v5 val_main_call3_call0_v4 val_main_call3_call0_v3
    val_main_call3_call0_v2 val_main_call3_call0_v1 val_main_call3_call0_v0 val_main_call3_call0_cst val_main_call3_v0
  revert h
  generalize val_main_v13 (F := Ideal) x1 = y
  intro h
  pointwise
  rw [h]
  simp only [ne_eq, not_true_eq_false, if_false]
  rw [← EReal.coe_neg]
  exact softplus_host _

/-- The logistic of each score. -/
theorem ref_logistic (P : Proj x1 q k v) :
    Full (val_main_v20_1 (F := Ideal) x1) (fun H t s => Real.exp (score q k H t s - softplus (score q k H t s))) := by
  intro H t s
  have h := ref_score P H t s
  have h2 := ref_softplus P H t s
  unfold val_main_v20_1 val_main_call0_call0_v21 val_main_call0_call0_v20 val_main_call0_call0_v19 val_main_call0_call0_v18
    val_main_call0_call0_v17 val_main_call0_call0_v16 val_main_call0_call0_v15 val_main_call0_call0_v14 val_main_call0_call0_v13
    val_main_call0_call0_cst_0 val_main_call0_call0_cst_1 val_main_call0_call0_cst_2 val_main_call0_call0_cst_3 val_main_call0_v0 val_main_v19
  revert h h2
  generalize val_main_v13 (F := Ideal) x1 = y
  generalize val_main_call0_v1_0 (F := Ideal) x1 = z
  intro h h2
  pointwise
  rw [h, h2, neg_neg, if_neg (coe_ne_inf _), if_neg (coe_ne_inf _), ← EReal.coe_sub, Ideal.exp_coe]

/-- The logistic of each score's negative. -/
theorem ref_logistic_neg (P : Proj x1 q k v) :
    Full (val_main_v24_1 (F := Ideal) x1) (fun H t s => Real.exp (-softplus (score q k H t s))) := by
  intro H t s
  have h := ref_score P H t s
  have h2 := ref_softplus_neg P H t s
  unfold val_main_v24_1 val_main_call3_call0_v21 val_main_call3_call0_v20 val_main_call3_call0_v19 val_main_call3_call0_v18
    val_main_call3_call0_v17 val_main_call3_call0_v16 val_main_call3_call0_v15 val_main_call3_call0_v14 val_main_call3_call0_v13
    val_main_call3_call0_cst_0 val_main_call3_call0_cst_1 val_main_call3_call0_cst_2 val_main_call3_call0_cst_3 val_main_call3_v0
  revert h h2
  generalize val_main_v13 (F := Ideal) x1 = y
  generalize val_main_call3_v1_0 (F := Ideal) x1 = z
  intro h h2
  pointwise
  rw [h, h2, ← EReal.coe_neg, if_neg (coe_ne_inf _), if_neg (coe_ne_inf _), ← EReal.coe_sub, Ideal.exp_coe, sub_softplus, neg_neg]

/-- The logarithms of what is kept. -/
theorem ref_keep (P : Proj x1 q k v) : Full (val_main_v21_0 (F := Ideal) x1) (logKeep q k) := by
  intro H t s
  have h := ref_softplus P H t s
  unfold val_main_v21_0 val_main_v21_1 val_main_v18 val_main_v17 val_main_v16 val_main_v15 val_main_v14 val_main_v10 val_main_v20_0 val_main_call1_v2 val_main_call1_v0 val_main_cst_0
  simp only [id_eq]
  revert h
  generalize val_main_call0_v1_0 (F := Ideal) x1 = y
  intro h
  pointwise
  rw [h, select_before]
  unfold logKeep
  split_ifs <;> simp

/-- The start of a running sum is zero. -/
theorem zero_first : broadcastInDim S_ ![] bcast_S_S_ (constant (F := Ideal) S_ .f32 0x00000000#32) (Shape.Idx.first h_S_) = (0 : EReal) := by
  rw [show Shape.Idx.first h_S_ = ix0 from funext fun a => a.elim0]
  pointwise

/-- What the keys after each key leave of the stick, as a logarithm. -/
theorem ref_left (P : Proj x1 q k v) :
    Full (val_main_v23 (F := Ideal) x1) (fun H t s => total q k H t - ∑ s' ∈ range (s + 1), logKeep q k H t s') := by
  intro H t s
  have h := ref_keep P H t
  unfold val_main_v23 val_main_v22
  revert h
  generalize val_main_v21_0 (F := Ideal) x1 = y
  intro h
  refine (congrArg₂ (· - ·) (window_sum (L := 0) (R := 8191) y _ _ _ ?_ H t s (logKeep q k H.val t.val) h) (h s)).trans ?_
  · unfold val_main_call2_v0 val_main_call2_cst
    exact zero_first
  · rw [← EReal.coe_sub, sum_suffix _ s.isLt, sub_sub, ← sum_range_succ]
    rfl

/-- The weights without the mask. -/
theorem ref_open (P : Proj x1 q k v) : Full (val_main_v26 (F := Ideal) x1) (fun H t s => Real.exp (score q k H t s + -softplus (score q k H t s)
      + (total q k H t - ∑ s' ∈ range (s + 1), logKeep q k H t s'))) := by
  intro H t s
  have h := ref_left P H t s
  have h2 := ref_softplus_neg P H t s
  unfold val_main_v26 val_main_v25 val_main_v24_0
  revert h h2
  generalize val_main_v23 (F := Ideal) x1 = y
  generalize val_main_call3_v1_0 (F := Ideal) x1 = z
  intro h h2
  pointwise
  rw [h, h2, ← EReal.coe_neg, ← EReal.coe_add, Ideal.exp_coe, ← sub_softplus, sub_eq_add_neg]

/-- The weights. -/
theorem ref_weight (P : Proj x1 q k v) : Full (val_main_v27_0 (F := Ideal) x1) (weight q k) := by
  intro H t s
  have h := ref_open P H t s
  unfold val_main_v27_0 val_main_v27_1 val_main_v18 val_main_v17 val_main_v16 val_main_v15 val_main_v14 val_main_v10 val_main_call4_v2 val_main_call4_v0 val_main_cst_1
  simp only [id_eq]
  revert h
  generalize val_main_v26 (F := Ideal) x1 = y
  intro h
  pointwise
  rw [h, select_before]
  unfold weight
  split_ifs <;> simp

/-- The weights' gradients times the weights. -/
theorem ref_push (P : Proj x1 q k v) (hg : Cot x0 g) : Full (val_main_v37 (F := Ideal) x0 x1) (push q k v g) := by
  intro H t s
  have h := ref_open P H t s
  unfold val_main_v37 val_main_v36 val_main_v35 val_main_v32 val_main_v31 val_main_v9 val_main_v8 val_main_v3 val_main_v0
    val_main_v27_1 val_main_v18 val_main_v17 val_main_v16 val_main_v15 val_main_v14 val_main_v10 val_main_call5_v0 val_main_call5_cst
  revert h
  generalize val_main_v26 (F := Ideal) x1 = y
  intro h
  pointwise
  have e : ∀ d : Fin 64, x0 (ix2 t ⟨H.val * 64 + d.val, by omega⟩) * x1 (ix2 s ⟨2304 + (512 + (H.val * 64 + d.val)), by omega⟩)
      = ((g t.val (64 * H.val + d.val) * v s.val (64 * H.val + d.val) : ℝ) : EReal) := by
    intro d
    rw [hg, P.val s _ (64 * H.val + d.val) (by omega) (by simp; omega), EReal.coe_mul]
    show ((g t.val (H.val * 64 + d.val) : ℝ) : EReal) * _ = _
    rw [Nat.mul_comm H.val 64]
  rw [h, select_before, sum_congr rfl fun d _ => e d, sum_coe (fun d => g t.val (64 * H.val + d) * v s.val (64 * H.val + d))]
  unfold push weight
  split_ifs
  · rw [← EReal.coe_mul, mul_comm]
  · simp

/-- The running sums before each key. -/
theorem ref_pushed (P : Proj x1 q k v) (hg : Cot x0 g) : Full (val_main_v41 (F := Ideal) x0 x1) (pushed q k v g) := by
  intro H t s
  have h := ref_push P hg H t
  unfold val_main_v41 val_main_v40 val_main_v39
  revert h
  generalize val_main_v37 (F := Ideal) x0 x1 = y
  intro h
  refine (congrArg₂ (fun a b => -a + b) (h s) (window_sum (L := 8191) (R := 0) y _ _ _ ?_ H t s (push q k v g H.val t.val) h)).trans ?_
  · unfold val_main_call7_v0 val_main_call7_cst
    exact zero_first
  · rw [← EReal.coe_neg, ← EReal.coe_add]
    refine congrArg _ ?_
    refine (congrArg (_ + ·) (sum_prefix _ s.isLt)).trans ?_
    rw [sum_range_succ]
    unfold pushed
    ring

/-- The scores' gradients. -/
theorem ref_dscore (P : Proj x1 q k v) (hg : Cot x0 g) : Full (val_main_v47 (F := Ideal) x0 x1) (fun H t s => dscore q k v g H t s * (1 / 8)) := by
  intro H t s
  have h := ref_push P hg H t s
  have h2 := ref_pushed P hg H t s
  have h3 := ref_logistic P H t s
  have h4 := ref_logistic_neg P H t s
  unfold val_main_v47 val_main_v46 val_main_cst_2 val_main_v45 val_main_v44 val_main_v43 val_main_call9_v1 val_main_call9_v0 val_main_v42
    val_main_v38 val_main_call6_v1 val_main_call6_v0
    val_main_v21_1 val_main_v18 val_main_v17 val_main_v16 val_main_v15 val_main_v14 val_main_v10 val_main_call8_v0 val_main_call8_cst
  revert h h2 h3 h4
  generalize val_main_v37 (F := Ideal) x0 x1 = y
  generalize val_main_v41 (F := Ideal) x0 x1 = y2
  generalize val_main_v20_1 (F := Ideal) x1 = y3
  generalize val_main_v24_1 (F := Ideal) x1 = y4
  intro h h2 h3 h4
  pointwise
  rw [h, h2, h3, h4, select_before, eighth_f32]
  have l := exp_neg_softplus_add (score q k H.val t.val s.val)
  rw [← sub_softplus] at l
  by_cases hs : s.val < t.val
  · rw [if_pos hs]
    simp only [← EReal.coe_neg, ← EReal.coe_mul, ← EReal.coe_add]
    unfold dscore
    rw [if_pos hs, show Real.exp (score q k H.val t.val s.val - softplus (score q k H.val t.val s.val)) = 1 - Real.exp (-softplus (score q k H.val t.val s.val)) by linarith]
    congr 1
    ring
  · rw [if_neg hs]
    unfold dscore push weight
    rw [if_neg hs, if_neg hs]
    simp

/-- The gradient of the queries. -/
theorem ref_gradQ (P : Proj x1 q k v) (hg : Cot x0 g) (t : Fin 8192) (y : Fin 256) :
    val_main_v55 (F := Ideal) x0 x1 (ix2 t y) = ((gradQ q k v g t.val y.val : ℝ) : EReal) := by
  have h := ref_dscore P hg
  unfold val_main_v55 val_main_v54 val_main_v49 val_main_v7 val_main_v6 val_main_v2 val_main_v0
  revert h
  generalize val_main_v47 (F := Ideal) x0 x1 = z
  intro h
  pointwise
  have e : ∀ s : Fin 8192, z (ix3 ⟨y.val / 64, by omega⟩ t s) * x1 (ix2 s ⟨2304 + (256 + y.val), by omega⟩)
      = ((dscore q k v g (y.val / 64) t.val s.val * k s.val y.val * (1 / 8) : ℝ) : EReal) := by
    intro s
    rw [h, P.key s _ y.val (by omega) (by simp; omega), ← EReal.coe_mul]
    congr 1
    ring
  unfold gradQ
  rw [sum_mul, ← sum_coe]
  exact sum_congr rfl fun s _ => e s

/-- The gradient of the keys. -/
theorem ref_gradK (P : Proj x1 q k v) (hg : Cot x0 g) (s : Fin 8192) (y : Fin 256) :
    val_main_v53 (F := Ideal) x0 x1 (ix2 s y) = ((gradK q k v g s.val y.val : ℝ) : EReal) := by
  have h := ref_dscore P hg
  unfold val_main_v53 val_main_v52 val_main_v48 val_main_v5 val_main_v4 val_main_v1 val_main_v0
  revert h
  generalize val_main_v47 (F := Ideal) x0 x1 = z
  intro h
  pointwise
  have e : ∀ t : Fin 8192, z (ix3 ⟨y.val / 64, by omega⟩ t s) * x1 (ix2 t ⟨2304 + y.val, by omega⟩)
      = ((dscore q k v g (y.val / 64) t.val s.val * (q t.val y.val * (1 / 8)) : ℝ) : EReal) := by
    intro t
    rw [h, P.qry t _ y.val (by omega) (by simp), ← EReal.coe_mul]
    congr 1
    ring
  unfold gradK
  rw [← sum_coe]
  exact sum_congr rfl fun t _ => e t

/-- The gradient of the values. -/
theorem ref_gradV (P : Proj x1 q k v) (hg : Cot x0 g) (s : Fin 8192) (y : Fin 256) :
    val_main_v51 (F := Ideal) x0 x1 (ix2 s y) = ((gradV q k g s.val y.val : ℝ) : EReal) := by
  have h := ref_weight P
  unfold val_main_v51 val_main_v50 val_main_v34 val_main_v33 val_main_v32 val_main_v31
  revert h
  generalize val_main_v27_0 (F := Ideal) x1 = z
  intro h
  pointwise
  have e : ∀ t : Fin 8192, x0 (ix2 t y) * z (ix3 ⟨y.val / 64, by omega⟩ t s)
      = ((weight q k (y.val / 64) t.val s.val * g t.val y.val : ℝ) : EReal) := by
    intro t
    rw [h, hg, ← EReal.coe_mul, mul_comm]
  unfold gradV
  rw [← sum_coe]
  exact sum_congr rfl fun t _ => e t

end Cert.Stick
-- ==== Proof.FeedBack.lean ====
module

public import proofs.«01_k».proof.Proof.Feed

/-!
# The gradients of the feed-forward layer over the extended reals

The gradient of the branch by its hidden layer, the gradients of the hidden layer's two products, and the gradient of the
input. The gradient of a gate is a product with a sum of two summands; the sum of the two products is the same where the
factor is a real number.
-/

@[expose] public section

noncomputable section

namespace Cert.Feed

open Idealize.ShloMosaic Finset

variable (g x : Fin 8192 → Fin 1024 → EReal) (wg wu : Fin 1024 → Fin 2816 → EReal) (wd : Fin 2816 → Fin 1024 → EReal)

/-- The gradient by the gated hidden layer: half of the output's gradient times the last weight. -/
def gradA (t : Fin 8192) (f : Fin 2816) : EReal := ∑ d, half * g t d * wd f d

/-- The gradient by the second product. -/
def gradU (t : Fin 8192) (f : Fin 2816) : EReal := gradA g wd t f * (hid x wg t f * Ideal.logistic (hid x wg t f))

/-- The gradient by the gate's product: the gate's derivative is one factor. -/
def gradH (t : Fin 8192) (f : Fin 2816) : EReal :=
  gradA g wd t f * hid x wu t f
    * (Ideal.logistic (hid x wg t f) + hid x wg t f * Ideal.logistic (hid x wg t f) * (1 - Ideal.logistic (hid x wg t f)))

/-- The gradient by the input: the products of the hidden layer's gradients with the weights, and the residual's. -/
def gradX (t : Fin 8192) (d : Fin 1024) : EReal :=
  gain * g t d + (∑ f, gradH g x wg wu wd t f * wg d f + ∑ f, gradU g x wg wd t f * wu d f)

/-- A real number among the extended reals. -/
def IsReal (a : EReal) : Prop := ((a.toReal : ℝ) : EReal) = a

/-- The product of two real numbers is one. -/
theorem IsReal.mul {a b : EReal} (ha : IsReal a) (hb : IsReal b) : IsReal (a * b) := by
  unfold IsReal at *
  rw [← ha, ← hb, ← EReal.coe_mul, EReal.toReal_coe]

/-- A sum of real numbers is one. -/
theorem IsReal.sum {ι : Type} [Fintype ι] {f : ι → EReal} (h : ∀ i, IsReal (f i)) : IsReal (∑ i, f i) := by
  refine Finset.sum_induction f IsReal (fun a b ha hb => ?_) (by simp [IsReal]) (fun i _ => h i)
  unfold IsReal at *
  rw [← ha, ← hb, ← EReal.coe_add, EReal.toReal_coe]

/-- One half is a real number. -/
theorem half_real : IsReal half := by
  have e : half = ((8388608 : ℝ) : EReal) * (((2 : ℝ) ^ 24)⁻¹ : ℝ) := by simp [half, Ideal.ofBits, Ideal.ieee]
  unfold IsReal
  rw [e, ← EReal.coe_mul, EReal.toReal_coe]

/-- The gate's derivative as one factor or as two summands. -/
theorem gate (a h : EReal) (ha : IsReal a) :
    a * Ideal.logistic h + h * a * (Ideal.logistic h * (1 - Ideal.logistic h))
      = a * (Ideal.logistic h + h * Ideal.logistic h * (1 - Ideal.logistic h)) := by
  unfold IsReal at ha
  rw [← ha]
  generalize a.toReal = r
  induction h with
  | bot => simp
  | top =>
    have e : (1 : EReal) - 1 = 0 := EReal.sub_self (by decide) (by decide)
    simp [e]
  | coe h =>
    rw [Ideal.logistic_coe]
    generalize (1 + Real.exp (-h))⁻¹ = s
    norm_cast
    congr 1
    ring

/-- The sum of the two summands, where the arguments that the gradient takes are real numbers. -/
theorem gate_sum (hg : ∀ t d, IsReal (g t d)) (hx : ∀ t d, IsReal (x t d)) (hu : ∀ d f, IsReal (wu d f)) (hd : ∀ f d, IsReal (wd f d))
    (t : Fin 8192) (f : Fin 2816) :
    gradA g wd t f * hid x wu t f * Ideal.logistic (hid x wg t f)
        + hid x wg t f * (gradA g wd t f * hid x wu t f) * (Ideal.logistic (hid x wg t f) * (1 - Ideal.logistic (hid x wg t f)))
      = gradH g x wg wu wd t f :=
  gate _ _ (IsReal.mul (IsReal.sum fun d => IsReal.mul (IsReal.mul half_real (hg t d)) (hd f d)) (IsReal.sum fun d => IsReal.mul (hx t d) (hu d f)))

end Cert.Feed

end
-- ==== Proof.Feed2Point.lean ====
module

public import proofs.«01_k».proof.Proof.Sums
public import proofs.«01_k».proof.Proof.Gen.Kernel2Ideal.Value

/-!
# What a grid point of the feed-forward layer's backward pass leaves
-/

@[expose] public section

set_option maxRecDepth 16384

noncomputable section

namespace Cert.Feed2

open Idealize.ShloMosaic Idealize.ShloMosaic.TcCoe Cert.Kernel2Ideal Cert.Kernel2Ideal.Gen Cert.Stick Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The gated hidden layer of a point's blocks. -/
abbrev blkA (t : Fin cfg0.N) : FVec Ideal S512x1408 .bf16 := k0_pay13 (F := Ideal) (iblk m c 1 t) (iblk m c 2 t) (iblk m c 3 t)

/-- The gradient of the gate's product of a point's blocks. -/
abbrev blkH (t : Fin cfg0.N) : FVec Ideal S512x1408 .bf16 := k0_pay12 (F := Ideal) (iblk m c 0 t) (iblk m c 1 t) (iblk m c 2 t) (iblk m c 3 t) (iblk m c 4 t)

/-- The gradient of the other product of a point's blocks. -/
abbrev blkU (t : Fin cfg0.N) : FVec Ideal S512x1408 .bf16 := k0_pay11 (F := Ideal) (iblk m c 0 t) (iblk m c 1 t) (iblk m c 2 t) (iblk m c 4 t)

/-- The scratch after a point that found `x` there. -/
abbrev blkX (t : Fin cfg0.N) (x : Vec Ideal S512x1024 .f32) : FVec Ideal S512x1024 .f32 :=
  k0_pay1 (F := Ideal) (blkU m c t) (blkH m c t) x (iblk m c 2 t) (iblk m c 3 t)

/-- The scratch after a row block's first point: the first tile's sum, from zero. -/
theorem scratchA (t : Fin cfg0.N) (h0 : t.val % 2 = 0) : (outsAt0 m c t.val t.isLt).2.2.2.2.2 = blkX m c t (k0_pay3 (F := Ideal)) := by
  rw [outsAt0_A m c t h0 (by omega)]
  dsimp only
  unfold sout0_A_0
  rw [View.read_writes_eq_canon _ _ _ (fun _ => scover0_A_0 ..)]
  unfold kernelRun0_A
  dsimp only
  try sl_unfold_words
  rw [View.canon_cons_unit_zero (S := S512x1024) offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gated hidden layer's block after a row block's first point. -/
theorem pointA6 (t : Fin cfg0.N) (h0 : t.val % 2 = 0) : (outsAt0 m c t.val t.isLt).2.1 = blkA m c t := by
  rw [outsAt0_A m c t h0 (by omega)]
  dsimp only
  unfold out0_A_6
  rw [View.read_writes_eq_canon _ _ _ (fun _ => cover0_A_6 ..)]
  unfold kernelRun0_A
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gradient of the gate's product's block after a row block's first point. -/
theorem pointA7 (t : Fin cfg0.N) (h0 : t.val % 2 = 0) : (outsAt0 m c t.val t.isLt).2.2.1 = blkH m c t := by
  rw [outsAt0_A m c t h0 (by omega)]
  dsimp only
  unfold out0_A_7
  rw [View.read_writes_eq_canon _ _ _ (fun _ => cover0_A_7 ..)]
  unfold kernelRun0_A
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gradient of the other product's block after a row block's first point. -/
theorem pointA8 (t : Fin cfg0.N) (h0 : t.val % 2 = 0) : (outsAt0 m c t.val t.isLt).2.2.2.1 = blkU m c t := by
  rw [outsAt0_A m c t h0 (by omega)]
  dsimp only
  unfold out0_A_8
  rw [View.read_writes_eq_canon _ _ _ (fun _ => cover0_A_8 ..)]
  unfold kernelRun0_A
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gated hidden layer's block after a row block's last point. -/
theorem pointB6 (t : Fin cfg0.N) (h0 : t.val % 2 = 1) : (outsAt0 m c t.val t.isLt).2.1 = blkA m c t := by
  rw [outsAt0_B m c t (by omega) h0]
  dsimp only
  unfold out0_B_6
  rw [View.read_writes_eq_canon _ _ _ (fun _ => cover0_B_6 ..)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gradient of the gate's product's block after a row block's last point. -/
theorem pointB7 (t : Fin cfg0.N) (h0 : t.val % 2 = 1) : (outsAt0 m c t.val t.isLt).2.2.1 = blkH m c t := by
  rw [outsAt0_B m c t (by omega) h0]
  dsimp only
  unfold out0_B_7
  rw [View.read_writes_eq_canon _ _ _ (fun _ => cover0_B_7 ..)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The gradient of the other product's block after a row block's last point. -/
theorem pointB8 (t : Fin cfg0.N) (h0 : t.val % 2 = 1) : (outsAt0 m c t.val t.isLt).2.2.2.1 = blkU m c t := by
  rw [outsAt0_B m c t (by omega) h0]
  dsimp only
  unfold out0_B_8
  rw [View.read_writes_eq_canon _ _ _ (fun _ => cover0_B_8 ..)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The input gradient's block after a row block's last point. -/
theorem pointB5 (t : Fin cfg0.N) (h0 : t.val % 2 = 1) : (outsAt0 m c t.val t.isLt).1 = k0_pay2 (F := Ideal) (iblk m c 0 t) (blkX m c t (outsAt0 m c (t.val - 1) (Nat.lt_of_le_of_lt (Nat.sub_le _ _) t.isLt)).2.2.2.2.2) := by
  rw [outsAt0_B m c t (by omega) h0]
  dsimp only
  unfold out0_B_5
  rw [View.read_writes_eq_canon _ _ _ (fun _ => cover0_B_5 ..)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

/-- The block of half of the output's gradient after a row block's last point. -/
theorem pointB9 (t : Fin cfg0.N) (h0 : t.val % 2 = 1) : (outsAt0 m c t.val t.isLt).2.2.2.2.1 = k0_pay4 (F := Ideal) (iblk m c 0 t) := by
  rw [outsAt0_B m c t (by omega) h0]
  dsimp only
  unfold out0_B_9
  rw [View.read_writes_eq_canon _ _ _ (fun _ => cover0_B_9 ..)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (Memref.isWhole_whole _).read_unread, View.ld_unit_zero (S := S512x1024) offset, View.ld_unit_zero (S := S1024x1408) offset, View.ld_unit_zero (S := S1408x1024) offset, shapeCast_self]

end Cert.Feed2

end
-- ==== Proof.Feed2.lean ====
module

public import proofs.«01_k».proof.Proof.FeedBack
public import proofs.«01_k».proof.Proof.Feed2Point

/-!
# The arrays of the feed-forward layer's backward pass
-/

@[expose] public section

set_option maxRecDepth 16384

noncomputable section

namespace Cert.Feed2

open Idealize.ShloMosaic Idealize.ShloMosaic.TcCoe Cert.Kernel2Ideal Cert.Kernel2Ideal.Gen Cert.Stick Cert.Feed Finset

variable (m : (ℓ : Loc nD τ sig) → Buf (Elt Ideal) ℓ) (c : Dev nD)

/-- The gradient of the layer's output. -/
def cot : Fin 8192 → Fin 1024 → EReal := fun t d => m ((c : Thread nD τ).loc main_arg0) (ix2 t d)

/-- The layer's input. -/
def inp : Fin 8192 → Fin 1024 → EReal := fun t k => m ((c : Thread nD τ).loc main_arg1) (ix2 t k)

/-- The gate's weight. -/
def wgate : Fin 1024 → Fin 2816 → EReal := fun k f => m ((c : Thread nD τ).loc main_arg2) (ix2 k f)

/-- The other weight of the hidden layer. -/
def wup : Fin 1024 → Fin 2816 → EReal := fun k f => m ((c : Thread nD τ).loc main_arg3) (ix2 k f)

/-- The weight of the layer's last product. -/
def wdown : Fin 2816 → Fin 1024 → EReal := fun f d => m ((c : Thread nD τ).loc main_arg4) (ix2 f d)

/-- What the call finds of the gate's weight. -/
theorem found2 (k : Fin 1024) (f : Fin 2816) : V m c main_v0 (ix2 k f) = wgate m c k f := by
  simp only [V, hostOps0, List.flatten_cons, List.flatten_nil, List.append_nil, List.cons_append, List.nil_append]
  entry_read
  unfold wgate
  pointwise

/-- What the call finds of the other weight. -/
theorem found3 (k : Fin 1024) (f : Fin 2816) : V m c main_v1 (ix2 k f) = wup m c k f := by
  simp only [V, hostOps0, List.flatten_cons, List.flatten_nil, List.append_nil, List.cons_append, List.nil_append]
  entry_read
  unfold wup
  pointwise

/-- What the call finds of the last weight. -/
theorem found4 (k : Fin 2816) (f : Fin 1024) : V m c main_v2 (ix2 k f) = wdown m c k f := by
  simp only [V, hostOps0, List.flatten_cons, List.flatten_nil, List.append_nil, List.cons_append, List.nil_append]
  entry_read
  unfold wdown
  pointwise

/-- The blocks of the grid's points. -/
theorem index_eq : ∀ t : Fin cfg0.N, win0_0.index t = ![t.val / 2, 0] ∧ win0_1.index t = ![t.val / 2, 0] ∧ win0_2.index t = ![0, t.val % 2]
    ∧ win0_3.index t = ![0, t.val % 2] ∧ win0_4.index t = ![t.val % 2, 0] ∧ win0_5.index t = ![t.val / 2, 0]
    ∧ win0_6.index t = ![t.val / 2, t.val % 2] ∧ win0_7.index t = ![t.val / 2, t.val % 2] ∧ win0_8.index t = ![t.val / 2, t.val % 2]
    ∧ win0_9.index t = ![t.val / 2, 0] :=
  (by decide +kernel : ∀ t : Fin grid0.N, _)

/-- A point's block of the output's gradient. -/
theorem block0 (t : Fin cfg0.N) (r : Fin 512) (d : Fin 1024) : iblk m c 0 t (ix2 r d) = cot m c (row t.val t.isLt r) d := by
  have ht : t.val < 32 := t.isLt
  refine Eq.trans ?_ (congrFun (V_main_arg0 m c) _)
  unfold row
  blk_ext [iblk, index_eq t]

/-- A point's block of the input. -/
theorem block1 (t : Fin cfg0.N) (r : Fin 512) (k : Fin 1024) : iblk m c 1 t (ix2 r k) = inp m c (row t.val t.isLt r) k := by
  have ht : t.val < 32 := t.isLt
  refine Eq.trans ?_ (congrFun (V_main_arg1 m c) _)
  unfold row
  blk_ext [iblk, index_eq t]

/-- A point's block of the gate's weight. -/
theorem block2 (t : Fin cfg0.N) (k : Fin 1024) (p : Fin 1408) : iblk m c 2 t (ix2 k p) = wgate m c k (col t.val p) := by
  have ht : t.val < 32 := t.isLt
  refine Eq.trans ?_ (found2 m c _ _)
  unfold col
  blk_ext [iblk, index_eq t]

/-- A point's block of the other weight. -/
theorem block3 (t : Fin cfg0.N) (k : Fin 1024) (p : Fin 1408) : iblk m c 3 t (ix2 k p) = wup m c k (col t.val p) := by
  have ht : t.val < 32 := t.isLt
  refine Eq.trans ?_ (found3 m c _ _)
  unfold col
  blk_ext [iblk, index_eq t]

/-- A point's block of the last weight. -/
theorem block4 (t : Fin cfg0.N) (p : Fin 1408) (d : Fin 1024) : iblk m c 4 t (ix2 p d) = wdown m c (col t.val p) d := by
  have ht : t.val < 32 := t.isLt
  refine Eq.trans ?_ (found4 m c _ _)
  unfold col
  blk_ext [iblk, index_eq t]

/-- The products of a row of the input with a weight's column. -/
theorem hidden {x : Vec Ideal S512x1024 .f32} {w : Vec Ideal S1024x1408 .bf16} {X : Fin 8192 → Fin 1024 → EReal} {W : Fin 1024 → Fin 2816 → EReal}
    {r : Fin 512} {p : Fin 1408} {t : Fin 8192} {f : Fin 2816} (hx : ∀ k, x (ix2 r k) = X t k) (hw : ∀ k, w (ix2 k p) = W k f) :
    ∑ k : Fin 1024, x (ix2 r k) * w (ix2 k p) = hid X W t f :=
  sum_congr rfl fun k _ => congrArg₂ _ (hx k) (hw k)

/-- The gated hidden layer of blocks. -/
theorem pay13 (x : Vec Ideal S512x1024 .f32) (wg wu : Vec Ideal S1024x1408 .bf16) (r : Fin 512) (p : Fin 1408) :
    k0_pay13 (F := Ideal) x wg wu (ix2 r p)
      = (∑ k : Fin 1024, x (ix2 r k) * wg (ix2 k p)) * Ideal.logistic (∑ k : Fin 1024, x (ix2 r k) * wg (ix2 k p)) * (∑ k : Fin 1024, x (ix2 r k) * wu (ix2 k p)) := by
  unfold k0_pay13 k0_pay9 k0_pay8 k0_pay7 k0_pay6 k0_pay5
  pointwise

/-- The gradient by the gate's product of blocks. -/
theorem pay12 (g x : Vec Ideal S512x1024 .f32) (wg wu : Vec Ideal S1024x1408 .bf16) (wd : Vec Ideal S1408x1024 .bf16) (r : Fin 512) (p : Fin 1408) :
    k0_pay12 (F := Ideal) g x wg wu wd (ix2 r p)
      = (∑ d : Fin 1024, half * g (ix2 r d) * wd (ix2 p d)) * (∑ k : Fin 1024, x (ix2 r k) * wu (ix2 k p))
        * (Ideal.logistic (∑ k : Fin 1024, x (ix2 r k) * wg (ix2 k p)) + (∑ k : Fin 1024, x (ix2 r k) * wg (ix2 k p))
          * Ideal.logistic (∑ k : Fin 1024, x (ix2 r k) * wg (ix2 k p)) * (1 - Ideal.logistic (∑ k : Fin 1024, x (ix2 r k) * wg (ix2 k p)))) := by
  unfold k0_pay12 k0_pay10 k0_pay9 k0_pay8 k0_pay7 k0_pay6 k0_pay5 k0_pay4 half
  pointwise

/-- The gradient by the second product of blocks. -/
theorem pay11 (g x : Vec Ideal S512x1024 .f32) (wg : Vec Ideal S1024x1408 .bf16) (wd : Vec Ideal S1408x1024 .bf16) (r : Fin 512) (p : Fin 1408) :
    k0_pay11 (F := Ideal) g x wg wd (ix2 r p)
      = (∑ d : Fin 1024, half * g (ix2 r d) * wd (ix2 p d))
        * ((∑ k : Fin 1024, x (ix2 r k) * wg (ix2 k p)) * Ideal.logistic (∑ k : Fin 1024, x (ix2 r k) * wg (ix2 k p))) := by
  unfold k0_pay11 k0_pay10 k0_pay9 k0_pay8 k0_pay6 k0_pay5 k0_pay4 half
  pointwise

/-- What a point adds to the scratch. -/
theorem pay1 (u h : Vec Ideal S512x1408 .bf16) (x : Vec Ideal S512x1024 .f32) (wg wu : Vec Ideal S1024x1408 .bf16) (r : Fin 512) (d : Fin 1024) :
    k0_pay1 (F := Ideal) u h x wg wu (ix2 r d)
      = x (ix2 r d) + (∑ p : Fin 1408, h (ix2 r p) * wg (ix2 d p) + ∑ p : Fin 1408, u (ix2 r p) * wu (ix2 d p)) := by
  unfold k0_pay1
  pointwise

/-- The input gradient's block from the scratch's. -/
theorem pay2 (g x : Vec Ideal S512x1024 .f32) (r : Fin 512) (d : Fin 1024) : k0_pay2 (F := Ideal) g x (ix2 r d) = gain * g (ix2 r d) + x (ix2 r d) := by
  unfold k0_pay2 gain
  pointwise

/-- What a row block's first point starts from. -/
theorem pay3 (r : Fin 512) (d : Fin 1024) : k0_pay3 (F := Ideal) (ix2 r d) = 0 := by
  unfold k0_pay3
  pointwise

/-- Half of the output's gradient of a block. -/
theorem pay4 (g : Vec Ideal S512x1024 .f32) (r : Fin 512) (d : Fin 1024) : k0_pay4 (F := Ideal) g (ix2 r d) = half * g (ix2 r d) := by
  unfold k0_pay4 half
  pointwise

/-- A point's block of the gated hidden layer. -/
theorem elemA (t : Fin cfg0.N) (r : Fin 512) (p : Fin 1408) :
    blkA m c t (ix2 r p) = gated (inp m c) (wgate m c) (wup m c) (row t.val t.isLt r) (col t.val p) := by
  have hg := hidden (block1 m c t r) (fun k => block2 m c t k p)
  have hu := hidden (block1 m c t r) (fun k => block3 m c t k p)
  exact (pay13 _ _ _ _ _).trans (congrArg₂ _ (congrArg₂ _ hg (congrArg _ hg)) hu)

/-- A point's block of the gradient by the gate's product. -/
theorem elemH (t : Fin cfg0.N) (r : Fin 512) (p : Fin 1408) :
    blkH m c t (ix2 r p) = gradH (cot m c) (inp m c) (wgate m c) (wup m c) (wdown m c) (row t.val t.isLt r) (col t.val p) := by
  have hg := hidden (block1 m c t r) (fun k => block2 m c t k p)
  have hu := hidden (block1 m c t r) (fun k => block3 m c t k p)
  refine (pay12 _ _ _ _ _ _ _).trans (congrArg₂ _ (congrArg₂ _ (sum_congr rfl fun d _ => congrArg₂ _ (congrArg _ (block0 m c t r d)) (block4 m c t p d)) hu) ?_)
  exact congrArg (fun h => Ideal.logistic h + h * Ideal.logistic h * (1 - Ideal.logistic h)) hg

/-- A point's block of the gradient by the second product. -/
theorem elemU (t : Fin cfg0.N) (r : Fin 512) (p : Fin 1408) :
    blkU m c t (ix2 r p) = gradU (cot m c) (inp m c) (wgate m c) (wdown m c) (row t.val t.isLt r) (col t.val p) := by
  have hg := hidden (block1 m c t r) (fun k => block2 m c t k p)
  refine (pay11 _ _ _ _ _ _).trans (congrArg₂ _ (sum_congr rfl fun d _ => congrArg₂ _ (congrArg _ (block0 m c t r d)) (block4 m c t p d)) ?_)
  exact congrArg (fun h => h * Ideal.logistic h) hg

/-- A point adds its tile's part of the input gradient. -/
theorem elemX (t : Fin cfg0.N) (x : Vec Ideal S512x1024 .f32) (r : Fin 512) (d : Fin 1024) :
    blkX m c t x (ix2 r d) = x (ix2 r d)
      + (∑ p, gradH (cot m c) (inp m c) (wgate m c) (wup m c) (wdown m c) (row t.val t.isLt r) (col t.val p) * wgate m c d (col t.val p)
        + ∑ p, gradU (cot m c) (inp m c) (wgate m c) (wdown m c) (row t.val t.isLt r) (col t.val p) * wup m c d (col t.val p)) :=
  (pay1 _ _ _ _ _ _ _).trans (congrArg _ (congrArg₂ _ (sum_congr rfl fun p _ => congrArg₂ _ (elemH m c t r p) (block2 m c t d p))
    (sum_congr rfl fun p _ => congrArg₂ _ (elemU m c t r p) (block3 m c t d p))))

/-- The input gradient's block after a row block's last point. -/
theorem elem5 (t : Fin cfg0.N) (h : t.val % 2 = 1) (r : Fin 512) (d : Fin 1024) : (outsAt0 m c t.val t.isLt).1 (ix2 r d)
    = gradX (cot m c) (inp m c) (wgate m c) (wup m c) (wdown m c) (row t.val t.isLt r) d := by
  have ht : t.val < 32 := t.isLt
  have h0 : (t.val - 1) % 2 = 0 := by omega
  rw [pointB5 m c t h]
  refine (pay2 _ _ _ _).trans (congrArg₂ _ (congrArg _ (block0 m c t r d)) ?_)
  rw [elemX]
  have e := congrFun (scratchA m c ⟨t.val - 1, Nat.lt_of_le_of_lt (Nat.sub_le _ _) t.isLt⟩ h0) (ix2 r d)
  rw [elemX, pay3, zero_add] at e
  rw [e, row_pred t.val ht h, add_add_add_comm]
  exact congrArg₂ _
    (two_tiles (fun f => gradH (cot m c) (inp m c) (wgate m c) (wup m c) (wdown m c) (row t.val ht r) f * wgate m c d f) h0 h)
    (two_tiles (fun f => gradU (cot m c) (inp m c) (wgate m c) (wdown m c) (row t.val ht r) f * wup m c d f) h0 h)

/-- The block of half of the output's gradient after a row block's last point. -/
theorem elem9 (t : Fin cfg0.N) (h : t.val % 2 = 1) (r : Fin 512) (d : Fin 1024) : (outsAt0 m c t.val t.isLt).2.2.2.2.1 (ix2 r d)
    = half * cot m c (row t.val t.isLt r) d := by
  rw [pointB9 m c t h]
  exact (pay4 _ _ _).trans (congrArg _ (block0 m c t r d))

/-- The block of the gated hidden layer after a point. -/
theorem elem6 (t : Fin cfg0.N) (r : Fin 512) (p : Fin 1408) : (outsAt0 m c t.val t.isLt).2.1 (ix2 r p)
    = gated (inp m c) (wgate m c) (wup m c) (row t.val t.isLt r) (col t.val p) := by
  rcases Nat.mod_two_eq_zero_or_one t.val with h | h
  · rw [pointA6 m c t h]
    exact elemA m c t r p
  · rw [pointB6 m c t h]
    exact elemA m c t r p

/-- The block of the gradient by the gate's product after a point. -/
theorem elem7 (t : Fin cfg0.N) (r : Fin 512) (p : Fin 1408) : (outsAt0 m c t.val t.isLt).2.2.1 (ix2 r p)
    = gradH (cot m c) (inp m c) (wgate m c) (wup m c) (wdown m c) (row t.val t.isLt r) (col t.val p) := by
  rcases Nat.mod_two_eq_zero_or_one t.val with h | h
  · rw [pointA7 m c t h]
    exact elemH m c t r p
  · rw [pointB7 m c t h]
    exact elemH m c t r p

/-- The block of the gradient by the second product after a point. -/
theorem elem8 (t : Fin cfg0.N) (r : Fin 512) (p : Fin 1408) : (outsAt0 m c t.val t.isLt).2.2.2.1 (ix2 r p)
    = gradU (cot m c) (inp m c) (wgate m c) (wdown m c) (row t.val t.isLt r) (col t.val p) := by
  rcases Nat.mod_two_eq_zero_or_one t.val with h | h
  · rw [pointA8 m c t h]
    exact elemU m c t r p
  · rw [pointB8 m c t h]
    exact elemU m c t r p

/-- The gradient by the input at an array's index. -/
def result5 : Buf (Elt Ideal) ((c : Thread nD τ).loc main_v3_0) := fun i => gradX (cot m c) (inp m c) (wgate m c) (wup m c) (wdown m c) (i 0) (i 1)

/-- The array of the gradient by the input. -/
theorem array5 : (dats m 0 c).arrAt 5 cfg0.N = result5 m c := by
  refine (dats m 0 c).arrAt_eq_of_covers 5 _ (by decide +kernel) fun t hf y => ?_
  have h := elem5 m c t ((flush0_5 t).1 hf) (y 0) (y 1)
  have e0 : (win0_5.blk t).view.emb y 0 = row t.val t.isLt (y 0) := Fin.ext (by show _ = 512 * (t.val / 2) + (y 0).val; blk_simp [index_eq t]; try omega)
  have e1 : (win0_5.blk t).view.emb y 1 = y 1 := Fin.ext (by blk_simp [index_eq t]; try omega)
  blk_simp
  rw [after0_5]
  refine (congrArg _ (eq_ix2 y)).trans (h.trans ?_)
  unfold result5
  rw [e0, e1]

/-- The gated hidden layer at an array's index. -/
def result6 : Buf (Elt Ideal) ((c : Thread nD τ).loc main_v3_1) := fun i => gated (inp m c) (wgate m c) (wup m c) (i 0) (i 1)

/-- The array of the gated hidden layer. -/
theorem array6 : (dats m 0 c).arrAt 6 cfg0.N = result6 m c := by
  refine (dats m 0 c).arrAt_eq_of_covers 6 _ (by decide +kernel) fun t hf y => ?_
  have h := elem6 m c t (y 0) (y 1)
  have e0 : (win0_6.blk t).view.emb y 0 = row t.val t.isLt (y 0) := Fin.ext (by show _ = 512 * (t.val / 2) + (y 0).val; blk_simp [index_eq t]; try omega)
  have e1 : (win0_6.blk t).view.emb y 1 = col t.val (y 1) := Fin.ext (by show _ = 1408 * (t.val % 2) + (y 1).val; blk_simp [index_eq t]; try omega)
  blk_simp
  rw [after0_6]
  refine (congrArg _ (eq_ix2 y)).trans (h.trans ?_)
  unfold result6
  rw [e0, e1]

/-- The gradient by the gate's product at an array's index. -/
def result7 : Buf (Elt Ideal) ((c : Thread nD τ).loc main_v3_2) := fun i => gradH (cot m c) (inp m c) (wgate m c) (wup m c) (wdown m c) (i 0) (i 1)

/-- The array of the gradient by the gate's product. -/
theorem array7 : (dats m 0 c).arrAt 7 cfg0.N = result7 m c := by
  refine (dats m 0 c).arrAt_eq_of_covers 7 _ (by decide +kernel) fun t hf y => ?_
  have h := elem7 m c t (y 0) (y 1)
  have e0 : (win0_7.blk t).view.emb y 0 = row t.val t.isLt (y 0) := Fin.ext (by show _ = 512 * (t.val / 2) + (y 0).val; blk_simp [index_eq t]; try omega)
  have e1 : (win0_7.blk t).view.emb y 1 = col t.val (y 1) := Fin.ext (by show _ = 1408 * (t.val % 2) + (y 1).val; blk_simp [index_eq t]; try omega)
  blk_simp
  rw [after0_7]
  refine (congrArg _ (eq_ix2 y)).trans (h.trans ?_)
  unfold result7
  rw [e0, e1]

/-- The gradient by the second product at an array's index. -/
def result8 : Buf (Elt Ideal) ((c : Thread nD τ).loc main_v3_3) := fun i => gradU (cot m c) (inp m c) (wgate m c) (wdown m c) (i 0) (i 1)

/-- The array of the gradient by the second product. -/
theorem array8 : (dats m 0 c).arrAt 8 cfg0.N = result8 m c := by
  refine (dats m 0 c).arrAt_eq_of_covers 8 _ (by decide +kernel) fun t hf y => ?_
  have h := elem8 m c t (y 0) (y 1)
  have e0 : (win0_8.blk t).view.emb y 0 = row t.val t.isLt (y 0) := Fin.ext (by show _ = 512 * (t.val / 2) + (y 0).val; blk_simp [index_eq t]; try omega)
  have e1 : (win0_8.blk t).view.emb y 1 = col t.val (y 1) := Fin.ext (by show _ = 1408 * (t.val % 2) + (y 1).val; blk_simp [index_eq t]; try omega)
  blk_simp
  rw [after0_8]
  refine (congrArg _ (eq_ix2 y)).trans (h.trans ?_)
  unfold result8
  rw [e0, e1]

/-- The half of the output's gradient at an array's index. -/
def result9 : Buf (Elt Ideal) ((c : Thread nD τ).loc main_v3_4) := fun i => half * cot m c (i 0) (i 1)

/-- The array of the half of the output's gradient. -/
theorem array9 : (dats m 0 c).arrAt 9 cfg0.N = result9 m c := by
  refine (dats m 0 c).arrAt_eq_of_covers 9 _ (by decide +kernel) fun t hf y => ?_
  have h := elem9 m c t ((flush0_9 t).1 hf) (y 0) (y 1)
  have e0 : (win0_9.blk t).view.emb y 0 = row t.val t.isLt (y 0) := Fin.ext (by show _ = 512 * (t.val / 2) + (y 0).val; blk_simp [index_eq t]; try omega)
  have e1 : (win0_9.blk t).view.emb y 1 = y 1 := Fin.ext (by blk_simp [index_eq t]; try omega)
  blk_simp
  rw [after0_9]
  refine (congrArg _ (eq_ix2 y)).trans (h.trans ?_)
  unfold result9
  rw [e0, e1]

end Cert.Feed2

end
-- ==== Proof.Ref2.lean ====
module

public import proofs.«01_k».proof.Proof.FeedBack
public import proofs.«01_k».proof.Proof.Gen.Reference2Ideal.Read

/-!
# The reference's gradients of the feed-forward layer
-/

@[expose] public section

set_option maxRecDepth 16384

noncomputable section

namespace Cert.Feed2

open Idealize.ShloMosaic Idealize.ShloMosaic.TcCoe Cert.Reference2Ideal Cert.Reference2Ideal.Read Cert.Stick Cert.Feed Finset

variable (x0 x1 : FVec Ideal S8192x1024 .f32) (x2 x3 : FVec Ideal S1024x2816 .f32) (x4 : FVec Ideal S2816x1024 .f32)

/-- An array of two dimensions at a row and a column. -/
abbrev at2 {M N : ℕ} (x : FVec Ideal ⟨2, ![M, N]⟩ .f32) : Fin M → Fin N → EReal := fun i j => x (ix2 i j)

/-- The reference's gated hidden layer. -/
theorem ref39 (t : Fin 8192) (f : Fin 2816) : val_main_v39 (F := Ideal) x1 x2 x3 (ix2 t f) = gated (at2 x1) (at2 x2) (at2 x3) t f := by
  unfold val_main_v39 val_main_v38 val_main_v37 val_main_call4_v5 val_main_call4_v4 val_main_call4_cst_0 val_main_call4_v3 val_main_call4_v2 val_main_call4_cst val_main_call4_v1 val_main_call4_v0 val_main_v1 val_main_v0
  unfold gated hid Ideal.logistic
  pointwise

/-- The reference's gradient by the second product. -/
theorem ref41 (t : Fin 8192) (f : Fin 2816) : val_main_v41 (F := Ideal) x0 x1 x2 x4 (ix2 t f) = gradU (at2 x0) (at2 x1) (at2 x2) (at2 x4) t f := by
  unfold val_main_v41 val_main_v34 val_main_v33 val_main_v32 val_main_v31 val_main_cst_4 val_main_v26_0 val_main_v26_2 val_main_call2_v4 val_main_call2_cst_0 val_main_call2_v3 val_main_call2_v2 val_main_call2_cst val_main_call2_v1 val_main_call2_v0 val_main_v0
  unfold gradU gradA hid half Ideal.logistic
  pointwise
  exact mul_comm _ _

/-- The reference's half of the output's gradient. -/
theorem ref44 (t : Fin 8192) (d : Fin 1024) : val_main_v44 (F := Ideal) x0 (ix2 t d) = half * x0 (ix2 t d) := by
  unfold val_main_v44 val_main_v43 val_main_v42 val_main_cst_5 half
  pointwise

variable (hg : ∀ t d, IsReal (at2 x0 t d)) (hx : ∀ t d, IsReal (at2 x1 t d)) (hu : ∀ d f, IsReal (at2 x3 d f)) (hd : ∀ f d, IsReal (at2 x4 f d))
include hg hx hu hd

/-- The reference's gradient by the gate's product. -/
theorem ref40 (t : Fin 8192) (f : Fin 2816) : val_main_v40 (F := Ideal) x0 x1 x2 x3 x4 (ix2 t f) = gradH (at2 x0) (at2 x1) (at2 x2) (at2 x3) (at2 x4) t f := by
  rw [← gate_sum _ _ _ _ _ hg hx hu hd]
  unfold val_main_v40 val_main_v36 val_main_call3_v2 val_main_call3_v1 val_main_call3_v0 val_main_v35 val_main_v33 val_main_v32 val_main_v31 val_main_cst_4 val_main_v26_1 val_main_call2_v7 val_main_call2_v6 val_main_call2_cst_1 val_main_v26_2 val_main_call2_v4 val_main_call2_cst_0 val_main_call2_v3 val_main_call2_v2 val_main_call2_cst val_main_call2_v1 val_main_call2_v0 val_main_v1 val_main_v0
  unfold gradA hid half Ideal.logistic
  pointwise

/-- The reference's gradient by the input. -/
theorem ref25 (t : Fin 8192) (d : Fin 1024) : val_main_v25 (F := Ideal) x0 x1 x2 x3 x4 (ix2 t d) = gradX (at2 x0) (at2 x1) (at2 x2) (at2 x3) (at2 x4) t d := by
  unfold gradX
  rw [add_comm, add_comm (∑ f, gradH _ _ _ _ _ t f * _)]
  simp only [← gate_sum _ _ _ _ _ hg hx hu hd]
  unfold val_main_v25 val_main_v24 val_main_v23 val_main_cst_2 val_main_v22 val_main_v21 val_main_v20 val_main_call1_v2 val_main_call1_v1 val_main_call1_v0 val_main_v19 val_main_v18 val_main_v17 val_main_v16 val_main_v15 val_main_v14 val_main_cst_1 val_main_v13 val_main_v12 val_main_v6 val_main_v5_0 val_main_v5_1 val_main_call0_v7 val_main_call0_v6 val_main_call0_cst_1 val_main_v5_2 val_main_call0_v4 val_main_call0_cst_0 val_main_call0_v3 val_main_call0_v2 val_main_call0_cst val_main_call0_v1 val_main_call0_v0 val_main_v4
  unfold gradU gradA hid half gain Ideal.logistic
  pointwise
  refine congrArg₂ _ (congrArg₂ _ (sum_congr rfl fun f _ => ?_) rfl) rfl
  rw [mul_comm (∑ e, _ * x0 (ix2 t e) * x4 (ix2 f e))]

end Cert.Feed2

end
-- ==== Proof.Finite2.lean ====
module

public import proofs.«01_k».proof.Proof.FeedBack
public import proofs.«01_k».proof.Proof.Finite
public import proofs.«01_k».proof.Pre_finite2

/-!
# The second precondition gives real numbers
-/

@[expose] public section

set_option maxRecDepth 16384

noncomputable section

namespace Cert.Feed2

open Idealize.ShloMosaic Idealize.ShloMosaic.TcCoe Cert.Stick Cert.Feed Finset

/-- The shapes of the precondition's operations fit. -/
instance finite2_facts : Cert.Pre_finite2.Facts where
  bcast_S_S8192x1024 := by decide
  reducesTo_S8192x1024_S_d0_1 := by decide
  h_S_ := by decide
  bcast_S_S1024x2816 := by decide
  reducesTo_S1024x2816_S_d0_1 := by decide
  bcast_S_S2816x1024 := by decide
  reducesTo_S2816x1024_S_d0_1 := by decide

instance : Subsingleton Cert.Pre_finite2.S_.Idx := ⟨fun a b => funext fun i => i.elim0⟩

/-- Under the precondition the output's gradient, the input and the two weights are real numbers. -/
theorem real_of_finite2 (x0 x1 : FVec Ideal Cert.Pre_finite2.S8192x1024 .f32) (x2 x3 : FVec Ideal Cert.Pre_finite2.S1024x2816 .f32) (x4 : FVec Ideal Cert.Pre_finite2.S2816x1024 .f32)
    (h : Cert.Pre_finite2.fn (F := Ideal) x0 x1 x2 x3 x4 = fun _ => 1#1) :
    (∀ t d, IsReal (x0 (ix2 t d))) ∧ (∀ t d, IsReal (x1 (ix2 t d))) ∧ (∀ d f, IsReal (x3 (ix2 d f))) ∧ (∀ f d, IsReal (x4 (ix2 f d))) := by
  have h0 := congrFun h ix0
  dsimp only [Cert.Pre_finite2.fn, Cert.Pre_finite2.fn_part1] at h0
  have h1 := IntOp.andi_eq_one.1 h0
  have h2 := IntOp.andi_eq_one.1 h1.1
  have h3 := IntOp.andi_eq_one.1 h2.1
  refine ⟨fun i j => ?_, fun i j => ?_, fun i j => ?_, fun i j => ?_⟩
  · refine real_of_lt _ (Eq.trans ?_ (Host.reduce_andi_all _ _ _ _ _ h3.1 (ix2 i j)))
    pointwise
    rfl
  · refine real_of_lt _ (Eq.trans ?_ (Host.reduce_andi_all _ _ _ _ _ h3.2 (ix2 i j)))
    pointwise
    rfl
  · refine real_of_lt _ (Eq.trans ?_ (Host.reduce_andi_all _ _ _ _ _ h2.2 (ix2 i j)))
    pointwise
    rfl
  · refine real_of_lt _ (Eq.trans ?_ (Host.reduce_andi_all _ _ _ _ _ h1.2 (ix2 i j)))
    pointwise
    rfl

end Cert.Feed2

end
-- ==== Proof.Feed2Equal.lean ====
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Feed2
public import proofs.«01_k».proof.Proof.Ref2
public import proofs.«01_k».proof.Proof.Finite2
public import Idealize.ShloMosaic.Adequacy
public import Idealize.ShloMosaic.Init

/-!
# The feed-forward layer's gradients are the reference's
-/

@[expose] public section

set_option maxRecDepth 16384

noncomputable section

namespace Cert.Feed2

open Idealize.ShloMosaic Idealize.ShloMosaic.TcCoe Idealize.SL.Sem Cert.Stick Cert.Feed

/-- The kernel's five results are the reference's. -/
theorem equal : Cert.algebraic_Kernel2Ideal_Reference2Ideal_pre_finite2 (hKernel2Ideal := Cert.Kernel2Ideal.Gen.facts)
    (hReference2Ideal := Cert.Reference2Ideal.Gen.facts) (hPre_finite2 := finite2_facts) := by
  intro m g m' g' hpre hargs
  refine ⟨fun c => result5 m c, fun c => result6 m c, fun c => result7 m c, fun c => result8 m c, fun c => result9 m c,
    (θ_run _ _ _).mono (fun r h c => ⟨(h c).1.trans (array5 m c), (h c).2.1.trans (array6 m c), (h c).2.2.1.trans (array7 m c),
      (h c).2.2.2.1.trans (array8 m c), (h c).2.2.2.2.1.trans (array9 m c), (h c).2.2.2.2.2⟩) (Cert.Kernel2Ideal.Value.run_blocks m g),
    (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.Reference2Ideal.Value.run (F := Ideal) m' g')⟩
  · refine (Cert.Reference2Ideal.Read.val_main_v25_eq _ _ _ _ _).trans ?_
    rw [(hargs c).1, (hargs c).2.1, (hargs c).2.2.1, (hargs c).2.2.2.1, (hargs c).2.2.2.2]
    have R := real_of_finite2 _ _ _ _ _ (hpre c)
    refine funext fun (i : Cert.Reference2Ideal.S8192x1024.Idx) => ?_
    rw [show i = ix2 (i 0 : Fin 8192) (i 1 : Fin 1024) from eq_ix2 i]
    exact ref25 _ _ _ _ _ R.1 R.2.1 R.2.2.1 R.2.2.2 _ _
  · refine (Cert.Reference2Ideal.Read.val_main_v39_eq _ _ _).trans ?_
    rw [(hargs c).2.1, (hargs c).2.2.1, (hargs c).2.2.2.1]
    refine funext fun (i : Cert.Reference2Ideal.S8192x2816.Idx) => ?_
    rw [show i = ix2 (i 0 : Fin 8192) (i 1 : Fin 2816) from eq_ix2 i]
    exact ref39 _ _ _ _ _
  · refine (Cert.Reference2Ideal.Read.val_main_v40_eq _ _ _ _ _).trans ?_
    rw [(hargs c).1, (hargs c).2.1, (hargs c).2.2.1, (hargs c).2.2.2.1, (hargs c).2.2.2.2]
    have R := real_of_finite2 _ _ _ _ _ (hpre c)
    refine funext fun (i : Cert.Reference2Ideal.S8192x2816.Idx) => ?_
    rw [show i = ix2 (i 0 : Fin 8192) (i 1 : Fin 2816) from eq_ix2 i]
    exact ref40 _ _ _ _ _ R.1 R.2.1 R.2.2.1 R.2.2.2 _ _
  · refine (Cert.Reference2Ideal.Read.val_main_v41_eq _ _ _ _).trans ?_
    rw [(hargs c).1, (hargs c).2.1, (hargs c).2.2.1, (hargs c).2.2.2.2]
    refine funext fun (i : Cert.Reference2Ideal.S8192x2816.Idx) => ?_
    rw [show i = ix2 (i 0 : Fin 8192) (i 1 : Fin 2816) from eq_ix2 i]
    exact ref41 _ _ _ _ _ _
  · refine (Cert.Reference2Ideal.Read.val_main_v44_eq _).trans ?_
    rw [(hargs c).1]
    refine funext fun (i : Cert.Reference2Ideal.S8192x1024.Idx) => ?_
    rw [show i = ix2 (i 0 : Fin 8192) (i 1 : Fin 1024) from eq_ix2 i]
    exact ref44 _ _ _

end Cert.Feed2

end
-- ==== Proof.Weight3.lean ====
module

public import proofs.«01_k».proof.Proof.Sums
public import proofs.«01_k».proof.Proof.Gen.Kernel3Ideal.Value
public import proofs.«01_k».proof.Proof.Gen.Reference3Ideal.Read

/-!
# The weight gradient of the feed-forward layer's first products
-/

@[expose] public section

set_option maxRecDepth 16384

noncomputable section

namespace Cert.Weight3

open Idealize.ShloMosaic Idealize.ShloMosaic.TcCoe Cert.Kernel3Ideal Cert.Kernel3Ideal.Gen Cert.Stick Finset

variable (m : (ℓ : Loc nD τ sig) → Buf (Elt Ideal) ℓ) (c : Dev nD)

/-- The layer's input. -/
def inp : Fin 8192 → Fin 1024 → EReal := fun t k => m ((c : Thread nD τ).loc main_arg0) (ix2 t k)

/-- The cotangent of the layer's product. -/
def cot : Fin 8192 → Fin 2816 → EReal := fun t l => m ((c : Thread nD τ).loc main_arg1) (ix2 t l)

/-- The blocks of the grid's points. -/
theorem index_eq : ∀ t : Fin cfg0.N, win0_0.index t = ![t.val, 0] ∧ win0_1.index t = ![t.val, 0] :=
  (by decide +kernel : ∀ t : Fin grid0.N, _)

/-- Point `n` reads 1024 rows of the input. -/
theorem block0 (t : Fin cfg0.N) (p : Fin 1024) (k : Fin 1024) :
    iblk m c 0 t (ix2 p k) = cell (inp m c) (1024 * t.val + p.val) k.val := by
  have ht : t.val < 8 := t.isLt
  rw [cell_of _ (by omega) k.isLt]
  refine Eq.trans ?_ (congrFun (V_main_arg0 m c) _)
  blk_ext [iblk, index_eq t]

/-- Point `n` reads 1024 rows of the cotangent. -/
theorem block1 (t : Fin cfg0.N) (p : Fin 1024) (l : Fin 2816) :
    iblk m c 1 t (ix2 p l) = cell (cot m c) (1024 * t.val + p.val) l.val := by
  have ht : t.val < 8 := t.isLt
  rw [cell_of _ (by omega) l.isLt]
  refine Eq.trans ?_ (congrFun (V_main_arg1 m c) _)
  blk_ext [iblk, index_eq t]

/-- What a point adds. -/
theorem pay2 (x : Vec Ideal S1024x2816 .f32) (a : Vec Ideal S1024x1024 .f32) (g : Vec Ideal S1024x2816 .bf16) (k : Fin 1024) (l : Fin 2816) :
    k0_pay2 (F := Ideal) x a g (ix2 k l) = x (ix2 k l) + ∑ p : Fin 1024, a (ix2 p k) * g (ix2 p l) := by
  unfold k0_pay2
  pointwise

/-- What a run's first point leaves. -/
theorem pay1 (k : Fin 1024) (l : Fin 2816) : k0_pay1 (F := Ideal) (ix2 k l) = 0 := by
  unfold k0_pay1
  pointwise

/-- The sum over a point's rows. -/
def term (k : Fin 1024) (l : Fin 2816) (n : ℕ) : EReal :=
  ∑ p ∈ range 1024, cell (inp m c) (1024 * n + p) k.val * cell (cot m c) (1024 * n + p) l.val

/-- A point adds the sum over its rows. -/
theorem step (x : Vec Ideal S1024x2816 .f32) (n : ℕ) (h : n < cfg0.N) (k : Fin 1024) (l : Fin 2816) :
    k0_pay2 (F := Ideal) x (iblk m c 0 ⟨n, h⟩) (iblk m c 1 ⟨n, h⟩) (ix2 k l) = x (ix2 k l) + term m c k l n := by
  refine (pay2 _ _ _ _ _).trans (congrArg _ ?_)
  unfold term
  rw [sum_range]
  exact sum_congr rfl fun p _ => congrArg₂ _ (block0 m c ⟨n, h⟩ p k) (block1 m c ⟨n, h⟩ p l)

/-- The result array. -/
theorem array (k : Fin 1024) (l : Fin 2816) : Value.G2 m c (ix2 k l) = ∑ t : Fin 8192, inp m c t k * cot m c t l := by
  have hr : Value.run2Of (ix2 k l) = 0 := by
    show 1 * (k.val / 1024 - 0) + 1 * (l.val / 2816 - 0) = 0
    omega
  have hl : Value.loc2Of (ix2 k l) = ix2 k l := funext fun a => by
    match a with
    | ⟨0, _⟩ => exact Fin.ext (Nat.mod_eq_of_lt k.isLt)
    | ⟨1, _⟩ => exact Fin.ext (Nat.mod_eq_of_lt l.isLt)
  unfold Value.G2
  rw [hl, dif_pos (show 8 * Value.run2Of (ix2 k l) + 7 < cfg0.N by rw [hr]; decide)]
  refine (accAt_sum (N := cfg0.N) (Value.reset2 m c) (Value.step2 m c) (ix2 k l) (term m c k l)
    (fun n h => (step m c _ n h k l).trans (by rw [pay1, zero_add])) (fun n h x => step m c x n h k l) _ _ _).trans ?_
  rw [hr]
  simp only [Nat.mul_zero, Nat.zero_add]
  unfold term
  rw [sum_tiles (fun s => cell (inp m c) s k.val * cell (cot m c) s l.val) 1024 8, sum_range]
  exact sum_congr rfl fun t _ => congrArg₂ _ (cell_mk _ t k) (cell_mk _ t l)

/-- The reference's result. -/
theorem ref (x0 : FVec Ideal Cert.Reference3Ideal.S8192x1024 .f32) (x1 : FVec Ideal Cert.Reference3Ideal.S8192x2816 .bf16) (k : Fin 1024) (l : Fin 2816) :
    Cert.Reference3Ideal.Read.val_main_v4 (F := Ideal) x0 x1 (ix2 k l) = ∑ t : Fin 8192, x0 (ix2 t k) * x1 (ix2 t l) := by
  unfold Cert.Reference3Ideal.Read.val_main_v4 Cert.Reference3Ideal.Read.val_main_v3 Cert.Reference3Ideal.Read.val_main_v0
  pointwise
  exact sum_congr rfl fun t _ => mul_comm _ _

end Cert.Weight3

end
-- ==== Proof.Weight3Equal.lean ====
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Weight3
public import Idealize.ShloMosaic.Adequacy
public import Idealize.ShloMosaic.Init

/-!
# The weight's gradient is the reference's
-/

@[expose] public section

set_option maxRecDepth 16384

noncomputable section

namespace Cert.Weight3

open Idealize.ShloMosaic Idealize.ShloMosaic.TcCoe Idealize.SL.Sem Cert.Stick

/-- The kernel's gradient of the weight is the reference's. -/
theorem equal : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run m g,
    (θ_run _ _ _).mono (fun r h c => ⟨(h c).1.trans ?_, (h c).2⟩) (Cert.Reference3Ideal.Value.run (F := Ideal) m' g')⟩
  refine (Cert.Reference3Ideal.Read.val_main_v4_eq _ _).trans ?_
  rw [(hargs c).1, (hargs c).2]
  refine funext fun (i : Cert.Reference3Ideal.S1024x2816.Idx) => ?_
  rw [show i = ix2 (i 0 : Fin 1024) (i 1 : Fin 2816) from eq_ix2 i]
  exact (ref _ _ _ _).trans (array m c _ _).symm

end Cert.Weight3

end
-- ==== Proof.Weight4.lean ====
module

public import proofs.«01_k».proof.Proof.Sums
public import proofs.«01_k».proof.Proof.Gen.Kernel4Ideal.Value
public import proofs.«01_k».proof.Proof.Gen.Reference4Ideal.Read

/-!
# The weight gradient of the feed-forward layer's second product
-/

@[expose] public section

set_option maxRecDepth 16384

noncomputable section

namespace Cert.Weight4

open Idealize.ShloMosaic Idealize.ShloMosaic.TcCoe Cert.Kernel4Ideal Cert.Kernel4Ideal.Gen Cert.Stick Finset

variable (m : (ℓ : Loc nD τ sig) → Buf (Elt Ideal) ℓ) (c : Dev nD)

/-- The layer's input. -/
def inp : Fin 8192 → Fin 2816 → EReal := fun t k => m ((c : Thread nD τ).loc main_arg0) (ix2 t k)

/-- The cotangent of the layer's product. -/
def cot : Fin 8192 → Fin 1024 → EReal := fun t l => m ((c : Thread nD τ).loc main_arg1) (ix2 t l)

/-- The blocks of the grid's points. -/
theorem index_eq : ∀ t : Fin cfg0.N, win0_0.index t = ![t.val, 0] ∧ win0_1.index t = ![t.val, 0] :=
  (by decide +kernel : ∀ t : Fin grid0.N, _)

/-- Point `n` reads 1024 rows of the input. -/
theorem block0 (t : Fin cfg0.N) (p : Fin 1024) (k : Fin 2816) :
    iblk m c 0 t (ix2 p k) = cell (inp m c) (1024 * t.val + p.val) k.val := by
  have ht : t.val < 8 := t.isLt
  rw [cell_of _ (by omega) k.isLt]
  refine Eq.trans ?_ (congrFun (V_main_arg0 m c) _)
  blk_ext [iblk, index_eq t]

/-- Point `n` reads 1024 rows of the cotangent. -/
theorem block1 (t : Fin cfg0.N) (p : Fin 1024) (l : Fin 1024) :
    iblk m c 1 t (ix2 p l) = cell (cot m c) (1024 * t.val + p.val) l.val := by
  have ht : t.val < 8 := t.isLt
  rw [cell_of _ (by omega) l.isLt]
  refine Eq.trans ?_ (congrFun (V_main_arg1 m c) _)
  blk_ext [iblk, index_eq t]

/-- What a point adds. -/
theorem pay2 (x : Vec Ideal S2816x1024 .f32) (a : Vec Ideal S1024x2816 .bf16) (g : Vec Ideal S1024x1024 .bf16) (k : Fin 2816) (l : Fin 1024) :
    k0_pay2 (F := Ideal) x a g (ix2 k l) = x (ix2 k l) + ∑ p : Fin 1024, a (ix2 p k) * g (ix2 p l) := by
  unfold k0_pay2
  pointwise

/-- What a run's first point leaves. -/
theorem pay1 (k : Fin 2816) (l : Fin 1024) : k0_pay1 (F := Ideal) (ix2 k l) = 0 := by
  unfold k0_pay1
  pointwise

/-- The sum over a point's rows. -/
def term (k : Fin 2816) (l : Fin 1024) (n : ℕ) : EReal :=
  ∑ p ∈ range 1024, cell (inp m c) (1024 * n + p) k.val * cell (cot m c) (1024 * n + p) l.val

/-- A point adds the sum over its rows. -/
theorem step (x : Vec Ideal S2816x1024 .f32) (n : ℕ) (h : n < cfg0.N) (k : Fin 2816) (l : Fin 1024) :
    k0_pay2 (F := Ideal) x (iblk m c 0 ⟨n, h⟩) (iblk m c 1 ⟨n, h⟩) (ix2 k l) = x (ix2 k l) + term m c k l n := by
  refine (pay2 _ _ _ _ _).trans (congrArg _ ?_)
  unfold term
  rw [sum_range]
  exact sum_congr rfl fun p _ => congrArg₂ _ (block0 m c ⟨n, h⟩ p k) (block1 m c ⟨n, h⟩ p l)

/-- The result array. -/
theorem array (k : Fin 2816) (l : Fin 1024) : Value.G2 m c (ix2 k l) = ∑ t : Fin 8192, inp m c t k * cot m c t l := by
  have hr : Value.run2Of (ix2 k l) = 0 := by
    show 1 * (k.val / 2816 - 0) + 1 * (l.val / 1024 - 0) = 0
    omega
  have hl : Value.loc2Of (ix2 k l) = ix2 k l := funext fun a => by
    match a with
    | ⟨0, _⟩ => exact Fin.ext (Nat.mod_eq_of_lt k.isLt)
    | ⟨1, _⟩ => exact Fin.ext (Nat.mod_eq_of_lt l.isLt)
  unfold Value.G2
  rw [hl, dif_pos (show 8 * Value.run2Of (ix2 k l) + 7 < cfg0.N by rw [hr]; decide)]
  refine (accAt_sum (N := cfg0.N) (Value.reset2 m c) (Value.step2 m c) (ix2 k l) (term m c k l)
    (fun n h => (step m c _ n h k l).trans (by rw [pay1, zero_add])) (fun n h x => step m c x n h k l) _ _ _).trans ?_
  rw [hr]
  simp only [Nat.mul_zero, Nat.zero_add]
  unfold term
  rw [sum_tiles (fun s => cell (inp m c) s k.val * cell (cot m c) s l.val) 1024 8, sum_range]
  exact sum_congr rfl fun t _ => congrArg₂ _ (cell_mk _ t k) (cell_mk _ t l)

/-- The reference's result. -/
theorem ref (x0 : FVec Ideal Cert.Reference4Ideal.S8192x2816 .bf16) (x1 : FVec Ideal Cert.Reference4Ideal.S8192x1024 .bf16) (k : Fin 2816) (l : Fin 1024) :
    Cert.Reference4Ideal.Read.val_main_v5 (F := Ideal) x0 x1 (ix2 k l) = ∑ t : Fin 8192, x0 (ix2 t k) * x1 (ix2 t l) := by
  unfold Cert.Reference4Ideal.Read.val_main_v5 Cert.Reference4Ideal.Read.val_main_v4 Cert.Reference4Ideal.Read.val_main_v1 Cert.Reference4Ideal.Read.val_main_v0
  pointwise
  exact sum_congr rfl fun t _ => mul_comm _ _

end Cert.Weight4

end
-- ==== Proof.Weight4Equal.lean ====
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Weight4
public import Idealize.ShloMosaic.Adequacy
public import Idealize.ShloMosaic.Init

/-!
# The weight's gradient is the reference's
-/

@[expose] public section

set_option maxRecDepth 16384

noncomputable section

namespace Cert.Weight4

open Idealize.ShloMosaic Idealize.ShloMosaic.TcCoe Idealize.SL.Sem Cert.Stick

/-- The kernel's gradient of the weight is the reference's. -/
theorem equal : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G2 m c, Cert.Kernel4Ideal.Value.run m g,
    (θ_run _ _ _).mono (fun r h c => ⟨(h c).1.trans ?_, (h c).2⟩) (Cert.Reference4Ideal.Value.run (F := Ideal) m' g')⟩
  refine (Cert.Reference4Ideal.Read.val_main_v5_eq _ _).trans ?_
  rw [(hargs c).1, (hargs c).2]
  refine funext fun (i : Cert.Reference4Ideal.S2816x1024.Idx) => ?_
  rw [show i = ix2 (i 0 : Fin 2816) (i 1 : Fin 1024) from eq_ix2 i]
  exact (ref _ _ _ _).trans (array m c _ _).symm

end Cert.Weight4

end
-- ==== Proof.Feed5Point.lean ====
module

public import proofs.«01_k».proof.Proof.Sums
public import proofs.«01_k».proof.Proof.Gen.Kernel5Ideal.Value

/-!
# What a grid point of the feed-forward layer leaves
-/

@[expose] public section

set_option maxRecDepth 16384

noncomputable section

namespace Cert.Feed5

open Idealize.ShloMosaic Idealize.ShloMosaic.TcCoe Cert.Kernel5Ideal Cert.Kernel5Ideal.Gen Cert.Stick Finset

variable (m : (ℓ : Loc nD τ sig) → Buf (Elt Ideal) ℓ) (c : Dev nD)

/-- The offsets of a whole block. -/
theorem offset : (![0, 0] : Fin 2 → ℕ) = fun _ => 0 := funext fun a => by fin_cases a <;> rfl

/-- The scratch after a row block's first point: the first tile's sum, from zero. -/
theorem first (t : Fin cfg0.N) (h0 : t.val % 2 = 0) : (outsAt0 m c t.val t.isLt).2.2
    = k0_pay2 (iblk m c 0 t) (iblk m c 1 t) (iblk m c 2 t) (k0_pay1 (F := Ideal)) (iblk m c 3 t) := by
  rw [outsAt0_A m c t h0 (by omega)]
  dsimp only
  unfold sout0_A_0
  rw [View.read_writes_eq_canon _ _ _ (scover0_A_0 c _ _ (hs0_0 t) _ (hs0_1 t) _ (hs0_2 t) _ (hs0_3 t) _ (hs0_4 t) _ (hs0_5 t) _ (hs0_6 t) _ (hs0_7 t) _ _ _ _ _ _ _ _ _ _)]
  unfold kernelRun0_A
  dsimp only
  try sl_unfold_words
  rw [View.canon_cons_unit_zero (S := S512x1024) offset, View.readCov_unit_zero (S := S512x1024) _ offset]
  simp only [View.readAt_eq_ld, (hs0_0 t).read_unread, (hs0_1 t).read_unread, (hs0_2 t).read_unread, (hs0_3 t).read_unread, View.ld_unit_zero (S := S512x1024) offset, View.ld_unit_zero (S := S1024x1408) offset, View.ld_unit_zero (S := S1408x1024) offset, shapeCast_self]

/-- The first result's block after a row block's last point. -/
theorem last6 (t : Fin cfg0.N) (h0 : t.val % 2 = 1) : (outsAt0 m c t.val t.isLt).1
    = k0_pay3 (iblk m c 0 t) (k0_pay2 (iblk m c 0 t) (iblk m c 1 t) (iblk m c 2 t) (outsAt0 m c (t.val - 1) (Nat.lt_of_le_of_lt (Nat.sub_le _ _) t.isLt)).2.2 (iblk m c 3 t)) := by
  rw [outsAt0_B m c t (by omega) h0]
  dsimp only
  unfold out0_B_6
  rw [View.read_writes_eq_canon _ _ _ (cover0_B_6 c _ _ (hs0_0 t) _ (hs0_1 t) _ (hs0_2 t) _ (hs0_3 t) _ (hs0_4 t) _ (hs0_5 t) _ (hs0_6 t) _ (hs0_7 t) _ _ _ _ _ _ _ _ _ _ _)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (Memref.isWhole_whole _).read_unread, View.ld_unit_zero (S := S512x1024) offset, View.ld_unit_zero (S := S1024x1408) offset, View.ld_unit_zero (S := S1408x1024) offset, shapeCast_self]

/-- The second result's block after a row block's last point. -/
theorem last7 (t : Fin cfg0.N) (h0 : t.val % 2 = 1) : (outsAt0 m c t.val t.isLt).2.1
    = k0_pay4 (iblk m c 0 t) (k0_pay2 (iblk m c 0 t) (iblk m c 1 t) (iblk m c 2 t) (outsAt0 m c (t.val - 1) (Nat.lt_of_le_of_lt (Nat.sub_le _ _) t.isLt)).2.2 (iblk m c 3 t)) (iblk m c 4 t) (iblk m c 5 t) := by
  rw [outsAt0_B m c t (by omega) h0]
  dsimp only
  unfold out0_B_7
  rw [View.read_writes_eq_canon _ _ _ (cover0_B_7 c _ _ (hs0_0 t) _ (hs0_1 t) _ (hs0_2 t) _ (hs0_3 t) _ (hs0_4 t) _ (hs0_5 t) _ (hs0_6 t) _ (hs0_7 t) _ _ _ _ _ _ _ _ _ _ _)]
  unfold kernelRun0_B
  dsimp only
  try sl_unfold_words
  rw [View.canon_unit_zero offset]
  simp only [View.readCov_unit_zero (S := S512x1024) _ offset, View.readAt_eq_ld, (hs0_0 t).read_unread, (hs0_1 t).read_unread, (hs0_2 t).read_unread, (hs0_3 t).read_unread, (hs0_4 t).read_unread, (hs0_5 t).read_unread, (Memref.isWhole_whole _).read_unread, View.ld_unit_zero (S := S512x1024) offset, View.ld_unit_zero (S := S1024x1408) offset, View.ld_unit_zero (S := S1408x1024) offset, View.ld_unit_zero (S := S1x1024) offset, shapeCast_self]

end Cert.Feed5

end
-- ==== Proof.Feed5.lean ====
module

public import proofs.«01_k».proof.Proof.Feed
public import proofs.«01_k».proof.Proof.Feed5Point
public import proofs.«01_k».proof.Proof.Gen.Reference5Ideal.Read

/-!
# The feed-forward layer's output and its layer norm
-/

@[expose] public section

set_option maxRecDepth 16384

noncomputable section

namespace Cert.Feed5

open Idealize.ShloMosaic Idealize.ShloMosaic.TcCoe Cert.Kernel5Ideal Cert.Kernel5Ideal.Gen Cert.Stick Cert.Feed Finset

variable (m : (ℓ : Loc nD τ sig) → Buf (Elt Ideal) ℓ) (c : Dev nD)

/-- The layer's input. -/
def inp : Fin 8192 → Fin 1024 → EReal := fun t k => m ((c : Thread nD τ).loc main_arg0) (ix2 t k)

/-- The gate's weight. -/
def wgate : Fin 1024 → Fin 2816 → EReal := fun k f => m ((c : Thread nD τ).loc main_arg1) (ix2 k f)

/-- The other weight of the hidden layer. -/
def wup : Fin 1024 → Fin 2816 → EReal := fun k f => m ((c : Thread nD τ).loc main_arg2) (ix2 k f)

/-- The weight of the layer's last product. -/
def wdown : Fin 2816 → Fin 1024 → EReal := fun f d => m ((c : Thread nD τ).loc main_arg3) (ix2 f d)

/-- The gain of the layer norm. -/
def gains : Fin 1024 → EReal := fun d => m ((c : Thread nD τ).loc main_arg4) (ix1 d)

/-- The bias of the layer norm. -/
def biases : Fin 1024 → EReal := fun d => m ((c : Thread nD τ).loc main_arg5) (ix1 d)

/-- What the call finds of the gate's weight. -/
theorem found1 (k : Fin 1024) (f : Fin 2816) : V m c main_v0 (ix2 k f) = wgate m c k f := by
  simp only [V, hostOps0, List.flatten_cons, List.flatten_nil, List.append_nil, List.cons_append, List.nil_append]
  entry_read
  unfold wgate
  pointwise

/-- What the call finds of the other weight. -/
theorem found2 (k : Fin 1024) (f : Fin 2816) : V m c main_v1 (ix2 k f) = wup m c k f := by
  simp only [V, hostOps0, List.flatten_cons, List.flatten_nil, List.append_nil, List.cons_append, List.nil_append]
  entry_read
  unfold wup
  pointwise

/-- What the call finds of the last weight. -/
theorem found3 (f : Fin 2816) (d : Fin 1024) : V m c main_v2 (ix2 f d) = wdown m c f d := by
  simp only [V, hostOps0, List.flatten_cons, List.flatten_nil, List.append_nil, List.cons_append, List.nil_append]
  entry_read
  unfold wdown
  pointwise

/-- What the call finds of the gain. -/
theorem found4 (d : Fin 1024) : V m c main_v3 (ix2 0 d) = gains m c d := by
  simp only [V, hostOps0, List.flatten_cons, List.flatten_nil, List.append_nil, List.cons_append, List.nil_append]
  entry_read
  unfold gains
  pointwise

/-- What the call finds of the bias. -/
theorem found5 (d : Fin 1024) : V m c main_v4 (ix2 0 d) = biases m c d := by
  simp only [V, hostOps0, List.flatten_cons, List.flatten_nil, List.append_nil, List.cons_append, List.nil_append]
  entry_read
  unfold biases
  pointwise

/-- The blocks of the grid's points. -/
theorem index_eq : ∀ t : Fin cfg0.N, win0_0.index t = ![t.val / 2, 0] ∧ win0_1.index t = ![0, t.val % 2] ∧ win0_2.index t = ![0, t.val % 2]
    ∧ win0_3.index t = ![t.val % 2, 0] ∧ win0_4.index t = ![0, 0] ∧ win0_5.index t = ![0, 0] ∧ win0_6.index t = ![t.val / 2, 0] ∧ win0_7.index t = ![t.val / 2, 0] :=
  (by decide +kernel : ∀ t : Fin grid0.N, _)

/-- A point's block of the input. -/
theorem block0 (t : Fin cfg0.N) (r : Fin 512) (k : Fin 1024) : iblk m c 0 t (ix2 r k) = inp m c (row t.val t.isLt r) k := by
  have ht : t.val < 32 := t.isLt
  refine Eq.trans ?_ (congrFun (V_main_arg0 m c) _)
  unfold row
  blk_ext [iblk, index_eq t]

/-- A point's block of the gate's weight. -/
theorem block1 (t : Fin cfg0.N) (k : Fin 1024) (p : Fin 1408) : iblk m c 1 t (ix2 k p) = wgate m c k (col t.val p) := by
  have ht : t.val < 32 := t.isLt
  refine Eq.trans ?_ (found1 m c _ _)
  unfold col
  blk_ext [iblk, index_eq t]

/-- A point's block of the other weight. -/
theorem block2 (t : Fin cfg0.N) (k : Fin 1024) (p : Fin 1408) : iblk m c 2 t (ix2 k p) = wup m c k (col t.val p) := by
  have ht : t.val < 32 := t.isLt
  refine Eq.trans ?_ (found2 m c _ _)
  unfold col
  blk_ext [iblk, index_eq t]

/-- A point's block of the last weight. -/
theorem block3 (t : Fin cfg0.N) (p : Fin 1408) (d : Fin 1024) : iblk m c 3 t (ix2 p d) = wdown m c (col t.val p) d := by
  have ht : t.val < 32 := t.isLt
  refine Eq.trans ?_ (found3 m c _ _)
  unfold col
  blk_ext [iblk, index_eq t]

/-- A point's block of the gain. -/
theorem block4 (t : Fin cfg0.N) (d : Fin 1024) : iblk m c 4 t (ix2 0 d) = gains m c d := by
  refine Eq.trans ?_ (found4 m c _)
  blk_ext [iblk, index_eq t]

/-- A point's block of the bias. -/
theorem block5 (t : Fin cfg0.N) (d : Fin 1024) : iblk m c 5 t (ix2 0 d) = biases m c d := by
  refine Eq.trans ?_ (found5 m c _)
  blk_ext [iblk, index_eq t]

/-- What a point adds to the scratch. -/
theorem pay2 (x : Vec Ideal S512x1024 .f32) (wg wu : Vec Ideal S1024x1408 .bf16) (acc : Vec Ideal S512x1024 .f32) (wd : Vec Ideal S1408x1024 .bf16) (r : Fin 512) (d : Fin 1024) :
    k0_pay2 (F := Ideal) x wg wu acc wd (ix2 r d) = acc (ix2 r d) + ∑ p : Fin 1408,
      (∑ k : Fin 1024, x (ix2 r k) * wg (ix2 k p)) * Ideal.logistic (∑ k : Fin 1024, x (ix2 r k) * wg (ix2 k p)) * (∑ k : Fin 1024, x (ix2 r k) * wu (ix2 k p)) * wd (ix2 p d) := by
  unfold k0_pay2
  pointwise

/-- What a row block's first point starts from. -/
theorem pay1 (r : Fin 512) (d : Fin 1024) : k0_pay1 (F := Ideal) (ix2 r d) = 0 := by
  unfold k0_pay1
  pointwise

/-- The output's block from the branch's. -/
theorem pay3 (x acc : Vec Ideal S512x1024 .f32) (r : Fin 512) (d : Fin 1024) :
    k0_pay3 (F := Ideal) x acc (ix2 r d) = gain * x (ix2 r d) + half * acc (ix2 r d) := by
  unfold k0_pay3 gain half
  pointwise

/-- The layer norm's block from the output's. -/
theorem pay4 (x acc : Vec Ideal S512x1024 .f32) (g b : Vec Ideal S1x1024 .f32) (r : Fin 512) (d : Fin 1024) :
    k0_pay4 (F := Ideal) x acc g b (ix2 r d)
      = layerNorm (fun e => k0_pay3 (F := Ideal) x acc (ix2 r e)) (fun e => g (ix2 0 e)) (fun e => b (ix2 0 e)) d := by
  unfold k0_pay4 layerNorm mean
  generalize k0_pay3 (F := Ideal) x acc = z
  pointwise

/-- A point adds its tile's part of the branch. -/
theorem step (t : Fin cfg0.N) (acc : Vec Ideal S512x1024 .f32) (r : Fin 512) (d : Fin 1024) :
    k0_pay2 (F := Ideal) (iblk m c 0 t) (iblk m c 1 t) (iblk m c 2 t) acc (iblk m c 3 t) (ix2 r d) = acc (ix2 r d)
      + ∑ p, gated (inp m c) (wgate m c) (wup m c) (row t.val t.isLt r) (col t.val p) * wdown m c (col t.val p) d := by
  refine (pay2 _ _ _ _ _ _ _).trans (congrArg _ (sum_congr rfl fun p _ => ?_))
  have hg : ∑ k : Fin 1024, (show Vec Ideal S512x1024 .f32 from iblk m c 0 t) (ix2 r k) * (show Vec Ideal S1024x1408 .bf16 from iblk m c 1 t) (ix2 k p) = hid (inp m c) (wgate m c) (row t.val t.isLt r) (col t.val p) :=
    sum_congr rfl fun k _ => congrArg₂ _ (block0 m c t r k) (block1 m c t k p)
  have hu : ∑ k : Fin 1024, (show Vec Ideal S512x1024 .f32 from iblk m c 0 t) (ix2 r k) * (show Vec Ideal S1024x1408 .bf16 from iblk m c 2 t) (ix2 k p) = hid (inp m c) (wup m c) (row t.val t.isLt r) (col t.val p) :=
    sum_congr rfl fun k _ => congrArg₂ _ (block0 m c t r k) (block2 m c t k p)
  exact congrArg₂ _ (congrArg₂ _ (congrArg₂ _ hg (congrArg _ hg)) hu) (block3 m c t p d)

/-- The branch's block after a row block's last point. -/
theorem acc (t : Fin cfg0.N) (h : t.val % 2 = 1) (r : Fin 512) (d : Fin 1024) :
    k0_pay2 (F := Ideal) (iblk m c 0 t) (iblk m c 1 t) (iblk m c 2 t) (outsAt0 m c (t.val - 1) (Nat.lt_of_le_of_lt (Nat.sub_le _ _) t.isLt)).2.2 (iblk m c 3 t) (ix2 r d)
      = branch (inp m c) (wgate m c) (wup m c) (wdown m c) (row t.val t.isLt r) d := by
  have ht : t.val < 32 := t.isLt
  refine (step m c t _ r d).trans ?_
  have h0 : (t.val - 1) % 2 = 0 := by omega
  have e := congrFun (first m c ⟨t.val - 1, Nat.lt_of_le_of_lt (Nat.sub_le _ _) t.isLt⟩ h0) (ix2 r d)
  rw [step m c ⟨t.val - 1, Nat.lt_of_le_of_lt (Nat.sub_le _ _) t.isLt⟩, pay1, zero_add] at e
  rw [e, row_pred t.val ht h]
  exact two_tiles (fun f => gated (inp m c) (wgate m c) (wup m c) (row t.val ht r) f * wdown m c f d) h0 h

/-- The output's block after a row block's last point. -/
theorem point6 (t : Fin cfg0.N) (h : t.val % 2 = 1) (r : Fin 512) (d : Fin 1024) : (outsAt0 m c t.val t.isLt).1 (ix2 r d)
    = out (inp m c) (wgate m c) (wup m c) (wdown m c) (row t.val t.isLt r) d := by
  rw [last6 m c t h]
  exact (pay3 _ _ _ _).trans (congrArg₂ _ (congrArg _ (block0 m c t r d)) (congrArg _ (acc m c t h r d)))

/-- The layer norm's block after a row block's last point. -/
theorem point7 (t : Fin cfg0.N) (h : t.val % 2 = 1) (r : Fin 512) (d : Fin 1024) : (outsAt0 m c t.val t.isLt).2.1 (ix2 r d)
    = layerNorm (out (inp m c) (wgate m c) (wup m c) (wdown m c) (row t.val t.isLt r)) (gains m c) (biases m c) d := by
  rw [last7 m c t h]
  refine (pay4 _ _ _ _ _ _).trans ?_
  have e1 := funext fun e => (pay3 _ _ r e).trans (congrArg₂ _ (congrArg _ (block0 m c t r e)) (congrArg _ (acc m c t h r e)))
  rw [show (fun e => (show Vec Ideal S1x1024 .f32 from iblk m c 4 t) (ix2 0 e)) = gains m c from funext (block4 m c t),
    show (fun e => (show Vec Ideal S1x1024 .f32 from iblk m c 5 t) (ix2 0 e)) = biases m c from funext (block5 m c t)]
  exact congrArg (fun z => layerNorm z (gains m c) (biases m c) d) e1

/-- The output at an array's index. -/
def outs : Buf (Elt Ideal) ((c : Thread nD τ).loc main_v5_0) := fun i => out (inp m c) (wgate m c) (wup m c) (wdown m c) (i 0) (i 1)

/-- The layer norm at an array's index. -/
def norms : Buf (Elt Ideal) ((c : Thread nD τ).loc main_v5_1) := fun i => layerNorm (out (inp m c) (wgate m c) (wup m c) (wdown m c) (i 0)) (gains m c) (biases m c) (i 1)

/-- The array of the output. -/
theorem array6 : (dats m 0 c).arrAt 6 cfg0.N = outs m c := by
  refine (dats m 0 c).arrAt_eq_of_covers 6 _ (by decide +kernel) fun t hf y => ?_
  have h := point6 m c t ((flush0_6 t).1 hf) (y 0) (y 1)
  have e0 : (win0_6.blk t).view.emb y 0 = row t.val t.isLt (y 0) := Fin.ext (by show _ = 512 * (t.val / 2) + (y 0).val; blk_simp [index_eq t]; try omega)
  have e1 : (win0_6.blk t).view.emb y 1 = y 1 := Fin.ext (by blk_simp [index_eq t]; try omega)
  blk_simp
  rw [after0_6]
  refine (congrArg _ (eq_ix2 y)).trans (h.trans ?_)
  unfold outs
  rw [e0, e1]

/-- The array of the layer norm. -/
theorem array7 : (dats m 0 c).arrAt 7 cfg0.N = norms m c := by
  refine (dats m 0 c).arrAt_eq_of_covers 7 _ (by decide +kernel) fun t hf y => ?_
  have h := point7 m c t ((flush0_7 t).1 hf) (y 0) (y 1)
  have e0 : (win0_7.blk t).view.emb y 0 = row t.val t.isLt (y 0) := Fin.ext (by show _ = 512 * (t.val / 2) + (y 0).val; blk_simp [index_eq t]; try omega)
  have e1 : (win0_7.blk t).view.emb y 1 = y 1 := Fin.ext (by blk_simp [index_eq t]; try omega)
  blk_simp
  rw [after0_7]
  refine (congrArg _ (eq_ix2 y)).trans (h.trans ?_)
  unfold norms
  rw [e0, e1]

open Cert.Reference5Ideal.Read in
/-- The reference's output. -/
theorem ref9 (x0 : FVec Ideal Cert.Reference5Ideal.S8192x1024 .f32) (x1 x2 : FVec Ideal Cert.Reference5Ideal.S1024x2816 .f32) (x3 : FVec Ideal Cert.Reference5Ideal.S2816x1024 .f32) (t : Fin 8192) (d : Fin 1024) :
    val_main_v9 (F := Ideal) x0 x1 x2 x3 (ix2 t d)
      = out (fun t k => x0 (ix2 t k)) (fun k f => x1 (ix2 k f)) (fun k f => x2 (ix2 k f)) (fun f d => x3 (ix2 f d)) t d := by
  unfold val_main_v9 val_main_v8 val_main_v7 val_main_v6 val_main_v5 val_main_v4 val_main_v3 val_main_call0_v5 val_main_call0_v4 val_main_call0_cst_0 val_main_call0_v3 val_main_call0_v2 val_main_call0_v1 val_main_call0_v0 val_main_call0_cst val_main_v2 val_main_v1 val_main_v0 val_main_cst val_main_cst_0
  unfold out branch gated hid gain half Ideal.logistic
  pointwise

open Cert.Reference5Ideal.Read in
/-- The reference's layer norm. -/
theorem ref33 (x0 : FVec Ideal Cert.Reference5Ideal.S8192x1024 .f32) (x1 x2 : FVec Ideal Cert.Reference5Ideal.S1024x2816 .f32) (x3 : FVec Ideal Cert.Reference5Ideal.S2816x1024 .f32) (x4 x5 : FVec Ideal Cert.Reference5Ideal.S1024 .f32) (t : Fin 8192) (d : Fin 1024) :
    val_main_v33 (F := Ideal) x0 x1 x2 x3 x4 x5 (ix2 t d)
      = layerNorm (fun e => val_main_v9 (F := Ideal) x0 x1 x2 x3 (ix2 t e)) (fun e => x4 (ix1 e)) (fun e => x5 (ix1 e)) d := by
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_cst_1 val_main_cst_2 val_main_cst_3 val_main_cst_4 val_main_cst_5
  generalize val_main_v9 (F := Ideal) x0 x1 x2 x3 = z
  unfold layerNorm mean
  pointwise

end Cert.Feed5

end
-- ==== Proof.Feed5Equal.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Feed5
public import Idealize.ShloMosaic.Adequacy
public import Idealize.ShloMosaic.Init

/-!
# The feed-forward layer and its norm are the reference's
-/

@[expose] public section

set_option maxRecDepth 16384

noncomputable section

namespace Cert.Feed5

open Idealize.ShloMosaic Idealize.ShloMosaic.TcCoe Idealize.SL.Sem Cert.Stick Cert.Feed

/-- The kernel's feed-forward layer and its layer norm are the reference's. -/
theorem equal : Cert.algebraic_Kernel5Ideal_Reference5Ideal (hKernel5Ideal := Cert.Kernel5Ideal.Gen.facts)
    (hReference5Ideal := Cert.Reference5Ideal.Gen.facts) := by
  intro m g m' g' _ hargs
  refine ⟨fun c => outs m c, fun c => norms m c,
    (θ_run _ _ _).mono (fun r h c => ⟨(h c).1.trans (array6 m c), (h c).2.1.trans (array7 m c), (h c).2.2⟩) (Cert.Kernel5Ideal.Value.run_blocks m g),
    (θ_run _ _ _).mono (fun r h c => ⟨(h c).1.trans ?_, (h c).2.1.trans ?_, (h c).2.2⟩) (Cert.Reference5Ideal.Value.run (F := Ideal) m' g')⟩
  · refine (Cert.Reference5Ideal.Read.val_main_v9_eq _ _ _ _).trans ?_
    rw [(hargs c).1, (hargs c).2.1, (hargs c).2.2.1, (hargs c).2.2.2.1]
    refine funext fun (i : Cert.Reference5Ideal.S8192x1024.Idx) => ?_
    rw [show i = ix2 (i 0 : Fin 8192) (i 1 : Fin 1024) from eq_ix2 i]
    exact ref9 _ _ _ _ _ _
  · refine (Cert.Reference5Ideal.Read.val_main_v33_eq m' c).trans ?_
    rw [(hargs c).1, (hargs c).2.1, (hargs c).2.2.1, (hargs c).2.2.2.1, (hargs c).2.2.2.2.1, (hargs c).2.2.2.2.2]
    refine funext fun (i : Cert.Reference5Ideal.S8192x1024.Idx) => ?_
    rw [show i = ix2 (i 0 : Fin 8192) (i 1 : Fin 1024) from eq_ix2 i]
    refine (ref33 _ _ _ _ _ _ _ _).trans ?_
    exact congrArg (fun z => layerNorm z (gains m c) (biases m c) (i 1)) (funext fun e => ref9 _ _ _ _ _ _)

end Cert.Feed5

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Weight7Equal
public import proofs.«01_k».proof.Proof.Weight11Equal
public import proofs.«01_k».proof.Proof.Product6
public import proofs.«01_k».proof.Proof.Product8
public import proofs.«01_k».proof.Proof.Product9
public import proofs.«01_k».proof.Proof.Product10
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Memory17Equal
public import proofs.«01_k».proof.Proof.Memory18Equal
public import proofs.«01_k».proof.Proof.Arrays
public import proofs.«01_k».proof.Proof.Host
public import proofs.«01_k».proof.Proof.Reference
public import proofs.«01_k».proof.Proof.Finite
public import proofs.«01_k».proof.Proof.Feed2Equal
public import proofs.«01_k».proof.Proof.Weight3Equal
public import proofs.«01_k».proof.Proof.Weight4Equal
public import proofs.«01_k».proof.Proof.Feed5Equal
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Stick

/-- The kernel's frame at machine floats. -/
theorem frame_kernel : Cert.quiescent_Kernel (hKernel := Cert.Kernel.Gen.facts) :=
  fun m g _ => Cert.Kernel.Gen.frame (F := Bits) m g

/-- The frame of the idealized kernel. -/
theorem frame_ideal : Cert.quiescent_KernelIdeal (hKernelIdeal := Cert.KernelIdeal.Gen.facts) :=
  fun m g _ => Cert.KernelIdeal.Gen.frame (F := Ideal) m g

/-- The frame of the idealized kernel at finite arguments. -/
theorem frame_ideal_finite : Cert.quiescent_KernelIdeal_pre_finite (hKernelIdeal := Cert.KernelIdeal.Gen.facts) (hPre_finite := finite_facts) :=
  fun m g _ => Cert.KernelIdeal.Gen.frame (F := Ideal) m g

/-- The frame of the reference. -/
theorem frame_reference : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩)
    (Cert.ReferenceIdeal.Value.run (F := Ideal) m g)

/-- The frame of the reference at finite arguments. -/
theorem frame_reference_finite : Cert.quiescent_ReferenceIdeal_pre_finite (hReferenceIdeal := Cert.ReferenceIdeal.Gen.facts) (hPre_finite := finite_facts) :=
  fun m g _ => frame_reference m g trivial

/-- The reference's results at real arguments. -/
theorem results {q k v g : ℕ → ℕ → ℝ} {x0 y0 : FVec Ideal Cert.ReferenceIdeal.S8192x256 .f32} {x1 y1 : FVec Ideal Cert.ReferenceIdeal.S8192x3200 .f32}
    (P : Proj y1 q k v) (hg : Cot y0 g) (h0 : x0 = y0) (h1 : x1 = y1) :
    Cert.ReferenceIdeal.Read.val_main_v55 (F := Ideal) x0 x1 = grid2 (gradQ q k v g)
    ∧ Cert.ReferenceIdeal.Read.val_main_v53 (F := Ideal) x0 x1 = grid2 (gradK q k v g)
    ∧ Cert.ReferenceIdeal.Read.val_main_v51 (F := Ideal) x0 x1 = grid2 (gradV q k g) := by
  subst h0 h1
  have e : ∀ i : Cert.ReferenceIdeal.S8192x256.Idx, i = ix2 (i 0 : Fin 8192) (i 1 : Fin 256) := fun i => eq_ix2 i
  refine ⟨funext fun i => ?_, funext fun i => ?_, funext fun i => ?_⟩
  · rw [e i]; exact ref_gradQ P hg _ _
  · rw [e i]; exact ref_gradK P hg _ _
  · rw [e i]; exact ref_gradV P hg _ _

/-- The kernel's three gradients are the reference's. -/
theorem equal : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have P := fun c => proj_of_finite (hpre c)
  have G := fun c => cot_of_finite (hpre c)
  have A := fun c => found (m := m) (c := c) (P c) (G c)
  refine ⟨fun c => grid2 (gradQ _ _ _ _), fun c => grid2 (gradK _ _ _ _), fun c => grid2 (gradV _ _ _),
    (θ_run _ _ _).mono (fun r h c => ⟨(h c).1.trans (arrayQ (A c)), (h c).2.1.trans (arrayK (A c)), (h c).2.2.1.trans (arrayV (A c)), (h c).2.2.2⟩)
      (Cert.KernelIdeal.Value.run_blocks m g),
    (θ_run _ _ _).mono (fun r h c => ?_) (Cert.ReferenceIdeal.Value.run (F := Ideal) m' g')⟩
  have R := results (P c) (G c) (hargs c).1 (hargs c).2
  exact ⟨(h c).1.trans ((Cert.ReferenceIdeal.Read.val_main_v55_eq m' c).trans R.1),
    (h c).2.1.trans ((Cert.ReferenceIdeal.Read.val_main_v53_eq m' c).trans R.2.1),
    (h c).2.2.1.trans ((Cert.ReferenceIdeal.Read.val_main_v51_eq m' c).trans R.2.2), (h c).2.2.2⟩

/-- The frame of the kernel of the feed-forward gradients at machine floats. -/
theorem frame_kernel2 : Cert.quiescent_Kernel2 (hKernel2 := Cert.Kernel2.Gen.facts) :=
  fun m g _ => Cert.Kernel2.Gen.frame (F := Bits) m g

/-- The frame of the idealized kernel of the feed-forward gradients. -/
theorem frame_ideal2 : Cert.quiescent_Kernel2Ideal (hKernel2Ideal := Cert.Kernel2Ideal.Gen.facts) :=
  fun m g _ => Cert.Kernel2Ideal.Gen.frame (F := Ideal) m g

/-- The frame of the reference of the feed-forward gradients. -/
theorem frame_reference2 : Cert.quiescent_Reference2Ideal (hReference2Ideal := Cert.Reference2Ideal.Gen.facts) :=
  fun m g _ => (θ_run Cert.Reference2Ideal.defs _ _).mono
    (fun r h => ⟨fun c => (h c).2.2.2.2.2, sem_eq_zero_of_no_sems (by decide) r.2⟩)
    (Cert.Reference2Ideal.Value.run (F := Ideal) m g)

/-- The frame of the idealized kernel of the feed-forward gradients at finite arguments. -/
theorem frame_ideal2_finite2 : Cert.quiescent_Kernel2Ideal_pre_finite2 (hKernel2Ideal := Cert.Kernel2Ideal.Gen.facts) (hPre_finite2 := Cert.Feed2.finite2_facts) :=
  fun m g _ => Cert.Kernel2Ideal.Gen.frame (F := Ideal) m g

/-- The frame of the reference of the feed-forward gradients at finite arguments. -/
theorem frame_reference2_finite2 : Cert.quiescent_Reference2Ideal_pre_finite2 (hReference2Ideal := Cert.Reference2Ideal.Gen.facts) (hPre_finite2 := Cert.Feed2.finite2_facts) :=
  fun m g _ => frame_reference2 m g trivial

/-- The frame of the kernel of the gradient of the gate's and the second weight at machine floats. -/
theorem frame_kernel3 : Cert.quiescent_Kernel3 (hKernel3 := Cert.Kernel3.Gen.facts) :=
  fun m g _ => Cert.Kernel3.Gen.frame (F := Bits) m g

/-- The frame of the idealized kernel of the gradient of the gate's and the second weight. -/
theorem frame_ideal3 : Cert.quiescent_Kernel3Ideal (hKernel3Ideal := Cert.Kernel3Ideal.Gen.facts) :=
  fun m g _ => Cert.Kernel3Ideal.Gen.frame (F := Ideal) m g

/-- The frame of the reference of the gradient of the gate's and the second weight. -/
theorem frame_reference3 : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩)
    (Cert.Reference3Ideal.Value.run (F := Ideal) m g)

/-- The frame of the kernel of the last weight's gradient at machine floats. -/
theorem frame_kernel4 : Cert.quiescent_Kernel4 (hKernel4 := Cert.Kernel4.Gen.facts) :=
  fun m g _ => Cert.Kernel4.Gen.frame (F := Bits) m g

/-- The frame of the idealized kernel of the last weight's gradient. -/
theorem frame_ideal4 : Cert.quiescent_Kernel4Ideal (hKernel4Ideal := Cert.Kernel4Ideal.Gen.facts) :=
  fun m g _ => Cert.Kernel4Ideal.Gen.frame (F := Ideal) m g

/-- The frame of the reference of the last weight's gradient. -/
theorem frame_reference4 : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩)
    (Cert.Reference4Ideal.Value.run (F := Ideal) m g)

/-- The frame of the kernel of the feed-forward layer at machine floats. -/
theorem frame_kernel5 : Cert.quiescent_Kernel5 (hKernel5 := Cert.Kernel5.Gen.facts) :=
  fun m g _ => Cert.Kernel5.Gen.frame (F := Bits) m g

/-- The frame of the idealized kernel of the feed-forward layer. -/
theorem frame_ideal5 : Cert.quiescent_Kernel5Ideal (hKernel5Ideal := Cert.Kernel5Ideal.Gen.facts) :=
  fun m g _ => Cert.Kernel5Ideal.Gen.frame (F := Ideal) m g

/-- The frame of the reference of the feed-forward layer. -/
theorem frame_reference5 : Cert.quiescent_Reference5Ideal (hReference5Ideal := Cert.Reference5Ideal.Gen.facts) :=
  fun m g _ => (θ_run Cert.Reference5Ideal.defs _ _).mono
    (fun r h => ⟨fun c => (h c).2.2, sem_eq_zero_of_no_sems (by decide) r.2⟩)
    (Cert.Reference5Ideal.Value.run (F := Ideal) m g)

/-- The frame of the kernel of the product by a transposed weight. -/
theorem frame_kernel6 : Cert.quiescent_Kernel6 (hKernel6 := Cert.Kernel6.Gen.facts) :=
  fun m g _ => Cert.Kernel6.Gen.frame (F := Bits) m g

/-- The frame of its idealization. -/
theorem frame_ideal6 : Cert.quiescent_Kernel6Ideal (hKernel6Ideal := Cert.Kernel6Ideal.Gen.facts) :=
  fun m g _ => Cert.Kernel6Ideal.Gen.frame (F := Ideal) m g

/-- The frame of its reference. -/
theorem frame_reference6 : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩)
    (Cert.Reference6Ideal.Value.run (F := Ideal) m g)

/-- The frame of the kernel of the memory output's weight gradient. -/
theorem frame_kernel7 : Cert.quiescent_Kernel7 (hKernel7 := Cert.Kernel7.Gen.facts) :=
  fun m g _ => Cert.Kernel7.Gen.frame (F := Bits) m g

/-- The frame of its idealization. -/
theorem frame_ideal7 : Cert.quiescent_Kernel7Ideal (hKernel7Ideal := Cert.Kernel7Ideal.Gen.facts) :=
  fun m g _ => Cert.Kernel7Ideal.Gen.frame (F := Ideal) m g

/-- The frame of its reference. -/
theorem frame_reference7 : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩)
    (Cert.Reference7Ideal.Value.run (F := Ideal) m g)

/-- The frame of the kernel of the projection. -/
theorem frame_kernel8 : Cert.quiescent_Kernel8 (hKernel8 := Cert.Kernel8.Gen.facts) :=
  fun m g _ => Cert.Kernel8.Gen.frame (F := Bits) m g

/-- The frame of its idealization. -/
theorem frame_ideal8 : Cert.quiescent_Kernel8Ideal (hKernel8Ideal := Cert.Kernel8Ideal.Gen.facts) :=
  fun m g _ => Cert.Kernel8Ideal.Gen.frame (F := Ideal) m g

/-- The frame of its reference. -/
theorem frame_reference8 : Cert.quiescent_Reference8Ideal (hReference8Ideal := Cert.Reference8Ideal.Gen.facts) :=
  fun m g _ => (θ_run Cert.Reference8Ideal.defs _ _).mono
    (fun r h => ⟨fun c => (h c).2.2, sem_eq_zero_of_no_sems (by decide) r.2⟩)
    (Cert.Reference8Ideal.Value.run (F := Ideal) m g)

/-- The frame of the kernel of the memory output. -/
theorem frame_kernel9 : Cert.quiescent_Kernel9 (hKernel9 := Cert.Kernel9.Gen.facts) :=
  fun m g _ => Cert.Kernel9.Gen.frame (F := Bits) m g

/-- The frame of its idealization. -/
theorem frame_ideal9 : Cert.quiescent_Kernel9Ideal (hKernel9Ideal := Cert.Kernel9Ideal.Gen.facts) :=
  fun m g _ => Cert.Kernel9Ideal.Gen.frame (F := Ideal) m g

/-- The frame of its reference. -/
theorem frame_reference9 : Cert.quiescent_Reference9Ideal (hReference9Ideal := Cert.Reference9Ideal.Gen.facts) :=
  fun m g _ => (θ_run Cert.Reference9Ideal.defs _ _).mono
    (fun r h => ⟨fun c => (h c).2.2, sem_eq_zero_of_no_sems (by decide) r.2⟩)
    (Cert.Reference9Ideal.Value.run (F := Ideal) m g)

/-- The frame of the kernel of the memory query. -/
theorem frame_kernel10 : Cert.quiescent_Kernel10 (hKernel10 := Cert.Kernel10.Gen.facts) :=
  fun m g _ => Cert.Kernel10.Gen.frame (F := Bits) m g

/-- The frame of its idealization. -/
theorem frame_ideal10 : Cert.quiescent_Kernel10Ideal (hKernel10Ideal := Cert.Kernel10Ideal.Gen.facts) :=
  fun m g _ => Cert.Kernel10Ideal.Gen.frame (F := Ideal) m g

/-- The frame of its reference. -/
theorem frame_reference10 : Cert.quiescent_Reference10Ideal (hReference10Ideal := Cert.Reference10Ideal.Gen.facts) :=
  fun m g _ => (θ_run Cert.Reference10Ideal.defs _ _).mono
    (fun r h => ⟨fun c => (h c).2, sem_eq_zero_of_no_sems (by decide) r.2⟩)
    (Cert.Reference10Ideal.Value.run (F := Ideal) m g)

/-- The frame of the kernel of the memory query's weight gradient. -/
theorem frame_kernel11 : Cert.quiescent_Kernel11 (hKernel11 := Cert.Kernel11.Gen.facts) :=
  fun m g _ => Cert.Kernel11.Gen.frame (F := Bits) m g

/-- The frame of its idealization. -/
theorem frame_ideal11 : Cert.quiescent_Kernel11Ideal (hKernel11Ideal := Cert.Kernel11Ideal.Gen.facts) :=
  fun m g _ => Cert.Kernel11Ideal.Gen.frame (F := Ideal) m g

/-- The frame of its reference. -/
theorem frame_reference11 : Cert.quiescent_Reference11Ideal (hReference11Ideal := Cert.Reference11Ideal.Gen.facts) :=
  fun m g _ => (θ_run Cert.Reference11Ideal.defs _ _).mono
    (fun r h => ⟨fun c => (h c).2, sem_eq_zero_of_no_sems (by decide) r.2⟩)
    (Cert.Reference11Ideal.Value.run (F := Ideal) m g)

/-- The frame of the kernel of the memory's input gradient. -/
theorem frame_kernel12 : Cert.quiescent_Kernel12 (hKernel12 := Cert.Kernel12.Gen.facts) :=
  fun m g _ => Cert.Kernel12.Gen.frame (F := Bits) m g

/-- The frame of its idealization. -/
theorem frame_ideal12 : Cert.quiescent_Kernel12Ideal (hKernel12Ideal := Cert.Kernel12Ideal.Gen.facts) :=
  fun m g _ => Cert.Kernel12Ideal.Gen.frame (F := Ideal) m g

/-- The frame of its reference. -/
theorem frame_reference12 : Cert.quiescent_Reference12Ideal (hReference12Ideal := Cert.Reference12Ideal.Gen.facts) :=
  fun m g _ => (θ_run Cert.Reference12Ideal.defs _ _).mono
    (fun r h => ⟨fun c => (h c).2, sem_eq_zero_of_no_sems (by decide) r.2⟩)
    (Cert.Reference12Ideal.Value.run (F := Ideal) m g)

/-- The frame of the kernel of the projection's input gradient. -/
theorem frame_kernel13 : Cert.quiescent_Kernel13 (hKernel13 := Cert.Kernel13.Gen.facts) :=
  fun m g _ => Cert.Kernel13.Gen.frame (F := Bits) m g

/-- The frame of its idealization. -/
theorem frame_ideal13 : Cert.quiescent_Kernel13Ideal (hKernel13Ideal := Cert.Kernel13Ideal.Gen.facts) :=
  fun m g _ => Cert.Kernel13Ideal.Gen.frame (F := Ideal) m g

/-- The frame of its reference. -/
theorem frame_reference13 : Cert.quiescent_Reference13Ideal (hReference13Ideal := Cert.Reference13Ideal.Gen.facts) :=
  fun m g _ => (θ_run Cert.Reference13Ideal.defs _ _).mono
    (fun r h => ⟨fun c => (h c).2, sem_eq_zero_of_no_sems (by decide) r.2⟩)
    (Cert.Reference13Ideal.Value.run (F := Ideal) m g)

/-- The frame of the kernel of the projection's weight gradient. -/
theorem frame_kernel14 : Cert.quiescent_Kernel14 (hKernel14 := Cert.Kernel14.Gen.facts) :=
  fun m g _ => Cert.Kernel14.Gen.frame (F := Bits) m g

/-- The frame of its idealization. -/
theorem frame_ideal14 : Cert.quiescent_Kernel14Ideal (hKernel14Ideal := Cert.Kernel14Ideal.Gen.facts) :=
  fun m g _ => Cert.Kernel14Ideal.Gen.frame (F := Ideal) m g

/-- The frame of its reference. -/
theorem frame_reference14 : Cert.quiescent_Reference14Ideal (hReference14Ideal := Cert.Reference14Ideal.Gen.facts) :=
  fun m g _ => (θ_run Cert.Reference14Ideal.defs _ _).mono
    (fun r h => ⟨fun c => (h c).2, sem_eq_zero_of_no_sems (by decide) r.2⟩)
    (Cert.Reference14Ideal.Value.run (F := Ideal) m g)

/-- The frame of the kernel of the memory's keys and values at machine floats. -/
theorem frame_kernel15 : Cert.quiescent_Kernel15 (hKernel15 := Cert.Kernel15.Gen.facts) :=
  fun m g _ => Cert.Kernel15.Gen.frame (F := Bits) m g

/-- The frame of its idealization. -/
theorem frame_ideal15 : Cert.quiescent_Kernel15Ideal (hKernel15Ideal := Cert.Kernel15Ideal.Gen.facts) :=
  fun m g _ => Cert.Kernel15Ideal.Gen.frame (F := Ideal) m g

/-- The frame of its reference. -/
theorem frame_reference15 : Cert.quiescent_Reference15Ideal (hReference15Ideal := Cert.Reference15Ideal.Gen.facts) :=
  fun m g _ => (θ_run Cert.Reference15Ideal.defs _ _).mono
    (fun r h => ⟨fun c => (h c).2, sem_eq_zero_of_no_sems (by decide) r.2⟩)
    (Cert.Reference15Ideal.Value.run (F := Ideal) m g)

/-- The frame of the kernel of the memory's weight gradient at machine floats. -/
theorem frame_kernel16 : Cert.quiescent_Kernel16 (hKernel16 := Cert.Kernel16.Gen.facts) :=
  fun m g _ => Cert.Kernel16.Gen.frame (F := Bits) m g

/-- The frame of its idealization. -/
theorem frame_ideal16 : Cert.quiescent_Kernel16Ideal (hKernel16Ideal := Cert.Kernel16Ideal.Gen.facts) :=
  fun m g _ => Cert.Kernel16Ideal.Gen.frame (F := Ideal) m g

/-- The frame of its reference. -/
theorem frame_reference16 : Cert.quiescent_Reference16Ideal (hReference16Ideal := Cert.Reference16Ideal.Gen.facts) :=
  fun m g _ => (θ_run Cert.Reference16Ideal.defs _ _).mono
    (fun r h => ⟨fun c => (h c).2, sem_eq_zero_of_no_sems (by decide) r.2⟩)
    (Cert.Reference16Ideal.Value.run (F := Ideal) m g)

/-- The frame of the kernel of the attention over the memory at machine floats. -/
theorem frame_kernel17 : Cert.quiescent_Kernel17 (hKernel17 := Cert.Kernel17.Gen.facts) :=
  fun m g _ => Cert.Kernel17.Gen.frame (F := Bits) m g

/-- The frame of its idealization. -/
theorem frame_ideal17 : Cert.quiescent_Kernel17Ideal (hKernel17Ideal := Cert.Kernel17Ideal.Gen.facts) :=
  fun m g _ => Cert.Kernel17Ideal.Gen.frame (F := Ideal) m g

/-- The frame of its reference. -/
theorem frame_reference17 : Cert.quiescent_Reference17Ideal (hReference17Ideal := Cert.Reference17Ideal.Gen.facts) :=
  fun m g _ => (θ_run Cert.Reference17Ideal.defs _ _).mono
    (fun r h => ⟨fun c => (h c).2, sem_eq_zero_of_no_sems (by decide) r.2⟩)
    (Cert.Reference17Ideal.Value.run (F := Ideal) m g)

/-- The frame of the kernel of the memory's backward pass at machine floats. -/
theorem frame_kernel18 : Cert.quiescent_Kernel18 (hKernel18 := Cert.Kernel18.Gen.facts) :=
  fun m g _ => Cert.Kernel18.Gen.frame (F := Bits) m g

/-- The frame of its idealization. -/
theorem frame_ideal18 : Cert.quiescent_Kernel18Ideal (hKernel18Ideal := Cert.Kernel18Ideal.Gen.facts) :=
  fun m g _ => Cert.Kernel18Ideal.Gen.frame (F := Ideal) m g

/-- The frame of its reference. -/
theorem frame_reference18 : Cert.quiescent_Reference18Ideal (hReference18Ideal := Cert.Reference18Ideal.Gen.facts) :=
  fun m g _ => (θ_run Cert.Reference18Ideal.defs _ _).mono
    (fun r h => ⟨fun c => (h c).2.2, sem_eq_zero_of_no_sems (by decide) r.2⟩)
    (Cert.Reference18Ideal.Value.run (F := Ideal) m g)

/-- The frame of the idealized kernel of the memory's backward pass at finite queries and keys. -/
theorem frame_ideal18_finite18 : Cert.quiescent_Kernel18Ideal_pre_finite18 (hKernel18Ideal := Cert.Kernel18Ideal.Gen.facts) (hPre_finite18 := Cert.Memory18.finite18_facts) :=
  fun m g _ => Cert.Kernel18Ideal.Gen.frame (F := Ideal) m g

/-- The frame of the reference of the memory's backward pass at finite queries and keys. -/
theorem frame_reference18_finite18 : Cert.quiescent_Reference18Ideal_pre_finite18 (hReference18Ideal := Cert.Reference18Ideal.Gen.facts) (hPre_finite18 := Cert.Memory18.finite18_facts) :=
  fun m g _ => frame_reference18 m g trivial

/-- Everything this certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    finite_facts, Cert.Feed2.finite2_facts, Cert.Memory18.finite18_facts,
    frame_kernel, frame_ideal, frame_ideal_finite, frame_reference, frame_reference_finite,
    frame_kernel2, frame_ideal2, frame_ideal2_finite2, frame_reference2, frame_reference2_finite2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_ideal18_finite18, frame_reference18, frame_reference18_finite18,
    trivial, equal, trivial, Cert.Feed2.equal, trivial, Cert.Weight3.equal, trivial, Cert.Weight4.equal, trivial, Cert.Feed5.equal,
    trivial, Cert.Product6.equal, trivial, Cert.Weight7.equal, trivial, Cert.Product8.equal, trivial, Cert.Product9.equal, trivial, Cert.Product10.equal, trivial, Cert.Weight11.equal, trivial, Cert.Product12.equal, trivial, Cert.Product13.equal, trivial, Cert.Product14.equal,
    trivial, Cert.Product15.equal, trivial, Cert.Product16.equal, trivial, Cert.Memory17.equal, trivial, Cert.Memory18.equal⟩

end Cert.Proof

end
